-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DwInSsm (m : (ℓ : Loc Cert.DwInSsm.nD Cert.DwInSsm.τ Cert.DwInSsm.sig) → Buf (Elt Bits) ℓ) : Prop :=
  True

def Pre_DwInSsmIdeal (m : (ℓ : Loc Cert.DwInSsmIdeal.nD Cert.DwInSsmIdeal.τ Cert.DwInSsmIdeal.sig) → Buf (Elt Ideal) ℓ) : Prop :=
  True

def Pre_DwInSsmReferenceIdeal (m : (ℓ : Loc Cert.DwInSsmReferenceIdeal.nD Cert.DwInSsmReferenceIdeal.τ Cert.DwInSsmReferenceIdeal.sig) → Buf (Elt Ideal) ℓ) : Prop :=
  True

def Pre_DwOutSsm (m : (ℓ : Loc Cert.DwOutSsm.nD Cert.DwOutSsm.τ Cert.DwOutSsm.sig) → Buf (Elt Bits) ℓ) : Prop :=
  True

def Pre_DwOutSsmIdeal (m : (ℓ : Loc Cert.DwOutSsmIdeal.nD Cert.DwOutSsmIdeal.τ Cert.DwOutSsmIdeal.sig) → Buf (Elt Ideal) ℓ) : Prop :=
  True

def Pre_DwOutSsmReferenceIdeal (m : (ℓ : Loc Cert.DwOutSsmReferenceIdeal.nD Cert.DwOutSsmReferenceIdeal.τ Cert.DwOutSsmReferenceIdeal.sig) → Buf (Elt Ideal) ℓ) : Prop :=
  True

def Pre_Dyn (m : (ℓ : Loc Cert.Dyn.nD Cert.Dyn.τ Cert.Dyn.sig) → Buf (Elt Bits) ℓ) : Prop :=
  True

def Pre_DynIdeal (m : (ℓ : Loc Cert.DynIdeal.nD Cert.DynIdeal.τ Cert.DynIdeal.sig) → Buf (Elt Ideal) ℓ) : Prop :=
  True

def Pre_DynReferenceIdeal (m : (ℓ : Loc Cert.DynReferenceIdeal.nD Cert.DynReferenceIdeal.τ Cert.DynReferenceIdeal.sig) → Buf (Elt Ideal) ℓ) : Prop :=
  True

def Pre_DwOutAttn (m : (ℓ : Loc Cert.DwOutAttn.nD Cert.DwOutAttn.τ Cert.DwOutAttn.sig) → Buf (Elt Bits) ℓ) : Prop :=
  True

def Pre_DwOutAttnIdeal (m : (ℓ : Loc Cert.DwOutAttnIdeal.nD Cert.DwOutAttnIdeal.τ Cert.DwOutAttnIdeal.sig) → Buf (Elt Ideal) ℓ) : Prop :=
  True

def Pre_DwOutAttnReferenceIdeal (m : (ℓ : Loc Cert.DwOutAttnReferenceIdeal.nD Cert.DwOutAttnReferenceIdeal.τ Cert.DwOutAttnReferenceIdeal.sig) → Buf (Elt Ideal) ℓ) : Prop :=
  True

def Pre_OutAttn (m : (ℓ : Loc Cert.OutAttn.nD Cert.OutAttn.τ Cert.OutAttn.sig) → Buf (Elt Bits) ℓ) : Prop :=
  True

def Pre_OutAttnIdeal (m : (ℓ : Loc Cert.OutAttnIdeal.nD Cert.OutAttnIdeal.τ Cert.OutAttnIdeal.sig) → Buf (Elt Ideal) ℓ) : Prop :=
  True

def Pre_OutAttnReferenceIdeal (m : (ℓ : Loc Cert.OutAttnReferenceIdeal.nD Cert.OutAttnReferenceIdeal.τ Cert.OutAttnReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_OutSsm (m : (ℓ : Loc Cert.OutSsm.nD Cert.OutSsm.τ Cert.OutSsm.sig) → Buf (Elt Bits) ℓ) : Prop :=
  True

def Pre_OutSsmIdeal (m : (ℓ : Loc Cert.OutSsmIdeal.nD Cert.OutSsmIdeal.τ Cert.OutSsmIdeal.sig) → Buf (Elt Ideal) ℓ) : Prop :=
  True

def Pre_OutSsmReferenceIdeal (m : (ℓ : Loc Cert.OutSsmReferenceIdeal.nD Cert.OutSsmReferenceIdeal.τ Cert.OutSsmReferenceIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyReferenceIdeal (m : (ℓ : Loc Cert.DyReferenceIdeal.nD Cert.DyReferenceIdeal.τ Cert.DyReferenceIdeal.sig) → Buf (Elt Ideal) ℓ) : Prop :=
  True

def Pre_InSsm (m : (ℓ : Loc Cert.InSsm.nD Cert.InSsm.τ Cert.InSsm.sig) → Buf (Elt Bits) ℓ) : Prop :=
  True

def Pre_InSsmIdeal (m : (ℓ : Loc Cert.InSsmIdeal.nD Cert.InSsmIdeal.τ Cert.InSsmIdeal.sig) → Buf (Elt Ideal) ℓ) : Prop :=
  True

def Pre_InSsmReferenceIdeal (m : (ℓ : Loc Cert.InSsmReferenceIdeal.nD Cert.InSsmReferenceIdeal.τ Cert.InSsmReferenceIdeal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_Dx1ReferenceIdeal (m : (ℓ : Loc Cert.Dx1ReferenceIdeal.nD Cert.Dx1ReferenceIdeal.τ Cert.Dx1ReferenceIdeal.sig) → Buf (Elt Ideal) ℓ) : Prop :=
  True

def Pre_DwInAttn (m : (ℓ : Loc Cert.DwInAttn.nD Cert.DwInAttn.τ Cert.DwInAttn.sig) → Buf (Elt Bits) ℓ) : Prop :=
  True

def Pre_DwInAttnIdeal (m : (ℓ : Loc Cert.DwInAttnIdeal.nD Cert.DwInAttnIdeal.τ Cert.DwInAttnIdeal.sig) → Buf (Elt Ideal) ℓ) : Prop :=
  True

def Pre_DwInAttnReferenceIdeal (m : (ℓ : Loc Cert.DwInAttnReferenceIdeal.nD Cert.DwInAttnReferenceIdeal.τ Cert.DwInAttnReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvAReferenceIdeal (m : (ℓ : Loc Cert.QkvAReferenceIdeal.nD Cert.QkvAReferenceIdeal.τ Cert.QkvAReferenceIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBReferenceIdeal (m : (ℓ : Loc Cert.QkvBReferenceIdeal.nD Cert.QkvBReferenceIdeal.τ Cert.QkvBReferenceIdeal.sig) → Buf (Elt Ideal) ℓ) : Prop :=
  True

def Pre_QkvC (m : (ℓ : Loc Cert.QkvC.nD Cert.QkvC.τ Cert.QkvC.sig) → Buf (Elt Bits) ℓ) : Prop :=
  True

def Pre_QkvCIdeal (m : (ℓ : Loc Cert.QkvCIdeal.nD Cert.QkvCIdeal.τ Cert.QkvCIdeal.sig) → Buf (Elt Ideal) ℓ) : Prop :=
  True

def Pre_QkvCReferenceIdeal (m : (ℓ : Loc Cert.QkvCReferenceIdeal.nD Cert.QkvCReferenceIdeal.τ Cert.QkvCReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamOutAttn (m : (ℓ : Loc Cert.AdamOutAttn.nD Cert.AdamOutAttn.τ Cert.AdamOutAttn.sig) → Buf (Elt Bits) ℓ) : Prop :=
  True

def Pre_AdamOutAttnIdeal (m : (ℓ : Loc Cert.AdamOutAttnIdeal.nD Cert.AdamOutAttnIdeal.τ Cert.AdamOutAttnIdeal.sig) → Buf (Elt Ideal) ℓ) : Prop :=
  True

def Pre_AdamOutAttnReferenceIdeal (m : (ℓ : Loc Cert.AdamOutAttnReferenceIdeal.nD Cert.AdamOutAttnReferenceIdeal.τ Cert.AdamOutAttnReferenceIdeal.sig) → Buf (Elt Ideal) ℓ) : Prop :=
  True

def Pre_AdamInAttn (m : (ℓ : Loc Cert.AdamInAttn.nD Cert.AdamInAttn.τ Cert.AdamInAttn.sig) → Buf (Elt Bits) ℓ) : Prop :=
  True

def Pre_AdamInAttnIdeal (m : (ℓ : Loc Cert.AdamInAttnIdeal.nD Cert.AdamInAttnIdeal.τ Cert.AdamInAttnIdeal.sig) → Buf (Elt Ideal) ℓ) : Prop :=
  True

def Pre_AdamInAttnReferenceIdeal (m : (ℓ : Loc Cert.AdamInAttnReferenceIdeal.nD Cert.AdamInAttnReferenceIdeal.τ Cert.AdamInAttnReferenceIdeal.sig) → Buf (Elt Ideal) ℓ) : Prop :=
  True

def Pre_AdamOutSsm (m : (ℓ : Loc Cert.AdamOutSsm.nD Cert.AdamOutSsm.τ Cert.AdamOutSsm.sig) → Buf (Elt Bits) ℓ) : Prop :=
  True

def Pre_AdamOutSsmIdeal (m : (ℓ : Loc Cert.AdamOutSsmIdeal.nD Cert.AdamOutSsmIdeal.τ Cert.AdamOutSsmIdeal.sig) → Buf (Elt Ideal) ℓ) : Prop :=
  True

def Pre_AdamOutSsmReferenceIdeal (m : (ℓ : Loc Cert.AdamOutSsmReferenceIdeal.nD Cert.AdamOutSsmReferenceIdeal.τ Cert.AdamOutSsmReferenceIdeal.sig) → Buf (Elt Ideal) ℓ) : Prop :=
  True

def Pre_AdamInSsm (m : (ℓ : Loc Cert.AdamInSsm.nD Cert.AdamInSsm.τ Cert.AdamInSsm.sig) → Buf (Elt Bits) ℓ) : Prop :=
  True

def Pre_AdamInSsmIdeal (m : (ℓ : Loc Cert.AdamInSsmIdeal.nD Cert.AdamInSsmIdeal.τ Cert.AdamInSsmIdeal.sig) → Buf (Elt Ideal) ℓ) : Prop :=
  True

def Pre_AdamInSsmReferenceIdeal (m : (ℓ : Loc Cert.AdamInSsmReferenceIdeal.nD Cert.AdamInSsmReferenceIdeal.τ Cert.AdamInSsmReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdReferenceIdeal (m : (ℓ : Loc Cert.LnFwdReferenceIdeal.nD Cert.LnFwdReferenceIdeal.τ Cert.LnFwdReferenceIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtReferenceIdeal (m : (ℓ : Loc Cert.DtReferenceIdeal.nD Cert.DtReferenceIdeal.τ Cert.DtReferenceIdeal.sig) → Buf (Elt Ideal) ℓ) : Prop :=
  True

def Pre_CastX (m : (ℓ : Loc Cert.CastX.nD Cert.CastX.τ Cert.CastX.sig) → Buf (Elt Bits) ℓ) : Prop :=
  True

def Pre_CastXIdeal (m : (ℓ : Loc Cert.CastXIdeal.nD Cert.CastXIdeal.τ Cert.CastXIdeal.sig) → Buf (Elt Ideal) ℓ) : Prop :=
  True

def Pre_CastXReferenceIdeal (m : (ℓ : Loc Cert.CastXReferenceIdeal.nD Cert.CastXReferenceIdeal.τ Cert.CastXReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_DwInSsm [hDwInSsm : Cert.DwInSsm.Facts] : Prop :=
  ∀ (m : (ℓ : Loc Cert.DwInSsm.nD Cert.DwInSsm.τ Cert.DwInSsm.sig) → Buf (Elt Bits) ℓ) (g : Dev Cert.DwInSsm.nD → PrngReg), Pre_DwInSsm m →
    θ_run (Cert.DwInSsm.defs (F := Bits)) (onTc (τ := Cert.DwInSsm.τ) (Cert.DwInSsm.main (F := Bits))) ⟨m, fun _ => 0, g⟩ (fun r => (∀ c : Dev Cert.DwInSsm.nD,
      r.2.mem ((c.tc : Thread Cert.DwInSsm.nD Cert.DwInSsm.τ).loc Cert.DwInSsm.main_arg0) = m ((c.tc : Thread Cert.DwInSsm.nD Cert.DwInSsm.τ).loc Cert.DwInSsm.main_arg0)
      ∧ r.2.mem ((c.tc : Thread Cert.DwInSsm.nD Cert.DwInSsm.τ).loc Cert.DwInSsm.main_arg1) = m ((c.tc : Thread Cert.DwInSsm.nD Cert.DwInSsm.τ).loc Cert.DwInSsm.main_arg1))
      ∧ r.2.sem = fun _ => 0)

def quiescent_DwInSsmIdeal [hDwInSsmIdeal : Cert.DwInSsmIdeal.Facts] : Prop :=
  ∀ (m : (ℓ : Loc Cert.DwInSsmIdeal.nD Cert.DwInSsmIdeal.τ Cert.DwInSsmIdeal.sig) → Buf (Elt Ideal) ℓ) (g : Dev Cert.DwInSsmIdeal.nD → PrngReg), Pre_DwInSsmIdeal m →
    θ_run (Cert.DwInSsmIdeal.defs (F := Ideal)) (onTc (τ := Cert.DwInSsmIdeal.τ) (Cert.DwInSsmIdeal.main (F := Ideal))) ⟨m, fun _ => 0, g⟩ (fun r => (∀ c : Dev Cert.DwInSsmIdeal.nD,
      r.2.mem ((c.tc : Thread Cert.DwInSsmIdeal.nD Cert.DwInSsmIdeal.τ).loc Cert.DwInSsmIdeal.main_arg0) = m ((c.tc : Thread Cert.DwInSsmIdeal.nD Cert.DwInSsmIdeal.τ).loc Cert.DwInSsmIdeal.main_arg0)
      ∧ r.2.mem ((c.tc : Thread Cert.DwInSsmIdeal.nD Cert.DwInSsmIdeal.τ).loc Cert.DwInSsmIdeal.main_arg1) = m ((c.tc : Thread Cert.DwInSsmIdeal.nD Cert.DwInSsmIdeal.τ).loc Cert.DwInSsmIdeal.main_arg1))
      ∧ r.2.sem = fun _ => 0)

def quiescent_DwInSsmReferenceIdeal [hDwInSsmReferenceIdeal : Cert.DwInSsmReferenceIdeal.Facts] : Prop :=
  ∀ (m : (ℓ : Loc Cert.DwInSsmReferenceIdeal.nD Cert.DwInSsmReferenceIdeal.τ Cert.DwInSsmReferenceIdeal.sig) → Buf (Elt Ideal) ℓ) (g : Dev Cert.DwInSsmReferenceIdeal.nD → PrngReg), Pre_DwInSsmReferenceIdeal m →
    θ_run (Cert.DwInSsmReferenceIdeal.defs (F := Ideal)) (onTc (τ := Cert.DwInSsmReferenceIdeal.τ) (Cert.DwInSsmReferenceIdeal.main (F := Ideal))) ⟨m, fun _ => 0, g⟩ (fun r => (∀ c : Dev Cert.DwInSsmReferenceIdeal.nD,
      r.2.mem ((c.tc : Thread Cert.DwInSsmReferenceIdeal.nD Cert.DwInSsmReferenceIdeal.τ).loc Cert.DwInSsmReferenceIdeal.main_arg0) = m ((c.tc : Thread Cert.DwInSsmReferenceIdeal.nD Cert.DwInSsmReferenceIdeal.τ).loc Cert.DwInSsmReferenceIdeal.main_arg0)
      ∧ r.2.mem ((c.tc : Thread Cert.DwInSsmReferenceIdeal.nD Cert.DwInSsmReferenceIdeal.τ).loc Cert.DwInSsmReferenceIdeal.main_arg1) = m ((c.tc : Thread Cert.DwInSsmReferenceIdeal.nD Cert.DwInSsmReferenceIdeal.τ).loc Cert.DwInSsmReferenceIdeal.main_arg1))
      ∧ r.2.sem = fun _ => 0)

def quiescent_DwOutSsm [hDwOutSsm : Cert.DwOutSsm.Facts] : Prop :=
  ∀ (m : (ℓ : Loc Cert.DwOutSsm.nD Cert.DwOutSsm.τ Cert.DwOutSsm.sig) → Buf (Elt Bits) ℓ) (g : Dev Cert.DwOutSsm.nD → PrngReg), Pre_DwOutSsm m →
    θ_run (Cert.DwOutSsm.defs (F := Bits)) (onTc (τ := Cert.DwOutSsm.τ) (Cert.DwOutSsm.main (F := Bits))) ⟨m, fun _ => 0, g⟩ (fun r => (∀ c : Dev Cert.DwOutSsm.nD,
      r.2.mem ((c.tc : Thread Cert.DwOutSsm.nD Cert.DwOutSsm.τ).loc Cert.DwOutSsm.main_arg0) = m ((c.tc : Thread Cert.DwOutSsm.nD Cert.DwOutSsm.τ).loc Cert.DwOutSsm.main_arg0)
      ∧ r.2.mem ((c.tc : Thread Cert.DwOutSsm.nD Cert.DwOutSsm.τ).loc Cert.DwOutSsm.main_arg1) = m ((c.tc : Thread Cert.DwOutSsm.nD Cert.DwOutSsm.τ).loc Cert.DwOutSsm.main_arg1))
      ∧ r.2.sem = fun _ => 0)

def quiescent_DwOutSsmIdeal [hDwOutSsmIdeal : Cert.DwOutSsmIdeal.Facts] : Prop :=
  ∀ (m : (ℓ : Loc Cert.DwOutSsmIdeal.nD Cert.DwOutSsmIdeal.τ Cert.DwOutSsmIdeal.sig) → Buf (Elt Ideal) ℓ) (g : Dev Cert.DwOutSsmIdeal.nD → PrngReg), Pre_DwOutSsmIdeal m →
    θ_run (Cert.DwOutSsmIdeal.defs (F := Ideal)) (onTc (τ := Cert.DwOutSsmIdeal.τ) (Cert.DwOutSsmIdeal.main (F := Ideal))) ⟨m, fun _ => 0, g⟩ (fun r => (∀ c : Dev Cert.DwOutSsmIdeal.nD,
      r.2.mem ((c.tc : Thread Cert.DwOutSsmIdeal.nD Cert.DwOutSsmIdeal.τ).loc Cert.DwOutSsmIdeal.main_arg0) = m ((c.tc : Thread Cert.DwOutSsmIdeal.nD Cert.DwOutSsmIdeal.τ).loc Cert.DwOutSsmIdeal.main_arg0)
      ∧ r.2.mem ((c.tc : Thread Cert.DwOutSsmIdeal.nD Cert.DwOutSsmIdeal.τ).loc Cert.DwOutSsmIdeal.main_arg1) = m ((c.tc : Thread Cert.DwOutSsmIdeal.nD Cert.DwOutSsmIdeal.τ).loc Cert.DwOutSsmIdeal.main_arg1))
      ∧ r.2.sem = fun _ => 0)

def quiescent_DwOutSsmReferenceIdeal [hDwOutSsmReferenceIdeal : Cert.DwOutSsmReferenceIdeal.Facts] : Prop :=
  ∀ (m : (ℓ : Loc Cert.DwOutSsmReferenceIdeal.nD Cert.DwOutSsmReferenceIdeal.τ Cert.DwOutSsmReferenceIdeal.sig) → Buf (Elt Ideal) ℓ) (g : Dev Cert.DwOutSsmReferenceIdeal.nD → PrngReg), Pre_DwOutSsmReferenceIdeal m →
    θ_run (Cert.DwOutSsmReferenceIdeal.defs (F := Ideal)) (onTc (τ := Cert.DwOutSsmReferenceIdeal.τ) (Cert.DwOutSsmReferenceIdeal.main (F := Ideal))) ⟨m, fun _ => 0, g⟩ (fun r => (∀ c : Dev Cert.DwOutSsmReferenceIdeal.nD,
      r.2.mem ((c.tc : Thread Cert.DwOutSsmReferenceIdeal.nD Cert.DwOutSsmReferenceIdeal.τ).loc Cert.DwOutSsmReferenceIdeal.main_arg0) = m ((c.tc : Thread Cert.DwOutSsmReferenceIdeal.nD Cert.DwOutSsmReferenceIdeal.τ).loc Cert.DwOutSsmReferenceIdeal.main_arg0)
      ∧ r.2.mem ((c.tc : Thread Cert.DwOutSsmReferenceIdeal.nD Cert.DwOutSsmReferenceIdeal.τ).loc Cert.DwOutSsmReferenceIdeal.main_arg1) = m ((c.tc : Thread Cert.DwOutSsmReferenceIdeal.nD Cert.DwOutSsmReferenceIdeal.τ).loc Cert.DwOutSsmReferenceIdeal.main_arg1))
      ∧ r.2.sem = fun _ => 0)

def quiescent_Dyn [hDyn : Cert.Dyn.Facts] : Prop :=
  ∀ (m : (ℓ : Loc Cert.Dyn.nD Cert.Dyn.τ Cert.Dyn.sig) → Buf (Elt Bits) ℓ) (g : Dev Cert.Dyn.nD → PrngReg), Pre_Dyn m →
    θ_run (Cert.Dyn.defs (F := Bits)) (onTc (τ := Cert.Dyn.τ) (Cert.Dyn.main (F := Bits))) ⟨m, fun _ => 0, g⟩ (fun r => (∀ c : Dev Cert.Dyn.nD,
      r.2.mem ((c.tc : Thread Cert.Dyn.nD Cert.Dyn.τ).loc Cert.Dyn.main_arg0) = m ((c.tc : Thread Cert.Dyn.nD Cert.Dyn.τ).loc Cert.Dyn.main_arg0)
      ∧ r.2.mem ((c.tc : Thread Cert.Dyn.nD Cert.Dyn.τ).loc Cert.Dyn.main_arg1) = m ((c.tc : Thread Cert.Dyn.nD Cert.Dyn.τ).loc Cert.Dyn.main_arg1))
      ∧ r.2.sem = fun _ => 0)

def quiescent_DynIdeal [hDynIdeal : Cert.DynIdeal.Facts] : Prop :=
  ∀ (m : (ℓ : Loc Cert.DynIdeal.nD Cert.DynIdeal.τ Cert.DynIdeal.sig) → Buf (Elt Ideal) ℓ) (g : Dev Cert.DynIdeal.nD → PrngReg), Pre_DynIdeal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1))
      ∧ r.2.sem = fun _ => 0)

def quiescent_DynReferenceIdeal [hDynReferenceIdeal : Cert.DynReferenceIdeal.Facts] : Prop :=
  ∀ (m : (ℓ : Loc Cert.DynReferenceIdeal.nD Cert.DynReferenceIdeal.τ Cert.DynReferenceIdeal.sig) → Buf (Elt Ideal) ℓ) (g : Dev Cert.DynReferenceIdeal.nD → PrngReg), Pre_DynReferenceIdeal m →
    θ_run (Cert.DynReferenceIdeal.defs (F := Ideal)) (onTc (τ := Cert.DynReferenceIdeal.τ) (Cert.DynReferenceIdeal.main (F := Ideal))) ⟨m, fun _ => 0, g⟩ (fun r => (∀ c : Dev Cert.DynReferenceIdeal.nD,
      r.2.mem ((c.tc : Thread Cert.DynReferenceIdeal.nD Cert.DynReferenceIdeal.τ).loc Cert.DynReferenceIdeal.main_arg0) = m ((c.tc : Thread Cert.DynReferenceIdeal.nD Cert.DynReferenceIdeal.τ).loc Cert.DynReferenceIdeal.main_arg0)
      ∧ r.2.mem ((c.tc : Thread Cert.DynReferenceIdeal.nD Cert.DynReferenceIdeal.τ).loc Cert.DynReferenceIdeal.main_arg1) = m ((c.tc : Thread Cert.DynReferenceIdeal.nD Cert.DynReferenceIdeal.τ).loc Cert.DynReferenceIdeal.main_arg1))
      ∧ r.2.sem = fun _ => 0)

def quiescent_DwOutAttn [hDwOutAttn : Cert.DwOutAttn.Facts] : Prop :=
  ∀ (m : (ℓ : Loc Cert.DwOutAttn.nD Cert.DwOutAttn.τ Cert.DwOutAttn.sig) → Buf (Elt Bits) ℓ) (g : Dev Cert.DwOutAttn.nD → PrngReg), Pre_DwOutAttn m →
    θ_run (Cert.DwOutAttn.defs (F := Bits)) (onTc (τ := Cert.DwOutAttn.τ) (Cert.DwOutAttn.main (F := Bits))) ⟨m, fun _ => 0, g⟩ (fun r => (∀ c : Dev Cert.DwOutAttn.nD,
      r.2.mem ((c.tc : Thread Cert.DwOutAttn.nD Cert.DwOutAttn.τ).loc Cert.DwOutAttn.main_arg0) = m ((c.tc : Thread Cert.DwOutAttn.nD Cert.DwOutAttn.τ).loc Cert.DwOutAttn.main_arg0)
      ∧ r.2.mem ((c.tc : Thread Cert.DwOutAttn.nD Cert.DwOutAttn.τ).loc Cert.DwOutAttn.main_arg1) = m ((c.tc : Thread Cert.DwOutAttn.nD Cert.DwOutAttn.τ).loc Cert.DwOutAttn.main_arg1))
      ∧ r.2.sem = fun _ => 0)

def quiescent_DwOutAttnIdeal [hDwOutAttnIdeal : Cert.DwOutAttnIdeal.Facts] : Prop :=
  ∀ (m : (ℓ : Loc Cert.DwOutAttnIdeal.nD Cert.DwOutAttnIdeal.τ Cert.DwOutAttnIdeal.sig) → Buf (Elt Ideal) ℓ) (g : Dev Cert.DwOutAttnIdeal.nD → PrngReg), Pre_DwOutAttnIdeal m →
    θ_run (Cert.DwOutAttnIdeal.defs (F := Ideal)) (onTc (τ := Cert.DwOutAttnIdeal.τ) (Cert.DwOutAttnIdeal.main (F := Ideal))) ⟨m, fun _ => 0, g⟩ (fun r => (∀ c : Dev Cert.DwOutAttnIdeal.nD,
      r.2.mem ((c.tc : Thread Cert.DwOutAttnIdeal.nD Cert.DwOutAttnIdeal.τ).loc Cert.DwOutAttnIdeal.main_arg0) = m ((c.tc : Thread Cert.DwOutAttnIdeal.nD Cert.DwOutAttnIdeal.τ).loc Cert.DwOutAttnIdeal.main_arg0)
      ∧ r.2.mem ((c.tc : Thread Cert.DwOutAttnIdeal.nD Cert.DwOutAttnIdeal.τ).loc Cert.DwOutAttnIdeal.main_arg1) = m ((c.tc : Thread Cert.DwOutAttnIdeal.nD Cert.DwOutAttnIdeal.τ).loc Cert.DwOutAttnIdeal.main_arg1))
      ∧ r.2.sem = fun _ => 0)

def quiescent_DwOutAttnReferenceIdeal [hDwOutAttnReferenceIdeal : Cert.DwOutAttnReferenceIdeal.Facts] : Prop :=
  ∀ (m : (ℓ : Loc Cert.DwOutAttnReferenceIdeal.nD Cert.DwOutAttnReferenceIdeal.τ Cert.DwOutAttnReferenceIdeal.sig) → Buf (Elt Ideal) ℓ) (g : Dev Cert.DwOutAttnReferenceIdeal.nD → PrngReg), Pre_DwOutAttnReferenceIdeal m →
    θ_run (Cert.DwOutAttnReferenceIdeal.defs (F := Ideal)) (onTc (τ := Cert.DwOutAttnReferenceIdeal.τ) (Cert.DwOutAttnReferenceIdeal.main (F := Ideal))) ⟨m, fun _ => 0, g⟩ (fun r => (∀ c : Dev Cert.DwOutAttnReferenceIdeal.nD,
      r.2.mem ((c.tc : Thread Cert.DwOutAttnReferenceIdeal.nD Cert.DwOutAttnReferenceIdeal.τ).loc Cert.DwOutAttnReferenceIdeal.main_arg0) = m ((c.tc : Thread Cert.DwOutAttnReferenceIdeal.nD Cert.DwOutAttnReferenceIdeal.τ).loc Cert.DwOutAttnReferenceIdeal.main_arg0)
      ∧ r.2.mem ((c.tc : Thread Cert.DwOutAttnReferenceIdeal.nD Cert.DwOutAttnReferenceIdeal.τ).loc Cert.DwOutAttnReferenceIdeal.main_arg1) = m ((c.tc : Thread Cert.DwOutAttnReferenceIdeal.nD Cert.DwOutAttnReferenceIdeal.τ).loc Cert.DwOutAttnReferenceIdeal.main_arg1))
      ∧ r.2.sem = fun _ => 0)

def quiescent_OutAttn [hOutAttn : Cert.OutAttn.Facts] : Prop :=
  ∀ (m : (ℓ : Loc Cert.OutAttn.nD Cert.OutAttn.τ Cert.OutAttn.sig) → Buf (Elt Bits) ℓ) (g : Dev Cert.OutAttn.nD → PrngReg), Pre_OutAttn m →
    θ_run (Cert.OutAttn.defs (F := Bits)) (onTc (τ := Cert.OutAttn.τ) (Cert.OutAttn.main (F := Bits))) ⟨m, fun _ => 0, g⟩ (fun r => (∀ c : Dev Cert.OutAttn.nD,
      r.2.mem ((c.tc : Thread Cert.OutAttn.nD Cert.OutAttn.τ).loc Cert.OutAttn.main_arg0) = m ((c.tc : Thread Cert.OutAttn.nD Cert.OutAttn.τ).loc Cert.OutAttn.main_arg0)
      ∧ r.2.mem ((c.tc : Thread Cert.OutAttn.nD Cert.OutAttn.τ).loc Cert.OutAttn.main_arg1) = m ((c.tc : Thread Cert.OutAttn.nD Cert.OutAttn.τ).loc Cert.OutAttn.main_arg1))
      ∧ r.2.sem = fun _ => 0)

def quiescent_OutAttnIdeal [hOutAttnIdeal : Cert.OutAttnIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg), Pre_OutAttnIdeal m →
    θ_run (Cert.OutAttnIdeal.defs (F := Ideal)) (onTc (τ := Cert.OutAttnIdeal.τ) (Cert.OutAttnIdeal.main (F := Ideal))) ⟨m, fun _ => 0, g⟩ (fun r => (∀ c : Dev Cert.OutAttnIdeal.nD,
      r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
      ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1))
      ∧ r.2.sem = fun _ => 0)

def quiescent_OutAttnReferenceIdeal [hOutAttnReferenceIdeal : Cert.OutAttnReferenceIdeal.Facts] : Prop :=
  ∀ (m : (ℓ : Loc Cert.OutAttnReferenceIdeal.nD Cert.OutAttnReferenceIdeal.τ Cert.OutAttnReferenceIdeal.sig) → Buf (Elt Ideal) ℓ) (g : Dev Cert.OutAttnReferenceIdeal.nD → PrngReg), Pre_OutAttnReferenceIdeal m →
    θ_run (Cert.OutAttnReferenceIdeal.defs (F := Ideal)) (onTc (τ := Cert.OutAttnReferenceIdeal.τ) (Cert.OutAttnReferenceIdeal.main (F := Ideal))) ⟨m, fun _ => 0, g⟩ (fun r => (∀ c : Dev Cert.OutAttnReferenceIdeal.nD,
      r.2.mem ((c.tc : Thread Cert.OutAttnReferenceIdeal.nD Cert.OutAttnReferenceIdeal.τ).loc Cert.OutAttnReferenceIdeal.main_arg0) = m ((c.tc : Thread Cert.OutAttnReferenceIdeal.nD Cert.OutAttnReferenceIdeal.τ).loc Cert.OutAttnReferenceIdeal.main_arg0)
      ∧ r.2.mem ((c.tc : Thread Cert.OutAttnReferenceIdeal.nD Cert.OutAttnReferenceIdeal.τ).loc Cert.OutAttnReferenceIdeal.main_arg1) = m ((c.tc : Thread Cert.OutAttnReferenceIdeal.nD Cert.OutAttnReferenceIdeal.τ).loc Cert.OutAttnReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_OutSsm [hOutSsm : Cert.OutSsm.Facts] : Prop :=
  ∀ (m : (ℓ : Loc Cert.OutSsm.nD Cert.OutSsm.τ Cert.OutSsm.sig) → Buf (Elt Bits) ℓ) (g : Dev Cert.OutSsm.nD → PrngReg), Pre_OutSsm m →
    θ_run (Cert.OutSsm.defs (F := Bits)) (onTc (τ := Cert.OutSsm.τ) (Cert.OutSsm.main (F := Bits))) ⟨m, fun _ => 0, g⟩ (fun r => (∀ c : Dev Cert.OutSsm.nD,
      r.2.mem ((c.tc : Thread Cert.OutSsm.nD Cert.OutSsm.τ).loc Cert.OutSsm.main_arg0) = m ((c.tc : Thread Cert.OutSsm.nD Cert.OutSsm.τ).loc Cert.OutSsm.main_arg0)
      ∧ r.2.mem ((c.tc : Thread Cert.OutSsm.nD Cert.OutSsm.τ).loc Cert.OutSsm.main_arg1) = m ((c.tc : Thread Cert.OutSsm.nD Cert.OutSsm.τ).loc Cert.OutSsm.main_arg1))
      ∧ r.2.sem = fun _ => 0)

def quiescent_OutSsmIdeal [hOutSsmIdeal : Cert.OutSsmIdeal.Facts] : Prop :=
  ∀ (m : (ℓ : Loc Cert.OutSsmIdeal.nD Cert.OutSsmIdeal.τ Cert.OutSsmIdeal.sig) → Buf (Elt Ideal) ℓ) (g : Dev Cert.OutSsmIdeal.nD → PrngReg), Pre_OutSsmIdeal m →
    θ_run (Cert.OutSsmIdeal.defs (F := Ideal)) (onTc (τ := Cert.OutSsmIdeal.τ) (Cert.OutSsmIdeal.main (F := Ideal))) ⟨m, fun _ => 0, g⟩ (fun r => (∀ c : Dev Cert.OutSsmIdeal.nD,
      r.2.mem ((c.tc : Thread Cert.OutSsmIdeal.nD Cert.OutSsmIdeal.τ).loc Cert.OutSsmIdeal.main_arg0) = m ((c.tc : Thread Cert.OutSsmIdeal.nD Cert.OutSsmIdeal.τ).loc Cert.OutSsmIdeal.main_arg0)
      ∧ r.2.mem ((c.tc : Thread Cert.OutSsmIdeal.nD Cert.OutSsmIdeal.τ).loc Cert.OutSsmIdeal.main_arg1) = m ((c.tc : Thread Cert.OutSsmIdeal.nD Cert.OutSsmIdeal.τ).loc Cert.OutSsmIdeal.main_arg1))
      ∧ r.2.sem = fun _ => 0)

def quiescent_OutSsmReferenceIdeal [hOutSsmReferenceIdeal : Cert.OutSsmReferenceIdeal.Facts] : Prop :=
  ∀ (m : (ℓ : Loc Cert.OutSsmReferenceIdeal.nD Cert.OutSsmReferenceIdeal.τ Cert.OutSsmReferenceIdeal.sig) → Buf (Elt Ideal) ℓ) (g : Dev Cert.OutSsmReferenceIdeal.nD → PrngReg), Pre_OutSsmReferenceIdeal m →
    θ_run (Cert.OutSsmReferenceIdeal.defs (F := Ideal)) (onTc (τ := Cert.OutSsmReferenceIdeal.τ) (Cert.OutSsmReferenceIdeal.main (F := Ideal))) ⟨m, fun _ => 0, g⟩ (fun r => (∀ c : Dev Cert.OutSsmReferenceIdeal.nD,
      r.2.mem ((c.tc : Thread Cert.OutSsmReferenceIdeal.nD Cert.OutSsmReferenceIdeal.τ).loc Cert.OutSsmReferenceIdeal.main_arg0) = m ((c.tc : Thread Cert.OutSsmReferenceIdeal.nD Cert.OutSsmReferenceIdeal.τ).loc Cert.OutSsmReferenceIdeal.main_arg0)
      ∧ r.2.mem ((c.tc : Thread Cert.OutSsmReferenceIdeal.nD Cert.OutSsmReferenceIdeal.τ).loc Cert.OutSsmReferenceIdeal.main_arg1) = m ((c.tc : Thread Cert.OutSsmReferenceIdeal.nD Cert.OutSsmReferenceIdeal.τ).loc Cert.OutSsmReferenceIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyReferenceIdeal [hDyReferenceIdeal : Cert.DyReferenceIdeal.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1))
      ∧ r.2.sem = fun _ => 0)

def quiescent_InSsm [hInSsm : Cert.InSsm.Facts] : Prop :=
  ∀ (m : (ℓ : Loc Cert.InSsm.nD Cert.InSsm.τ Cert.InSsm.sig) → Buf (Elt Bits) ℓ) (g : Dev Cert.InSsm.nD → PrngReg), Pre_InSsm m →
    θ_run (Cert.InSsm.defs (F := Bits)) (onTc (τ := Cert.InSsm.τ) (Cert.InSsm.main (F := Bits))) ⟨m, fun _ => 0, g⟩ (fun r => (∀ c : Dev Cert.InSsm.nD,
      r.2.mem ((c.tc : Thread Cert.InSsm.nD Cert.InSsm.τ).loc Cert.InSsm.main_arg0) = m ((c.tc : Thread Cert.InSsm.nD Cert.InSsm.τ).loc Cert.InSsm.main_arg0)
      ∧ r.2.mem ((c.tc : Thread Cert.InSsm.nD Cert.InSsm.τ).loc Cert.InSsm.main_arg1) = m ((c.tc : Thread Cert.InSsm.nD Cert.InSsm.τ).loc Cert.InSsm.main_arg1))
      ∧ r.2.sem = fun _ => 0)

def quiescent_InSsmIdeal [hInSsmIdeal : Cert.InSsmIdeal.Facts] : Prop :=
  ∀ (m : (ℓ : Loc Cert.InSsmIdeal.nD Cert.InSsmIdeal.τ Cert.InSsmIdeal.sig) → Buf (Elt Ideal) ℓ) (g : Dev Cert.InSsmIdeal.nD → PrngReg), Pre_InSsmIdeal m →
    θ_run (Cert.InSsmIdeal.defs (F := Ideal)) (onTc (τ := Cert.InSsmIdeal.τ) (Cert.InSsmIdeal.main (F := Ideal))) ⟨m, fun _ => 0, g⟩ (fun r => (∀ c : Dev Cert.InSsmIdeal.nD,
      r.2.mem ((c.tc : Thread Cert.InSsmIdeal.nD Cert.InSsmIdeal.τ).loc Cert.InSsmIdeal.main_arg0) = m ((c.tc : Thread Cert.InSsmIdeal.nD Cert.InSsmIdeal.τ).loc Cert.InSsmIdeal.main_arg0)
      ∧ r.2.mem ((c.tc : Thread Cert.InSsmIdeal.nD Cert.InSsmIdeal.τ).loc Cert.InSsmIdeal.main_arg1) = m ((c.tc : Thread Cert.InSsmIdeal.nD Cert.InSsmIdeal.τ).loc Cert.InSsmIdeal.main_arg1))
      ∧ r.2.sem = fun _ => 0)

def quiescent_InSsmReferenceIdeal [hInSsmReferenceIdeal : Cert.InSsmReferenceIdeal.Facts] : Prop :=
  ∀ (m : (ℓ : Loc Cert.InSsmReferenceIdeal.nD Cert.InSsmReferenceIdeal.τ Cert.InSsmReferenceIdeal.sig) → Buf (Elt Ideal) ℓ) (g : Dev Cert.InSsmReferenceIdeal.nD → PrngReg), Pre_InSsmReferenceIdeal m →
    θ_run (Cert.InSsmReferenceIdeal.defs (F := Ideal)) (onTc (τ := Cert.InSsmReferenceIdeal.τ) (Cert.InSsmReferenceIdeal.main (F := Ideal))) ⟨m, fun _ => 0, g⟩ (fun r => (∀ c : Dev Cert.InSsmReferenceIdeal.nD,
      r.2.mem ((c.tc : Thread Cert.InSsmReferenceIdeal.nD Cert.InSsmReferenceIdeal.τ).loc Cert.InSsmReferenceIdeal.main_arg0) = m ((c.tc : Thread Cert.InSsmReferenceIdeal.nD Cert.InSsmReferenceIdeal.τ).loc Cert.InSsmReferenceIdeal.main_arg0)
      ∧ r.2.mem ((c.tc : Thread Cert.InSsmReferenceIdeal.nD Cert.InSsmReferenceIdeal.τ).loc Cert.InSsmReferenceIdeal.main_arg1) = m ((c.tc : Thread Cert.InSsmReferenceIdeal.nD Cert.InSsmReferenceIdeal.τ).loc Cert.InSsmReferenceIdeal.main_arg1))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1)
      ∧ r.2.mem ((c.tc : Thread Cert.Dx1.nD Cert.Dx1.τ).loc Cert.Dx1.main_arg2) = m ((c.tc : Thread Cert.Dx1.nD Cert.Dx1.τ).loc Cert.Dx1.main_arg2))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
      ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ r.2.sem = fun _ => 0)

def quiescent_Dx1ReferenceIdeal [hDx1ReferenceIdeal : Cert.Dx1ReferenceIdeal.Facts] : Prop :=
  ∀ (m : (ℓ : Loc Cert.Dx1ReferenceIdeal.nD Cert.Dx1ReferenceIdeal.τ Cert.Dx1ReferenceIdeal.sig) → Buf (Elt Ideal) ℓ) (g : Dev Cert.Dx1ReferenceIdeal.nD → PrngReg), Pre_Dx1ReferenceIdeal m →
    θ_run (Cert.Dx1ReferenceIdeal.defs (F := Ideal)) (onTc (τ := Cert.Dx1ReferenceIdeal.τ) (Cert.Dx1ReferenceIdeal.main (F := Ideal))) ⟨m, fun _ => 0, g⟩ (fun r => (∀ c : Dev Cert.Dx1ReferenceIdeal.nD,
      r.2.mem ((c.tc : Thread Cert.Dx1ReferenceIdeal.nD Cert.Dx1ReferenceIdeal.τ).loc Cert.Dx1ReferenceIdeal.main_arg0) = m ((c.tc : Thread Cert.Dx1ReferenceIdeal.nD Cert.Dx1ReferenceIdeal.τ).loc Cert.Dx1ReferenceIdeal.main_arg0)
      ∧ r.2.mem ((c.tc : Thread Cert.Dx1ReferenceIdeal.nD Cert.Dx1ReferenceIdeal.τ).loc Cert.Dx1ReferenceIdeal.main_arg1) = m ((c.tc : Thread Cert.Dx1ReferenceIdeal.nD Cert.Dx1ReferenceIdeal.τ).loc Cert.Dx1ReferenceIdeal.main_arg1)
      ∧ r.2.mem ((c.tc : Thread Cert.Dx1ReferenceIdeal.nD Cert.Dx1ReferenceIdeal.τ).loc Cert.Dx1ReferenceIdeal.main_arg2) = m ((c.tc : Thread Cert.Dx1ReferenceIdeal.nD Cert.Dx1ReferenceIdeal.τ).loc Cert.Dx1ReferenceIdeal.main_arg2))
      ∧ r.2.sem = fun _ => 0)

def quiescent_DwInAttn [hDwInAttn : Cert.DwInAttn.Facts] : Prop :=
  ∀ (m : (ℓ : Loc Cert.DwInAttn.nD Cert.DwInAttn.τ Cert.DwInAttn.sig) → Buf (Elt Bits) ℓ) (g : Dev Cert.DwInAttn.nD → PrngReg), Pre_DwInAttn m →
    θ_run (Cert.DwInAttn.defs (F := Bits)) (onTc (τ := Cert.DwInAttn.τ) (Cert.DwInAttn.main (F := Bits))) ⟨m, fun _ => 0, g⟩ (fun r => (∀ c : Dev Cert.DwInAttn.nD,
      r.2.mem ((c.tc : Thread Cert.DwInAttn.nD Cert.DwInAttn.τ).loc Cert.DwInAttn.main_arg0) = m ((c.tc : Thread Cert.DwInAttn.nD Cert.DwInAttn.τ).loc Cert.DwInAttn.main_arg0)
      ∧ r.2.mem ((c.tc : Thread Cert.DwInAttn.nD Cert.DwInAttn.τ).loc Cert.DwInAttn.main_arg1) = m ((c.tc : Thread Cert.DwInAttn.nD Cert.DwInAttn.τ).loc Cert.DwInAttn.main_arg1))
      ∧ r.2.sem = fun _ => 0)

def quiescent_DwInAttnIdeal [hDwInAttnIdeal : Cert.DwInAttnIdeal.Facts] : Prop :=
  ∀ (m : (ℓ : Loc Cert.DwInAttnIdeal.nD Cert.DwInAttnIdeal.τ Cert.DwInAttnIdeal.sig) → Buf (Elt Ideal) ℓ) (g : Dev Cert.DwInAttnIdeal.nD → PrngReg), Pre_DwInAttnIdeal m →
    θ_run (Cert.DwInAttnIdeal.defs (F := Ideal)) (onTc (τ := Cert.DwInAttnIdeal.τ) (Cert.DwInAttnIdeal.main (F := Ideal))) ⟨m, fun _ => 0, g⟩ (fun r => (∀ c : Dev Cert.DwInAttnIdeal.nD,
      r.2.mem ((c.tc : Thread Cert.DwInAttnIdeal.nD Cert.DwInAttnIdeal.τ).loc Cert.DwInAttnIdeal.main_arg0) = m ((c.tc : Thread Cert.DwInAttnIdeal.nD Cert.DwInAttnIdeal.τ).loc Cert.DwInAttnIdeal.main_arg0)
      ∧ r.2.mem ((c.tc : Thread Cert.DwInAttnIdeal.nD Cert.DwInAttnIdeal.τ).loc Cert.DwInAttnIdeal.main_arg1) = m ((c.tc : Thread Cert.DwInAttnIdeal.nD Cert.DwInAttnIdeal.τ).loc Cert.DwInAttnIdeal.main_arg1))
      ∧ r.2.sem = fun _ => 0)

def quiescent_DwInAttnReferenceIdeal [hDwInAttnReferenceIdeal : Cert.DwInAttnReferenceIdeal.Facts] : Prop :=
  ∀ (m : (ℓ : Loc Cert.DwInAttnReferenceIdeal.nD Cert.DwInAttnReferenceIdeal.τ Cert.DwInAttnReferenceIdeal.sig) → Buf (Elt Ideal) ℓ) (g : Dev Cert.DwInAttnReferenceIdeal.nD → PrngReg), Pre_DwInAttnReferenceIdeal m →
    θ_run (Cert.DwInAttnReferenceIdeal.defs (F := Ideal)) (onTc (τ := Cert.DwInAttnReferenceIdeal.τ) (Cert.DwInAttnReferenceIdeal.main (F := Ideal))) ⟨m, fun _ => 0, g⟩ (fun r => (∀ c : Dev Cert.DwInAttnReferenceIdeal.nD,
      r.2.mem ((c.tc : Thread Cert.DwInAttnReferenceIdeal.nD Cert.DwInAttnReferenceIdeal.τ).loc Cert.DwInAttnReferenceIdeal.main_arg0) = m ((c.tc : Thread Cert.DwInAttnReferenceIdeal.nD Cert.DwInAttnReferenceIdeal.τ).loc Cert.DwInAttnReferenceIdeal.main_arg0)
      ∧ r.2.mem ((c.tc : Thread Cert.DwInAttnReferenceIdeal.nD Cert.DwInAttnReferenceIdeal.τ).loc Cert.DwInAttnReferenceIdeal.main_arg1) = m ((c.tc : Thread Cert.DwInAttnReferenceIdeal.nD Cert.DwInAttnReferenceIdeal.τ).loc Cert.DwInAttnReferenceIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ r.2.sem = fun _ => 0)

def quiescent_QkvAReferenceIdeal [hQkvAReferenceIdeal : Cert.QkvAReferenceIdeal.Facts] : Prop :=
  ∀ (m : (ℓ : Loc Cert.QkvAReferenceIdeal.nD Cert.QkvAReferenceIdeal.τ Cert.QkvAReferenceIdeal.sig) → Buf (Elt Ideal) ℓ) (g : Dev Cert.QkvAReferenceIdeal.nD → PrngReg), Pre_QkvAReferenceIdeal m →
    θ_run (Cert.QkvAReferenceIdeal.defs (F := Ideal)) (onTc (τ := Cert.QkvAReferenceIdeal.τ) (Cert.QkvAReferenceIdeal.main (F := Ideal))) ⟨m, fun _ => 0, g⟩ (fun r => (∀ c : Dev Cert.QkvAReferenceIdeal.nD,
      r.2.mem ((c.tc : Thread Cert.QkvAReferenceIdeal.nD Cert.QkvAReferenceIdeal.τ).loc Cert.QkvAReferenceIdeal.main_arg0) = m ((c.tc : Thread Cert.QkvAReferenceIdeal.nD Cert.QkvAReferenceIdeal.τ).loc Cert.QkvAReferenceIdeal.main_arg0)
      ∧ r.2.mem ((c.tc : Thread Cert.QkvAReferenceIdeal.nD Cert.QkvAReferenceIdeal.τ).loc Cert.QkvAReferenceIdeal.main_arg1) = m ((c.tc : Thread Cert.QkvAReferenceIdeal.nD Cert.QkvAReferenceIdeal.τ).loc Cert.QkvAReferenceIdeal.main_arg1))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ r.2.sem = fun _ => 0)

def quiescent_QkvBReferenceIdeal [hQkvBReferenceIdeal : Cert.QkvBReferenceIdeal.Facts] : Prop :=
  ∀ (m : (ℓ : Loc Cert.QkvBReferenceIdeal.nD Cert.QkvBReferenceIdeal.τ Cert.QkvBReferenceIdeal.sig) → Buf (Elt Ideal) ℓ) (g : Dev Cert.QkvBReferenceIdeal.nD → PrngReg), Pre_QkvBReferenceIdeal m →
    θ_run (Cert.QkvBReferenceIdeal.defs (F := Ideal)) (onTc (τ := Cert.QkvBReferenceIdeal.τ) (Cert.QkvBReferenceIdeal.main (F := Ideal))) ⟨m, fun _ => 0, g⟩ (fun r => (∀ c : Dev Cert.QkvBReferenceIdeal.nD,
      r.2.mem ((c.tc : Thread Cert.QkvBReferenceIdeal.nD Cert.QkvBReferenceIdeal.τ).loc Cert.QkvBReferenceIdeal.main_arg0) = m ((c.tc : Thread Cert.QkvBReferenceIdeal.nD Cert.QkvBReferenceIdeal.τ).loc Cert.QkvBReferenceIdeal.main_arg0)
      ∧ r.2.mem ((c.tc : Thread Cert.QkvBReferenceIdeal.nD Cert.QkvBReferenceIdeal.τ).loc Cert.QkvBReferenceIdeal.main_arg1) = m ((c.tc : Thread Cert.QkvBReferenceIdeal.nD Cert.QkvBReferenceIdeal.τ).loc Cert.QkvBReferenceIdeal.main_arg1))
      ∧ r.2.sem = fun _ => 0)

def quiescent_QkvC [hQkvC : Cert.QkvC.Facts] : Prop :=
  ∀ (m : (ℓ : Loc Cert.QkvC.nD Cert.QkvC.τ Cert.QkvC.sig) → Buf (Elt Bits) ℓ) (g : Dev Cert.QkvC.nD → PrngReg), Pre_QkvC m →
    θ_run (Cert.QkvC.defs (F := Bits)) (onTc (τ := Cert.QkvC.τ) (Cert.QkvC.main (F := Bits))) ⟨m, fun _ => 0, g⟩ (fun r => (∀ c : Dev Cert.QkvC.nD,
      r.2.mem ((c.tc : Thread Cert.QkvC.nD Cert.QkvC.τ).loc Cert.QkvC.main_arg0) = m ((c.tc : Thread Cert.QkvC.nD Cert.QkvC.τ).loc Cert.QkvC.main_arg0)
      ∧ r.2.mem ((c.tc : Thread Cert.QkvC.nD Cert.QkvC.τ).loc Cert.QkvC.main_arg1) = m ((c.tc : Thread Cert.QkvC.nD Cert.QkvC.τ).loc Cert.QkvC.main_arg1))
      ∧ r.2.sem = fun _ => 0)

def quiescent_QkvCIdeal [hQkvCIdeal : Cert.QkvCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg), Pre_QkvCIdeal m →
    θ_run (Cert.QkvCIdeal.defs (F := Ideal)) (onTc (τ := Cert.QkvCIdeal.τ) (Cert.QkvCIdeal.main (F := Ideal))) ⟨m, fun _ => 0, g⟩ (fun r => (∀ c : Dev Cert.QkvCIdeal.nD,
      r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
      ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ r.2.sem = fun _ => 0)

def quiescent_QkvCReferenceIdeal [hQkvCReferenceIdeal : Cert.QkvCReferenceIdeal.Facts] : Prop :=
  ∀ (m : (ℓ : Loc Cert.QkvCReferenceIdeal.nD Cert.QkvCReferenceIdeal.τ Cert.QkvCReferenceIdeal.sig) → Buf (Elt Ideal) ℓ) (g : Dev Cert.QkvCReferenceIdeal.nD → PrngReg), Pre_QkvCReferenceIdeal m →
    θ_run (Cert.QkvCReferenceIdeal.defs (F := Ideal)) (onTc (τ := Cert.QkvCReferenceIdeal.τ) (Cert.QkvCReferenceIdeal.main (F := Ideal))) ⟨m, fun _ => 0, g⟩ (fun r => (∀ c : Dev Cert.QkvCReferenceIdeal.nD,
      r.2.mem ((c.tc : Thread Cert.QkvCReferenceIdeal.nD Cert.QkvCReferenceIdeal.τ).loc Cert.QkvCReferenceIdeal.main_arg0) = m ((c.tc : Thread Cert.QkvCReferenceIdeal.nD Cert.QkvCReferenceIdeal.τ).loc Cert.QkvCReferenceIdeal.main_arg0)
      ∧ r.2.mem ((c.tc : Thread Cert.QkvCReferenceIdeal.nD Cert.QkvCReferenceIdeal.τ).loc Cert.QkvCReferenceIdeal.main_arg1) = m ((c.tc : Thread Cert.QkvCReferenceIdeal.nD Cert.QkvCReferenceIdeal.τ).loc Cert.QkvCReferenceIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamOutAttn [hAdamOutAttn : Cert.AdamOutAttn.Facts] : Prop :=
  ∀ (m : (ℓ : Loc Cert.AdamOutAttn.nD Cert.AdamOutAttn.τ Cert.AdamOutAttn.sig) → Buf (Elt Bits) ℓ) (g : Dev Cert.AdamOutAttn.nD → PrngReg), Pre_AdamOutAttn m →
    θ_run (Cert.AdamOutAttn.defs (F := Bits)) (onTc (τ := Cert.AdamOutAttn.τ) (Cert.AdamOutAttn.main (F := Bits))) ⟨m, fun _ => 0, g⟩ (fun r => (∀ c : Dev Cert.AdamOutAttn.nD,
      r.2.mem ((c.tc : Thread Cert.AdamOutAttn.nD Cert.AdamOutAttn.τ).loc Cert.AdamOutAttn.main_arg0) = m ((c.tc : Thread Cert.AdamOutAttn.nD Cert.AdamOutAttn.τ).loc Cert.AdamOutAttn.main_arg0)
      ∧ r.2.mem ((c.tc : Thread Cert.AdamOutAttn.nD Cert.AdamOutAttn.τ).loc Cert.AdamOutAttn.main_arg1) = m ((c.tc : Thread Cert.AdamOutAttn.nD Cert.AdamOutAttn.τ).loc Cert.AdamOutAttn.main_arg1)
      ∧ r.2.mem ((c.tc : Thread Cert.AdamOutAttn.nD Cert.AdamOutAttn.τ).loc Cert.AdamOutAttn.main_arg2) = m ((c.tc : Thread Cert.AdamOutAttn.nD Cert.AdamOutAttn.τ).loc Cert.AdamOutAttn.main_arg2)
      ∧ r.2.mem ((c.tc : Thread Cert.AdamOutAttn.nD Cert.AdamOutAttn.τ).loc Cert.AdamOutAttn.main_arg3) = m ((c.tc : Thread Cert.AdamOutAttn.nD Cert.AdamOutAttn.τ).loc Cert.AdamOutAttn.main_arg3))
      ∧ r.2.sem = fun _ => 0)

def quiescent_AdamOutAttnIdeal [hAdamOutAttnIdeal : Cert.AdamOutAttnIdeal.Facts] : Prop :=
  ∀ (m : (ℓ : Loc Cert.AdamOutAttnIdeal.nD Cert.AdamOutAttnIdeal.τ Cert.AdamOutAttnIdeal.sig) → Buf (Elt Ideal) ℓ) (g : Dev Cert.AdamOutAttnIdeal.nD → PrngReg), Pre_AdamOutAttnIdeal m →
    θ_run (Cert.AdamOutAttnIdeal.defs (F := Ideal)) (onTc (τ := Cert.AdamOutAttnIdeal.τ) (Cert.AdamOutAttnIdeal.main (F := Ideal))) ⟨m, fun _ => 0, g⟩ (fun r => (∀ c : Dev Cert.AdamOutAttnIdeal.nD,
      r.2.mem ((c.tc : Thread Cert.AdamOutAttnIdeal.nD Cert.AdamOutAttnIdeal.τ).loc Cert.AdamOutAttnIdeal.main_arg0) = m ((c.tc : Thread Cert.AdamOutAttnIdeal.nD Cert.AdamOutAttnIdeal.τ).loc Cert.AdamOutAttnIdeal.main_arg0)
      ∧ r.2.mem ((c.tc : Thread Cert.AdamOutAttnIdeal.nD Cert.AdamOutAttnIdeal.τ).loc Cert.AdamOutAttnIdeal.main_arg1) = m ((c.tc : Thread Cert.AdamOutAttnIdeal.nD Cert.AdamOutAttnIdeal.τ).loc Cert.AdamOutAttnIdeal.main_arg1)
      ∧ r.2.mem ((c.tc : Thread Cert.AdamOutAttnIdeal.nD Cert.AdamOutAttnIdeal.τ).loc Cert.AdamOutAttnIdeal.main_arg2) = m ((c.tc : Thread Cert.AdamOutAttnIdeal.nD Cert.AdamOutAttnIdeal.τ).loc Cert.AdamOutAttnIdeal.main_arg2)
      ∧ r.2.mem ((c.tc : Thread Cert.AdamOutAttnIdeal.nD Cert.AdamOutAttnIdeal.τ).loc Cert.AdamOutAttnIdeal.main_arg3) = m ((c.tc : Thread Cert.AdamOutAttnIdeal.nD Cert.AdamOutAttnIdeal.τ).loc Cert.AdamOutAttnIdeal.main_arg3))
      ∧ r.2.sem = fun _ => 0)

def quiescent_AdamOutAttnReferenceIdeal [hAdamOutAttnReferenceIdeal : Cert.AdamOutAttnReferenceIdeal.Facts] : Prop :=
  ∀ (m : (ℓ : Loc Cert.AdamOutAttnReferenceIdeal.nD Cert.AdamOutAttnReferenceIdeal.τ Cert.AdamOutAttnReferenceIdeal.sig) → Buf (Elt Ideal) ℓ) (g : Dev Cert.AdamOutAttnReferenceIdeal.nD → PrngReg), Pre_AdamOutAttnReferenceIdeal m →
    θ_run (Cert.AdamOutAttnReferenceIdeal.defs (F := Ideal)) (onTc (τ := Cert.AdamOutAttnReferenceIdeal.τ) (Cert.AdamOutAttnReferenceIdeal.main (F := Ideal))) ⟨m, fun _ => 0, g⟩ (fun r => (∀ c : Dev Cert.AdamOutAttnReferenceIdeal.nD,
      r.2.mem ((c.tc : Thread Cert.AdamOutAttnReferenceIdeal.nD Cert.AdamOutAttnReferenceIdeal.τ).loc Cert.AdamOutAttnReferenceIdeal.main_arg0) = m ((c.tc : Thread Cert.AdamOutAttnReferenceIdeal.nD Cert.AdamOutAttnReferenceIdeal.τ).loc Cert.AdamOutAttnReferenceIdeal.main_arg0)
      ∧ r.2.mem ((c.tc : Thread Cert.AdamOutAttnReferenceIdeal.nD Cert.AdamOutAttnReferenceIdeal.τ).loc Cert.AdamOutAttnReferenceIdeal.main_arg1) = m ((c.tc : Thread Cert.AdamOutAttnReferenceIdeal.nD Cert.AdamOutAttnReferenceIdeal.τ).loc Cert.AdamOutAttnReferenceIdeal.main_arg1)
      ∧ r.2.mem ((c.tc : Thread Cert.AdamOutAttnReferenceIdeal.nD Cert.AdamOutAttnReferenceIdeal.τ).loc Cert.AdamOutAttnReferenceIdeal.main_arg2) = m ((c.tc : Thread Cert.AdamOutAttnReferenceIdeal.nD Cert.AdamOutAttnReferenceIdeal.τ).loc Cert.AdamOutAttnReferenceIdeal.main_arg2)
      ∧ r.2.mem ((c.tc : Thread Cert.AdamOutAttnReferenceIdeal.nD Cert.AdamOutAttnReferenceIdeal.τ).loc Cert.AdamOutAttnReferenceIdeal.main_arg3) = m ((c.tc : Thread Cert.AdamOutAttnReferenceIdeal.nD Cert.AdamOutAttnReferenceIdeal.τ).loc Cert.AdamOutAttnReferenceIdeal.main_arg3))
      ∧ r.2.sem = fun _ => 0)

def quiescent_AdamInAttn [hAdamInAttn : Cert.AdamInAttn.Facts] : Prop :=
  ∀ (m : (ℓ : Loc Cert.AdamInAttn.nD Cert.AdamInAttn.τ Cert.AdamInAttn.sig) → Buf (Elt Bits) ℓ) (g : Dev Cert.AdamInAttn.nD → PrngReg), Pre_AdamInAttn m →
    θ_run (Cert.AdamInAttn.defs (F := Bits)) (onTc (τ := Cert.AdamInAttn.τ) (Cert.AdamInAttn.main (F := Bits))) ⟨m, fun _ => 0, g⟩ (fun r => (∀ c : Dev Cert.AdamInAttn.nD,
      r.2.mem ((c.tc : Thread Cert.AdamInAttn.nD Cert.AdamInAttn.τ).loc Cert.AdamInAttn.main_arg0) = m ((c.tc : Thread Cert.AdamInAttn.nD Cert.AdamInAttn.τ).loc Cert.AdamInAttn.main_arg0)
      ∧ r.2.mem ((c.tc : Thread Cert.AdamInAttn.nD Cert.AdamInAttn.τ).loc Cert.AdamInAttn.main_arg1) = m ((c.tc : Thread Cert.AdamInAttn.nD Cert.AdamInAttn.τ).loc Cert.AdamInAttn.main_arg1)
      ∧ r.2.mem ((c.tc : Thread Cert.AdamInAttn.nD Cert.AdamInAttn.τ).loc Cert.AdamInAttn.main_arg2) = m ((c.tc : Thread Cert.AdamInAttn.nD Cert.AdamInAttn.τ).loc Cert.AdamInAttn.main_arg2)
      ∧ r.2.mem ((c.tc : Thread Cert.AdamInAttn.nD Cert.AdamInAttn.τ).loc Cert.AdamInAttn.main_arg3) = m ((c.tc : Thread Cert.AdamInAttn.nD Cert.AdamInAttn.τ).loc Cert.AdamInAttn.main_arg3)
      ∧ r.2.mem ((c.tc : Thread Cert.AdamInAttn.nD Cert.AdamInAttn.τ).loc Cert.AdamInAttn.main_arg4) = m ((c.tc : Thread Cert.AdamInAttn.nD Cert.AdamInAttn.τ).loc Cert.AdamInAttn.main_arg4)
      ∧ r.2.mem ((c.tc : Thread Cert.AdamInAttn.nD Cert.AdamInAttn.τ).loc Cert.AdamInAttn.main_arg5) = m ((c.tc : Thread Cert.AdamInAttn.nD Cert.AdamInAttn.τ).loc Cert.AdamInAttn.main_arg5)
      ∧ r.2.mem ((c.tc : Thread Cert.AdamInAttn.nD Cert.AdamInAttn.τ).loc Cert.AdamInAttn.main_arg6) = m ((c.tc : Thread Cert.AdamInAttn.nD Cert.AdamInAttn.τ).loc Cert.AdamInAttn.main_arg6)
      ∧ r.2.mem ((c.tc : Thread Cert.AdamInAttn.nD Cert.AdamInAttn.τ).loc Cert.AdamInAttn.main_arg7) = m ((c.tc : Thread Cert.AdamInAttn.nD Cert.AdamInAttn.τ).loc Cert.AdamInAttn.main_arg7))
      ∧ r.2.sem = fun _ => 0)

def quiescent_AdamInAttnIdeal [hAdamInAttnIdeal : Cert.AdamInAttnIdeal.Facts] : Prop :=
  ∀ (m : (ℓ : Loc Cert.AdamInAttnIdeal.nD Cert.AdamInAttnIdeal.τ Cert.AdamInAttnIdeal.sig) → Buf (Elt Ideal) ℓ) (g : Dev Cert.AdamInAttnIdeal.nD → PrngReg), Pre_AdamInAttnIdeal m →
    θ_run (Cert.AdamInAttnIdeal.defs (F := Ideal)) (onTc (τ := Cert.AdamInAttnIdeal.τ) (Cert.AdamInAttnIdeal.main (F := Ideal))) ⟨m, fun _ => 0, g⟩ (fun r => (∀ c : Dev Cert.AdamInAttnIdeal.nD,
      r.2.mem ((c.tc : Thread Cert.AdamInAttnIdeal.nD Cert.AdamInAttnIdeal.τ).loc Cert.AdamInAttnIdeal.main_arg0) = m ((c.tc : Thread Cert.AdamInAttnIdeal.nD Cert.AdamInAttnIdeal.τ).loc Cert.AdamInAttnIdeal.main_arg0)
      ∧ r.2.mem ((c.tc : Thread Cert.AdamInAttnIdeal.nD Cert.AdamInAttnIdeal.τ).loc Cert.AdamInAttnIdeal.main_arg1) = m ((c.tc : Thread Cert.AdamInAttnIdeal.nD Cert.AdamInAttnIdeal.τ).loc Cert.AdamInAttnIdeal.main_arg1)
      ∧ r.2.mem ((c.tc : Thread Cert.AdamInAttnIdeal.nD Cert.AdamInAttnIdeal.τ).loc Cert.AdamInAttnIdeal.main_arg2) = m ((c.tc : Thread Cert.AdamInAttnIdeal.nD Cert.AdamInAttnIdeal.τ).loc Cert.AdamInAttnIdeal.main_arg2)
      ∧ r.2.mem ((c.tc : Thread Cert.AdamInAttnIdeal.nD Cert.AdamInAttnIdeal.τ).loc Cert.AdamInAttnIdeal.main_arg3) = m ((c.tc : Thread Cert.AdamInAttnIdeal.nD Cert.AdamInAttnIdeal.τ).loc Cert.AdamInAttnIdeal.main_arg3)
      ∧ r.2.mem ((c.tc : Thread Cert.AdamInAttnIdeal.nD Cert.AdamInAttnIdeal.τ).loc Cert.AdamInAttnIdeal.main_arg4) = m ((c.tc : Thread Cert.AdamInAttnIdeal.nD Cert.AdamInAttnIdeal.τ).loc Cert.AdamInAttnIdeal.main_arg4)
      ∧ r.2.mem ((c.tc : Thread Cert.AdamInAttnIdeal.nD Cert.AdamInAttnIdeal.τ).loc Cert.AdamInAttnIdeal.main_arg5) = m ((c.tc : Thread Cert.AdamInAttnIdeal.nD Cert.AdamInAttnIdeal.τ).loc Cert.AdamInAttnIdeal.main_arg5)
      ∧ r.2.mem ((c.tc : Thread Cert.AdamInAttnIdeal.nD Cert.AdamInAttnIdeal.τ).loc Cert.AdamInAttnIdeal.main_arg6) = m ((c.tc : Thread Cert.AdamInAttnIdeal.nD Cert.AdamInAttnIdeal.τ).loc Cert.AdamInAttnIdeal.main_arg6)
      ∧ r.2.mem ((c.tc : Thread Cert.AdamInAttnIdeal.nD Cert.AdamInAttnIdeal.τ).loc Cert.AdamInAttnIdeal.main_arg7) = m ((c.tc : Thread Cert.AdamInAttnIdeal.nD Cert.AdamInAttnIdeal.τ).loc Cert.AdamInAttnIdeal.main_arg7))
      ∧ r.2.sem = fun _ => 0)

def quiescent_AdamInAttnReferenceIdeal [hAdamInAttnReferenceIdeal : Cert.AdamInAttnReferenceIdeal.Facts] : Prop :=
  ∀ (m : (ℓ : Loc Cert.AdamInAttnReferenceIdeal.nD Cert.AdamInAttnReferenceIdeal.τ Cert.AdamInAttnReferenceIdeal.sig) → Buf (Elt Ideal) ℓ) (g : Dev Cert.AdamInAttnReferenceIdeal.nD → PrngReg), Pre_AdamInAttnReferenceIdeal m →
    θ_run (Cert.AdamInAttnReferenceIdeal.defs (F := Ideal)) (onTc (τ := Cert.AdamInAttnReferenceIdeal.τ) (Cert.AdamInAttnReferenceIdeal.main (F := Ideal))) ⟨m, fun _ => 0, g⟩ (fun r => (∀ c : Dev Cert.AdamInAttnReferenceIdeal.nD,
      r.2.mem ((c.tc : Thread Cert.AdamInAttnReferenceIdeal.nD Cert.AdamInAttnReferenceIdeal.τ).loc Cert.AdamInAttnReferenceIdeal.main_arg0) = m ((c.tc : Thread Cert.AdamInAttnReferenceIdeal.nD Cert.AdamInAttnReferenceIdeal.τ).loc Cert.AdamInAttnReferenceIdeal.main_arg0)
      ∧ r.2.mem ((c.tc : Thread Cert.AdamInAttnReferenceIdeal.nD Cert.AdamInAttnReferenceIdeal.τ).loc Cert.AdamInAttnReferenceIdeal.main_arg1) = m ((c.tc : Thread Cert.AdamInAttnReferenceIdeal.nD Cert.AdamInAttnReferenceIdeal.τ).loc Cert.AdamInAttnReferenceIdeal.main_arg1)
      ∧ r.2.mem ((c.tc : Thread Cert.AdamInAttnReferenceIdeal.nD Cert.AdamInAttnReferenceIdeal.τ).loc Cert.AdamInAttnReferenceIdeal.main_arg2) = m ((c.tc : Thread Cert.AdamInAttnReferenceIdeal.nD Cert.AdamInAttnReferenceIdeal.τ).loc Cert.AdamInAttnReferenceIdeal.main_arg2)
      ∧ r.2.mem ((c.tc : Thread Cert.AdamInAttnReferenceIdeal.nD Cert.AdamInAttnReferenceIdeal.τ).loc Cert.AdamInAttnReferenceIdeal.main_arg3) = m ((c.tc : Thread Cert.AdamInAttnReferenceIdeal.nD Cert.AdamInAttnReferenceIdeal.τ).loc Cert.AdamInAttnReferenceIdeal.main_arg3)
      ∧ r.2.mem ((c.tc : Thread Cert.AdamInAttnReferenceIdeal.nD Cert.AdamInAttnReferenceIdeal.τ).loc Cert.AdamInAttnReferenceIdeal.main_arg4) = m ((c.tc : Thread Cert.AdamInAttnReferenceIdeal.nD Cert.AdamInAttnReferenceIdeal.τ).loc Cert.AdamInAttnReferenceIdeal.main_arg4)
      ∧ r.2.mem ((c.tc : Thread Cert.AdamInAttnReferenceIdeal.nD Cert.AdamInAttnReferenceIdeal.τ).loc Cert.AdamInAttnReferenceIdeal.main_arg5) = m ((c.tc : Thread Cert.AdamInAttnReferenceIdeal.nD Cert.AdamInAttnReferenceIdeal.τ).loc Cert.AdamInAttnReferenceIdeal.main_arg5)
      ∧ r.2.mem ((c.tc : Thread Cert.AdamInAttnReferenceIdeal.nD Cert.AdamInAttnReferenceIdeal.τ).loc Cert.AdamInAttnReferenceIdeal.main_arg6) = m ((c.tc : Thread Cert.AdamInAttnReferenceIdeal.nD Cert.AdamInAttnReferenceIdeal.τ).loc Cert.AdamInAttnReferenceIdeal.main_arg6)
      ∧ r.2.mem ((c.tc : Thread Cert.AdamInAttnReferenceIdeal.nD Cert.AdamInAttnReferenceIdeal.τ).loc Cert.AdamInAttnReferenceIdeal.main_arg7) = m ((c.tc : Thread Cert.AdamInAttnReferenceIdeal.nD Cert.AdamInAttnReferenceIdeal.τ).loc Cert.AdamInAttnReferenceIdeal.main_arg7))
      ∧ r.2.sem = fun _ => 0)

def quiescent_AdamOutSsm [hAdamOutSsm : Cert.AdamOutSsm.Facts] : Prop :=
  ∀ (m : (ℓ : Loc Cert.AdamOutSsm.nD Cert.AdamOutSsm.τ Cert.AdamOutSsm.sig) → Buf (Elt Bits) ℓ) (g : Dev Cert.AdamOutSsm.nD → PrngReg), Pre_AdamOutSsm m →
    θ_run (Cert.AdamOutSsm.defs (F := Bits)) (onTc (τ := Cert.AdamOutSsm.τ) (Cert.AdamOutSsm.main (F := Bits))) ⟨m, fun _ => 0, g⟩ (fun r => (∀ c : Dev Cert.AdamOutSsm.nD,
      r.2.mem ((c.tc : Thread Cert.AdamOutSsm.nD Cert.AdamOutSsm.τ).loc Cert.AdamOutSsm.main_arg0) = m ((c.tc : Thread Cert.AdamOutSsm.nD Cert.AdamOutSsm.τ).loc Cert.AdamOutSsm.main_arg0)
      ∧ r.2.mem ((c.tc : Thread Cert.AdamOutSsm.nD Cert.AdamOutSsm.τ).loc Cert.AdamOutSsm.main_arg1) = m ((c.tc : Thread Cert.AdamOutSsm.nD Cert.AdamOutSsm.τ).loc Cert.AdamOutSsm.main_arg1)
      ∧ r.2.mem ((c.tc : Thread Cert.AdamOutSsm.nD Cert.AdamOutSsm.τ).loc Cert.AdamOutSsm.main_arg2) = m ((c.tc : Thread Cert.AdamOutSsm.nD Cert.AdamOutSsm.τ).loc Cert.AdamOutSsm.main_arg2)
      ∧ r.2.mem ((c.tc : Thread Cert.AdamOutSsm.nD Cert.AdamOutSsm.τ).loc Cert.AdamOutSsm.main_arg3) = m ((c.tc : Thread Cert.AdamOutSsm.nD Cert.AdamOutSsm.τ).loc Cert.AdamOutSsm.main_arg3))
      ∧ r.2.sem = fun _ => 0)

def quiescent_AdamOutSsmIdeal [hAdamOutSsmIdeal : Cert.AdamOutSsmIdeal.Facts] : Prop :=
  ∀ (m : (ℓ : Loc Cert.AdamOutSsmIdeal.nD Cert.AdamOutSsmIdeal.τ Cert.AdamOutSsmIdeal.sig) → Buf (Elt Ideal) ℓ) (g : Dev Cert.AdamOutSsmIdeal.nD → PrngReg), Pre_AdamOutSsmIdeal m →
    θ_run (Cert.AdamOutSsmIdeal.defs (F := Ideal)) (onTc (τ := Cert.AdamOutSsmIdeal.τ) (Cert.AdamOutSsmIdeal.main (F := Ideal))) ⟨m, fun _ => 0, g⟩ (fun r => (∀ c : Dev Cert.AdamOutSsmIdeal.nD,
      r.2.mem ((c.tc : Thread Cert.AdamOutSsmIdeal.nD Cert.AdamOutSsmIdeal.τ).loc Cert.AdamOutSsmIdeal.main_arg0) = m ((c.tc : Thread Cert.AdamOutSsmIdeal.nD Cert.AdamOutSsmIdeal.τ).loc Cert.AdamOutSsmIdeal.main_arg0)
      ∧ r.2.mem ((c.tc : Thread Cert.AdamOutSsmIdeal.nD Cert.AdamOutSsmIdeal.τ).loc Cert.AdamOutSsmIdeal.main_arg1) = m ((c.tc : Thread Cert.AdamOutSsmIdeal.nD Cert.AdamOutSsmIdeal.τ).loc Cert.AdamOutSsmIdeal.main_arg1)
      ∧ r.2.mem ((c.tc : Thread Cert.AdamOutSsmIdeal.nD Cert.AdamOutSsmIdeal.τ).loc Cert.AdamOutSsmIdeal.main_arg2) = m ((c.tc : Thread Cert.AdamOutSsmIdeal.nD Cert.AdamOutSsmIdeal.τ).loc Cert.AdamOutSsmIdeal.main_arg2)
      ∧ r.2.mem ((c.tc : Thread Cert.AdamOutSsmIdeal.nD Cert.AdamOutSsmIdeal.τ).loc Cert.AdamOutSsmIdeal.main_arg3) = m ((c.tc : Thread Cert.AdamOutSsmIdeal.nD Cert.AdamOutSsmIdeal.τ).loc Cert.AdamOutSsmIdeal.main_arg3))
      ∧ r.2.sem = fun _ => 0)

def quiescent_AdamOutSsmReferenceIdeal [hAdamOutSsmReferenceIdeal : Cert.AdamOutSsmReferenceIdeal.Facts] : Prop :=
  ∀ (m : (ℓ : Loc Cert.AdamOutSsmReferenceIdeal.nD Cert.AdamOutSsmReferenceIdeal.τ Cert.AdamOutSsmReferenceIdeal.sig) → Buf (Elt Ideal) ℓ) (g : Dev Cert.AdamOutSsmReferenceIdeal.nD → PrngReg), Pre_AdamOutSsmReferenceIdeal m →
    θ_run (Cert.AdamOutSsmReferenceIdeal.defs (F := Ideal)) (onTc (τ := Cert.AdamOutSsmReferenceIdeal.τ) (Cert.AdamOutSsmReferenceIdeal.main (F := Ideal))) ⟨m, fun _ => 0, g⟩ (fun r => (∀ c : Dev Cert.AdamOutSsmReferenceIdeal.nD,
      r.2.mem ((c.tc : Thread Cert.AdamOutSsmReferenceIdeal.nD Cert.AdamOutSsmReferenceIdeal.τ).loc Cert.AdamOutSsmReferenceIdeal.main_arg0) = m ((c.tc : Thread Cert.AdamOutSsmReferenceIdeal.nD Cert.AdamOutSsmReferenceIdeal.τ).loc Cert.AdamOutSsmReferenceIdeal.main_arg0)
      ∧ r.2.mem ((c.tc : Thread Cert.AdamOutSsmReferenceIdeal.nD Cert.AdamOutSsmReferenceIdeal.τ).loc Cert.AdamOutSsmReferenceIdeal.main_arg1) = m ((c.tc : Thread Cert.AdamOutSsmReferenceIdeal.nD Cert.AdamOutSsmReferenceIdeal.τ).loc Cert.AdamOutSsmReferenceIdeal.main_arg1)
      ∧ r.2.mem ((c.tc : Thread Cert.AdamOutSsmReferenceIdeal.nD Cert.AdamOutSsmReferenceIdeal.τ).loc Cert.AdamOutSsmReferenceIdeal.main_arg2) = m ((c.tc : Thread Cert.AdamOutSsmReferenceIdeal.nD Cert.AdamOutSsmReferenceIdeal.τ).loc Cert.AdamOutSsmReferenceIdeal.main_arg2)
      ∧ r.2.mem ((c.tc : Thread Cert.AdamOutSsmReferenceIdeal.nD Cert.AdamOutSsmReferenceIdeal.τ).loc Cert.AdamOutSsmReferenceIdeal.main_arg3) = m ((c.tc : Thread Cert.AdamOutSsmReferenceIdeal.nD Cert.AdamOutSsmReferenceIdeal.τ).loc Cert.AdamOutSsmReferenceIdeal.main_arg3))
      ∧ r.2.sem = fun _ => 0)

def quiescent_AdamInSsm [hAdamInSsm : Cert.AdamInSsm.Facts] : Prop :=
  ∀ (m : (ℓ : Loc Cert.AdamInSsm.nD Cert.AdamInSsm.τ Cert.AdamInSsm.sig) → Buf (Elt Bits) ℓ) (g : Dev Cert.AdamInSsm.nD → PrngReg), Pre_AdamInSsm m →
    θ_run (Cert.AdamInSsm.defs (F := Bits)) (onTc (τ := Cert.AdamInSsm.τ) (Cert.AdamInSsm.main (F := Bits))) ⟨m, fun _ => 0, g⟩ (fun r => (∀ c : Dev Cert.AdamInSsm.nD,
      r.2.mem ((c.tc : Thread Cert.AdamInSsm.nD Cert.AdamInSsm.τ).loc Cert.AdamInSsm.main_arg0) = m ((c.tc : Thread Cert.AdamInSsm.nD Cert.AdamInSsm.τ).loc Cert.AdamInSsm.main_arg0)
      ∧ r.2.mem ((c.tc : Thread Cert.AdamInSsm.nD Cert.AdamInSsm.τ).loc Cert.AdamInSsm.main_arg1) = m ((c.tc : Thread Cert.AdamInSsm.nD Cert.AdamInSsm.τ).loc Cert.AdamInSsm.main_arg1)
      ∧ r.2.mem ((c.tc : Thread Cert.AdamInSsm.nD Cert.AdamInSsm.τ).loc Cert.AdamInSsm.main_arg2) = m ((c.tc : Thread Cert.AdamInSsm.nD Cert.AdamInSsm.τ).loc Cert.AdamInSsm.main_arg2)
      ∧ r.2.mem ((c.tc : Thread Cert.AdamInSsm.nD Cert.AdamInSsm.τ).loc Cert.AdamInSsm.main_arg3) = m ((c.tc : Thread Cert.AdamInSsm.nD Cert.AdamInSsm.τ).loc Cert.AdamInSsm.main_arg3)
      ∧ r.2.mem ((c.tc : Thread Cert.AdamInSsm.nD Cert.AdamInSsm.τ).loc Cert.AdamInSsm.main_arg4) = m ((c.tc : Thread Cert.AdamInSsm.nD Cert.AdamInSsm.τ).loc Cert.AdamInSsm.main_arg4)
      ∧ r.2.mem ((c.tc : Thread Cert.AdamInSsm.nD Cert.AdamInSsm.τ).loc Cert.AdamInSsm.main_arg5) = m ((c.tc : Thread Cert.AdamInSsm.nD Cert.AdamInSsm.τ).loc Cert.AdamInSsm.main_arg5))
      ∧ r.2.sem = fun _ => 0)

def quiescent_AdamInSsmIdeal [hAdamInSsmIdeal : Cert.AdamInSsmIdeal.Facts] : Prop :=
  ∀ (m : (ℓ : Loc Cert.AdamInSsmIdeal.nD Cert.AdamInSsmIdeal.τ Cert.AdamInSsmIdeal.sig) → Buf (Elt Ideal) ℓ) (g : Dev Cert.AdamInSsmIdeal.nD → PrngReg), Pre_AdamInSsmIdeal m →
    θ_run (Cert.AdamInSsmIdeal.defs (F := Ideal)) (onTc (τ := Cert.AdamInSsmIdeal.τ) (Cert.AdamInSsmIdeal.main (F := Ideal))) ⟨m, fun _ => 0, g⟩ (fun r => (∀ c : Dev Cert.AdamInSsmIdeal.nD,
      r.2.mem ((c.tc : Thread Cert.AdamInSsmIdeal.nD Cert.AdamInSsmIdeal.τ).loc Cert.AdamInSsmIdeal.main_arg0) = m ((c.tc : Thread Cert.AdamInSsmIdeal.nD Cert.AdamInSsmIdeal.τ).loc Cert.AdamInSsmIdeal.main_arg0)
      ∧ r.2.mem ((c.tc : Thread Cert.AdamInSsmIdeal.nD Cert.AdamInSsmIdeal.τ).loc Cert.AdamInSsmIdeal.main_arg1) = m ((c.tc : Thread Cert.AdamInSsmIdeal.nD Cert.AdamInSsmIdeal.τ).loc Cert.AdamInSsmIdeal.main_arg1)
      ∧ r.2.mem ((c.tc : Thread Cert.AdamInSsmIdeal.nD Cert.AdamInSsmIdeal.τ).loc Cert.AdamInSsmIdeal.main_arg2) = m ((c.tc : Thread Cert.AdamInSsmIdeal.nD Cert.AdamInSsmIdeal.τ).loc Cert.AdamInSsmIdeal.main_arg2)
      ∧ r.2.mem ((c.tc : Thread Cert.AdamInSsmIdeal.nD Cert.AdamInSsmIdeal.τ).loc Cert.AdamInSsmIdeal.main_arg3) = m ((c.tc : Thread Cert.AdamInSsmIdeal.nD Cert.AdamInSsmIdeal.τ).loc Cert.AdamInSsmIdeal.main_arg3)
      ∧ r.2.mem ((c.tc : Thread Cert.AdamInSsmIdeal.nD Cert.AdamInSsmIdeal.τ).loc Cert.AdamInSsmIdeal.main_arg4) = m ((c.tc : Thread Cert.AdamInSsmIdeal.nD Cert.AdamInSsmIdeal.τ).loc Cert.AdamInSsmIdeal.main_arg4)
      ∧ r.2.mem ((c.tc : Thread Cert.AdamInSsmIdeal.nD Cert.AdamInSsmIdeal.τ).loc Cert.AdamInSsmIdeal.main_arg5) = m ((c.tc : Thread Cert.AdamInSsmIdeal.nD Cert.AdamInSsmIdeal.τ).loc Cert.AdamInSsmIdeal.main_arg5))
      ∧ r.2.sem = fun _ => 0)

def quiescent_AdamInSsmReferenceIdeal [hAdamInSsmReferenceIdeal : Cert.AdamInSsmReferenceIdeal.Facts] : Prop :=
  ∀ (m : (ℓ : Loc Cert.AdamInSsmReferenceIdeal.nD Cert.AdamInSsmReferenceIdeal.τ Cert.AdamInSsmReferenceIdeal.sig) → Buf (Elt Ideal) ℓ) (g : Dev Cert.AdamInSsmReferenceIdeal.nD → PrngReg), Pre_AdamInSsmReferenceIdeal m →
    θ_run (Cert.AdamInSsmReferenceIdeal.defs (F := Ideal)) (onTc (τ := Cert.AdamInSsmReferenceIdeal.τ) (Cert.AdamInSsmReferenceIdeal.main (F := Ideal))) ⟨m, fun _ => 0, g⟩ (fun r => (∀ c : Dev Cert.AdamInSsmReferenceIdeal.nD,
      r.2.mem ((c.tc : Thread Cert.AdamInSsmReferenceIdeal.nD Cert.AdamInSsmReferenceIdeal.τ).loc Cert.AdamInSsmReferenceIdeal.main_arg0) = m ((c.tc : Thread Cert.AdamInSsmReferenceIdeal.nD Cert.AdamInSsmReferenceIdeal.τ).loc Cert.AdamInSsmReferenceIdeal.main_arg0)
      ∧ r.2.mem ((c.tc : Thread Cert.AdamInSsmReferenceIdeal.nD Cert.AdamInSsmReferenceIdeal.τ).loc Cert.AdamInSsmReferenceIdeal.main_arg1) = m ((c.tc : Thread Cert.AdamInSsmReferenceIdeal.nD Cert.AdamInSsmReferenceIdeal.τ).loc Cert.AdamInSsmReferenceIdeal.main_arg1)
      ∧ r.2.mem ((c.tc : Thread Cert.AdamInSsmReferenceIdeal.nD Cert.AdamInSsmReferenceIdeal.τ).loc Cert.AdamInSsmReferenceIdeal.main_arg2) = m ((c.tc : Thread Cert.AdamInSsmReferenceIdeal.nD Cert.AdamInSsmReferenceIdeal.τ).loc Cert.AdamInSsmReferenceIdeal.main_arg2)
      ∧ r.2.mem ((c.tc : Thread Cert.AdamInSsmReferenceIdeal.nD Cert.AdamInSsmReferenceIdeal.τ).loc Cert.AdamInSsmReferenceIdeal.main_arg3) = m ((c.tc : Thread Cert.AdamInSsmReferenceIdeal.nD Cert.AdamInSsmReferenceIdeal.τ).loc Cert.AdamInSsmReferenceIdeal.main_arg3)
      ∧ r.2.mem ((c.tc : Thread Cert.AdamInSsmReferenceIdeal.nD Cert.AdamInSsmReferenceIdeal.τ).loc Cert.AdamInSsmReferenceIdeal.main_arg4) = m ((c.tc : Thread Cert.AdamInSsmReferenceIdeal.nD Cert.AdamInSsmReferenceIdeal.τ).loc Cert.AdamInSsmReferenceIdeal.main_arg4)
      ∧ r.2.mem ((c.tc : Thread Cert.AdamInSsmReferenceIdeal.nD Cert.AdamInSsmReferenceIdeal.τ).loc Cert.AdamInSsmReferenceIdeal.main_arg5) = m ((c.tc : Thread Cert.AdamInSsmReferenceIdeal.nD Cert.AdamInSsmReferenceIdeal.τ).loc Cert.AdamInSsmReferenceIdeal.main_arg5))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdReferenceIdeal [hLnFwdReferenceIdeal : Cert.LnFwdReferenceIdeal.Facts] : Prop :=
  ∀ (m : (ℓ : Loc Cert.LnFwdReferenceIdeal.nD Cert.LnFwdReferenceIdeal.τ Cert.LnFwdReferenceIdeal.sig) → Buf (Elt Ideal) ℓ) (g : Dev Cert.LnFwdReferenceIdeal.nD → PrngReg), Pre_LnFwdReferenceIdeal m →
    θ_run (Cert.LnFwdReferenceIdeal.defs (F := Ideal)) (onTc (τ := Cert.LnFwdReferenceIdeal.τ) (Cert.LnFwdReferenceIdeal.main (F := Ideal))) ⟨m, fun _ => 0, g⟩ (fun r => (∀ c : Dev Cert.LnFwdReferenceIdeal.nD,
      r.2.mem ((c.tc : Thread Cert.LnFwdReferenceIdeal.nD Cert.LnFwdReferenceIdeal.τ).loc Cert.LnFwdReferenceIdeal.main_arg0) = m ((c.tc : Thread Cert.LnFwdReferenceIdeal.nD Cert.LnFwdReferenceIdeal.τ).loc Cert.LnFwdReferenceIdeal.main_arg0)
      ∧ r.2.mem ((c.tc : Thread Cert.LnFwdReferenceIdeal.nD Cert.LnFwdReferenceIdeal.τ).loc Cert.LnFwdReferenceIdeal.main_arg1) = m ((c.tc : Thread Cert.LnFwdReferenceIdeal.nD Cert.LnFwdReferenceIdeal.τ).loc Cert.LnFwdReferenceIdeal.main_arg1)
      ∧ r.2.mem ((c.tc : Thread Cert.LnFwdReferenceIdeal.nD Cert.LnFwdReferenceIdeal.τ).loc Cert.LnFwdReferenceIdeal.main_arg2) = m ((c.tc : Thread Cert.LnFwdReferenceIdeal.nD Cert.LnFwdReferenceIdeal.τ).loc Cert.LnFwdReferenceIdeal.main_arg2)
      ∧ r.2.mem ((c.tc : Thread Cert.LnFwdReferenceIdeal.nD Cert.LnFwdReferenceIdeal.τ).loc Cert.LnFwdReferenceIdeal.main_arg3) = m ((c.tc : Thread Cert.LnFwdReferenceIdeal.nD Cert.LnFwdReferenceIdeal.τ).loc Cert.LnFwdReferenceIdeal.main_arg3))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ r.2.sem = fun _ => 0)

def quiescent_DtReferenceIdeal [hDtReferenceIdeal : Cert.DtReferenceIdeal.Facts] : Prop :=
  ∀ (m : (ℓ : Loc Cert.DtReferenceIdeal.nD Cert.DtReferenceIdeal.τ Cert.DtReferenceIdeal.sig) → Buf (Elt Ideal) ℓ) (g : Dev Cert.DtReferenceIdeal.nD → PrngReg), Pre_DtReferenceIdeal m →
    θ_run (Cert.DtReferenceIdeal.defs (F := Ideal)) (onTc (τ := Cert.DtReferenceIdeal.τ) (Cert.DtReferenceIdeal.main (F := Ideal))) ⟨m, fun _ => 0, g⟩ (fun r => (∀ c : Dev Cert.DtReferenceIdeal.nD,
      r.2.mem ((c.tc : Thread Cert.DtReferenceIdeal.nD Cert.DtReferenceIdeal.τ).loc Cert.DtReferenceIdeal.main_arg0) = m ((c.tc : Thread Cert.DtReferenceIdeal.nD Cert.DtReferenceIdeal.τ).loc Cert.DtReferenceIdeal.main_arg0)
      ∧ r.2.mem ((c.tc : Thread Cert.DtReferenceIdeal.nD Cert.DtReferenceIdeal.τ).loc Cert.DtReferenceIdeal.main_arg1) = m ((c.tc : Thread Cert.DtReferenceIdeal.nD Cert.DtReferenceIdeal.τ).loc Cert.DtReferenceIdeal.main_arg1))
      ∧ r.2.sem = fun _ => 0)

def quiescent_CastX [hCastX : Cert.CastX.Facts] : Prop :=
  ∀ (m : (ℓ : Loc Cert.CastX.nD Cert.CastX.τ Cert.CastX.sig) → Buf (Elt Bits) ℓ) (g : Dev Cert.CastX.nD → PrngReg), Pre_CastX m →
    θ_run (Cert.CastX.defs (F := Bits)) (onTc (τ := Cert.CastX.τ) (Cert.CastX.main (F := Bits))) ⟨m, fun _ => 0, g⟩ (fun r => (∀ c : Dev Cert.CastX.nD,
      r.2.mem ((c.tc : Thread Cert.CastX.nD Cert.CastX.τ).loc Cert.CastX.main_arg0) = m ((c.tc : Thread Cert.CastX.nD Cert.CastX.τ).loc Cert.CastX.main_arg0))
      ∧ r.2.sem = fun _ => 0)

def quiescent_CastXIdeal [hCastXIdeal : Cert.CastXIdeal.Facts] : Prop :=
  ∀ (m : (ℓ : Loc Cert.CastXIdeal.nD Cert.CastXIdeal.τ Cert.CastXIdeal.sig) → Buf (Elt Ideal) ℓ) (g : Dev Cert.CastXIdeal.nD → PrngReg), Pre_CastXIdeal m →
    θ_run (Cert.CastXIdeal.defs (F := Ideal)) (onTc (τ := Cert.CastXIdeal.τ) (Cert.CastXIdeal.main (F := Ideal))) ⟨m, fun _ => 0, g⟩ (fun r => (∀ c : Dev Cert.CastXIdeal.nD,
      r.2.mem ((c.tc : Thread Cert.CastXIdeal.nD Cert.CastXIdeal.τ).loc Cert.CastXIdeal.main_arg0) = m ((c.tc : Thread Cert.CastXIdeal.nD Cert.CastXIdeal.τ).loc Cert.CastXIdeal.main_arg0))
      ∧ r.2.sem = fun _ => 0)

def quiescent_CastXReferenceIdeal [hCastXReferenceIdeal : Cert.CastXReferenceIdeal.Facts] : Prop :=
  ∀ (m : (ℓ : Loc Cert.CastXReferenceIdeal.nD Cert.CastXReferenceIdeal.τ Cert.CastXReferenceIdeal.sig) → Buf (Elt Ideal) ℓ) (g : Dev Cert.CastXReferenceIdeal.nD → PrngReg), Pre_CastXReferenceIdeal m →
    θ_run (Cert.CastXReferenceIdeal.defs (F := Ideal)) (onTc (τ := Cert.CastXReferenceIdeal.τ) (Cert.CastXReferenceIdeal.main (F := Ideal))) ⟨m, fun _ => 0, g⟩ (fun r => (∀ c : Dev Cert.CastXReferenceIdeal.nD,
      r.2.mem ((c.tc : Thread Cert.CastXReferenceIdeal.nD Cert.CastXReferenceIdeal.τ).loc Cert.CastXReferenceIdeal.main_arg0) = m ((c.tc : Thread Cert.CastXReferenceIdeal.nD Cert.CastXReferenceIdeal.τ).loc Cert.CastXReferenceIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def preserves_Kernel_KernelIdeal : Prop :=
  True

def preserves_DwInSsm_DwInSsmIdeal : Prop :=
  True

def algebraic_DwInSsmIdeal_DwInSsmReferenceIdeal [hDwInSsmIdeal : Cert.DwInSsmIdeal.Facts] [hDwInSsmReferenceIdeal : Cert.DwInSsmReferenceIdeal.Facts] : Prop :=
  ∀ (m : (ℓ : Loc Cert.DwInSsmIdeal.nD Cert.DwInSsmIdeal.τ Cert.DwInSsmIdeal.sig) → Buf (Elt Ideal) ℓ) (g : Dev Cert.DwInSsmIdeal.nD → PrngReg)
    (m' : (ℓ : Loc Cert.DwInSsmReferenceIdeal.nD Cert.DwInSsmReferenceIdeal.τ Cert.DwInSsmReferenceIdeal.sig) → Buf (Elt Ideal) ℓ) (g' : Dev Cert.DwInSsmReferenceIdeal.nD → PrngReg), Pre_DwInSsmIdeal m →
    (∀ c : Dev Cert.DwInSsmIdeal.nD,
      m' ((c.tc : Thread Cert.DwInSsmReferenceIdeal.nD Cert.DwInSsmReferenceIdeal.τ).loc Cert.DwInSsmReferenceIdeal.main_arg0) = m ((c.tc : Thread Cert.DwInSsmIdeal.nD Cert.DwInSsmIdeal.τ).loc Cert.DwInSsmIdeal.main_arg0)
      ∧ m' ((c.tc : Thread Cert.DwInSsmReferenceIdeal.nD Cert.DwInSsmReferenceIdeal.τ).loc Cert.DwInSsmReferenceIdeal.main_arg1) = m ((c.tc : Thread Cert.DwInSsmIdeal.nD Cert.DwInSsmIdeal.τ).loc Cert.DwInSsmIdeal.main_arg1)) →
    ∃ (v0 : (c : Dev Cert.DwInSsmIdeal.nD) → Buf (Elt Ideal) ((c.tc : Thread Cert.DwInSsmIdeal.nD Cert.DwInSsmIdeal.τ).loc Cert.DwInSsmIdeal.main_v5)),
      θ_run (Cert.DwInSsmIdeal.defs (F := Ideal)) (onTc (τ := Cert.DwInSsmIdeal.τ) (Cert.DwInSsmIdeal.main (F := Ideal))) ⟨m, fun _ => 0, g⟩ (fun r => ∀ c : Dev Cert.DwInSsmIdeal.nD,
          r.2.mem ((c.tc : Thread Cert.DwInSsmIdeal.nD Cert.DwInSsmIdeal.τ).loc Cert.DwInSsmIdeal.main_v5) = v0 c
          ∧ r.2.mem ((c.tc : Thread Cert.DwInSsmIdeal.nD Cert.DwInSsmIdeal.τ).loc Cert.DwInSsmIdeal.main_arg0) = m ((c.tc : Thread Cert.DwInSsmIdeal.nD Cert.DwInSsmIdeal.τ).loc Cert.DwInSsmIdeal.main_arg0)
          ∧ r.2.mem ((c.tc : Thread Cert.DwInSsmIdeal.nD Cert.DwInSsmIdeal.τ).loc Cert.DwInSsmIdeal.main_arg1) = m ((c.tc : Thread Cert.DwInSsmIdeal.nD Cert.DwInSsmIdeal.τ).loc Cert.DwInSsmIdeal.main_arg1))
      ∧ θ_run (Cert.DwInSsmReferenceIdeal.defs (F := Ideal)) (onTc (τ := Cert.DwInSsmReferenceIdeal.τ) (Cert.DwInSsmReferenceIdeal.main (F := Ideal))) ⟨m', fun _ => 0, g'⟩ (fun r => ∀ c : Dev Cert.DwInSsmReferenceIdeal.nD,
          r.2.mem ((c.tc : Thread Cert.DwInSsmReferenceIdeal.nD Cert.DwInSsmReferenceIdeal.τ).loc Cert.DwInSsmReferenceIdeal.main_v5) = v0 c
          ∧ r.2.mem ((c.tc : Thread Cert.DwInSsmReferenceIdeal.nD Cert.DwInSsmReferenceIdeal.τ).loc Cert.DwInSsmReferenceIdeal.main_arg0) = m' ((c.tc : Thread Cert.DwInSsmReferenceIdeal.nD Cert.DwInSsmReferenceIdeal.τ).loc Cert.DwInSsmReferenceIdeal.main_arg0)
          ∧ r.2.mem ((c.tc : Thread Cert.DwInSsmReferenceIdeal.nD Cert.DwInSsmReferenceIdeal.τ).loc Cert.DwInSsmReferenceIdeal.main_arg1) = m' ((c.tc : Thread Cert.DwInSsmReferenceIdeal.nD Cert.DwInSsmReferenceIdeal.τ).loc Cert.DwInSsmReferenceIdeal.main_arg1))

def preserves_DwOutSsm_DwOutSsmIdeal : Prop :=
  True

def algebraic_DwOutSsmIdeal_DwOutSsmReferenceIdeal [hDwOutSsmIdeal : Cert.DwOutSsmIdeal.Facts] [hDwOutSsmReferenceIdeal : Cert.DwOutSsmReferenceIdeal.Facts] : Prop :=
  ∀ (m : (ℓ : Loc Cert.DwOutSsmIdeal.nD Cert.DwOutSsmIdeal.τ Cert.DwOutSsmIdeal.sig) → Buf (Elt Ideal) ℓ) (g : Dev Cert.DwOutSsmIdeal.nD → PrngReg)
    (m' : (ℓ : Loc Cert.DwOutSsmReferenceIdeal.nD Cert.DwOutSsmReferenceIdeal.τ Cert.DwOutSsmReferenceIdeal.sig) → Buf (Elt Ideal) ℓ) (g' : Dev Cert.DwOutSsmReferenceIdeal.nD → PrngReg), Pre_DwOutSsmIdeal m →
    (∀ c : Dev Cert.DwOutSsmIdeal.nD,
      m' ((c.tc : Thread Cert.DwOutSsmReferenceIdeal.nD Cert.DwOutSsmReferenceIdeal.τ).loc Cert.DwOutSsmReferenceIdeal.main_arg0) = m ((c.tc : Thread Cert.DwOutSsmIdeal.nD Cert.DwOutSsmIdeal.τ).loc Cert.DwOutSsmIdeal.main_arg0)
      ∧ m' ((c.tc : Thread Cert.DwOutSsmReferenceIdeal.nD Cert.DwOutSsmReferenceIdeal.τ).loc Cert.DwOutSsmReferenceIdeal.main_arg1) = m ((c.tc : Thread Cert.DwOutSsmIdeal.nD Cert.DwOutSsmIdeal.τ).loc Cert.DwOutSsmIdeal.main_arg1)) →
    ∃ (v0 : (c : Dev Cert.DwOutSsmIdeal.nD) → Buf (Elt Ideal) ((c.tc : Thread Cert.DwOutSsmIdeal.nD Cert.DwOutSsmIdeal.τ).loc Cert.DwOutSsmIdeal.main_v5)),
      θ_run (Cert.DwOutSsmIdeal.defs (F := Ideal)) (onTc (τ := Cert.DwOutSsmIdeal.τ) (Cert.DwOutSsmIdeal.main (F := Ideal))) ⟨m, fun _ => 0, g⟩ (fun r => ∀ c : Dev Cert.DwOutSsmIdeal.nD,
          r.2.mem ((c.tc : Thread Cert.DwOutSsmIdeal.nD Cert.DwOutSsmIdeal.τ).loc Cert.DwOutSsmIdeal.main_v5) = v0 c
          ∧ r.2.mem ((c.tc : Thread Cert.DwOutSsmIdeal.nD Cert.DwOutSsmIdeal.τ).loc Cert.DwOutSsmIdeal.main_arg0) = m ((c.tc : Thread Cert.DwOutSsmIdeal.nD Cert.DwOutSsmIdeal.τ).loc Cert.DwOutSsmIdeal.main_arg0)
          ∧ r.2.mem ((c.tc : Thread Cert.DwOutSsmIdeal.nD Cert.DwOutSsmIdeal.τ).loc Cert.DwOutSsmIdeal.main_arg1) = m ((c.tc : Thread Cert.DwOutSsmIdeal.nD Cert.DwOutSsmIdeal.τ).loc Cert.DwOutSsmIdeal.main_arg1))
      ∧ θ_run (Cert.DwOutSsmReferenceIdeal.defs (F := Ideal)) (onTc (τ := Cert.DwOutSsmReferenceIdeal.τ) (Cert.DwOutSsmReferenceIdeal.main (F := Ideal))) ⟨m', fun _ => 0, g'⟩ (fun r => ∀ c : Dev Cert.DwOutSsmReferenceIdeal.nD,
          r.2.mem ((c.tc : Thread Cert.DwOutSsmReferenceIdeal.nD Cert.DwOutSsmReferenceIdeal.τ).loc Cert.DwOutSsmReferenceIdeal.main_v4) = v0 c
          ∧ r.2.mem ((c.tc : Thread Cert.DwOutSsmReferenceIdeal.nD Cert.DwOutSsmReferenceIdeal.τ).loc Cert.DwOutSsmReferenceIdeal.main_arg0) = m' ((c.tc : Thread Cert.DwOutSsmReferenceIdeal.nD Cert.DwOutSsmReferenceIdeal.τ).loc Cert.DwOutSsmReferenceIdeal.main_arg0)
          ∧ r.2.mem ((c.tc : Thread Cert.DwOutSsmReferenceIdeal.nD Cert.DwOutSsmReferenceIdeal.τ).loc Cert.DwOutSsmReferenceIdeal.main_arg1) = m' ((c.tc : Thread Cert.DwOutSsmReferenceIdeal.nD Cert.DwOutSsmReferenceIdeal.τ).loc Cert.DwOutSsmReferenceIdeal.main_arg1))

def preserves_Dyn_DynIdeal : Prop :=
  True

def algebraic_DynIdeal_DynReferenceIdeal [hDynIdeal : Cert.DynIdeal.Facts] [hDynReferenceIdeal : Cert.DynReferenceIdeal.Facts] : Prop :=
  ∀ (m : (ℓ : Loc Cert.DynIdeal.nD Cert.DynIdeal.τ Cert.DynIdeal.sig) → Buf (Elt Ideal) ℓ) (g : Dev Cert.DynIdeal.nD → PrngReg)
    (m' : (ℓ : Loc Cert.DynReferenceIdeal.nD Cert.DynReferenceIdeal.τ Cert.DynReferenceIdeal.sig) → Buf (Elt Ideal) ℓ) (g' : Dev Cert.DynReferenceIdeal.nD → PrngReg), Pre_DynIdeal m →
    (∀ c : Dev Cert.DynIdeal.nD,
      m' ((c.tc : Thread Cert.DynReferenceIdeal.nD Cert.DynReferenceIdeal.τ).loc Cert.DynReferenceIdeal.main_arg0) = m ((c.tc : Thread Cert.DynIdeal.nD Cert.DynIdeal.τ).loc Cert.DynIdeal.main_arg0)
      ∧ m' ((c.tc : Thread Cert.DynReferenceIdeal.nD Cert.DynReferenceIdeal.τ).loc Cert.DynReferenceIdeal.main_arg1) = m ((c.tc : Thread Cert.DynIdeal.nD Cert.DynIdeal.τ).loc Cert.DynIdeal.main_arg1)) →
    ∃ (v0 : (c : Dev Cert.DynIdeal.nD) → Buf (Elt Ideal) ((c.tc : Thread Cert.DynIdeal.nD Cert.DynIdeal.τ).loc Cert.DynIdeal.main_v3)),
      θ_run (Cert.DynIdeal.defs (F := Ideal)) (onTc (τ := Cert.DynIdeal.τ) (Cert.DynIdeal.main (F := Ideal))) ⟨m, fun _ => 0, g⟩ (fun r => ∀ c : Dev Cert.DynIdeal.nD,
          r.2.mem ((c.tc : Thread Cert.DynIdeal.nD Cert.DynIdeal.τ).loc Cert.DynIdeal.main_v3) = v0 c
          ∧ r.2.mem ((c.tc : Thread Cert.DynIdeal.nD Cert.DynIdeal.τ).loc Cert.DynIdeal.main_arg0) = m ((c.tc : Thread Cert.DynIdeal.nD Cert.DynIdeal.τ).loc Cert.DynIdeal.main_arg0)
          ∧ r.2.mem ((c.tc : Thread Cert.DynIdeal.nD Cert.DynIdeal.τ).loc Cert.DynIdeal.main_arg1) = m ((c.tc : Thread Cert.DynIdeal.nD Cert.DynIdeal.τ).loc Cert.DynIdeal.main_arg1))
      ∧ θ_run (Cert.DynReferenceIdeal.defs (F := Ideal)) (onTc (τ := Cert.DynReferenceIdeal.τ) (Cert.DynReferenceIdeal.main (F := Ideal))) ⟨m', fun _ => 0, g'⟩ (fun r => ∀ c : Dev Cert.DynReferenceIdeal.nD,
          r.2.mem ((c.tc : Thread Cert.DynReferenceIdeal.nD Cert.DynReferenceIdeal.τ).loc Cert.DynReferenceIdeal.main_v3) = v0 c
          ∧ r.2.mem ((c.tc : Thread Cert.DynReferenceIdeal.nD Cert.DynReferenceIdeal.τ).loc Cert.DynReferenceIdeal.main_arg0) = m' ((c.tc : Thread Cert.DynReferenceIdeal.nD Cert.DynReferenceIdeal.τ).loc Cert.DynReferenceIdeal.main_arg0)
          ∧ r.2.mem ((c.tc : Thread Cert.DynReferenceIdeal.nD Cert.DynReferenceIdeal.τ).loc Cert.DynReferenceIdeal.main_arg1) = m' ((c.tc : Thread Cert.DynReferenceIdeal.nD Cert.DynReferenceIdeal.τ).loc Cert.DynReferenceIdeal.main_arg1))

def preserves_DwOutAttn_DwOutAttnIdeal : Prop :=
  True

def algebraic_DwOutAttnIdeal_DwOutAttnReferenceIdeal [hDwOutAttnIdeal : Cert.DwOutAttnIdeal.Facts] [hDwOutAttnReferenceIdeal : Cert.DwOutAttnReferenceIdeal.Facts] : Prop :=
  ∀ (m : (ℓ : Loc Cert.DwOutAttnIdeal.nD Cert.DwOutAttnIdeal.τ Cert.DwOutAttnIdeal.sig) → Buf (Elt Ideal) ℓ) (g : Dev Cert.DwOutAttnIdeal.nD → PrngReg)
    (m' : (ℓ : Loc Cert.DwOutAttnReferenceIdeal.nD Cert.DwOutAttnReferenceIdeal.τ Cert.DwOutAttnReferenceIdeal.sig) → Buf (Elt Ideal) ℓ) (g' : Dev Cert.DwOutAttnReferenceIdeal.nD → PrngReg), Pre_DwOutAttnIdeal m →
    (∀ c : Dev Cert.DwOutAttnIdeal.nD,
      m' ((c.tc : Thread Cert.DwOutAttnReferenceIdeal.nD Cert.DwOutAttnReferenceIdeal.τ).loc Cert.DwOutAttnReferenceIdeal.main_arg0) = m ((c.tc : Thread Cert.DwOutAttnIdeal.nD Cert.DwOutAttnIdeal.τ).loc Cert.DwOutAttnIdeal.main_arg0)
      ∧ m' ((c.tc : Thread Cert.DwOutAttnReferenceIdeal.nD Cert.DwOutAttnReferenceIdeal.τ).loc Cert.DwOutAttnReferenceIdeal.main_arg1) = m ((c.tc : Thread Cert.DwOutAttnIdeal.nD Cert.DwOutAttnIdeal.τ).loc Cert.DwOutAttnIdeal.main_arg1)) →
    ∃ (v0 : (c : Dev Cert.DwOutAttnIdeal.nD) → Buf (Elt Ideal) ((c.tc : Thread Cert.DwOutAttnIdeal.nD Cert.DwOutAttnIdeal.τ).loc Cert.DwOutAttnIdeal.main_v5)),
      θ_run (Cert.DwOutAttnIdeal.defs (F := Ideal)) (onTc (τ := Cert.DwOutAttnIdeal.τ) (Cert.DwOutAttnIdeal.main (F := Ideal))) ⟨m, fun _ => 0, g⟩ (fun r => ∀ c : Dev Cert.DwOutAttnIdeal.nD,
          r.2.mem ((c.tc : Thread Cert.DwOutAttnIdeal.nD Cert.DwOutAttnIdeal.τ).loc Cert.DwOutAttnIdeal.main_v5) = v0 c
          ∧ r.2.mem ((c.tc : Thread Cert.DwOutAttnIdeal.nD Cert.DwOutAttnIdeal.τ).loc Cert.DwOutAttnIdeal.main_arg0) = m ((c.tc : Thread Cert.DwOutAttnIdeal.nD Cert.DwOutAttnIdeal.τ).loc Cert.DwOutAttnIdeal.main_arg0)
          ∧ r.2.mem ((c.tc : Thread Cert.DwOutAttnIdeal.nD Cert.DwOutAttnIdeal.τ).loc Cert.DwOutAttnIdeal.main_arg1) = m ((c.tc : Thread Cert.DwOutAttnIdeal.nD Cert.DwOutAttnIdeal.τ).loc Cert.DwOutAttnIdeal.main_arg1))
      ∧ θ_run (Cert.DwOutAttnReferenceIdeal.defs (F := Ideal)) (onTc (τ := Cert.DwOutAttnReferenceIdeal.τ) (Cert.DwOutAttnReferenceIdeal.main (F := Ideal))) ⟨m', fun _ => 0, g'⟩ (fun r => ∀ c : Dev Cert.DwOutAttnReferenceIdeal.nD,
          r.2.mem ((c.tc : Thread Cert.DwOutAttnReferenceIdeal.nD Cert.DwOutAttnReferenceIdeal.τ).loc Cert.DwOutAttnReferenceIdeal.main_v21) = v0 c
          ∧ r.2.mem ((c.tc : Thread Cert.DwOutAttnReferenceIdeal.nD Cert.DwOutAttnReferenceIdeal.τ).loc Cert.DwOutAttnReferenceIdeal.main_arg0) = m' ((c.tc : Thread Cert.DwOutAttnReferenceIdeal.nD Cert.DwOutAttnReferenceIdeal.τ).loc Cert.DwOutAttnReferenceIdeal.main_arg0)
          ∧ r.2.mem ((c.tc : Thread Cert.DwOutAttnReferenceIdeal.nD Cert.DwOutAttnReferenceIdeal.τ).loc Cert.DwOutAttnReferenceIdeal.main_arg1) = m' ((c.tc : Thread Cert.DwOutAttnReferenceIdeal.nD Cert.DwOutAttnReferenceIdeal.τ).loc Cert.DwOutAttnReferenceIdeal.main_arg1))

def preserves_OutAttn_OutAttnIdeal : Prop :=
  True

def algebraic_OutAttnIdeal_OutAttnReferenceIdeal [hOutAttnIdeal : Cert.OutAttnIdeal.Facts] [hOutAttnReferenceIdeal : Cert.OutAttnReferenceIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg)
    (m' : (ℓ : Loc Cert.OutAttnReferenceIdeal.nD Cert.OutAttnReferenceIdeal.τ Cert.OutAttnReferenceIdeal.sig) → Buf (Elt Ideal) ℓ) (g' : Dev Cert.OutAttnReferenceIdeal.nD → PrngReg), Pre_OutAttnIdeal m →
    (∀ c : Dev Cert.OutAttnIdeal.nD,
      m' ((c.tc : Thread Cert.OutAttnReferenceIdeal.nD Cert.OutAttnReferenceIdeal.τ).loc Cert.OutAttnReferenceIdeal.main_arg0) = m ((c.tc : Thread Cert.OutAttnIdeal.nD Cert.OutAttnIdeal.τ).loc Cert.OutAttnIdeal.main_arg0)
      ∧ m' ((c.tc : Thread Cert.OutAttnReferenceIdeal.nD Cert.OutAttnReferenceIdeal.τ).loc Cert.OutAttnReferenceIdeal.main_arg1) = m ((c.tc : Thread Cert.OutAttnIdeal.nD Cert.OutAttnIdeal.τ).loc Cert.OutAttnIdeal.main_arg1)) →
    ∃ (v0 : (c : Dev Cert.OutAttnIdeal.nD) → Buf (Elt Ideal) ((c.tc : Thread Cert.OutAttnIdeal.nD Cert.OutAttnIdeal.τ).loc Cert.OutAttnIdeal.main_v5)),
      θ_run (Cert.OutAttnIdeal.defs (F := Ideal)) (onTc (τ := Cert.OutAttnIdeal.τ) (Cert.OutAttnIdeal.main (F := Ideal))) ⟨m, fun _ => 0, g⟩ (fun r => ∀ c : Dev Cert.OutAttnIdeal.nD,
          r.2.mem ((c.tc : Thread Cert.OutAttnIdeal.nD Cert.OutAttnIdeal.τ).loc Cert.OutAttnIdeal.main_v5) = v0 c
          ∧ r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
          ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1))
      ∧ θ_run (Cert.OutAttnReferenceIdeal.defs (F := Ideal)) (onTc (τ := Cert.OutAttnReferenceIdeal.τ) (Cert.OutAttnReferenceIdeal.main (F := Ideal))) ⟨m', fun _ => 0, g'⟩ (fun r => ∀ c : Dev Cert.OutAttnReferenceIdeal.nD,
          r.2.mem ((c.tc : Thread Cert.OutAttnReferenceIdeal.nD Cert.OutAttnReferenceIdeal.τ).loc Cert.OutAttnReferenceIdeal.main_v1) = v0 c
          ∧ r.2.mem ((c.tc : Thread Cert.OutAttnReferenceIdeal.nD Cert.OutAttnReferenceIdeal.τ).loc Cert.OutAttnReferenceIdeal.main_arg0) = m' ((c.tc : Thread Cert.OutAttnReferenceIdeal.nD Cert.OutAttnReferenceIdeal.τ).loc Cert.OutAttnReferenceIdeal.main_arg0)
          ∧ r.2.mem ((c.tc : Thread Cert.OutAttnReferenceIdeal.nD Cert.OutAttnReferenceIdeal.τ).loc Cert.OutAttnReferenceIdeal.main_arg1) = m' ((c.tc : Thread Cert.OutAttnReferenceIdeal.nD Cert.OutAttnReferenceIdeal.τ).loc Cert.OutAttnReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v2) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_OutSsm_OutSsmIdeal : Prop :=
  True

def algebraic_OutSsmIdeal_OutSsmReferenceIdeal [hOutSsmIdeal : Cert.OutSsmIdeal.Facts] [hOutSsmReferenceIdeal : Cert.OutSsmReferenceIdeal.Facts] : Prop :=
  ∀ (m : (ℓ : Loc Cert.OutSsmIdeal.nD Cert.OutSsmIdeal.τ Cert.OutSsmIdeal.sig) → Buf (Elt Ideal) ℓ) (g : Dev Cert.OutSsmIdeal.nD → PrngReg)
    (m' : (ℓ : Loc Cert.OutSsmReferenceIdeal.nD Cert.OutSsmReferenceIdeal.τ Cert.OutSsmReferenceIdeal.sig) → Buf (Elt Ideal) ℓ) (g' : Dev Cert.OutSsmReferenceIdeal.nD → PrngReg), Pre_OutSsmIdeal m →
    (∀ c : Dev Cert.OutSsmIdeal.nD,
      m' ((c.tc : Thread Cert.OutSsmReferenceIdeal.nD Cert.OutSsmReferenceIdeal.τ).loc Cert.OutSsmReferenceIdeal.main_arg0) = m ((c.tc : Thread Cert.OutSsmIdeal.nD Cert.OutSsmIdeal.τ).loc Cert.OutSsmIdeal.main_arg0)
      ∧ m' ((c.tc : Thread Cert.OutSsmReferenceIdeal.nD Cert.OutSsmReferenceIdeal.τ).loc Cert.OutSsmReferenceIdeal.main_arg1) = m ((c.tc : Thread Cert.OutSsmIdeal.nD Cert.OutSsmIdeal.τ).loc Cert.OutSsmIdeal.main_arg1)) →
    ∃ (v0 : (c : Dev Cert.OutSsmIdeal.nD) → Buf (Elt Ideal) ((c.tc : Thread Cert.OutSsmIdeal.nD Cert.OutSsmIdeal.τ).loc Cert.OutSsmIdeal.main_v3)),
      θ_run (Cert.OutSsmIdeal.defs (F := Ideal)) (onTc (τ := Cert.OutSsmIdeal.τ) (Cert.OutSsmIdeal.main (F := Ideal))) ⟨m, fun _ => 0, g⟩ (fun r => ∀ c : Dev Cert.OutSsmIdeal.nD,
          r.2.mem ((c.tc : Thread Cert.OutSsmIdeal.nD Cert.OutSsmIdeal.τ).loc Cert.OutSsmIdeal.main_v3) = v0 c
          ∧ r.2.mem ((c.tc : Thread Cert.OutSsmIdeal.nD Cert.OutSsmIdeal.τ).loc Cert.OutSsmIdeal.main_arg0) = m ((c.tc : Thread Cert.OutSsmIdeal.nD Cert.OutSsmIdeal.τ).loc Cert.OutSsmIdeal.main_arg0)
          ∧ r.2.mem ((c.tc : Thread Cert.OutSsmIdeal.nD Cert.OutSsmIdeal.τ).loc Cert.OutSsmIdeal.main_arg1) = m ((c.tc : Thread Cert.OutSsmIdeal.nD Cert.OutSsmIdeal.τ).loc Cert.OutSsmIdeal.main_arg1))
      ∧ θ_run (Cert.OutSsmReferenceIdeal.defs (F := Ideal)) (onTc (τ := Cert.OutSsmReferenceIdeal.τ) (Cert.OutSsmReferenceIdeal.main (F := Ideal))) ⟨m', fun _ => 0, g'⟩ (fun r => ∀ c : Dev Cert.OutSsmReferenceIdeal.nD,
          r.2.mem ((c.tc : Thread Cert.OutSsmReferenceIdeal.nD Cert.OutSsmReferenceIdeal.τ).loc Cert.OutSsmReferenceIdeal.main_v1) = v0 c
          ∧ r.2.mem ((c.tc : Thread Cert.OutSsmReferenceIdeal.nD Cert.OutSsmReferenceIdeal.τ).loc Cert.OutSsmReferenceIdeal.main_arg0) = m' ((c.tc : Thread Cert.OutSsmReferenceIdeal.nD Cert.OutSsmReferenceIdeal.τ).loc Cert.OutSsmReferenceIdeal.main_arg0)
          ∧ r.2.mem ((c.tc : Thread Cert.OutSsmReferenceIdeal.nD Cert.OutSsmReferenceIdeal.τ).loc Cert.OutSsmReferenceIdeal.main_arg1) = m' ((c.tc : Thread Cert.OutSsmReferenceIdeal.nD Cert.OutSsmReferenceIdeal.τ).loc Cert.OutSsmReferenceIdeal.main_arg1))

def preserves_Dy_DyIdeal : Prop :=
  True

def algebraic_DyIdeal_DyReferenceIdeal [hDyIdeal : Cert.DyIdeal.Facts] [hDyReferenceIdeal : Cert.DyReferenceIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyReferenceIdeal.nD Cert.DyReferenceIdeal.τ Cert.DyReferenceIdeal.sig) → Buf (Elt Ideal) ℓ) (g' : Dev Cert.DyReferenceIdeal.nD → PrngReg), Pre_DyIdeal m →
    (∀ c : Dev Cert.DyIdeal.nD,
      m' ((c.tc : Thread Cert.DyReferenceIdeal.nD Cert.DyReferenceIdeal.τ).loc Cert.DyReferenceIdeal.main_arg0) = m ((c.tc : Thread Cert.DyIdeal.nD Cert.DyIdeal.τ).loc Cert.DyIdeal.main_arg0)
      ∧ m' ((c.tc : Thread Cert.DyReferenceIdeal.nD Cert.DyReferenceIdeal.τ).loc Cert.DyReferenceIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v5)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v5) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyReferenceIdeal.defs (F := Ideal)) (onTc (τ := Cert.DyReferenceIdeal.τ) (Cert.DyReferenceIdeal.main (F := Ideal))) ⟨m', fun _ => 0, g'⟩ (fun r => ∀ c : Dev Cert.DyReferenceIdeal.nD,
          r.2.mem ((c.tc : Thread Cert.DyReferenceIdeal.nD Cert.DyReferenceIdeal.τ).loc Cert.DyReferenceIdeal.main_v3) = v0 c
          ∧ r.2.mem ((c.tc : Thread Cert.DyReferenceIdeal.nD Cert.DyReferenceIdeal.τ).loc Cert.DyReferenceIdeal.main_arg0) = m' ((c.tc : Thread Cert.DyReferenceIdeal.nD Cert.DyReferenceIdeal.τ).loc Cert.DyReferenceIdeal.main_arg0)
          ∧ r.2.mem ((c.tc : Thread Cert.DyReferenceIdeal.nD Cert.DyReferenceIdeal.τ).loc Cert.DyReferenceIdeal.main_arg1) = m' ((c.tc : Thread Cert.DyReferenceIdeal.nD Cert.DyReferenceIdeal.τ).loc Cert.DyReferenceIdeal.main_arg1))

def preserves_InSsm_InSsmIdeal : Prop :=
  True

def algebraic_InSsmIdeal_InSsmReferenceIdeal [hInSsmIdeal : Cert.InSsmIdeal.Facts] [hInSsmReferenceIdeal : Cert.InSsmReferenceIdeal.Facts] : Prop :=
  ∀ (m : (ℓ : Loc Cert.InSsmIdeal.nD Cert.InSsmIdeal.τ Cert.InSsmIdeal.sig) → Buf (Elt Ideal) ℓ) (g : Dev Cert.InSsmIdeal.nD → PrngReg)
    (m' : (ℓ : Loc Cert.InSsmReferenceIdeal.nD Cert.InSsmReferenceIdeal.τ Cert.InSsmReferenceIdeal.sig) → Buf (Elt Ideal) ℓ) (g' : Dev Cert.InSsmReferenceIdeal.nD → PrngReg), Pre_InSsmIdeal m →
    (∀ c : Dev Cert.InSsmIdeal.nD,
      m' ((c.tc : Thread Cert.InSsmReferenceIdeal.nD Cert.InSsmReferenceIdeal.τ).loc Cert.InSsmReferenceIdeal.main_arg0) = m ((c.tc : Thread Cert.InSsmIdeal.nD Cert.InSsmIdeal.τ).loc Cert.InSsmIdeal.main_arg0)
      ∧ m' ((c.tc : Thread Cert.InSsmReferenceIdeal.nD Cert.InSsmReferenceIdeal.τ).loc Cert.InSsmReferenceIdeal.main_arg1) = m ((c.tc : Thread Cert.InSsmIdeal.nD Cert.InSsmIdeal.τ).loc Cert.InSsmIdeal.main_arg1)) →
    ∃ (v0 : (c : Dev Cert.InSsmIdeal.nD) → Buf (Elt Ideal) ((c.tc : Thread Cert.InSsmIdeal.nD Cert.InSsmIdeal.τ).loc Cert.InSsmIdeal.main_v4)),
      θ_run (Cert.InSsmIdeal.defs (F := Ideal)) (onTc (τ := Cert.InSsmIdeal.τ) (Cert.InSsmIdeal.main (F := Ideal))) ⟨m, fun _ => 0, g⟩ (fun r => ∀ c : Dev Cert.InSsmIdeal.nD,
          r.2.mem ((c.tc : Thread Cert.InSsmIdeal.nD Cert.InSsmIdeal.τ).loc Cert.InSsmIdeal.main_v4) = v0 c
          ∧ r.2.mem ((c.tc : Thread Cert.InSsmIdeal.nD Cert.InSsmIdeal.τ).loc Cert.InSsmIdeal.main_arg0) = m ((c.tc : Thread Cert.InSsmIdeal.nD Cert.InSsmIdeal.τ).loc Cert.InSsmIdeal.main_arg0)
          ∧ r.2.mem ((c.tc : Thread Cert.InSsmIdeal.nD Cert.InSsmIdeal.τ).loc Cert.InSsmIdeal.main_arg1) = m ((c.tc : Thread Cert.InSsmIdeal.nD Cert.InSsmIdeal.τ).loc Cert.InSsmIdeal.main_arg1))
      ∧ θ_run (Cert.InSsmReferenceIdeal.defs (F := Ideal)) (onTc (τ := Cert.InSsmReferenceIdeal.τ) (Cert.InSsmReferenceIdeal.main (F := Ideal))) ⟨m', fun _ => 0, g'⟩ (fun r => ∀ c : Dev Cert.InSsmReferenceIdeal.nD,
          r.2.mem ((c.tc : Thread Cert.InSsmReferenceIdeal.nD Cert.InSsmReferenceIdeal.τ).loc Cert.InSsmReferenceIdeal.main_v1) = v0 c
          ∧ r.2.mem ((c.tc : Thread Cert.InSsmReferenceIdeal.nD Cert.InSsmReferenceIdeal.τ).loc Cert.InSsmReferenceIdeal.main_arg0) = m' ((c.tc : Thread Cert.InSsmReferenceIdeal.nD Cert.InSsmReferenceIdeal.τ).loc Cert.InSsmReferenceIdeal.main_arg0)
          ∧ r.2.mem ((c.tc : Thread Cert.InSsmReferenceIdeal.nD Cert.InSsmReferenceIdeal.τ).loc Cert.InSsmReferenceIdeal.main_arg1) = m' ((c.tc : Thread Cert.InSsmReferenceIdeal.nD Cert.InSsmReferenceIdeal.τ).loc Cert.InSsmReferenceIdeal.main_arg1))

def preserves_Dx1_Dx1Ideal : Prop :=
  True

def algebraic_Dx1Ideal_Dx1ReferenceIdeal [hDx1Ideal : Cert.Dx1Ideal.Facts] [hDx1ReferenceIdeal : Cert.Dx1ReferenceIdeal.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.Dx1ReferenceIdeal.nD Cert.Dx1ReferenceIdeal.τ Cert.Dx1ReferenceIdeal.sig) → Buf (Elt Ideal) ℓ) (g' : Dev Cert.Dx1ReferenceIdeal.nD → PrngReg), Pre_Dx1Ideal m →
    (∀ c : Dev Cert.Dx1Ideal.nD,
      m' ((c.tc : Thread Cert.Dx1ReferenceIdeal.nD Cert.Dx1ReferenceIdeal.τ).loc Cert.Dx1ReferenceIdeal.main_arg0) = m ((c.tc : Thread Cert.Dx1Ideal.nD Cert.Dx1Ideal.τ).loc Cert.Dx1Ideal.main_arg0)
      ∧ m' ((c.tc : Thread Cert.Dx1ReferenceIdeal.nD Cert.Dx1ReferenceIdeal.τ).loc Cert.Dx1ReferenceIdeal.main_arg1) = m ((c.tc : Thread Cert.Dx1Ideal.nD Cert.Dx1Ideal.τ).loc Cert.Dx1Ideal.main_arg1)
      ∧ m' ((c.tc : Thread Cert.Dx1ReferenceIdeal.nD Cert.Dx1ReferenceIdeal.τ).loc Cert.Dx1ReferenceIdeal.main_arg2) = m ((c.tc : Thread Cert.Dx1Ideal.nD Cert.Dx1Ideal.τ).loc Cert.Dx1Ideal.main_arg2)) →
    ∃ (v0 : (c : Dev Cert.Dx1Ideal.nD) → Buf (Elt Ideal) ((c.tc : Thread Cert.Dx1Ideal.nD Cert.Dx1Ideal.τ).loc Cert.Dx1Ideal.main_v5)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          r.2.mem ((c.tc : Thread Cert.Dx1Ideal.nD Cert.Dx1Ideal.τ).loc Cert.Dx1Ideal.main_v5) = v0 c
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
          ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ θ_run (Cert.Dx1ReferenceIdeal.defs (F := Ideal)) (onTc (τ := Cert.Dx1ReferenceIdeal.τ) (Cert.Dx1ReferenceIdeal.main (F := Ideal))) ⟨m', fun _ => 0, g'⟩ (fun r => ∀ c : Dev Cert.Dx1ReferenceIdeal.nD,
          r.2.mem ((c.tc : Thread Cert.Dx1ReferenceIdeal.nD Cert.Dx1ReferenceIdeal.τ).loc Cert.Dx1ReferenceIdeal.main_v8) = v0 c
          ∧ r.2.mem ((c.tc : Thread Cert.Dx1ReferenceIdeal.nD Cert.Dx1ReferenceIdeal.τ).loc Cert.Dx1ReferenceIdeal.main_arg0) = m' ((c.tc : Thread Cert.Dx1ReferenceIdeal.nD Cert.Dx1ReferenceIdeal.τ).loc Cert.Dx1ReferenceIdeal.main_arg0)
          ∧ r.2.mem ((c.tc : Thread Cert.Dx1ReferenceIdeal.nD Cert.Dx1ReferenceIdeal.τ).loc Cert.Dx1ReferenceIdeal.main_arg1) = m' ((c.tc : Thread Cert.Dx1ReferenceIdeal.nD Cert.Dx1ReferenceIdeal.τ).loc Cert.Dx1ReferenceIdeal.main_arg1)
          ∧ r.2.mem ((c.tc : Thread Cert.Dx1ReferenceIdeal.nD Cert.Dx1ReferenceIdeal.τ).loc Cert.Dx1ReferenceIdeal.main_arg2) = m' ((c.tc : Thread Cert.Dx1ReferenceIdeal.nD Cert.Dx1ReferenceIdeal.τ).loc Cert.Dx1ReferenceIdeal.main_arg2))

def preserves_DwInAttn_DwInAttnIdeal : Prop :=
  True

def algebraic_DwInAttnIdeal_DwInAttnReferenceIdeal [hDwInAttnIdeal : Cert.DwInAttnIdeal.Facts] [hDwInAttnReferenceIdeal : Cert.DwInAttnReferenceIdeal.Facts] : Prop :=
  ∀ (m : (ℓ : Loc Cert.DwInAttnIdeal.nD Cert.DwInAttnIdeal.τ Cert.DwInAttnIdeal.sig) → Buf (Elt Ideal) ℓ) (g : Dev Cert.DwInAttnIdeal.nD → PrngReg)
    (m' : (ℓ : Loc Cert.DwInAttnReferenceIdeal.nD Cert.DwInAttnReferenceIdeal.τ Cert.DwInAttnReferenceIdeal.sig) → Buf (Elt Ideal) ℓ) (g' : Dev Cert.DwInAttnReferenceIdeal.nD → PrngReg), Pre_DwInAttnIdeal m →
    (∀ c : Dev Cert.DwInAttnIdeal.nD,
      m' ((c.tc : Thread Cert.DwInAttnReferenceIdeal.nD Cert.DwInAttnReferenceIdeal.τ).loc Cert.DwInAttnReferenceIdeal.main_arg0) = m ((c.tc : Thread Cert.DwInAttnIdeal.nD Cert.DwInAttnIdeal.τ).loc Cert.DwInAttnIdeal.main_arg0)
      ∧ m' ((c.tc : Thread Cert.DwInAttnReferenceIdeal.nD Cert.DwInAttnReferenceIdeal.τ).loc Cert.DwInAttnReferenceIdeal.main_arg1) = m ((c.tc : Thread Cert.DwInAttnIdeal.nD Cert.DwInAttnIdeal.τ).loc Cert.DwInAttnIdeal.main_arg1)) →
    ∃ (v0 : (c : Dev Cert.DwInAttnIdeal.nD) → Buf (Elt Ideal) ((c.tc : Thread Cert.DwInAttnIdeal.nD Cert.DwInAttnIdeal.τ).loc Cert.DwInAttnIdeal.main_v5)),
      θ_run (Cert.DwInAttnIdeal.defs (F := Ideal)) (onTc (τ := Cert.DwInAttnIdeal.τ) (Cert.DwInAttnIdeal.main (F := Ideal))) ⟨m, fun _ => 0, g⟩ (fun r => ∀ c : Dev Cert.DwInAttnIdeal.nD,
          r.2.mem ((c.tc : Thread Cert.DwInAttnIdeal.nD Cert.DwInAttnIdeal.τ).loc Cert.DwInAttnIdeal.main_v5) = v0 c
          ∧ r.2.mem ((c.tc : Thread Cert.DwInAttnIdeal.nD Cert.DwInAttnIdeal.τ).loc Cert.DwInAttnIdeal.main_arg0) = m ((c.tc : Thread Cert.DwInAttnIdeal.nD Cert.DwInAttnIdeal.τ).loc Cert.DwInAttnIdeal.main_arg0)
          ∧ r.2.mem ((c.tc : Thread Cert.DwInAttnIdeal.nD Cert.DwInAttnIdeal.τ).loc Cert.DwInAttnIdeal.main_arg1) = m ((c.tc : Thread Cert.DwInAttnIdeal.nD Cert.DwInAttnIdeal.τ).loc Cert.DwInAttnIdeal.main_arg1))
      ∧ θ_run (Cert.DwInAttnReferenceIdeal.defs (F := Ideal)) (onTc (τ := Cert.DwInAttnReferenceIdeal.τ) (Cert.DwInAttnReferenceIdeal.main (F := Ideal))) ⟨m', fun _ => 0, g'⟩ (fun r => ∀ c : Dev Cert.DwInAttnReferenceIdeal.nD,
          r.2.mem ((c.tc : Thread Cert.DwInAttnReferenceIdeal.nD Cert.DwInAttnReferenceIdeal.τ).loc Cert.DwInAttnReferenceIdeal.main_v21) = v0 c
          ∧ r.2.mem ((c.tc : Thread Cert.DwInAttnReferenceIdeal.nD Cert.DwInAttnReferenceIdeal.τ).loc Cert.DwInAttnReferenceIdeal.main_arg0) = m' ((c.tc : Thread Cert.DwInAttnReferenceIdeal.nD Cert.DwInAttnReferenceIdeal.τ).loc Cert.DwInAttnReferenceIdeal.main_arg0)
          ∧ r.2.mem ((c.tc : Thread Cert.DwInAttnReferenceIdeal.nD Cert.DwInAttnReferenceIdeal.τ).loc Cert.DwInAttnReferenceIdeal.main_arg1) = m' ((c.tc : Thread Cert.DwInAttnReferenceIdeal.nD Cert.DwInAttnReferenceIdeal.τ).loc Cert.DwInAttnReferenceIdeal.main_arg1))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v6)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v6) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v8) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2))

def preserves_QkvA_QkvAIdeal : Prop :=
  True

def algebraic_QkvAIdeal_QkvAReferenceIdeal [hQkvAIdeal : Cert.QkvAIdeal.Facts] [hQkvAReferenceIdeal : Cert.QkvAReferenceIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvAReferenceIdeal.nD Cert.QkvAReferenceIdeal.τ Cert.QkvAReferenceIdeal.sig) → Buf (Elt Ideal) ℓ) (g' : Dev Cert.QkvAReferenceIdeal.nD → PrngReg), Pre_QkvAIdeal m →
    (∀ c : Dev Cert.QkvAIdeal.nD,
      m' ((c.tc : Thread Cert.QkvAReferenceIdeal.nD Cert.QkvAReferenceIdeal.τ).loc Cert.QkvAReferenceIdeal.main_arg0) = m ((c.tc : Thread Cert.QkvAIdeal.nD Cert.QkvAIdeal.τ).loc Cert.QkvAIdeal.main_arg0)
      ∧ m' ((c.tc : Thread Cert.QkvAReferenceIdeal.nD Cert.QkvAReferenceIdeal.τ).loc Cert.QkvAReferenceIdeal.main_arg1) = m ((c.tc : Thread Cert.QkvAIdeal.nD Cert.QkvAIdeal.τ).loc Cert.QkvAIdeal.main_arg1)) →
    ∃ (v0 : (c : Dev Cert.QkvAIdeal.nD) → Buf (Elt Ideal) ((c.tc : Thread Cert.QkvAIdeal.nD Cert.QkvAIdeal.τ).loc Cert.QkvAIdeal.main_v5)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v5) = v0 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ θ_run (Cert.QkvAReferenceIdeal.defs (F := Ideal)) (onTc (τ := Cert.QkvAReferenceIdeal.τ) (Cert.QkvAReferenceIdeal.main (F := Ideal))) ⟨m', fun _ => 0, g'⟩ (fun r => ∀ c : Dev Cert.QkvAReferenceIdeal.nD,
          r.2.mem ((c.tc : Thread Cert.QkvAReferenceIdeal.nD Cert.QkvAReferenceIdeal.τ).loc Cert.QkvAReferenceIdeal.main_v3) = v0 c
          ∧ r.2.mem ((c.tc : Thread Cert.QkvAReferenceIdeal.nD Cert.QkvAReferenceIdeal.τ).loc Cert.QkvAReferenceIdeal.main_arg0) = m' ((c.tc : Thread Cert.QkvAReferenceIdeal.nD Cert.QkvAReferenceIdeal.τ).loc Cert.QkvAReferenceIdeal.main_arg0)
          ∧ r.2.mem ((c.tc : Thread Cert.QkvAReferenceIdeal.nD Cert.QkvAReferenceIdeal.τ).loc Cert.QkvAReferenceIdeal.main_arg1) = m' ((c.tc : Thread Cert.QkvAReferenceIdeal.nD Cert.QkvAReferenceIdeal.τ).loc Cert.QkvAReferenceIdeal.main_arg1))

def preserves_QkvB_QkvBIdeal : Prop :=
  True

def algebraic_QkvBIdeal_QkvBReferenceIdeal [hQkvBIdeal : Cert.QkvBIdeal.Facts] [hQkvBReferenceIdeal : Cert.QkvBReferenceIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBReferenceIdeal.nD Cert.QkvBReferenceIdeal.τ Cert.QkvBReferenceIdeal.sig) → Buf (Elt Ideal) ℓ) (g' : Dev Cert.QkvBReferenceIdeal.nD → PrngReg), Pre_QkvBIdeal m →
    (∀ c : Dev Cert.QkvBIdeal.nD,
      m' ((c.tc : Thread Cert.QkvBReferenceIdeal.nD Cert.QkvBReferenceIdeal.τ).loc Cert.QkvBReferenceIdeal.main_arg0) = m ((c.tc : Thread Cert.QkvBIdeal.nD Cert.QkvBIdeal.τ).loc Cert.QkvBIdeal.main_arg0)
      ∧ m' ((c.tc : Thread Cert.QkvBReferenceIdeal.nD Cert.QkvBReferenceIdeal.τ).loc Cert.QkvBReferenceIdeal.main_arg1) = m ((c.tc : Thread Cert.QkvBIdeal.nD Cert.QkvBIdeal.τ).loc Cert.QkvBIdeal.main_arg1)) →
    ∃ (v0 : (c : Dev Cert.QkvBIdeal.nD) → Buf (Elt Ideal) ((c.tc : Thread Cert.QkvBIdeal.nD Cert.QkvBIdeal.τ).loc Cert.QkvBIdeal.main_v5)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v5) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ θ_run (Cert.QkvBReferenceIdeal.defs (F := Ideal)) (onTc (τ := Cert.QkvBReferenceIdeal.τ) (Cert.QkvBReferenceIdeal.main (F := Ideal))) ⟨m', fun _ => 0, g'⟩ (fun r => ∀ c : Dev Cert.QkvBReferenceIdeal.nD,
          r.2.mem ((c.tc : Thread Cert.QkvBReferenceIdeal.nD Cert.QkvBReferenceIdeal.τ).loc Cert.QkvBReferenceIdeal.main_v3) = v0 c
          ∧ r.2.mem ((c.tc : Thread Cert.QkvBReferenceIdeal.nD Cert.QkvBReferenceIdeal.τ).loc Cert.QkvBReferenceIdeal.main_arg0) = m' ((c.tc : Thread Cert.QkvBReferenceIdeal.nD Cert.QkvBReferenceIdeal.τ).loc Cert.QkvBReferenceIdeal.main_arg0)
          ∧ r.2.mem ((c.tc : Thread Cert.QkvBReferenceIdeal.nD Cert.QkvBReferenceIdeal.τ).loc Cert.QkvBReferenceIdeal.main_arg1) = m' ((c.tc : Thread Cert.QkvBReferenceIdeal.nD Cert.QkvBReferenceIdeal.τ).loc Cert.QkvBReferenceIdeal.main_arg1))

def preserves_QkvC_QkvCIdeal : Prop :=
  True

def algebraic_QkvCIdeal_QkvCReferenceIdeal [hQkvCIdeal : Cert.QkvCIdeal.Facts] [hQkvCReferenceIdeal : Cert.QkvCReferenceIdeal.Facts] : Prop :=
  ∀ (m : (ℓ : Loc Cert.QkvCIdeal.nD Cert.QkvCIdeal.τ Cert.QkvCIdeal.sig) → Buf (Elt Ideal) ℓ) (g : Dev Cert.QkvCIdeal.nD → PrngReg)
    (m' : (ℓ : Loc Cert.QkvCReferenceIdeal.nD Cert.QkvCReferenceIdeal.τ Cert.QkvCReferenceIdeal.sig) → Buf (Elt Ideal) ℓ) (g' : Dev Cert.QkvCReferenceIdeal.nD → PrngReg), Pre_QkvCIdeal m →
    (∀ c : Dev Cert.QkvCIdeal.nD,
      m' ((c.tc : Thread Cert.QkvCReferenceIdeal.nD Cert.QkvCReferenceIdeal.τ).loc Cert.QkvCReferenceIdeal.main_arg0) = m ((c.tc : Thread Cert.QkvCIdeal.nD Cert.QkvCIdeal.τ).loc Cert.QkvCIdeal.main_arg0)
      ∧ m' ((c.tc : Thread Cert.QkvCReferenceIdeal.nD Cert.QkvCReferenceIdeal.τ).loc Cert.QkvCReferenceIdeal.main_arg1) = m ((c.tc : Thread Cert.QkvCIdeal.nD Cert.QkvCIdeal.τ).loc Cert.QkvCIdeal.main_arg1)) →
    ∃ (v0 : (c : Dev Cert.QkvCIdeal.nD) → Buf (Elt Ideal) ((c.tc : Thread Cert.QkvCIdeal.nD Cert.QkvCIdeal.τ).loc Cert.QkvCIdeal.main_v5)),
      θ_run (Cert.QkvCIdeal.defs (F := Ideal)) (onTc (τ := Cert.QkvCIdeal.τ) (Cert.QkvCIdeal.main (F := Ideal))) ⟨m, fun _ => 0, g⟩ (fun r => ∀ c : Dev Cert.QkvCIdeal.nD,
          r.2.mem ((c.tc : Thread Cert.QkvCIdeal.nD Cert.QkvCIdeal.τ).loc Cert.QkvCIdeal.main_v5) = v0 c
          ∧ r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
          ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ θ_run (Cert.QkvCReferenceIdeal.defs (F := Ideal)) (onTc (τ := Cert.QkvCReferenceIdeal.τ) (Cert.QkvCReferenceIdeal.main (F := Ideal))) ⟨m', fun _ => 0, g'⟩ (fun r => ∀ c : Dev Cert.QkvCReferenceIdeal.nD,
          r.2.mem ((c.tc : Thread Cert.QkvCReferenceIdeal.nD Cert.QkvCReferenceIdeal.τ).loc Cert.QkvCReferenceIdeal.main_v3) = v0 c
          ∧ r.2.mem ((c.tc : Thread Cert.QkvCReferenceIdeal.nD Cert.QkvCReferenceIdeal.τ).loc Cert.QkvCReferenceIdeal.main_arg0) = m' ((c.tc : Thread Cert.QkvCReferenceIdeal.nD Cert.QkvCReferenceIdeal.τ).loc Cert.QkvCReferenceIdeal.main_arg0)
          ∧ r.2.mem ((c.tc : Thread Cert.QkvCReferenceIdeal.nD Cert.QkvCReferenceIdeal.τ).loc Cert.QkvCReferenceIdeal.main_arg1) = m' ((c.tc : Thread Cert.QkvCReferenceIdeal.nD Cert.QkvCReferenceIdeal.τ).loc Cert.QkvCReferenceIdeal.main_arg1))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamOutAttn_AdamOutAttnIdeal : Prop :=
  True

def algebraic_AdamOutAttnIdeal_AdamOutAttnReferenceIdeal [hAdamOutAttnIdeal : Cert.AdamOutAttnIdeal.Facts] [hAdamOutAttnReferenceIdeal : Cert.AdamOutAttnReferenceIdeal.Facts] : Prop :=
  ∀ (m : (ℓ : Loc Cert.AdamOutAttnIdeal.nD Cert.AdamOutAttnIdeal.τ Cert.AdamOutAttnIdeal.sig) → Buf (Elt Ideal) ℓ) (g : Dev Cert.AdamOutAttnIdeal.nD → PrngReg)
    (m' : (ℓ : Loc Cert.AdamOutAttnReferenceIdeal.nD Cert.AdamOutAttnReferenceIdeal.τ Cert.AdamOutAttnReferenceIdeal.sig) → Buf (Elt Ideal) ℓ) (g' : Dev Cert.AdamOutAttnReferenceIdeal.nD → PrngReg), Pre_AdamOutAttnIdeal m →
    (∀ c : Dev Cert.AdamOutAttnIdeal.nD,
      m' ((c.tc : Thread Cert.AdamOutAttnReferenceIdeal.nD Cert.AdamOutAttnReferenceIdeal.τ).loc Cert.AdamOutAttnReferenceIdeal.main_arg0) = m ((c.tc : Thread Cert.AdamOutAttnIdeal.nD Cert.AdamOutAttnIdeal.τ).loc Cert.AdamOutAttnIdeal.main_arg0)
      ∧ m' ((c.tc : Thread Cert.AdamOutAttnReferenceIdeal.nD Cert.AdamOutAttnReferenceIdeal.τ).loc Cert.AdamOutAttnReferenceIdeal.main_arg1) = m ((c.tc : Thread Cert.AdamOutAttnIdeal.nD Cert.AdamOutAttnIdeal.τ).loc Cert.AdamOutAttnIdeal.main_arg1)
      ∧ m' ((c.tc : Thread Cert.AdamOutAttnReferenceIdeal.nD Cert.AdamOutAttnReferenceIdeal.τ).loc Cert.AdamOutAttnReferenceIdeal.main_arg2) = m ((c.tc : Thread Cert.AdamOutAttnIdeal.nD Cert.AdamOutAttnIdeal.τ).loc Cert.AdamOutAttnIdeal.main_arg2)
      ∧ m' ((c.tc : Thread Cert.AdamOutAttnReferenceIdeal.nD Cert.AdamOutAttnReferenceIdeal.τ).loc Cert.AdamOutAttnReferenceIdeal.main_arg3) = m ((c.tc : Thread Cert.AdamOutAttnIdeal.nD Cert.AdamOutAttnIdeal.τ).loc Cert.AdamOutAttnIdeal.main_arg3)) →
    ∃ (v0 : (c : Dev Cert.AdamOutAttnIdeal.nD) → Buf (Elt Ideal) ((c.tc : Thread Cert.AdamOutAttnIdeal.nD Cert.AdamOutAttnIdeal.τ).loc Cert.AdamOutAttnIdeal.main_v0_0)) (v1 : (c : Dev Cert.AdamOutAttnIdeal.nD) → Buf (Elt Ideal) ((c.tc : Thread Cert.AdamOutAttnIdeal.nD Cert.AdamOutAttnIdeal.τ).loc Cert.AdamOutAttnIdeal.main_v0_1)) (v2 : (c : Dev Cert.AdamOutAttnIdeal.nD) → Buf (Elt Ideal) ((c.tc : Thread Cert.AdamOutAttnIdeal.nD Cert.AdamOutAttnIdeal.τ).loc Cert.AdamOutAttnIdeal.main_v0_2)) (v3 : (c : Dev Cert.AdamOutAttnIdeal.nD) → Buf (Elt Ideal) ((c.tc : Thread Cert.AdamOutAttnIdeal.nD Cert.AdamOutAttnIdeal.τ).loc Cert.AdamOutAttnIdeal.main_v0_3)),
      θ_run (Cert.AdamOutAttnIdeal.defs (F := Ideal)) (onTc (τ := Cert.AdamOutAttnIdeal.τ) (Cert.AdamOutAttnIdeal.main (F := Ideal))) ⟨m, fun _ => 0, g⟩ (fun r => ∀ c : Dev Cert.AdamOutAttnIdeal.nD,
          r.2.mem ((c.tc : Thread Cert.AdamOutAttnIdeal.nD Cert.AdamOutAttnIdeal.τ).loc Cert.AdamOutAttnIdeal.main_v0_0) = v0 c
          ∧ r.2.mem ((c.tc : Thread Cert.AdamOutAttnIdeal.nD Cert.AdamOutAttnIdeal.τ).loc Cert.AdamOutAttnIdeal.main_v0_1) = v1 c
          ∧ r.2.mem ((c.tc : Thread Cert.AdamOutAttnIdeal.nD Cert.AdamOutAttnIdeal.τ).loc Cert.AdamOutAttnIdeal.main_v0_2) = v2 c
          ∧ r.2.mem ((c.tc : Thread Cert.AdamOutAttnIdeal.nD Cert.AdamOutAttnIdeal.τ).loc Cert.AdamOutAttnIdeal.main_v0_3) = v3 c
          ∧ r.2.mem ((c.tc : Thread Cert.AdamOutAttnIdeal.nD Cert.AdamOutAttnIdeal.τ).loc Cert.AdamOutAttnIdeal.main_arg0) = m ((c.tc : Thread Cert.AdamOutAttnIdeal.nD Cert.AdamOutAttnIdeal.τ).loc Cert.AdamOutAttnIdeal.main_arg0)
          ∧ r.2.mem ((c.tc : Thread Cert.AdamOutAttnIdeal.nD Cert.AdamOutAttnIdeal.τ).loc Cert.AdamOutAttnIdeal.main_arg1) = m ((c.tc : Thread Cert.AdamOutAttnIdeal.nD Cert.AdamOutAttnIdeal.τ).loc Cert.AdamOutAttnIdeal.main_arg1)
          ∧ r.2.mem ((c.tc : Thread Cert.AdamOutAttnIdeal.nD Cert.AdamOutAttnIdeal.τ).loc Cert.AdamOutAttnIdeal.main_arg2) = m ((c.tc : Thread Cert.AdamOutAttnIdeal.nD Cert.AdamOutAttnIdeal.τ).loc Cert.AdamOutAttnIdeal.main_arg2)
          ∧ r.2.mem ((c.tc : Thread Cert.AdamOutAttnIdeal.nD Cert.AdamOutAttnIdeal.τ).loc Cert.AdamOutAttnIdeal.main_arg3) = m ((c.tc : Thread Cert.AdamOutAttnIdeal.nD Cert.AdamOutAttnIdeal.τ).loc Cert.AdamOutAttnIdeal.main_arg3))
      ∧ θ_run (Cert.AdamOutAttnReferenceIdeal.defs (F := Ideal)) (onTc (τ := Cert.AdamOutAttnReferenceIdeal.τ) (Cert.AdamOutAttnReferenceIdeal.main (F := Ideal))) ⟨m', fun _ => 0, g'⟩ (fun r => ∀ c : Dev Cert.AdamOutAttnReferenceIdeal.nD,
          r.2.mem ((c.tc : Thread Cert.AdamOutAttnReferenceIdeal.nD Cert.AdamOutAttnReferenceIdeal.τ).loc Cert.AdamOutAttnReferenceIdeal.main_v2) = v0 c
          ∧ r.2.mem ((c.tc : Thread Cert.AdamOutAttnReferenceIdeal.nD Cert.AdamOutAttnReferenceIdeal.τ).loc Cert.AdamOutAttnReferenceIdeal.main_v26) = v1 c
          ∧ r.2.mem ((c.tc : Thread Cert.AdamOutAttnReferenceIdeal.nD Cert.AdamOutAttnReferenceIdeal.τ).loc Cert.AdamOutAttnReferenceIdeal.main_v7) = v2 c
          ∧ r.2.mem ((c.tc : Thread Cert.AdamOutAttnReferenceIdeal.nD Cert.AdamOutAttnReferenceIdeal.τ).loc Cert.AdamOutAttnReferenceIdeal.main_v13) = v3 c
          ∧ r.2.mem ((c.tc : Thread Cert.AdamOutAttnReferenceIdeal.nD Cert.AdamOutAttnReferenceIdeal.τ).loc Cert.AdamOutAttnReferenceIdeal.main_arg0) = m' ((c.tc : Thread Cert.AdamOutAttnReferenceIdeal.nD Cert.AdamOutAttnReferenceIdeal.τ).loc Cert.AdamOutAttnReferenceIdeal.main_arg0)
          ∧ r.2.mem ((c.tc : Thread Cert.AdamOutAttnReferenceIdeal.nD Cert.AdamOutAttnReferenceIdeal.τ).loc Cert.AdamOutAttnReferenceIdeal.main_arg1) = m' ((c.tc : Thread Cert.AdamOutAttnReferenceIdeal.nD Cert.AdamOutAttnReferenceIdeal.τ).loc Cert.AdamOutAttnReferenceIdeal.main_arg1)
          ∧ r.2.mem ((c.tc : Thread Cert.AdamOutAttnReferenceIdeal.nD Cert.AdamOutAttnReferenceIdeal.τ).loc Cert.AdamOutAttnReferenceIdeal.main_arg2) = m' ((c.tc : Thread Cert.AdamOutAttnReferenceIdeal.nD Cert.AdamOutAttnReferenceIdeal.τ).loc Cert.AdamOutAttnReferenceIdeal.main_arg2)
          ∧ r.2.mem ((c.tc : Thread Cert.AdamOutAttnReferenceIdeal.nD Cert.AdamOutAttnReferenceIdeal.τ).loc Cert.AdamOutAttnReferenceIdeal.main_arg3) = m' ((c.tc : Thread Cert.AdamOutAttnReferenceIdeal.nD Cert.AdamOutAttnReferenceIdeal.τ).loc Cert.AdamOutAttnReferenceIdeal.main_arg3))

def preserves_AdamInAttn_AdamInAttnIdeal : Prop :=
  True

def algebraic_AdamInAttnIdeal_AdamInAttnReferenceIdeal [hAdamInAttnIdeal : Cert.AdamInAttnIdeal.Facts] [hAdamInAttnReferenceIdeal : Cert.AdamInAttnReferenceIdeal.Facts] : Prop :=
  ∀ (m : (ℓ : Loc Cert.AdamInAttnIdeal.nD Cert.AdamInAttnIdeal.τ Cert.AdamInAttnIdeal.sig) → Buf (Elt Ideal) ℓ) (g : Dev Cert.AdamInAttnIdeal.nD → PrngReg)
    (m' : (ℓ : Loc Cert.AdamInAttnReferenceIdeal.nD Cert.AdamInAttnReferenceIdeal.τ Cert.AdamInAttnReferenceIdeal.sig) → Buf (Elt Ideal) ℓ) (g' : Dev Cert.AdamInAttnReferenceIdeal.nD → PrngReg), Pre_AdamInAttnIdeal m →
    (∀ c : Dev Cert.AdamInAttnIdeal.nD,
      m' ((c.tc : Thread Cert.AdamInAttnReferenceIdeal.nD Cert.AdamInAttnReferenceIdeal.τ).loc Cert.AdamInAttnReferenceIdeal.main_arg0) = m ((c.tc : Thread Cert.AdamInAttnIdeal.nD Cert.AdamInAttnIdeal.τ).loc Cert.AdamInAttnIdeal.main_arg0)
      ∧ m' ((c.tc : Thread Cert.AdamInAttnReferenceIdeal.nD Cert.AdamInAttnReferenceIdeal.τ).loc Cert.AdamInAttnReferenceIdeal.main_arg1) = m ((c.tc : Thread Cert.AdamInAttnIdeal.nD Cert.AdamInAttnIdeal.τ).loc Cert.AdamInAttnIdeal.main_arg1)
      ∧ m' ((c.tc : Thread Cert.AdamInAttnReferenceIdeal.nD Cert.AdamInAttnReferenceIdeal.τ).loc Cert.AdamInAttnReferenceIdeal.main_arg2) = m ((c.tc : Thread Cert.AdamInAttnIdeal.nD Cert.AdamInAttnIdeal.τ).loc Cert.AdamInAttnIdeal.main_arg2)
      ∧ m' ((c.tc : Thread Cert.AdamInAttnReferenceIdeal.nD Cert.AdamInAttnReferenceIdeal.τ).loc Cert.AdamInAttnReferenceIdeal.main_arg3) = m ((c.tc : Thread Cert.AdamInAttnIdeal.nD Cert.AdamInAttnIdeal.τ).loc Cert.AdamInAttnIdeal.main_arg3)
      ∧ m' ((c.tc : Thread Cert.AdamInAttnReferenceIdeal.nD Cert.AdamInAttnReferenceIdeal.τ).loc Cert.AdamInAttnReferenceIdeal.main_arg4) = m ((c.tc : Thread Cert.AdamInAttnIdeal.nD Cert.AdamInAttnIdeal.τ).loc Cert.AdamInAttnIdeal.main_arg4)
      ∧ m' ((c.tc : Thread Cert.AdamInAttnReferenceIdeal.nD Cert.AdamInAttnReferenceIdeal.τ).loc Cert.AdamInAttnReferenceIdeal.main_arg5) = m ((c.tc : Thread Cert.AdamInAttnIdeal.nD Cert.AdamInAttnIdeal.τ).loc Cert.AdamInAttnIdeal.main_arg5)
      ∧ m' ((c.tc : Thread Cert.AdamInAttnReferenceIdeal.nD Cert.AdamInAttnReferenceIdeal.τ).loc Cert.AdamInAttnReferenceIdeal.main_arg6) = m ((c.tc : Thread Cert.AdamInAttnIdeal.nD Cert.AdamInAttnIdeal.τ).loc Cert.AdamInAttnIdeal.main_arg6)
      ∧ m' ((c.tc : Thread Cert.AdamInAttnReferenceIdeal.nD Cert.AdamInAttnReferenceIdeal.τ).loc Cert.AdamInAttnReferenceIdeal.main_arg7) = m ((c.tc : Thread Cert.AdamInAttnIdeal.nD Cert.AdamInAttnIdeal.τ).loc Cert.AdamInAttnIdeal.main_arg7)) →
    ∃ (v0 : (c : Dev Cert.AdamInAttnIdeal.nD) → Buf (Elt Ideal) ((c.tc : Thread Cert.AdamInAttnIdeal.nD Cert.AdamInAttnIdeal.τ).loc Cert.AdamInAttnIdeal.main_v0_0)) (v1 : (c : Dev Cert.AdamInAttnIdeal.nD) → Buf (Elt Ideal) ((c.tc : Thread Cert.AdamInAttnIdeal.nD Cert.AdamInAttnIdeal.τ).loc Cert.AdamInAttnIdeal.main_v0_1)) (v2 : (c : Dev Cert.AdamInAttnIdeal.nD) → Buf (Elt Ideal) ((c.tc : Thread Cert.AdamInAttnIdeal.nD Cert.AdamInAttnIdeal.τ).loc Cert.AdamInAttnIdeal.main_v0_2)) (v3 : (c : Dev Cert.AdamInAttnIdeal.nD) → Buf (Elt Ideal) ((c.tc : Thread Cert.AdamInAttnIdeal.nD Cert.AdamInAttnIdeal.τ).loc Cert.AdamInAttnIdeal.main_v0_3)),
      θ_run (Cert.AdamInAttnIdeal.defs (F := Ideal)) (onTc (τ := Cert.AdamInAttnIdeal.τ) (Cert.AdamInAttnIdeal.main (F := Ideal))) ⟨m, fun _ => 0, g⟩ (fun r => ∀ c : Dev Cert.AdamInAttnIdeal.nD,
          r.2.mem ((c.tc : Thread Cert.AdamInAttnIdeal.nD Cert.AdamInAttnIdeal.τ).loc Cert.AdamInAttnIdeal.main_v0_0) = v0 c
          ∧ r.2.mem ((c.tc : Thread Cert.AdamInAttnIdeal.nD Cert.AdamInAttnIdeal.τ).loc Cert.AdamInAttnIdeal.main_v0_1) = v1 c
          ∧ r.2.mem ((c.tc : Thread Cert.AdamInAttnIdeal.nD Cert.AdamInAttnIdeal.τ).loc Cert.AdamInAttnIdeal.main_v0_2) = v2 c
          ∧ r.2.mem ((c.tc : Thread Cert.AdamInAttnIdeal.nD Cert.AdamInAttnIdeal.τ).loc Cert.AdamInAttnIdeal.main_v0_3) = v3 c
          ∧ r.2.mem ((c.tc : Thread Cert.AdamInAttnIdeal.nD Cert.AdamInAttnIdeal.τ).loc Cert.AdamInAttnIdeal.main_arg0) = m ((c.tc : Thread Cert.AdamInAttnIdeal.nD Cert.AdamInAttnIdeal.τ).loc Cert.AdamInAttnIdeal.main_arg0)
          ∧ r.2.mem ((c.tc : Thread Cert.AdamInAttnIdeal.nD Cert.AdamInAttnIdeal.τ).loc Cert.AdamInAttnIdeal.main_arg1) = m ((c.tc : Thread Cert.AdamInAttnIdeal.nD Cert.AdamInAttnIdeal.τ).loc Cert.AdamInAttnIdeal.main_arg1)
          ∧ r.2.mem ((c.tc : Thread Cert.AdamInAttnIdeal.nD Cert.AdamInAttnIdeal.τ).loc Cert.AdamInAttnIdeal.main_arg2) = m ((c.tc : Thread Cert.AdamInAttnIdeal.nD Cert.AdamInAttnIdeal.τ).loc Cert.AdamInAttnIdeal.main_arg2)
          ∧ r.2.mem ((c.tc : Thread Cert.AdamInAttnIdeal.nD Cert.AdamInAttnIdeal.τ).loc Cert.AdamInAttnIdeal.main_arg3) = m ((c.tc : Thread Cert.AdamInAttnIdeal.nD Cert.AdamInAttnIdeal.τ).loc Cert.AdamInAttnIdeal.main_arg3)
          ∧ r.2.mem ((c.tc : Thread Cert.AdamInAttnIdeal.nD Cert.AdamInAttnIdeal.τ).loc Cert.AdamInAttnIdeal.main_arg4) = m ((c.tc : Thread Cert.AdamInAttnIdeal.nD Cert.AdamInAttnIdeal.τ).loc Cert.AdamInAttnIdeal.main_arg4)
          ∧ r.2.mem ((c.tc : Thread Cert.AdamInAttnIdeal.nD Cert.AdamInAttnIdeal.τ).loc Cert.AdamInAttnIdeal.main_arg5) = m ((c.tc : Thread Cert.AdamInAttnIdeal.nD Cert.AdamInAttnIdeal.τ).loc Cert.AdamInAttnIdeal.main_arg5)
          ∧ r.2.mem ((c.tc : Thread Cert.AdamInAttnIdeal.nD Cert.AdamInAttnIdeal.τ).loc Cert.AdamInAttnIdeal.main_arg6) = m ((c.tc : Thread Cert.AdamInAttnIdeal.nD Cert.AdamInAttnIdeal.τ).loc Cert.AdamInAttnIdeal.main_arg6)
          ∧ r.2.mem ((c.tc : Thread Cert.AdamInAttnIdeal.nD Cert.AdamInAttnIdeal.τ).loc Cert.AdamInAttnIdeal.main_arg7) = m ((c.tc : Thread Cert.AdamInAttnIdeal.nD Cert.AdamInAttnIdeal.τ).loc Cert.AdamInAttnIdeal.main_arg7))
      ∧ θ_run (Cert.AdamInAttnReferenceIdeal.defs (F := Ideal)) (onTc (τ := Cert.AdamInAttnReferenceIdeal.τ) (Cert.AdamInAttnReferenceIdeal.main (F := Ideal))) ⟨m', fun _ => 0, g'⟩ (fun r => ∀ c : Dev Cert.AdamInAttnReferenceIdeal.nD,
          r.2.mem ((c.tc : Thread Cert.AdamInAttnReferenceIdeal.nD Cert.AdamInAttnReferenceIdeal.τ).loc Cert.AdamInAttnReferenceIdeal.main_v14) = v0 c
          ∧ r.2.mem ((c.tc : Thread Cert.AdamInAttnReferenceIdeal.nD Cert.AdamInAttnReferenceIdeal.τ).loc Cert.AdamInAttnReferenceIdeal.main_v38) = v1 c
          ∧ r.2.mem ((c.tc : Thread Cert.AdamInAttnReferenceIdeal.nD Cert.AdamInAttnReferenceIdeal.τ).loc Cert.AdamInAttnReferenceIdeal.main_v19) = v2 c
          ∧ r.2.mem ((c.tc : Thread Cert.AdamInAttnReferenceIdeal.nD Cert.AdamInAttnReferenceIdeal.τ).loc Cert.AdamInAttnReferenceIdeal.main_v25) = v3 c
          ∧ r.2.mem ((c.tc : Thread Cert.AdamInAttnReferenceIdeal.nD Cert.AdamInAttnReferenceIdeal.τ).loc Cert.AdamInAttnReferenceIdeal.main_arg0) = m' ((c.tc : Thread Cert.AdamInAttnReferenceIdeal.nD Cert.AdamInAttnReferenceIdeal.τ).loc Cert.AdamInAttnReferenceIdeal.main_arg0)
          ∧ r.2.mem ((c.tc : Thread Cert.AdamInAttnReferenceIdeal.nD Cert.AdamInAttnReferenceIdeal.τ).loc Cert.AdamInAttnReferenceIdeal.main_arg1) = m' ((c.tc : Thread Cert.AdamInAttnReferenceIdeal.nD Cert.AdamInAttnReferenceIdeal.τ).loc Cert.AdamInAttnReferenceIdeal.main_arg1)
          ∧ r.2.mem ((c.tc : Thread Cert.AdamInAttnReferenceIdeal.nD Cert.AdamInAttnReferenceIdeal.τ).loc Cert.AdamInAttnReferenceIdeal.main_arg2) = m' ((c.tc : Thread Cert.AdamInAttnReferenceIdeal.nD Cert.AdamInAttnReferenceIdeal.τ).loc Cert.AdamInAttnReferenceIdeal.main_arg2)
          ∧ r.2.mem ((c.tc : Thread Cert.AdamInAttnReferenceIdeal.nD Cert.AdamInAttnReferenceIdeal.τ).loc Cert.AdamInAttnReferenceIdeal.main_arg3) = m' ((c.tc : Thread Cert.AdamInAttnReferenceIdeal.nD Cert.AdamInAttnReferenceIdeal.τ).loc Cert.AdamInAttnReferenceIdeal.main_arg3)
          ∧ r.2.mem ((c.tc : Thread Cert.AdamInAttnReferenceIdeal.nD Cert.AdamInAttnReferenceIdeal.τ).loc Cert.AdamInAttnReferenceIdeal.main_arg4) = m' ((c.tc : Thread Cert.AdamInAttnReferenceIdeal.nD Cert.AdamInAttnReferenceIdeal.τ).loc Cert.AdamInAttnReferenceIdeal.main_arg4)
          ∧ r.2.mem ((c.tc : Thread Cert.AdamInAttnReferenceIdeal.nD Cert.AdamInAttnReferenceIdeal.τ).loc Cert.AdamInAttnReferenceIdeal.main_arg5) = m' ((c.tc : Thread Cert.AdamInAttnReferenceIdeal.nD Cert.AdamInAttnReferenceIdeal.τ).loc Cert.AdamInAttnReferenceIdeal.main_arg5)
          ∧ r.2.mem ((c.tc : Thread Cert.AdamInAttnReferenceIdeal.nD Cert.AdamInAttnReferenceIdeal.τ).loc Cert.AdamInAttnReferenceIdeal.main_arg6) = m' ((c.tc : Thread Cert.AdamInAttnReferenceIdeal.nD Cert.AdamInAttnReferenceIdeal.τ).loc Cert.AdamInAttnReferenceIdeal.main_arg6)
          ∧ r.2.mem ((c.tc : Thread Cert.AdamInAttnReferenceIdeal.nD Cert.AdamInAttnReferenceIdeal.τ).loc Cert.AdamInAttnReferenceIdeal.main_arg7) = m' ((c.tc : Thread Cert.AdamInAttnReferenceIdeal.nD Cert.AdamInAttnReferenceIdeal.τ).loc Cert.AdamInAttnReferenceIdeal.main_arg7))

def preserves_AdamOutSsm_AdamOutSsmIdeal : Prop :=
  True

def algebraic_AdamOutSsmIdeal_AdamOutSsmReferenceIdeal [hAdamOutSsmIdeal : Cert.AdamOutSsmIdeal.Facts] [hAdamOutSsmReferenceIdeal : Cert.AdamOutSsmReferenceIdeal.Facts] : Prop :=
  ∀ (m : (ℓ : Loc Cert.AdamOutSsmIdeal.nD Cert.AdamOutSsmIdeal.τ Cert.AdamOutSsmIdeal.sig) → Buf (Elt Ideal) ℓ) (g : Dev Cert.AdamOutSsmIdeal.nD → PrngReg)
    (m' : (ℓ : Loc Cert.AdamOutSsmReferenceIdeal.nD Cert.AdamOutSsmReferenceIdeal.τ Cert.AdamOutSsmReferenceIdeal.sig) → Buf (Elt Ideal) ℓ) (g' : Dev Cert.AdamOutSsmReferenceIdeal.nD → PrngReg), Pre_AdamOutSsmIdeal m →
    (∀ c : Dev Cert.AdamOutSsmIdeal.nD,
      m' ((c.tc : Thread Cert.AdamOutSsmReferenceIdeal.nD Cert.AdamOutSsmReferenceIdeal.τ).loc Cert.AdamOutSsmReferenceIdeal.main_arg0) = m ((c.tc : Thread Cert.AdamOutSsmIdeal.nD Cert.AdamOutSsmIdeal.τ).loc Cert.AdamOutSsmIdeal.main_arg0)
      ∧ m' ((c.tc : Thread Cert.AdamOutSsmReferenceIdeal.nD Cert.AdamOutSsmReferenceIdeal.τ).loc Cert.AdamOutSsmReferenceIdeal.main_arg1) = m ((c.tc : Thread Cert.AdamOutSsmIdeal.nD Cert.AdamOutSsmIdeal.τ).loc Cert.AdamOutSsmIdeal.main_arg1)
      ∧ m' ((c.tc : Thread Cert.AdamOutSsmReferenceIdeal.nD Cert.AdamOutSsmReferenceIdeal.τ).loc Cert.AdamOutSsmReferenceIdeal.main_arg2) = m ((c.tc : Thread Cert.AdamOutSsmIdeal.nD Cert.AdamOutSsmIdeal.τ).loc Cert.AdamOutSsmIdeal.main_arg2)
      ∧ m' ((c.tc : Thread Cert.AdamOutSsmReferenceIdeal.nD Cert.AdamOutSsmReferenceIdeal.τ).loc Cert.AdamOutSsmReferenceIdeal.main_arg3) = m ((c.tc : Thread Cert.AdamOutSsmIdeal.nD Cert.AdamOutSsmIdeal.τ).loc Cert.AdamOutSsmIdeal.main_arg3)) →
    ∃ (v0 : (c : Dev Cert.AdamOutSsmIdeal.nD) → Buf (Elt Ideal) ((c.tc : Thread Cert.AdamOutSsmIdeal.nD Cert.AdamOutSsmIdeal.τ).loc Cert.AdamOutSsmIdeal.main_v0_0)) (v1 : (c : Dev Cert.AdamOutSsmIdeal.nD) → Buf (Elt Ideal) ((c.tc : Thread Cert.AdamOutSsmIdeal.nD Cert.AdamOutSsmIdeal.τ).loc Cert.AdamOutSsmIdeal.main_v0_1)) (v2 : (c : Dev Cert.AdamOutSsmIdeal.nD) → Buf (Elt Ideal) ((c.tc : Thread Cert.AdamOutSsmIdeal.nD Cert.AdamOutSsmIdeal.τ).loc Cert.AdamOutSsmIdeal.main_v0_2)) (v3 : (c : Dev Cert.AdamOutSsmIdeal.nD) → Buf (Elt Ideal) ((c.tc : Thread Cert.AdamOutSsmIdeal.nD Cert.AdamOutSsmIdeal.τ).loc Cert.AdamOutSsmIdeal.main_v0_3)),
      θ_run (Cert.AdamOutSsmIdeal.defs (F := Ideal)) (onTc (τ := Cert.AdamOutSsmIdeal.τ) (Cert.AdamOutSsmIdeal.main (F := Ideal))) ⟨m, fun _ => 0, g⟩ (fun r => ∀ c : Dev Cert.AdamOutSsmIdeal.nD,
          r.2.mem ((c.tc : Thread Cert.AdamOutSsmIdeal.nD Cert.AdamOutSsmIdeal.τ).loc Cert.AdamOutSsmIdeal.main_v0_0) = v0 c
          ∧ r.2.mem ((c.tc : Thread Cert.AdamOutSsmIdeal.nD Cert.AdamOutSsmIdeal.τ).loc Cert.AdamOutSsmIdeal.main_v0_1) = v1 c
          ∧ r.2.mem ((c.tc : Thread Cert.AdamOutSsmIdeal.nD Cert.AdamOutSsmIdeal.τ).loc Cert.AdamOutSsmIdeal.main_v0_2) = v2 c
          ∧ r.2.mem ((c.tc : Thread Cert.AdamOutSsmIdeal.nD Cert.AdamOutSsmIdeal.τ).loc Cert.AdamOutSsmIdeal.main_v0_3) = v3 c
          ∧ r.2.mem ((c.tc : Thread Cert.AdamOutSsmIdeal.nD Cert.AdamOutSsmIdeal.τ).loc Cert.AdamOutSsmIdeal.main_arg0) = m ((c.tc : Thread Cert.AdamOutSsmIdeal.nD Cert.AdamOutSsmIdeal.τ).loc Cert.AdamOutSsmIdeal.main_arg0)
          ∧ r.2.mem ((c.tc : Thread Cert.AdamOutSsmIdeal.nD Cert.AdamOutSsmIdeal.τ).loc Cert.AdamOutSsmIdeal.main_arg1) = m ((c.tc : Thread Cert.AdamOutSsmIdeal.nD Cert.AdamOutSsmIdeal.τ).loc Cert.AdamOutSsmIdeal.main_arg1)
          ∧ r.2.mem ((c.tc : Thread Cert.AdamOutSsmIdeal.nD Cert.AdamOutSsmIdeal.τ).loc Cert.AdamOutSsmIdeal.main_arg2) = m ((c.tc : Thread Cert.AdamOutSsmIdeal.nD Cert.AdamOutSsmIdeal.τ).loc Cert.AdamOutSsmIdeal.main_arg2)
          ∧ r.2.mem ((c.tc : Thread Cert.AdamOutSsmIdeal.nD Cert.AdamOutSsmIdeal.τ).loc Cert.AdamOutSsmIdeal.main_arg3) = m ((c.tc : Thread Cert.AdamOutSsmIdeal.nD Cert.AdamOutSsmIdeal.τ).loc Cert.AdamOutSsmIdeal.main_arg3))
      ∧ θ_run (Cert.AdamOutSsmReferenceIdeal.defs (F := Ideal)) (onTc (τ := Cert.AdamOutSsmReferenceIdeal.τ) (Cert.AdamOutSsmReferenceIdeal.main (F := Ideal))) ⟨m', fun _ => 0, g'⟩ (fun r => ∀ c : Dev Cert.AdamOutSsmReferenceIdeal.nD,
          r.2.mem ((c.tc : Thread Cert.AdamOutSsmReferenceIdeal.nD Cert.AdamOutSsmReferenceIdeal.τ).loc Cert.AdamOutSsmReferenceIdeal.main_v2) = v0 c
          ∧ r.2.mem ((c.tc : Thread Cert.AdamOutSsmReferenceIdeal.nD Cert.AdamOutSsmReferenceIdeal.τ).loc Cert.AdamOutSsmReferenceIdeal.main_v26) = v1 c
          ∧ r.2.mem ((c.tc : Thread Cert.AdamOutSsmReferenceIdeal.nD Cert.AdamOutSsmReferenceIdeal.τ).loc Cert.AdamOutSsmReferenceIdeal.main_v7) = v2 c
          ∧ r.2.mem ((c.tc : Thread Cert.AdamOutSsmReferenceIdeal.nD Cert.AdamOutSsmReferenceIdeal.τ).loc Cert.AdamOutSsmReferenceIdeal.main_v13) = v3 c
          ∧ r.2.mem ((c.tc : Thread Cert.AdamOutSsmReferenceIdeal.nD Cert.AdamOutSsmReferenceIdeal.τ).loc Cert.AdamOutSsmReferenceIdeal.main_arg0) = m' ((c.tc : Thread Cert.AdamOutSsmReferenceIdeal.nD Cert.AdamOutSsmReferenceIdeal.τ).loc Cert.AdamOutSsmReferenceIdeal.main_arg0)
          ∧ r.2.mem ((c.tc : Thread Cert.AdamOutSsmReferenceIdeal.nD Cert.AdamOutSsmReferenceIdeal.τ).loc Cert.AdamOutSsmReferenceIdeal.main_arg1) = m' ((c.tc : Thread Cert.AdamOutSsmReferenceIdeal.nD Cert.AdamOutSsmReferenceIdeal.τ).loc Cert.AdamOutSsmReferenceIdeal.main_arg1)
          ∧ r.2.mem ((c.tc : Thread Cert.AdamOutSsmReferenceIdeal.nD Cert.AdamOutSsmReferenceIdeal.τ).loc Cert.AdamOutSsmReferenceIdeal.main_arg2) = m' ((c.tc : Thread Cert.AdamOutSsmReferenceIdeal.nD Cert.AdamOutSsmReferenceIdeal.τ).loc Cert.AdamOutSsmReferenceIdeal.main_arg2)
          ∧ r.2.mem ((c.tc : Thread Cert.AdamOutSsmReferenceIdeal.nD Cert.AdamOutSsmReferenceIdeal.τ).loc Cert.AdamOutSsmReferenceIdeal.main_arg3) = m' ((c.tc : Thread Cert.AdamOutSsmReferenceIdeal.nD Cert.AdamOutSsmReferenceIdeal.τ).loc Cert.AdamOutSsmReferenceIdeal.main_arg3))

def preserves_AdamInSsm_AdamInSsmIdeal : Prop :=
  True

def algebraic_AdamInSsmIdeal_AdamInSsmReferenceIdeal [hAdamInSsmIdeal : Cert.AdamInSsmIdeal.Facts] [hAdamInSsmReferenceIdeal : Cert.AdamInSsmReferenceIdeal.Facts] : Prop :=
  ∀ (m : (ℓ : Loc Cert.AdamInSsmIdeal.nD Cert.AdamInSsmIdeal.τ Cert.AdamInSsmIdeal.sig) → Buf (Elt Ideal) ℓ) (g : Dev Cert.AdamInSsmIdeal.nD → PrngReg)
    (m' : (ℓ : Loc Cert.AdamInSsmReferenceIdeal.nD Cert.AdamInSsmReferenceIdeal.τ Cert.AdamInSsmReferenceIdeal.sig) → Buf (Elt Ideal) ℓ) (g' : Dev Cert.AdamInSsmReferenceIdeal.nD → PrngReg), Pre_AdamInSsmIdeal m →
    (∀ c : Dev Cert.AdamInSsmIdeal.nD,
      m' ((c.tc : Thread Cert.AdamInSsmReferenceIdeal.nD Cert.AdamInSsmReferenceIdeal.τ).loc Cert.AdamInSsmReferenceIdeal.main_arg0) = m ((c.tc : Thread Cert.AdamInSsmIdeal.nD Cert.AdamInSsmIdeal.τ).loc Cert.AdamInSsmIdeal.main_arg0)
      ∧ m' ((c.tc : Thread Cert.AdamInSsmReferenceIdeal.nD Cert.AdamInSsmReferenceIdeal.τ).loc Cert.AdamInSsmReferenceIdeal.main_arg1) = m ((c.tc : Thread Cert.AdamInSsmIdeal.nD Cert.AdamInSsmIdeal.τ).loc Cert.AdamInSsmIdeal.main_arg1)
      ∧ m' ((c.tc : Thread Cert.AdamInSsmReferenceIdeal.nD Cert.AdamInSsmReferenceIdeal.τ).loc Cert.AdamInSsmReferenceIdeal.main_arg2) = m ((c.tc : Thread Cert.AdamInSsmIdeal.nD Cert.AdamInSsmIdeal.τ).loc Cert.AdamInSsmIdeal.main_arg2)
      ∧ m' ((c.tc : Thread Cert.AdamInSsmReferenceIdeal.nD Cert.AdamInSsmReferenceIdeal.τ).loc Cert.AdamInSsmReferenceIdeal.main_arg3) = m ((c.tc : Thread Cert.AdamInSsmIdeal.nD Cert.AdamInSsmIdeal.τ).loc Cert.AdamInSsmIdeal.main_arg3)
      ∧ m' ((c.tc : Thread Cert.AdamInSsmReferenceIdeal.nD Cert.AdamInSsmReferenceIdeal.τ).loc Cert.AdamInSsmReferenceIdeal.main_arg4) = m ((c.tc : Thread Cert.AdamInSsmIdeal.nD Cert.AdamInSsmIdeal.τ).loc Cert.AdamInSsmIdeal.main_arg4)
      ∧ m' ((c.tc : Thread Cert.AdamInSsmReferenceIdeal.nD Cert.AdamInSsmReferenceIdeal.τ).loc Cert.AdamInSsmReferenceIdeal.main_arg5) = m ((c.tc : Thread Cert.AdamInSsmIdeal.nD Cert.AdamInSsmIdeal.τ).loc Cert.AdamInSsmIdeal.main_arg5)) →
    ∃ (v0 : (c : Dev Cert.AdamInSsmIdeal.nD) → Buf (Elt Ideal) ((c.tc : Thread Cert.AdamInSsmIdeal.nD Cert.AdamInSsmIdeal.τ).loc Cert.AdamInSsmIdeal.main_v0_0)) (v1 : (c : Dev Cert.AdamInSsmIdeal.nD) → Buf (Elt Ideal) ((c.tc : Thread Cert.AdamInSsmIdeal.nD Cert.AdamInSsmIdeal.τ).loc Cert.AdamInSsmIdeal.main_v0_1)) (v2 : (c : Dev Cert.AdamInSsmIdeal.nD) → Buf (Elt Ideal) ((c.tc : Thread Cert.AdamInSsmIdeal.nD Cert.AdamInSsmIdeal.τ).loc Cert.AdamInSsmIdeal.main_v0_2)) (v3 : (c : Dev Cert.AdamInSsmIdeal.nD) → Buf (Elt Ideal) ((c.tc : Thread Cert.AdamInSsmIdeal.nD Cert.AdamInSsmIdeal.τ).loc Cert.AdamInSsmIdeal.main_v0_3)),
      θ_run (Cert.AdamInSsmIdeal.defs (F := Ideal)) (onTc (τ := Cert.AdamInSsmIdeal.τ) (Cert.AdamInSsmIdeal.main (F := Ideal))) ⟨m, fun _ => 0, g⟩ (fun r => ∀ c : Dev Cert.AdamInSsmIdeal.nD,
          r.2.mem ((c.tc : Thread Cert.AdamInSsmIdeal.nD Cert.AdamInSsmIdeal.τ).loc Cert.AdamInSsmIdeal.main_v0_0) = v0 c
          ∧ r.2.mem ((c.tc : Thread Cert.AdamInSsmIdeal.nD Cert.AdamInSsmIdeal.τ).loc Cert.AdamInSsmIdeal.main_v0_1) = v1 c
          ∧ r.2.mem ((c.tc : Thread Cert.AdamInSsmIdeal.nD Cert.AdamInSsmIdeal.τ).loc Cert.AdamInSsmIdeal.main_v0_2) = v2 c
          ∧ r.2.mem ((c.tc : Thread Cert.AdamInSsmIdeal.nD Cert.AdamInSsmIdeal.τ).loc Cert.AdamInSsmIdeal.main_v0_3) = v3 c
          ∧ r.2.mem ((c.tc : Thread Cert.AdamInSsmIdeal.nD Cert.AdamInSsmIdeal.τ).loc Cert.AdamInSsmIdeal.main_arg0) = m ((c.tc : Thread Cert.AdamInSsmIdeal.nD Cert.AdamInSsmIdeal.τ).loc Cert.AdamInSsmIdeal.main_arg0)
          ∧ r.2.mem ((c.tc : Thread Cert.AdamInSsmIdeal.nD Cert.AdamInSsmIdeal.τ).loc Cert.AdamInSsmIdeal.main_arg1) = m ((c.tc : Thread Cert.AdamInSsmIdeal.nD Cert.AdamInSsmIdeal.τ).loc Cert.AdamInSsmIdeal.main_arg1)
          ∧ r.2.mem ((c.tc : Thread Cert.AdamInSsmIdeal.nD Cert.AdamInSsmIdeal.τ).loc Cert.AdamInSsmIdeal.main_arg2) = m ((c.tc : Thread Cert.AdamInSsmIdeal.nD Cert.AdamInSsmIdeal.τ).loc Cert.AdamInSsmIdeal.main_arg2)
          ∧ r.2.mem ((c.tc : Thread Cert.AdamInSsmIdeal.nD Cert.AdamInSsmIdeal.τ).loc Cert.AdamInSsmIdeal.main_arg3) = m ((c.tc : Thread Cert.AdamInSsmIdeal.nD Cert.AdamInSsmIdeal.τ).loc Cert.AdamInSsmIdeal.main_arg3)
          ∧ r.2.mem ((c.tc : Thread Cert.AdamInSsmIdeal.nD Cert.AdamInSsmIdeal.τ).loc Cert.AdamInSsmIdeal.main_arg4) = m ((c.tc : Thread Cert.AdamInSsmIdeal.nD Cert.AdamInSsmIdeal.τ).loc Cert.AdamInSsmIdeal.main_arg4)
          ∧ r.2.mem ((c.tc : Thread Cert.AdamInSsmIdeal.nD Cert.AdamInSsmIdeal.τ).loc Cert.AdamInSsmIdeal.main_arg5) = m ((c.tc : Thread Cert.AdamInSsmIdeal.nD Cert.AdamInSsmIdeal.τ).loc Cert.AdamInSsmIdeal.main_arg5))
      ∧ θ_run (Cert.AdamInSsmReferenceIdeal.defs (F := Ideal)) (onTc (τ := Cert.AdamInSsmReferenceIdeal.τ) (Cert.AdamInSsmReferenceIdeal.main (F := Ideal))) ⟨m', fun _ => 0, g'⟩ (fun r => ∀ c : Dev Cert.AdamInSsmReferenceIdeal.nD,
          r.2.mem ((c.tc : Thread Cert.AdamInSsmReferenceIdeal.nD Cert.AdamInSsmReferenceIdeal.τ).loc Cert.AdamInSsmReferenceIdeal.main_v8) = v0 c
          ∧ r.2.mem ((c.tc : Thread Cert.AdamInSsmReferenceIdeal.nD Cert.AdamInSsmReferenceIdeal.τ).loc Cert.AdamInSsmReferenceIdeal.main_v32) = v1 c
          ∧ r.2.mem ((c.tc : Thread Cert.AdamInSsmReferenceIdeal.nD Cert.AdamInSsmReferenceIdeal.τ).loc Cert.AdamInSsmReferenceIdeal.main_v13) = v2 c
          ∧ r.2.mem ((c.tc : Thread Cert.AdamInSsmReferenceIdeal.nD Cert.AdamInSsmReferenceIdeal.τ).loc Cert.AdamInSsmReferenceIdeal.main_v19) = v3 c
          ∧ r.2.mem ((c.tc : Thread Cert.AdamInSsmReferenceIdeal.nD Cert.AdamInSsmReferenceIdeal.τ).loc Cert.AdamInSsmReferenceIdeal.main_arg0) = m' ((c.tc : Thread Cert.AdamInSsmReferenceIdeal.nD Cert.AdamInSsmReferenceIdeal.τ).loc Cert.AdamInSsmReferenceIdeal.main_arg0)
          ∧ r.2.mem ((c.tc : Thread Cert.AdamInSsmReferenceIdeal.nD Cert.AdamInSsmReferenceIdeal.τ).loc Cert.AdamInSsmReferenceIdeal.main_arg1) = m' ((c.tc : Thread Cert.AdamInSsmReferenceIdeal.nD Cert.AdamInSsmReferenceIdeal.τ).loc Cert.AdamInSsmReferenceIdeal.main_arg1)
          ∧ r.2.mem ((c.tc : Thread Cert.AdamInSsmReferenceIdeal.nD Cert.AdamInSsmReferenceIdeal.τ).loc Cert.AdamInSsmReferenceIdeal.main_arg2) = m' ((c.tc : Thread Cert.AdamInSsmReferenceIdeal.nD Cert.AdamInSsmReferenceIdeal.τ).loc Cert.AdamInSsmReferenceIdeal.main_arg2)
          ∧ r.2.mem ((c.tc : Thread Cert.AdamInSsmReferenceIdeal.nD Cert.AdamInSsmReferenceIdeal.τ).loc Cert.AdamInSsmReferenceIdeal.main_arg3) = m' ((c.tc : Thread Cert.AdamInSsmReferenceIdeal.nD Cert.AdamInSsmReferenceIdeal.τ).loc Cert.AdamInSsmReferenceIdeal.main_arg3)
          ∧ r.2.mem ((c.tc : Thread Cert.AdamInSsmReferenceIdeal.nD Cert.AdamInSsmReferenceIdeal.τ).loc Cert.AdamInSsmReferenceIdeal.main_arg4) = m' ((c.tc : Thread Cert.AdamInSsmReferenceIdeal.nD Cert.AdamInSsmReferenceIdeal.τ).loc Cert.AdamInSsmReferenceIdeal.main_arg4)
          ∧ r.2.mem ((c.tc : Thread Cert.AdamInSsmReferenceIdeal.nD Cert.AdamInSsmReferenceIdeal.τ).loc Cert.AdamInSsmReferenceIdeal.main_arg5) = m' ((c.tc : Thread Cert.AdamInSsmReferenceIdeal.nD Cert.AdamInSsmReferenceIdeal.τ).loc Cert.AdamInSsmReferenceIdeal.main_arg5))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_4) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v36) = v0 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_LnFwd_LnFwdIdeal : Prop :=
  True

def algebraic_LnFwdIdeal_LnFwdReferenceIdeal [hLnFwdIdeal : Cert.LnFwdIdeal.Facts] [hLnFwdReferenceIdeal : Cert.LnFwdReferenceIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdReferenceIdeal.nD Cert.LnFwdReferenceIdeal.τ Cert.LnFwdReferenceIdeal.sig) → Buf (Elt Ideal) ℓ) (g' : Dev Cert.LnFwdReferenceIdeal.nD → PrngReg), Pre_LnFwdIdeal m →
    (∀ c : Dev Cert.LnFwdIdeal.nD,
      m' ((c.tc : Thread Cert.LnFwdReferenceIdeal.nD Cert.LnFwdReferenceIdeal.τ).loc Cert.LnFwdReferenceIdeal.main_arg0) = m ((c.tc : Thread Cert.LnFwdIdeal.nD Cert.LnFwdIdeal.τ).loc Cert.LnFwdIdeal.main_arg0)
      ∧ m' ((c.tc : Thread Cert.LnFwdReferenceIdeal.nD Cert.LnFwdReferenceIdeal.τ).loc Cert.LnFwdReferenceIdeal.main_arg1) = m ((c.tc : Thread Cert.LnFwdIdeal.nD Cert.LnFwdIdeal.τ).loc Cert.LnFwdIdeal.main_arg1)
      ∧ m' ((c.tc : Thread Cert.LnFwdReferenceIdeal.nD Cert.LnFwdReferenceIdeal.τ).loc Cert.LnFwdReferenceIdeal.main_arg2) = m ((c.tc : Thread Cert.LnFwdIdeal.nD Cert.LnFwdIdeal.τ).loc Cert.LnFwdIdeal.main_arg2)
      ∧ m' ((c.tc : Thread Cert.LnFwdReferenceIdeal.nD Cert.LnFwdReferenceIdeal.τ).loc Cert.LnFwdReferenceIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdReferenceIdeal.defs (F := Ideal)) (onTc (τ := Cert.LnFwdReferenceIdeal.τ) (Cert.LnFwdReferenceIdeal.main (F := Ideal))) ⟨m', fun _ => 0, g'⟩ (fun r => ∀ c : Dev Cert.LnFwdReferenceIdeal.nD,
          r.2.mem ((c.tc : Thread Cert.LnFwdReferenceIdeal.nD Cert.LnFwdReferenceIdeal.τ).loc Cert.LnFwdReferenceIdeal.main_v28) = v0 c
          ∧ r.2.mem ((c.tc : Thread Cert.LnFwdReferenceIdeal.nD Cert.LnFwdReferenceIdeal.τ).loc Cert.LnFwdReferenceIdeal.main_v29) = v1 c
          ∧ r.2.mem ((c.tc : Thread Cert.LnFwdReferenceIdeal.nD Cert.LnFwdReferenceIdeal.τ).loc Cert.LnFwdReferenceIdeal.main_arg0) = m' ((c.tc : Thread Cert.LnFwdReferenceIdeal.nD Cert.LnFwdReferenceIdeal.τ).loc Cert.LnFwdReferenceIdeal.main_arg0)
          ∧ r.2.mem ((c.tc : Thread Cert.LnFwdReferenceIdeal.nD Cert.LnFwdReferenceIdeal.τ).loc Cert.LnFwdReferenceIdeal.main_arg1) = m' ((c.tc : Thread Cert.LnFwdReferenceIdeal.nD Cert.LnFwdReferenceIdeal.τ).loc Cert.LnFwdReferenceIdeal.main_arg1)
          ∧ r.2.mem ((c.tc : Thread Cert.LnFwdReferenceIdeal.nD Cert.LnFwdReferenceIdeal.τ).loc Cert.LnFwdReferenceIdeal.main_arg2) = m' ((c.tc : Thread Cert.LnFwdReferenceIdeal.nD Cert.LnFwdReferenceIdeal.τ).loc Cert.LnFwdReferenceIdeal.main_arg2)
          ∧ r.2.mem ((c.tc : Thread Cert.LnFwdReferenceIdeal.nD Cert.LnFwdReferenceIdeal.τ).loc Cert.LnFwdReferenceIdeal.main_arg3) = m' ((c.tc : Thread Cert.LnFwdReferenceIdeal.nD Cert.LnFwdReferenceIdeal.τ).loc Cert.LnFwdReferenceIdeal.main_arg3))

def preserves_Dt_DtIdeal : Prop :=
  True

def algebraic_DtIdeal_DtReferenceIdeal [hDtIdeal : Cert.DtIdeal.Facts] [hDtReferenceIdeal : Cert.DtReferenceIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtReferenceIdeal.nD Cert.DtReferenceIdeal.τ Cert.DtReferenceIdeal.sig) → Buf (Elt Ideal) ℓ) (g' : Dev Cert.DtReferenceIdeal.nD → PrngReg), Pre_DtIdeal m →
    (∀ c : Dev Cert.DtIdeal.nD,
      m' ((c.tc : Thread Cert.DtReferenceIdeal.nD Cert.DtReferenceIdeal.τ).loc Cert.DtReferenceIdeal.main_arg0) = m ((c.tc : Thread Cert.DtIdeal.nD Cert.DtIdeal.τ).loc Cert.DtIdeal.main_arg0)
      ∧ m' ((c.tc : Thread Cert.DtReferenceIdeal.nD Cert.DtReferenceIdeal.τ).loc Cert.DtReferenceIdeal.main_arg1) = m ((c.tc : Thread Cert.DtIdeal.nD Cert.DtIdeal.τ).loc Cert.DtIdeal.main_arg1)) →
    ∃ (v0 : (c : Dev Cert.DtIdeal.nD) → Buf (Elt Ideal) ((c.tc : Thread Cert.DtIdeal.nD Cert.DtIdeal.τ).loc Cert.DtIdeal.main_v0)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v0) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ θ_run (Cert.DtReferenceIdeal.defs (F := Ideal)) (onTc (τ := Cert.DtReferenceIdeal.τ) (Cert.DtReferenceIdeal.main (F := Ideal))) ⟨m', fun _ => 0, g'⟩ (fun r => ∀ c : Dev Cert.DtReferenceIdeal.nD,
          r.2.mem ((c.tc : Thread Cert.DtReferenceIdeal.nD Cert.DtReferenceIdeal.τ).loc Cert.DtReferenceIdeal.main_v3) = v0 c
          ∧ r.2.mem ((c.tc : Thread Cert.DtReferenceIdeal.nD Cert.DtReferenceIdeal.τ).loc Cert.DtReferenceIdeal.main_arg0) = m' ((c.tc : Thread Cert.DtReferenceIdeal.nD Cert.DtReferenceIdeal.τ).loc Cert.DtReferenceIdeal.main_arg0)
          ∧ r.2.mem ((c.tc : Thread Cert.DtReferenceIdeal.nD Cert.DtReferenceIdeal.τ).loc Cert.DtReferenceIdeal.main_arg1) = m' ((c.tc : Thread Cert.DtReferenceIdeal.nD Cert.DtReferenceIdeal.τ).loc Cert.DtReferenceIdeal.main_arg1))

def preserves_CastX_CastXIdeal : Prop :=
  True

def algebraic_CastXIdeal_CastXReferenceIdeal [hCastXIdeal : Cert.CastXIdeal.Facts] [hCastXReferenceIdeal : Cert.CastXReferenceIdeal.Facts] : Prop :=
  ∀ (m : (ℓ : Loc Cert.CastXIdeal.nD Cert.CastXIdeal.τ Cert.CastXIdeal.sig) → Buf (Elt Ideal) ℓ) (g : Dev Cert.CastXIdeal.nD → PrngReg)
    (m' : (ℓ : Loc Cert.CastXReferenceIdeal.nD Cert.CastXReferenceIdeal.τ Cert.CastXReferenceIdeal.sig) → Buf (Elt Ideal) ℓ) (g' : Dev Cert.CastXReferenceIdeal.nD → PrngReg), Pre_CastXIdeal m →
    (∀ c : Dev Cert.CastXIdeal.nD,
      m' ((c.tc : Thread Cert.CastXReferenceIdeal.nD Cert.CastXReferenceIdeal.τ).loc Cert.CastXReferenceIdeal.main_arg0) = m ((c.tc : Thread Cert.CastXIdeal.nD Cert.CastXIdeal.τ).loc Cert.CastXIdeal.main_arg0)) →
    ∃ (v0 : (c : Dev Cert.CastXIdeal.nD) → Buf (Elt Ideal) ((c.tc : Thread Cert.CastXIdeal.nD Cert.CastXIdeal.τ).loc Cert.CastXIdeal.main_v0_0)) (v1 : (c : Dev Cert.CastXIdeal.nD) → Buf (Elt Ideal) ((c.tc : Thread Cert.CastXIdeal.nD Cert.CastXIdeal.τ).loc Cert.CastXIdeal.main_v0_1)),
      θ_run (Cert.CastXIdeal.defs (F := Ideal)) (onTc (τ := Cert.CastXIdeal.τ) (Cert.CastXIdeal.main (F := Ideal))) ⟨m, fun _ => 0, g⟩ (fun r => ∀ c : Dev Cert.CastXIdeal.nD,
          r.2.mem ((c.tc : Thread Cert.CastXIdeal.nD Cert.CastXIdeal.τ).loc Cert.CastXIdeal.main_v0_0) = v0 c
          ∧ r.2.mem ((c.tc : Thread Cert.CastXIdeal.nD Cert.CastXIdeal.τ).loc Cert.CastXIdeal.main_v0_1) = v1 c
          ∧ r.2.mem ((c.tc : Thread Cert.CastXIdeal.nD Cert.CastXIdeal.τ).loc Cert.CastXIdeal.main_arg0) = m ((c.tc : Thread Cert.CastXIdeal.nD Cert.CastXIdeal.τ).loc Cert.CastXIdeal.main_arg0))
      ∧ θ_run (Cert.CastXReferenceIdeal.defs (F := Ideal)) (onTc (τ := Cert.CastXReferenceIdeal.τ) (Cert.CastXReferenceIdeal.main (F := Ideal))) ⟨m', fun _ => 0, g'⟩ (fun r => ∀ c : Dev Cert.CastXReferenceIdeal.nD,
          r.2.mem ((c.tc : Thread Cert.CastXReferenceIdeal.nD Cert.CastXReferenceIdeal.τ).loc Cert.CastXReferenceIdeal.main_v0) = v0 c
          ∧ r.2.mem ((c.tc : Thread Cert.CastXReferenceIdeal.nD Cert.CastXReferenceIdeal.τ).loc Cert.CastXReferenceIdeal.main_v2) = v1 c
          ∧ r.2.mem ((c.tc : Thread Cert.CastXReferenceIdeal.nD Cert.CastXReferenceIdeal.τ).loc Cert.CastXReferenceIdeal.main_arg0) = m' ((c.tc : Thread Cert.CastXReferenceIdeal.nD Cert.CastXReferenceIdeal.τ).loc Cert.CastXReferenceIdeal.main_arg0))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v34) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def Claim : Prop :=
  ∃ (hKernel : Cert.Kernel.Facts) (hKernelIdeal : Cert.KernelIdeal.Facts) (hDwInSsm : Cert.DwInSsm.Facts) (hDwInSsmIdeal : Cert.DwInSsmIdeal.Facts) (hDwInSsmReferenceIdeal : Cert.DwInSsmReferenceIdeal.Facts) (hDwOutSsm : Cert.DwOutSsm.Facts) (hDwOutSsmIdeal : Cert.DwOutSsmIdeal.Facts) (hDwOutSsmReferenceIdeal : Cert.DwOutSsmReferenceIdeal.Facts) (hDyn : Cert.Dyn.Facts) (hDynIdeal : Cert.DynIdeal.Facts) (hDynReferenceIdeal : Cert.DynReferenceIdeal.Facts) (hDwOutAttn : Cert.DwOutAttn.Facts) (hDwOutAttnIdeal : Cert.DwOutAttnIdeal.Facts) (hDwOutAttnReferenceIdeal : Cert.DwOutAttnReferenceIdeal.Facts) (hOutAttn : Cert.OutAttn.Facts) (hOutAttnIdeal : Cert.OutAttnIdeal.Facts) (hOutAttnReferenceIdeal : Cert.OutAttnReferenceIdeal.Facts) (hGate : Cert.Gate.Facts) (hGateIdeal : Cert.GateIdeal.Facts) (hGateReferenceIdeal : Cert.GateReferenceIdeal.Facts) (hOutSsm : Cert.OutSsm.Facts) (hOutSsmIdeal : Cert.OutSsmIdeal.Facts) (hOutSsmReferenceIdeal : Cert.OutSsmReferenceIdeal.Facts) (hDy : Cert.Dy.Facts) (hDyIdeal : Cert.DyIdeal.Facts) (hDyReferenceIdeal : Cert.DyReferenceIdeal.Facts) (hInSsm : Cert.InSsm.Facts) (hInSsmIdeal : Cert.InSsmIdeal.Facts) (hInSsmReferenceIdeal : Cert.InSsmReferenceIdeal.Facts) (hDx1 : Cert.Dx1.Facts) (hDx1Ideal : Cert.Dx1Ideal.Facts) (hDx1ReferenceIdeal : Cert.Dx1ReferenceIdeal.Facts) (hDwInAttn : Cert.DwInAttn.Facts) (hDwInAttnIdeal : Cert.DwInAttnIdeal.Facts) (hDwInAttnReferenceIdeal : Cert.DwInAttnReferenceIdeal.Facts) (hDx : Cert.Dx.Facts) (hDxIdeal : Cert.DxIdeal.Facts) (hDxReferenceIdeal : Cert.DxReferenceIdeal.Facts) (hQkvA : Cert.QkvA.Facts) (hQkvAIdeal : Cert.QkvAIdeal.Facts) (hQkvAReferenceIdeal : Cert.QkvAReferenceIdeal.Facts) (hQkvB : Cert.QkvB.Facts) (hQkvBIdeal : Cert.QkvBIdeal.Facts) (hQkvBReferenceIdeal : Cert.QkvBReferenceIdeal.Facts) (hQkvC : Cert.QkvC.Facts) (hQkvCIdeal : Cert.QkvCIdeal.Facts) (hQkvCReferenceIdeal : Cert.QkvCReferenceIdeal.Facts) (hAdamSmall : Cert.AdamSmall.Facts) (hAdamSmallIdeal : Cert.AdamSmallIdeal.Facts) (hAdamSmallReferenceIdeal : Cert.AdamSmallReferenceIdeal.Facts) (hAdamOutAttn : Cert.AdamOutAttn.Facts) (hAdamOutAttnIdeal : Cert.AdamOutAttnIdeal.Facts) (hAdamOutAttnReferenceIdeal : Cert.AdamOutAttnReferenceIdeal.Facts) (hAdamInAttn : Cert.AdamInAttn.Facts) (hAdamInAttnIdeal : Cert.AdamInAttnIdeal.Facts) (hAdamInAttnReferenceIdeal : Cert.AdamInAttnReferenceIdeal.Facts) (hAdamOutSsm : Cert.AdamOutSsm.Facts) (hAdamOutSsmIdeal : Cert.AdamOutSsmIdeal.Facts) (hAdamOutSsmReferenceIdeal : Cert.AdamOutSsmReferenceIdeal.Facts) (hAdamInSsm : Cert.AdamInSsm.Facts) (hAdamInSsmIdeal : Cert.AdamInSsmIdeal.Facts) (hAdamInSsmReferenceIdeal : Cert.AdamInSsmReferenceIdeal.Facts) (hSumSmall : Cert.SumSmall.Facts) (hSumSmallIdeal : Cert.SumSmallIdeal.Facts) (hSumSmallReferenceIdeal : Cert.SumSmallReferenceIdeal.Facts) (hLoss : Cert.Loss.Facts) (hLossIdeal : Cert.LossIdeal.Facts) (hLossReferenceIdeal : Cert.LossReferenceIdeal.Facts) (hLnFwd : Cert.LnFwd.Facts) (hLnFwdIdeal : Cert.LnFwdIdeal.Facts) (hLnFwdReferenceIdeal : Cert.LnFwdReferenceIdeal.Facts) (hDt : Cert.Dt.Facts) (hDtIdeal : Cert.DtIdeal.Facts) (hDtReferenceIdeal : Cert.DtReferenceIdeal.Facts) (hCastX : Cert.CastX.Facts) (hCastXIdeal : Cert.CastXIdeal.Facts) (hCastXReferenceIdeal : Cert.CastXReferenceIdeal.Facts) (hConv : Cert.Conv.Facts) (hConvIdeal : Cert.ConvIdeal.Facts) (hConvReferenceIdeal : Cert.ConvReferenceIdeal.Facts),
    quiescent_Kernel (hKernel := hKernel)
    ∧ quiescent_KernelIdeal (hKernelIdeal := hKernelIdeal)
    ∧ quiescent_DwInSsm (hDwInSsm := hDwInSsm)
    ∧ quiescent_DwInSsmIdeal (hDwInSsmIdeal := hDwInSsmIdeal)
    ∧ quiescent_DwInSsmReferenceIdeal (hDwInSsmReferenceIdeal := hDwInSsmReferenceIdeal)
    ∧ quiescent_DwOutSsm (hDwOutSsm := hDwOutSsm)
    ∧ quiescent_DwOutSsmIdeal (hDwOutSsmIdeal := hDwOutSsmIdeal)
    ∧ quiescent_DwOutSsmReferenceIdeal (hDwOutSsmReferenceIdeal := hDwOutSsmReferenceIdeal)
    ∧ quiescent_Dyn (hDyn := hDyn)
    ∧ quiescent_DynIdeal (hDynIdeal := hDynIdeal)
    ∧ quiescent_DynReferenceIdeal (hDynReferenceIdeal := hDynReferenceIdeal)
    ∧ quiescent_DwOutAttn (hDwOutAttn := hDwOutAttn)
    ∧ quiescent_DwOutAttnIdeal (hDwOutAttnIdeal := hDwOutAttnIdeal)
    ∧ quiescent_DwOutAttnReferenceIdeal (hDwOutAttnReferenceIdeal := hDwOutAttnReferenceIdeal)
    ∧ quiescent_OutAttn (hOutAttn := hOutAttn)
    ∧ quiescent_OutAttnIdeal (hOutAttnIdeal := hOutAttnIdeal)
    ∧ quiescent_OutAttnReferenceIdeal (hOutAttnReferenceIdeal := hOutAttnReferenceIdeal)
    ∧ quiescent_Gate (hGate := hGate)
    ∧ quiescent_GateIdeal (hGateIdeal := hGateIdeal)
    ∧ quiescent_GateReferenceIdeal (hGateReferenceIdeal := hGateReferenceIdeal)
    ∧ quiescent_OutSsm (hOutSsm := hOutSsm)
    ∧ quiescent_OutSsmIdeal (hOutSsmIdeal := hOutSsmIdeal)
    ∧ quiescent_OutSsmReferenceIdeal (hOutSsmReferenceIdeal := hOutSsmReferenceIdeal)
    ∧ quiescent_Dy (hDy := hDy)
    ∧ quiescent_DyIdeal (hDyIdeal := hDyIdeal)
    ∧ quiescent_DyReferenceIdeal (hDyReferenceIdeal := hDyReferenceIdeal)
    ∧ quiescent_InSsm (hInSsm := hInSsm)
    ∧ quiescent_InSsmIdeal (hInSsmIdeal := hInSsmIdeal)
    ∧ quiescent_InSsmReferenceIdeal (hInSsmReferenceIdeal := hInSsmReferenceIdeal)
    ∧ quiescent_Dx1 (hDx1 := hDx1)
    ∧ quiescent_Dx1Ideal (hDx1Ideal := hDx1Ideal)
    ∧ quiescent_Dx1ReferenceIdeal (hDx1ReferenceIdeal := hDx1ReferenceIdeal)
    ∧ quiescent_DwInAttn (hDwInAttn := hDwInAttn)
    ∧ quiescent_DwInAttnIdeal (hDwInAttnIdeal := hDwInAttnIdeal)
    ∧ quiescent_DwInAttnReferenceIdeal (hDwInAttnReferenceIdeal := hDwInAttnReferenceIdeal)
    ∧ quiescent_Dx (hDx := hDx)
    ∧ quiescent_DxIdeal (hDxIdeal := hDxIdeal)
    ∧ quiescent_DxReferenceIdeal (hDxReferenceIdeal := hDxReferenceIdeal)
    ∧ quiescent_QkvA (hQkvA := hQkvA)
    ∧ quiescent_QkvAIdeal (hQkvAIdeal := hQkvAIdeal)
    ∧ quiescent_QkvAReferenceIdeal (hQkvAReferenceIdeal := hQkvAReferenceIdeal)
    ∧ quiescent_QkvB (hQkvB := hQkvB)
    ∧ quiescent_QkvBIdeal (hQkvBIdeal := hQkvBIdeal)
    ∧ quiescent_QkvBReferenceIdeal (hQkvBReferenceIdeal := hQkvBReferenceIdeal)
    ∧ quiescent_QkvC (hQkvC := hQkvC)
    ∧ quiescent_QkvCIdeal (hQkvCIdeal := hQkvCIdeal)
    ∧ quiescent_QkvCReferenceIdeal (hQkvCReferenceIdeal := hQkvCReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamOutAttn (hAdamOutAttn := hAdamOutAttn)
    ∧ quiescent_AdamOutAttnIdeal (hAdamOutAttnIdeal := hAdamOutAttnIdeal)
    ∧ quiescent_AdamOutAttnReferenceIdeal (hAdamOutAttnReferenceIdeal := hAdamOutAttnReferenceIdeal)
    ∧ quiescent_AdamInAttn (hAdamInAttn := hAdamInAttn)
    ∧ quiescent_AdamInAttnIdeal (hAdamInAttnIdeal := hAdamInAttnIdeal)
    ∧ quiescent_AdamInAttnReferenceIdeal (hAdamInAttnReferenceIdeal := hAdamInAttnReferenceIdeal)
    ∧ quiescent_AdamOutSsm (hAdamOutSsm := hAdamOutSsm)
    ∧ quiescent_AdamOutSsmIdeal (hAdamOutSsmIdeal := hAdamOutSsmIdeal)
    ∧ quiescent_AdamOutSsmReferenceIdeal (hAdamOutSsmReferenceIdeal := hAdamOutSsmReferenceIdeal)
    ∧ quiescent_AdamInSsm (hAdamInSsm := hAdamInSsm)
    ∧ quiescent_AdamInSsmIdeal (hAdamInSsmIdeal := hAdamInSsmIdeal)
    ∧ quiescent_AdamInSsmReferenceIdeal (hAdamInSsmReferenceIdeal := hAdamInSsmReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_LnFwd (hLnFwd := hLnFwd)
    ∧ quiescent_LnFwdIdeal (hLnFwdIdeal := hLnFwdIdeal)
    ∧ quiescent_LnFwdReferenceIdeal (hLnFwdReferenceIdeal := hLnFwdReferenceIdeal)
    ∧ quiescent_Dt (hDt := hDt)
    ∧ quiescent_DtIdeal (hDtIdeal := hDtIdeal)
    ∧ quiescent_DtReferenceIdeal (hDtReferenceIdeal := hDtReferenceIdeal)
    ∧ quiescent_CastX (hCastX := hCastX)
    ∧ quiescent_CastXIdeal (hCastXIdeal := hCastXIdeal)
    ∧ quiescent_CastXReferenceIdeal (hCastXReferenceIdeal := hCastXReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ preserves_DwInSsm_DwInSsmIdeal
    ∧ algebraic_DwInSsmIdeal_DwInSsmReferenceIdeal (hDwInSsmIdeal := hDwInSsmIdeal) (hDwInSsmReferenceIdeal := hDwInSsmReferenceIdeal)
    ∧ preserves_DwOutSsm_DwOutSsmIdeal
    ∧ algebraic_DwOutSsmIdeal_DwOutSsmReferenceIdeal (hDwOutSsmIdeal := hDwOutSsmIdeal) (hDwOutSsmReferenceIdeal := hDwOutSsmReferenceIdeal)
    ∧ preserves_Dyn_DynIdeal
    ∧ algebraic_DynIdeal_DynReferenceIdeal (hDynIdeal := hDynIdeal) (hDynReferenceIdeal := hDynReferenceIdeal)
    ∧ preserves_DwOutAttn_DwOutAttnIdeal
    ∧ algebraic_DwOutAttnIdeal_DwOutAttnReferenceIdeal (hDwOutAttnIdeal := hDwOutAttnIdeal) (hDwOutAttnReferenceIdeal := hDwOutAttnReferenceIdeal)
    ∧ preserves_OutAttn_OutAttnIdeal
    ∧ algebraic_OutAttnIdeal_OutAttnReferenceIdeal (hOutAttnIdeal := hOutAttnIdeal) (hOutAttnReferenceIdeal := hOutAttnReferenceIdeal)
    ∧ preserves_Gate_GateIdeal
    ∧ algebraic_GateIdeal_GateReferenceIdeal (hGateIdeal := hGateIdeal) (hGateReferenceIdeal := hGateReferenceIdeal)
    ∧ preserves_OutSsm_OutSsmIdeal
    ∧ algebraic_OutSsmIdeal_OutSsmReferenceIdeal (hOutSsmIdeal := hOutSsmIdeal) (hOutSsmReferenceIdeal := hOutSsmReferenceIdeal)
    ∧ preserves_Dy_DyIdeal
    ∧ algebraic_DyIdeal_DyReferenceIdeal (hDyIdeal := hDyIdeal) (hDyReferenceIdeal := hDyReferenceIdeal)
    ∧ preserves_InSsm_InSsmIdeal
    ∧ algebraic_InSsmIdeal_InSsmReferenceIdeal (hInSsmIdeal := hInSsmIdeal) (hInSsmReferenceIdeal := hInSsmReferenceIdeal)
    ∧ preserves_Dx1_Dx1Ideal
    ∧ algebraic_Dx1Ideal_Dx1ReferenceIdeal (hDx1Ideal := hDx1Ideal) (hDx1ReferenceIdeal := hDx1ReferenceIdeal)
    ∧ preserves_DwInAttn_DwInAttnIdeal
    ∧ algebraic_DwInAttnIdeal_DwInAttnReferenceIdeal (hDwInAttnIdeal := hDwInAttnIdeal) (hDwInAttnReferenceIdeal := hDwInAttnReferenceIdeal)
    ∧ preserves_Dx_DxIdeal
    ∧ algebraic_DxIdeal_DxReferenceIdeal (hDxIdeal := hDxIdeal) (hDxReferenceIdeal := hDxReferenceIdeal)
    ∧ preserves_QkvA_QkvAIdeal
    ∧ algebraic_QkvAIdeal_QkvAReferenceIdeal (hQkvAIdeal := hQkvAIdeal) (hQkvAReferenceIdeal := hQkvAReferenceIdeal)
    ∧ preserves_QkvB_QkvBIdeal
    ∧ algebraic_QkvBIdeal_QkvBReferenceIdeal (hQkvBIdeal := hQkvBIdeal) (hQkvBReferenceIdeal := hQkvBReferenceIdeal)
    ∧ preserves_QkvC_QkvCIdeal
    ∧ algebraic_QkvCIdeal_QkvCReferenceIdeal (hQkvCIdeal := hQkvCIdeal) (hQkvCReferenceIdeal := hQkvCReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamOutAttn_AdamOutAttnIdeal
    ∧ algebraic_AdamOutAttnIdeal_AdamOutAttnReferenceIdeal (hAdamOutAttnIdeal := hAdamOutAttnIdeal) (hAdamOutAttnReferenceIdeal := hAdamOutAttnReferenceIdeal)
    ∧ preserves_AdamInAttn_AdamInAttnIdeal
    ∧ algebraic_AdamInAttnIdeal_AdamInAttnReferenceIdeal (hAdamInAttnIdeal := hAdamInAttnIdeal) (hAdamInAttnReferenceIdeal := hAdamInAttnReferenceIdeal)
    ∧ preserves_AdamOutSsm_AdamOutSsmIdeal
    ∧ algebraic_AdamOutSsmIdeal_AdamOutSsmReferenceIdeal (hAdamOutSsmIdeal := hAdamOutSsmIdeal) (hAdamOutSsmReferenceIdeal := hAdamOutSsmReferenceIdeal)
    ∧ preserves_AdamInSsm_AdamInSsmIdeal
    ∧ algebraic_AdamInSsmIdeal_AdamInSsmReferenceIdeal (hAdamInSsmIdeal := hAdamInSsmIdeal) (hAdamInSsmReferenceIdeal := hAdamInSsmReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_Loss_LossIdeal
    ∧ algebraic_LossIdeal_LossReferenceIdeal (hLossIdeal := hLossIdeal) (hLossReferenceIdeal := hLossReferenceIdeal)
    ∧ preserves_LnFwd_LnFwdIdeal
    ∧ algebraic_LnFwdIdeal_LnFwdReferenceIdeal (hLnFwdIdeal := hLnFwdIdeal) (hLnFwdReferenceIdeal := hLnFwdReferenceIdeal)
    ∧ preserves_Dt_DtIdeal
    ∧ algebraic_DtIdeal_DtReferenceIdeal (hDtIdeal := hDtIdeal) (hDtReferenceIdeal := hDtReferenceIdeal)
    ∧ preserves_CastX_CastXIdeal
    ∧ algebraic_CastXIdeal_CastXReferenceIdeal (hCastXIdeal := hCastXIdeal) (hCastXReferenceIdeal := hCastXReferenceIdeal)
    ∧ preserves_Conv_ConvIdeal
    ∧ algebraic_ConvIdeal_ConvReferenceIdeal (hConvIdeal := hConvIdeal) (hConvReferenceIdeal := hConvReferenceIdeal)
-- ==== Kernel.lean ====
abbrev S4096x6144 : Shape := ⟨2, ![4096, 6144]⟩
abbrev S32x16 : Shape := ⟨2, ![32, 16]⟩
abbrev S1x4096x16x128 : Shape := ⟨4, ![1, 4096, 16, 128]⟩
abbrev S1x4096x16 : Shape := ⟨3, ![1, 4096, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S4096x2048 : Shape := ⟨2, ![4096, 2048]⟩
abbrev S1x256x16x16x128 : Shape := ⟨5, ![1, 256, 16, 16, 128]⟩
abbrev S1x16x256x16x128 : Shape := ⟨5, ![1, 16, 256, 16, 128]⟩
abbrev S1x16x2x128x16x128 : Shape := ⟨6, ![1, 16, 2, 128, 16, 128]⟩
abbrev S1x16x1x128x16x128 : Shape := ⟨6, ![1, 16, 1, 128, 16, 128]⟩
abbrev S1x16x2x256x16x128 : Shape := ⟨6, ![1, 16, 2, 256, 16, 128]⟩
abbrev S2 : Shape := ⟨1, ![2]⟩
abbrev S2x1x1 : Shape := ⟨3, ![2, 1, 1]⟩
abbrev S1x128x256 : Shape := ⟨3, ![1, 128, 256]⟩
abbrev S1x1x256 : Shape := ⟨3, ![1, 1, 256]⟩
abbrev S2x1x256 : Shape := ⟨3, ![2, 1, 256]⟩
abbrev S2x128x256 : Shape := ⟨3, ![2, 128, 256]⟩
abbrev S1x16x2x16x128x256 : Shape := ⟨6, ![1, 16, 2, 16, 128, 256]⟩
abbrev S1x1x1x16x128x256 : Shape := ⟨6, ![1, 1, 1, 16, 128, 256]⟩
abbrev S1x1x2x1x128x256 : Shape := ⟨6, ![1, 1, 2, 1, 128, 256]⟩
abbrev S1x16x2x16x128 : Shape := ⟨5, ![1, 16, 2, 16, 128]⟩
abbrev S1x16x2x16x128x1 : Shape := ⟨6, ![1, 16, 2, 16, 128, 1]⟩
abbrev S1x16x2x16x128x128 : Shape := ⟨6, ![1, 16, 2, 16, 128, 128]⟩
abbrev S1x16x2x128x16 : Shape := ⟨5, ![1, 16, 2, 128, 16]⟩
abbrev S1x16x256x16 : Shape := ⟨4, ![1, 16, 256, 16]⟩
abbrev S1x256x16x16 : Shape := ⟨4, ![1, 256, 16, 16]⟩
abbrev S1x4096x16x1 : Shape := ⟨4, ![1, 4096, 16, 1]⟩
abbrev S4096x16 : Shape := ⟨2, ![4096, 16]⟩
abbrev S4096x128 : Shape := ⟨2, ![4096, 128]⟩
abbrev S256x98304 : Shape := ⟨2, ![256, 98304]⟩
abbrev S256x32768 : Shape := ⟨2, ![256, 32768]⟩
abbrev S256x2048 : Shape := ⟨2, ![256, 2048]⟩
abbrev S256x512 : Shape := ⟨2, ![256, 512]⟩
abbrev S256x128 : Shape := ⟨2, ![256, 128]⟩
abbrev S4x128x256 : Shape := ⟨3, ![4, 128, 256]⟩
abbrev S1x128 : Shape := ⟨2, ![1, 128]⟩
abbrev S128x512 : Shape := ⟨2, ![128, 512]⟩
abbrev S128x128 : Shape := ⟨2, ![128, 128]⟩
abbrev S1x128x128 : Shape := ⟨3, ![1, 128, 128]⟩

abbrev nBuf : Space → Nat
  | .hbm => 226
  | .vmem => 24
  | .smem => 0
  | _ => 0

abbrev hbmTy0_0 (i : Nat) : BufTy := match i % 128 with
  | 0 => ⟨S4096x6144, .f32⟩
  | 1 => ⟨S32x16, .f32⟩
  | 2 => ⟨S1x4096x16x128, .f32⟩
  | 3 => ⟨S1x4096x16x128, .f32⟩
  | 4 => ⟨S1x4096x16, .f32⟩
  | 5 => ⟨S1x4096x16, .f32⟩
  | 6 => ⟨S1x4096x16x128, .f32⟩
  | 7 => ⟨S128, .i32⟩
  | 8 => ⟨S128x1, .i32⟩
  | 9 => ⟨S256, .i32⟩
  | 10 => ⟨S1x256, .i32⟩
  | 11 => ⟨S_, .i32⟩
  | 12 => ⟨S128x1, .i32⟩
  | 13 => ⟨S128x1, .i32⟩
  | 14 => ⟨S128x256, .i32⟩
  | 15 => ⟨S128x256, .i32⟩
  | 16 => ⟨S128x256, .i32⟩
  | 17 => ⟨S_, .i32⟩
  | 18 => ⟨S_, .i32⟩
  | 19 => ⟨S128x256, .i32⟩
  | 20 => ⟨S128x256, .i32⟩
  | 21 => ⟨S_, .i32⟩
  | 22 => ⟨S128x256, .i32⟩
  | 23 => ⟨S128x256, .i32⟩
  | 24 => ⟨S_, .i32⟩
  | 25 => ⟨S128x256, .i32⟩
  | 26 => ⟨S128x256, .i32⟩
  | 27 => ⟨S128x256, .f32⟩
  | 28 => ⟨S_, .f32⟩
  | 29 => ⟨S128x256, .f32⟩
  | 30 => ⟨S128x256, .f32⟩
  | 31 => ⟨S128x256, .f32⟩
  | 32 => ⟨S_, .f32⟩
  | 33 => ⟨S128x256, .f32⟩
  | 34 => ⟨S128x256, .f32⟩
  | 35 => ⟨S_, .f32⟩
  | 36 => ⟨S128x256, .f32⟩
  | 37 => ⟨S128x256, .f32⟩
  | 38 => ⟨S128x256, .i32⟩
  | 39 => ⟨S_, .i32⟩
  | 40 => ⟨S128x256, .i32⟩
  | 41 => ⟨S128x256, .i32⟩
  | 42 => ⟨S_, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S128x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i32⟩
  | 55 => ⟨S128x256, .i32⟩
  | 56 => ⟨S128x256x1, .i32⟩
  | 57 => ⟨S128x256x16, .f32⟩
  | 58 => ⟨S16x128x256, .f32⟩
  | 59 => ⟨S4096x2048, .f32⟩
  | 60 => ⟨S4096x2048, .f32⟩
  | 61 => ⟨S4096x2048, .f32⟩
  | 62 => ⟨S1x4096x16x128, .f32⟩
  | 63 => ⟨S1x4096x16x128, .f32⟩
  | 64 => ⟨S1x4096x16x128, .f32⟩
  | 65 => ⟨S1x256x16x16x128, .f32⟩
  | 66 => ⟨S1x16x256x16x128, .f32⟩
  | 67 => ⟨S1x16x2x128x16x128, .f32⟩
  | 68 => ⟨S1x256x16x16x128, .f32⟩
  | 69 => ⟨S1x16x256x16x128, .f32⟩
  | 70 => ⟨S1x16x2x128x16x128, .f32⟩
  | 71 => ⟨S1x16x1x128x16x128, .f32⟩
  | 72 => ⟨S_, .f32⟩
  | 73 => ⟨S1x16x1x128x16x128, .f32⟩
  | 74 => ⟨S1x16x1x128x16x128, .f32⟩
  | 75 => ⟨S1x16x2x128x16x128, .f32⟩
  | 76 => ⟨S1x16x2x256x16x128, .f32⟩
  | 77 => ⟨S1x256x16x16x128, .f32⟩
  | 78 => ⟨S1x16x256x16x128, .f32⟩
  | 79 => ⟨S1x16x2x128x16x128, .f32⟩
  | 80 => ⟨S1x16x1x128x16x128, .f32⟩
  | 81 => ⟨S_, .f32⟩
  | 82 => ⟨S1x16x1x128x16x128, .f32⟩
  | 83 => ⟨S1x16x1x128x16x128, .f32⟩
  | 84 => ⟨S1x16x2x128x16x128, .f32⟩
  | 85 => ⟨S1x16x2x256x16x128, .f32⟩
  | 86 => ⟨S128, .i32⟩
  | 87 => ⟨S128x1, .i32⟩
  | 88 => ⟨S256, .i32⟩
  | 89 => ⟨S1x256, .i32⟩
  | 90 => ⟨S_, .i32⟩
  | 91 => ⟨S128x1, .i32⟩
  | 92 => ⟨S128x1, .i32⟩
  | 93 => ⟨S128x256, .i32⟩
  | 94 => ⟨S128x256, .i32⟩
  | 95 => ⟨S128x256, .i32⟩
  | 96 => ⟨S_, .i32⟩
  | 97 => ⟨S128x256, .i32⟩
  | 98 => ⟨S128x256, .i1⟩
  | 99 => ⟨S_, .i32⟩
  | 100 => ⟨S128x256, .i32⟩
  | 101 => ⟨S128x256, .i1⟩
  | 102 => ⟨S128x256, .i1⟩
  | 103 => ⟨S2, .i32⟩
  | 104 => ⟨S_, .i32⟩
  | 105 => ⟨S2, .i32⟩
  | 106 => ⟨S2, .i1⟩
  | 107 => ⟨S2x1x1, .i1⟩
  | 108 => ⟨S1x128x256, .i1⟩
  | 109 => ⟨S_, .i32⟩
  | 110 => ⟨S1x256, .i32⟩
  | 111 => ⟨S1x256, .i1⟩
  | 112 => ⟨S1x1x256, .i1⟩
  | 113 => ⟨S2x1x256, .i1⟩
  | 114 => ⟨S2x1x256, .i1⟩
  | 115 => ⟨S2x1x256, .i1⟩
  | 116 => ⟨S2x128x256, .i1⟩
  | 117 => ⟨S2x128x256, .i1⟩
  | 118 => ⟨S2x128x256, .i1⟩
  | 119 => ⟨S1x16x2x16x128x256, .f32⟩
  | 120 => ⟨S_, .f32⟩
  | 121 => ⟨S1x16x2x16x128x256, .f32⟩
  | 122 => ⟨S1x16x2x16x128x256, .f32⟩
  | 123 => ⟨S1x1x1x16x128x256, .f32⟩
  | 124 => ⟨S1x16x2x16x128x256, .f32⟩
  | 125 => ⟨S1x16x2x16x128x256, .f32⟩
  | 126 => ⟨S1x1x2x1x128x256, .i1⟩
  | 127 => ⟨S_, .f32⟩
  | _ => ⟨S4096x6144, .f32⟩

abbrev hbmTy0_1 (i : Nat) : BufTy := match i % 128 with
  | 0 => ⟨S_, .f32⟩
  | 1 => ⟨S1x16x2x16x128x256, .i1⟩
  | 2 => ⟨S1x16x2x16x128x256, .f32⟩
  | 3 => ⟨S1x16x2x16x128x256, .f32⟩
  | 4 => ⟨S_, .f32⟩
  | 5 => ⟨S1x16x2x16x128, .f32⟩
  | 6 => ⟨S1x16x2x16x128x1, .f32⟩
  | 7 => ⟨S1x16x2x16x128x256, .f32⟩
  | 8 => ⟨S1x16x2x16x128x256, .f32⟩
  | 9 => ⟨S1x16x2x16x128x256, .f32⟩
  | 10 => ⟨S_, .f32⟩
  | 11 => ⟨S1x16x2x16x128, .f32⟩
  | 12 => ⟨S1x16x2x16x128x1, .f32⟩
  | 13 => ⟨S1x16x2x16x128x256, .f32⟩
  | 14 => ⟨S1x16x2x16x128x256, .f32⟩
  | 15 => ⟨S1x16x2x16x128x128, .f32⟩
  | 16 => ⟨S1x16x2x128x16x128, .f32⟩
  | 17 => ⟨S1x16x2x16x128, .f32⟩
  | 18 => ⟨S1x16x2x16x128, .f32⟩
  | 19 => ⟨S1x16x2x16x128, .f32⟩
  | 20 => ⟨S1x16x2x16x128, .f32⟩
  | 21 => ⟨S1x16x256x16x128, .f32⟩
  | 22 => ⟨S1x256x16x16x128, .f32⟩
  | 23 => ⟨S1x4096x16x128, .f32⟩
  | 24 => ⟨S1x16x2x128x16, .f32⟩
  | 25 => ⟨S1x16x256x16, .f32⟩
  | 26 => ⟨S1x256x16x16, .f32⟩
  | 27 => ⟨S1x4096x16, .f32⟩
  | 28 => ⟨S1x4096x16, .f32⟩
  | 29 => ⟨S1x4096x16, .f32⟩
  | 30 => ⟨S1x4096x16, .f32⟩
  | 31 => ⟨S1x4096x16, .f32⟩
  | 32 => ⟨S1x4096x16, .f32⟩
  | 33 => ⟨S1x4096x16, .f32⟩
  | 34 => ⟨S1x4096x16, .f32⟩
  | 35 => ⟨S1x4096x16, .f32⟩
  | 36 => ⟨S1x4096x16, .f32⟩
  | 37 => ⟨S1x4096x16, .f32⟩
  | 38 => ⟨S1x4096x16x1, .f32⟩
  | 39 => ⟨S1x4096x16x128, .f32⟩
  | 40 => ⟨S1x4096x16x128, .f32⟩
  | 41 => ⟨S1x4096x16x1, .f32⟩
  | 42 => ⟨S1x4096x16x128, .f32⟩
  | 43 => ⟨S1x4096x16x128, .f32⟩
  | 44 => ⟨S1x4096x16x128, .f32⟩
  | 45 => ⟨S1x4096x16x1, .f32⟩
  | 46 => ⟨S1x4096x16x128, .f32⟩
  | 47 => ⟨S1x4096x16x128, .f32⟩
  | 48 => ⟨S1x4096x16x128, .f32⟩
  | 49 => ⟨S1x4096x16x1, .f32⟩
  | 50 => ⟨S1x4096x16x128, .f32⟩
  | 51 => ⟨S1x4096x16x128, .f32⟩
  | 52 => ⟨S1x4096x16, .f32⟩
  | 53 => ⟨S1x4096x16, .f32⟩
  | 54 => ⟨S4096x16, .f32⟩
  | 55 => ⟨S1x4096x16x128, .f32⟩
  | 56 => ⟨S_, .f32⟩
  | 57 => ⟨S1x4096x16, .f32⟩
  | 58 => ⟨S4096x16, .f32⟩
  | 59 => ⟨S128, .i32⟩
  | 60 => ⟨S128x1, .i32⟩
  | 61 => ⟨S256, .i32⟩
  | 62 => ⟨S1x256, .i32⟩
  | 63 => ⟨S_, .i32⟩
  | 64 => ⟨S128x1, .i32⟩
  | 65 => ⟨S128x1, .i32⟩
  | 66 => ⟨S128x256, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S128x256, .i32⟩
  | 74 => ⟨S128x256, .i1⟩
  | 75 => ⟨S128x256, .i1⟩
  | 76 => ⟨S_, .f32⟩
  | 77 => ⟨S_, .f32⟩
  | 78 => ⟨S16x128x256, .i1⟩
  | 79 => ⟨S16x128x256, .f32⟩
  | 80 => ⟨S16x128x256, .f32⟩
  | 81 => ⟨S4096x6144, .bf16⟩
  | 82 => ⟨S4096x2048, .f32⟩
  | 83 => ⟨S4096x2048, .bf16⟩
  | 84 => ⟨S_, .i32⟩
  | 85 => ⟨S_, .f32⟩
  | 86 => ⟨S4096x128, .f32⟩
  | 87 => ⟨S_, .i32⟩
  | 88 => ⟨S_, .f32⟩
  | 89 => ⟨S4096x128, .f32⟩
  | 90 => ⟨S256x98304, .bf16⟩
  | 91 => ⟨S256x32768, .bf16⟩
  | 92 => ⟨S256x2048, .f32⟩
  | 93 => ⟨S256x2048, .f32⟩
  | 94 => ⟨S256x32768, .bf16⟩
  | 95 => ⟨S256x32768, .bf16⟩
  | 96 => ⟨S256x32768, .bf16⟩
  | 97 => ⟨S16x128x256, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x128x256, .f32⟩
  | .local _ .vmem, ⟨13, _⟩ => ⟨S4x128x256, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S4x128x256, .f32⟩
  | .local _ .vmem, ⟨21, _⟩ => ⟨S4x128x256, .f32⟩
  | .local _ .vmem, ⟨22, _⟩ => ⟨S256x512, .f32⟩
  | .local _ .vmem, ⟨23, _⟩ => ⟨S256x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_13 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v98 : Ref sig .tc := ⟨.hbm, 131, rfl⟩
abbrev main_cst_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_21 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_c_22 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_c_23 : Ref sig .tc := ⟨.hbm, 197, rfl⟩
abbrev main_v160 : Ref sig .tc := ⟨.hbm, 198, rfl⟩
abbrev main_v161 : Ref sig .tc := ⟨.hbm, 199, rfl⟩
abbrev main_c_24 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_25 : Ref sig .tc := ⟨.hbm, 204, rfl⟩
abbrev main_call3_v0 : Ref sig .tc := ⟨.hbm, 205, rfl⟩
abbrev main_call3_v1 : Ref sig .tc := ⟨.hbm, 206, rfl⟩
abbrev main_call3_v2 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_c_26 : Ref sig .tc := ⟨.hbm, 212, rfl⟩
abbrev main_call4_v0 : Ref sig .tc := ⟨.hbm, 213, rfl⟩
abbrev main_v169 : Ref sig .tc := ⟨.hbm, 214, rfl⟩
abbrev main_c_27 : Ref sig .tc := ⟨.hbm, 215, rfl⟩
abbrev main_call5_v0 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175_0 : Ref sig .tc := ⟨.hbm, 222, rfl⟩
abbrev main_v175_1 : Ref sig .tc := ⟨.hbm, 223, rfl⟩
abbrev main_v175_2 : Ref sig .tc := ⟨.hbm, 224, rfl⟩
abbrev main_v175_3 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_mult1 : BitVec 32 :=
  let c1_i32_128 : BitVec 32 := 1#32
  let c128_i32 : BitVec 32 := 128#32
  let v265 : BitVec 32 := Scalar.muli c1_i32_128 c128_i32
  v265
def k0_mult2 : BitVec 32 :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  v268
def k0_off1 : Fin 2 → Nat :=
  let c1_i32_128 : BitVec 32 := 1#32
  let c128_i32 : BitVec 32 := 128#32
  let v265 : BitVec 32 := Scalar.muli c1_i32_128 c128_i32
  let v266 : BitVec 32 := v265
  let v270 : Index := Scalar.indexCast v266
  let c0_131 : Index := 0#32
  ![v270.toNat, 0]
def k0_off2 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v273 : Index := Scalar.indexCast v269
  let c0_132 : Index := 0#32
  ![v273.toNat, 0]
def k0_off3 : Fin 2 → Nat :=
  let c1_i32_128 : BitVec 32 := 1#32
  let c128_i32 : BitVec 32 := 128#32
  let v265 : BitVec 32 := Scalar.muli c1_i32_128 c128_i32
  let v266 : BitVec 32 := v265
  let v282 : Index := Scalar.indexCast v266
  let c0_135 : Index := 0#32
  ![v282.toNat, 0]
def k0_off4 : Fin 2 → Nat :=
  let c1_i32_128 : BitVec 32 := 1#32
  let c128_i32 : BitVec 32 := 128#32
  let v265 : BitVec 32 := Scalar.muli c1_i32_128 c128_i32
  let v266 : BitVec 32 := v265
  let v421 : Index := Scalar.indexCast v266
  let c0_175 : Index := 0#32
  ![v421.toNat, 0]
def k0_off5 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v423 : Index := Scalar.indexCast v269
  let c0_176 : Index := 0#32
  ![v423.toNat, 0]
def k0_off6 : Fin 2 → Nat :=
  let c1_i32_128 : BitVec 32 := 1#32
  let c128_i32 : BitVec 32 := 128#32
  let v265 : BitVec 32 := Scalar.muli c1_i32_128 c128_i32
  let v266 : BitVec 32 := v265
  let v454 : Index := Scalar.indexCast v266
  let c128_191 : Index := 128#32
  ![v454.toNat, 128]
def k0_off7 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v456 : Index := Scalar.indexCast v269
  let c128_192 : Index := 128#32
  ![v456.toNat, 128]
def k0_off8 : Fin 2 → Nat :=
  let c1_i32_128 : BitVec 32 := 1#32
  let c128_i32 : BitVec 32 := 128#32
  let v265 : BitVec 32 := Scalar.muli c1_i32_128 c128_i32
  let v266 : BitVec 32 := v265
  let v487 : Index := Scalar.indexCast v266
  let c256_207 : Index := 256#32
  ![v487.toNat, 256]
def k0_off9 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v489 : Index := Scalar.indexCast v269
  let c256_208 : Index := 256#32
  ![v489.toNat, 256]
def k0_off10 : Fin 2 → Nat :=
  let c1_i32_128 : BitVec 32 := 1#32
  let c128_i32 : BitVec 32 := 128#32
  let v265 : BitVec 32 := Scalar.muli c1_i32_128 c128_i32
  let v266 : BitVec 32 := v265
  let v520 : Index := Scalar.indexCast v266
  let c384_223 : Index := 384#32
  ![v520.toNat, 384]
def k0_off11 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v522 : Index := Scalar.indexCast v269
  let c384_224 : Index := 384#32
  ![v522.toNat, 384]
def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi v0 c0_i32
  let c0_i32_0 : BitVec 32 := 0#32
  let v2 : BitVec 32 := Scalar.addi v1 c0_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg0
  let c0_i32_6 : BitVec 32 := 0#32
  let c0_i32_7 : BitVec 32 := 0#32
  ![c0_i32_6.toNat, v20.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi v0 c0_i32
  let c16_i32 : BitVec 32 := 16#32
  let v2 : BitVec 32 := Scalar.addi v1 c16_i32
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg0
  let c0_i32_5 : BitVec 32 := 0#32
  let c0_i32_6 : BitVec 32 := 0#32
  ![c0_i32_5.toNat, v20.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi v0 c0_i32
  let c32_i32 : BitVec 32 := 32#32
  let v2 : BitVec 32 := Scalar.addi v1 c32_i32
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg0
  let c0_i32_5 : BitVec 32 := 0#32
  let c0_i32_6 : BitVec 32 := 0#32
  ![c0_i32_5.toNat, v20.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
abbrev S4096x6144 : Shape := ⟨2, ![4096, 6144]⟩
abbrev S32x16 : Shape := ⟨2, ![32, 16]⟩
abbrev S1x4096x16x128 : Shape := ⟨4, ![1, 4096, 16, 128]⟩
abbrev S1x4096x16 : Shape := ⟨3, ![1, 4096, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S4096x2048 : Shape := ⟨2, ![4096, 2048]⟩
abbrev S1x256x16x16x128 : Shape := ⟨5, ![1, 256, 16, 16, 128]⟩
abbrev S1x16x256x16x128 : Shape := ⟨5, ![1, 16, 256, 16, 128]⟩
abbrev S1x16x2x128x16x128 : Shape := ⟨6, ![1, 16, 2, 128, 16, 128]⟩
abbrev S1x16x1x128x16x128 : Shape := ⟨6, ![1, 16, 1, 128, 16, 128]⟩
abbrev S1x16x2x256x16x128 : Shape := ⟨6, ![1, 16, 2, 256, 16, 128]⟩
abbrev S2 : Shape := ⟨1, ![2]⟩
abbrev S2x1x1 : Shape := ⟨3, ![2, 1, 1]⟩
abbrev S1x128x256 : Shape := ⟨3, ![1, 128, 256]⟩
abbrev S1x1x256 : Shape := ⟨3, ![1, 1, 256]⟩
abbrev S2x1x256 : Shape := ⟨3, ![2, 1, 256]⟩
abbrev S2x128x256 : Shape := ⟨3, ![2, 128, 256]⟩
abbrev S1x16x2x16x128x256 : Shape := ⟨6, ![1, 16, 2, 16, 128, 256]⟩
abbrev S1x1x1x16x128x256 : Shape := ⟨6, ![1, 1, 1, 16, 128, 256]⟩
abbrev S1x1x2x1x128x256 : Shape := ⟨6, ![1, 1, 2, 1, 128, 256]⟩
abbrev S1x16x2x16x128 : Shape := ⟨5, ![1, 16, 2, 16, 128]⟩
abbrev S1x16x2x16x128x1 : Shape := ⟨6, ![1, 16, 2, 16, 128, 1]⟩
abbrev S1x16x2x16x128x128 : Shape := ⟨6, ![1, 16, 2, 16, 128, 128]⟩
abbrev S1x16x2x128x16 : Shape := ⟨5, ![1, 16, 2, 128, 16]⟩
abbrev S1x16x256x16 : Shape := ⟨4, ![1, 16, 256, 16]⟩
abbrev S1x256x16x16 : Shape := ⟨4, ![1, 256, 16, 16]⟩
abbrev S1x4096x16x1 : Shape := ⟨4, ![1, 4096, 16, 1]⟩
abbrev S4096x16 : Shape := ⟨2, ![4096, 16]⟩
abbrev S4096x128 : Shape := ⟨2, ![4096, 128]⟩
abbrev S256x98304 : Shape := ⟨2, ![256, 98304]⟩
abbrev S256x32768 : Shape := ⟨2, ![256, 32768]⟩
abbrev S256x2048 : Shape := ⟨2, ![256, 2048]⟩
abbrev S256x512 : Shape := ⟨2, ![256, 512]⟩
abbrev S256x128 : Shape := ⟨2, ![256, 128]⟩
abbrev S4x128x256 : Shape := ⟨3, ![4, 128, 256]⟩
abbrev S1x128 : Shape := ⟨2, ![1, 128]⟩
abbrev S128x512 : Shape := ⟨2, ![128, 512]⟩
abbrev S128x128 : Shape := ⟨2, ![128, 128]⟩
abbrev S1x128x128 : Shape := ⟨3, ![1, 128, 128]⟩

abbrev nBuf : Space → Nat
  | .hbm => 226
  | .vmem => 24
  | .smem => 0
  | _ => 0

abbrev hbmTy0_0 (i : Nat) : BufTy := match i % 128 with
  | 0 => ⟨S4096x6144, .f32⟩
  | 1 => ⟨S32x16, .f32⟩
  | 2 => ⟨S1x4096x16x128, .f32⟩
  | 3 => ⟨S1x4096x16x128, .f32⟩
  | 4 => ⟨S1x4096x16, .f32⟩
  | 5 => ⟨S1x4096x16, .f32⟩
  | 6 => ⟨S1x4096x16x128, .f32⟩
  | 7 => ⟨S128, .i32⟩
  | 8 => ⟨S128x1, .i32⟩
  | 9 => ⟨S256, .i32⟩
  | 10 => ⟨S1x256, .i32⟩
  | 11 => ⟨S_, .i32⟩
  | 12 => ⟨S128x1, .i32⟩
  | 13 => ⟨S128x1, .i32⟩
  | 14 => ⟨S128x256, .i32⟩
  | 15 => ⟨S128x256, .i32⟩
  | 16 => ⟨S128x256, .i32⟩
  | 17 => ⟨S_, .i32⟩
  | 18 => ⟨S_, .i32⟩
  | 19 => ⟨S128x256, .i32⟩
  | 20 => ⟨S128x256, .i32⟩
  | 21 => ⟨S_, .i32⟩
  | 22 => ⟨S128x256, .i32⟩
  | 23 => ⟨S128x256, .i32⟩
  | 24 => ⟨S_, .i32⟩
  | 25 => ⟨S128x256, .i32⟩
  | 26 => ⟨S128x256, .i32⟩
  | 27 => ⟨S128x256, .f32⟩
  | 28 => ⟨S_, .f32⟩
  | 29 => ⟨S128x256, .f32⟩
  | 30 => ⟨S128x256, .f32⟩
  | 31 => ⟨S128x256, .f32⟩
  | 32 => ⟨S_, .f32⟩
  | 33 => ⟨S128x256, .f32⟩
  | 34 => ⟨S128x256, .f32⟩
  | 35 => ⟨S_, .f32⟩
  | 36 => ⟨S128x256, .f32⟩
  | 37 => ⟨S128x256, .f32⟩
  | 38 => ⟨S128x256, .i32⟩
  | 39 => ⟨S_, .i32⟩
  | 40 => ⟨S128x256, .i32⟩
  | 41 => ⟨S128x256, .i32⟩
  | 42 => ⟨S_, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S128x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i32⟩
  | 55 => ⟨S128x256, .i32⟩
  | 56 => ⟨S128x256x1, .i32⟩
  | 57 => ⟨S128x256x16, .f32⟩
  | 58 => ⟨S16x128x256, .f32⟩
  | 59 => ⟨S4096x2048, .f32⟩
  | 60 => ⟨S4096x2048, .f32⟩
  | 61 => ⟨S4096x2048, .f32⟩
  | 62 => ⟨S1x4096x16x128, .f32⟩
  | 63 => ⟨S1x4096x16x128, .f32⟩
  | 64 => ⟨S1x4096x16x128, .f32⟩
  | 65 => ⟨S1x256x16x16x128, .f32⟩
  | 66 => ⟨S1x16x256x16x128, .f32⟩
  | 67 => ⟨S1x16x2x128x16x128, .f32⟩
  | 68 => ⟨S1x256x16x16x128, .f32⟩
  | 69 => ⟨S1x16x256x16x128, .f32⟩
  | 70 => ⟨S1x16x2x128x16x128, .f32⟩
  | 71 => ⟨S1x16x1x128x16x128, .f32⟩
  | 72 => ⟨S_, .f32⟩
  | 73 => ⟨S1x16x1x128x16x128, .f32⟩
  | 74 => ⟨S1x16x1x128x16x128, .f32⟩
  | 75 => ⟨S1x16x2x128x16x128, .f32⟩
  | 76 => ⟨S1x16x2x256x16x128, .f32⟩
  | 77 => ⟨S1x256x16x16x128, .f32⟩
  | 78 => ⟨S1x16x256x16x128, .f32⟩
  | 79 => ⟨S1x16x2x128x16x128, .f32⟩
  | 80 => ⟨S1x16x1x128x16x128, .f32⟩
  | 81 => ⟨S_, .f32⟩
  | 82 => ⟨S1x16x1x128x16x128, .f32⟩
  | 83 => ⟨S1x16x1x128x16x128, .f32⟩
  | 84 => ⟨S1x16x2x128x16x128, .f32⟩
  | 85 => ⟨S1x16x2x256x16x128, .f32⟩
  | 86 => ⟨S128, .i32⟩
  | 87 => ⟨S128x1, .i32⟩
  | 88 => ⟨S256, .i32⟩
  | 89 => ⟨S1x256, .i32⟩
  | 90 => ⟨S_, .i32⟩
  | 91 => ⟨S128x1, .i32⟩
  | 92 => ⟨S128x1, .i32⟩
  | 93 => ⟨S128x256, .i32⟩
  | 94 => ⟨S128x256, .i32⟩
  | 95 => ⟨S128x256, .i32⟩
  | 96 => ⟨S_, .i32⟩
  | 97 => ⟨S128x256, .i32⟩
  | 98 => ⟨S128x256, .i1⟩
  | 99 => ⟨S_, .i32⟩
  | 100 => ⟨S128x256, .i32⟩
  | 101 => ⟨S128x256, .i1⟩
  | 102 => ⟨S128x256, .i1⟩
  | 103 => ⟨S2, .i32⟩
  | 104 => ⟨S_, .i32⟩
  | 105 => ⟨S2, .i32⟩
  | 106 => ⟨S2, .i1⟩
  | 107 => ⟨S2x1x1, .i1⟩
  | 108 => ⟨S1x128x256, .i1⟩
  | 109 => ⟨S_, .i32⟩
  | 110 => ⟨S1x256, .i32⟩
  | 111 => ⟨S1x256, .i1⟩
  | 112 => ⟨S1x1x256, .i1⟩
  | 113 => ⟨S2x1x256, .i1⟩
  | 114 => ⟨S2x1x256, .i1⟩
  | 115 => ⟨S2x1x256, .i1⟩
  | 116 => ⟨S2x128x256, .i1⟩
  | 117 => ⟨S2x128x256, .i1⟩
  | 118 => ⟨S2x128x256, .i1⟩
  | 119 => ⟨S1x16x2x16x128x256, .f32⟩
  | 120 => ⟨S_, .f32⟩
  | 121 => ⟨S1x16x2x16x128x256, .f32⟩
  | 122 => ⟨S1x16x2x16x128x256, .f32⟩
  | 123 => ⟨S1x1x1x16x128x256, .f32⟩
  | 124 => ⟨S1x16x2x16x128x256, .f32⟩
  | 125 => ⟨S1x16x2x16x128x256, .f32⟩
  | 126 => ⟨S1x1x2x1x128x256, .i1⟩
  | 127 => ⟨S_, .f32⟩
  | _ => ⟨S4096x6144, .f32⟩

abbrev hbmTy0_1 (i : Nat) : BufTy := match i % 128 with
  | 0 => ⟨S_, .f32⟩
  | 1 => ⟨S1x16x2x16x128x256, .i1⟩
  | 2 => ⟨S1x16x2x16x128x256, .f32⟩
  | 3 => ⟨S1x16x2x16x128x256, .f32⟩
  | 4 => ⟨S_, .f32⟩
  | 5 => ⟨S1x16x2x16x128, .f32⟩
  | 6 => ⟨S1x16x2x16x128x1, .f32⟩
  | 7 => ⟨S1x16x2x16x128x256, .f32⟩
  | 8 => ⟨S1x16x2x16x128x256, .f32⟩
  | 9 => ⟨S1x16x2x16x128x256, .f32⟩
  | 10 => ⟨S_, .f32⟩
  | 11 => ⟨S1x16x2x16x128, .f32⟩
  | 12 => ⟨S1x16x2x16x128x1, .f32⟩
  | 13 => ⟨S1x16x2x16x128x256, .f32⟩
  | 14 => ⟨S1x16x2x16x128x256, .f32⟩
  | 15 => ⟨S1x16x2x16x128x128, .f32⟩
  | 16 => ⟨S1x16x2x128x16x128, .f32⟩
  | 17 => ⟨S1x16x2x16x128, .f32⟩
  | 18 => ⟨S1x16x2x16x128, .f32⟩
  | 19 => ⟨S1x16x2x16x128, .f32⟩
  | 20 => ⟨S1x16x2x16x128, .f32⟩
  | 21 => ⟨S1x16x256x16x128, .f32⟩
  | 22 => ⟨S1x256x16x16x128, .f32⟩
  | 23 => ⟨S1x4096x16x128, .f32⟩
  | 24 => ⟨S1x16x2x128x16, .f32⟩
  | 25 => ⟨S1x16x256x16, .f32⟩
  | 26 => ⟨S1x256x16x16, .f32⟩
  | 27 => ⟨S1x4096x16, .f32⟩
  | 28 => ⟨S1x4096x16, .f32⟩
  | 29 => ⟨S1x4096x16, .f32⟩
  | 30 => ⟨S1x4096x16, .f32⟩
  | 31 => ⟨S1x4096x16, .f32⟩
  | 32 => ⟨S1x4096x16, .f32⟩
  | 33 => ⟨S1x4096x16, .f32⟩
  | 34 => ⟨S1x4096x16, .f32⟩
  | 35 => ⟨S1x4096x16, .f32⟩
  | 36 => ⟨S1x4096x16, .f32⟩
  | 37 => ⟨S1x4096x16, .f32⟩
  | 38 => ⟨S1x4096x16x1, .f32⟩
  | 39 => ⟨S1x4096x16x128, .f32⟩
  | 40 => ⟨S1x4096x16x128, .f32⟩
  | 41 => ⟨S1x4096x16x1, .f32⟩
  | 42 => ⟨S1x4096x16x128, .f32⟩
  | 43 => ⟨S1x4096x16x128, .f32⟩
  | 44 => ⟨S1x4096x16x128, .f32⟩
  | 45 => ⟨S1x4096x16x1, .f32⟩
  | 46 => ⟨S1x4096x16x128, .f32⟩
  | 47 => ⟨S1x4096x16x128, .f32⟩
  | 48 => ⟨S1x4096x16x128, .f32⟩
  | 49 => ⟨S1x4096x16x1, .f32⟩
  | 50 => ⟨S1x4096x16x128, .f32⟩
  | 51 => ⟨S1x4096x16x128, .f32⟩
  | 52 => ⟨S1x4096x16, .f32⟩
  | 53 => ⟨S1x4096x16, .f32⟩
  | 54 => ⟨S4096x16, .f32⟩
  | 55 => ⟨S1x4096x16x128, .f32⟩
  | 56 => ⟨S_, .f32⟩
  | 57 => ⟨S1x4096x16, .f32⟩
  | 58 => ⟨S4096x16, .f32⟩
  | 59 => ⟨S128, .i32⟩
  | 60 => ⟨S128x1, .i32⟩
  | 61 => ⟨S256, .i32⟩
  | 62 => ⟨S1x256, .i32⟩
  | 63 => ⟨S_, .i32⟩
  | 64 => ⟨S128x1, .i32⟩
  | 65 => ⟨S128x1, .i32⟩
  | 66 => ⟨S128x256, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S128x256, .i32⟩
  | 74 => ⟨S128x256, .i1⟩
  | 75 => ⟨S128x256, .i1⟩
  | 76 => ⟨S_, .f32⟩
  | 77 => ⟨S_, .f32⟩
  | 78 => ⟨S16x128x256, .i1⟩
  | 79 => ⟨S16x128x256, .f32⟩
  | 80 => ⟨S16x128x256, .f32⟩
  | 81 => ⟨S4096x6144, .bf16⟩
  | 82 => ⟨S4096x2048, .f32⟩
  | 83 => ⟨S4096x2048, .bf16⟩
  | 84 => ⟨S_, .i32⟩
  | 85 => ⟨S_, .f32⟩
  | 86 => ⟨S4096x128, .f32⟩
  | 87 => ⟨S_, .i32⟩
  | 88 => ⟨S_, .f32⟩
  | 89 => ⟨S4096x128, .f32⟩
  | 90 => ⟨S256x98304, .bf16⟩
  | 91 => ⟨S256x32768, .bf16⟩
  | 92 => ⟨S256x2048, .f32⟩
  | 93 => ⟨S256x2048, .f32⟩
  | 94 => ⟨S256x32768, .bf16⟩
  | 95 => ⟨S256x32768, .bf16⟩
  | 96 => ⟨S256x32768, .bf16⟩
  | 97 => ⟨S16x128x256, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x128x256, .f32⟩
  | .local _ .vmem, ⟨13, _⟩ => ⟨S4x128x256, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S4x128x256, .f32⟩
  | .local _ .vmem, ⟨21, _⟩ => ⟨S4x128x256, .f32⟩
  | .local _ .vmem, ⟨22, _⟩ => ⟨S256x512, .f32⟩
  | .local _ .vmem, ⟨23, _⟩ => ⟨S256x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_13 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v98 : Ref sig .tc := ⟨.hbm, 131, rfl⟩
abbrev main_cst_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_21 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_c_22 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_c_23 : Ref sig .tc := ⟨.hbm, 197, rfl⟩
abbrev main_v160 : Ref sig .tc := ⟨.hbm, 198, rfl⟩
abbrev main_v161 : Ref sig .tc := ⟨.hbm, 199, rfl⟩
abbrev main_c_24 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_25 : Ref sig .tc := ⟨.hbm, 204, rfl⟩
abbrev main_call3_v0 : Ref sig .tc := ⟨.hbm, 205, rfl⟩
abbrev main_call3_v1 : Ref sig .tc := ⟨.hbm, 206, rfl⟩
abbrev main_call3_v2 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_c_26 : Ref sig .tc := ⟨.hbm, 212, rfl⟩
abbrev main_call4_v0 : Ref sig .tc := ⟨.hbm, 213, rfl⟩
abbrev main_v169 : Ref sig .tc := ⟨.hbm, 214, rfl⟩
abbrev main_c_27 : Ref sig .tc := ⟨.hbm, 215, rfl⟩
abbrev main_call5_v0 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175_0 : Ref sig .tc := ⟨.hbm, 222, rfl⟩
abbrev main_v175_1 : Ref sig .tc := ⟨.hbm, 223, rfl⟩
abbrev main_v175_2 : Ref sig .tc := ⟨.hbm, 224, rfl⟩
abbrev main_v175_3 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_mult1 : BitVec 32 :=
  let c1_i32_128 : BitVec 32 := 1#32
  let c128_i32 : BitVec 32 := 128#32
  let v265 : BitVec 32 := Scalar.muli c1_i32_128 c128_i32
  v265
def k0_mult2 : BitVec 32 :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  v268
def k0_off1 : Fin 2 → Nat :=
  let c1_i32_128 : BitVec 32 := 1#32
  let c128_i32 : BitVec 32 := 128#32
  let v265 : BitVec 32 := Scalar.muli c1_i32_128 c128_i32
  let v266 : BitVec 32 := v265
  let v270 : Index := Scalar.indexCast v266
  let c0_131 : Index := 0#32
  ![v270.toNat, 0]
def k0_off2 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v273 : Index := Scalar.indexCast v269
  let c0_132 : Index := 0#32
  ![v273.toNat, 0]
def k0_off3 : Fin 2 → Nat :=
  let c1_i32_128 : BitVec 32 := 1#32
  let c128_i32 : BitVec 32 := 128#32
  let v265 : BitVec 32 := Scalar.muli c1_i32_128 c128_i32
  let v266 : BitVec 32 := v265
  let v282 : Index := Scalar.indexCast v266
  let c0_135 : Index := 0#32
  ![v282.toNat, 0]
def k0_off4 : Fin 2 → Nat :=
  let c1_i32_128 : BitVec 32 := 1#32
  let c128_i32 : BitVec 32 := 128#32
  let v265 : BitVec 32 := Scalar.muli c1_i32_128 c128_i32
  let v266 : BitVec 32 := v265
  let v421 : Index := Scalar.indexCast v266
  let c0_175 : Index := 0#32
  ![v421.toNat, 0]
def k0_off5 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v423 : Index := Scalar.indexCast v269
  let c0_176 : Index := 0#32
  ![v423.toNat, 0]
def k0_off6 : Fin 2 → Nat :=
  let c1_i32_128 : BitVec 32 := 1#32
  let c128_i32 : BitVec 32 := 128#32
  let v265 : BitVec 32 := Scalar.muli c1_i32_128 c128_i32
  let v266 : BitVec 32 := v265
  let v454 : Index := Scalar.indexCast v266
  let c128_191 : Index := 128#32
  ![v454.toNat, 128]
def k0_off7 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v456 : Index := Scalar.indexCast v269
  let c128_192 : Index := 128#32
  ![v456.toNat, 128]
def k0_off8 : Fin 2 → Nat :=
  let c1_i32_128 : BitVec 32 := 1#32
  let c128_i32 : BitVec 32 := 128#32
  let v265 : BitVec 32 := Scalar.muli c1_i32_128 c128_i32
  let v266 : BitVec 32 := v265
  let v487 : Index := Scalar.indexCast v266
  let c256_207 : Index := 256#32
  ![v487.toNat, 256]
def k0_off9 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v489 : Index := Scalar.indexCast v269
  let c256_208 : Index := 256#32
  ![v489.toNat, 256]
def k0_off10 : Fin 2 → Nat :=
  let c1_i32_128 : BitVec 32 := 1#32
  let c128_i32 : BitVec 32 := 128#32
  let v265 : BitVec 32 := Scalar.muli c1_i32_128 c128_i32
  let v266 : BitVec 32 := v265
  let v520 : Index := Scalar.indexCast v266
  let c384_223 : Index := 384#32
  ![v520.toNat, 384]
def k0_off11 : Fin 2 → Nat :=
  let c1_i32_128 : BitVec 32 := 1#32
  let c1_i32_129 : BitVec 32 := 1#32
  let v267 : BitVec 32 := Scalar.subi c1_i32_128 c1_i32_129
  let c128_i32_130 : BitVec 32 := 128#32
  let v268 : BitVec 32 := Scalar.muli v267 c128_i32_130
  let v269 : BitVec 32 := v268
  let v522 : Index := Scalar.indexCast v269
  let c384_224 : Index := 384#32
  ![v522.toNat, 384]
def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi v0 c0_i32
  let c0_i32_0 : BitVec 32 := 0#32
  let v2 : BitVec 32 := Scalar.addi v1 c0_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg0
  let c0_i32_6 : BitVec 32 := 0#32
  let c0_i32_7 : BitVec 32 := 0#32
  ![c0_i32_6.toNat, v20.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi v0 c0_i32
  let c16_i32 : BitVec 32 := 16#32
  let v2 : BitVec 32 := Scalar.addi v1 c16_i32
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg0
  let c0_i32_5 : BitVec 32 := 0#32
  let c0_i32_6 : BitVec 32 := 0#32
  ![c0_i32_5.toNat, v20.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c0_i32 : BitVec 32 := 0#32
  let v1 : BitVec 32 := Scalar.addi v0 c0_i32
  let c32_i32 : BitVec 32 := 32#32
  let v2 : BitVec 32 := Scalar.addi v1 c32_i32
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg0
  let c0_i32_5 : BitVec 32 := 0#32
  let c0_i32_6 : BitVec 32 := 0#32
  ![c0_i32_5.toNat, v20.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== DwInSsm.lean ====
abbrev S1x4096x4096 : Shape := ⟨3, ![1, 4096, 4096]⟩
abbrev S1x4096x18560 : Shape := ⟨3, ![1, 4096, 18560]⟩
abbrev S4096x4096 : Shape := ⟨2, ![4096, 4096]⟩
abbrev S4096x18560 : Shape := ⟨2, ![4096, 18560]⟩
abbrev S18560x4096 : Shape := ⟨2, ![18560, 4096]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S1x4096x18560, .f32⟩
  | .hbm, ⟨2, _⟩ => ⟨S4096x4096, .f32⟩
  | .hbm, ⟨3, _⟩ => ⟨S4096x4096, .bf16⟩
  | .hbm, ⟨4, _⟩ => ⟨S4096x18560, .f32⟩
  | .hbm, ⟨5, _⟩ => ⟨S18560x4096, .f32⟩
  | .hbm, ⟨6, _⟩ => ⟨S18560x4096, .bf16⟩
  | .hbm, ⟨7, _⟩ => ⟨S18560x4096, .bf16⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .bf16⟩
  | .local _ .vmem, ⟨5, _⟩ => ⟨S640x1024, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![29, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInSsmReferenceIdeal.lean ====
abbrev S1x4096x4096 : Shape := ⟨3, ![1, 4096, 4096]⟩
abbrev S1x4096x18560 : Shape := ⟨3, ![1, 4096, 18560]⟩
abbrev S_ : Shape := ⟨0, ![]⟩
abbrev S4096x18560 : Shape := ⟨2, ![4096, 18560]⟩
abbrev S18560x4096 : Shape := ⟨2, ![18560, 4096]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S1x4096x18560, .f32⟩
  | .hbm, ⟨2, _⟩ => ⟨S_, .f32⟩
  | .hbm, ⟨3, _⟩ => ⟨S4096x18560, .f32⟩
  | .hbm, ⟨4, _⟩ => ⟨S1x4096x18560, .f32⟩
  | .hbm, ⟨5, _⟩ => ⟨S18560x4096, .f32⟩
  | .hbm, ⟨6, _⟩ => ⟨S4096x18560, .f32⟩
  | .hbm, ⟨7, _⟩ => ⟨S18560x4096, .f32⟩
  | .hbm, ⟨8, _⟩ => ⟨S18560x4096, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOutSsm.lean ====
abbrev S1x4096x8192 : Shape := ⟨3, ![1, 4096, 8192]⟩
abbrev S1x4096x4096 : Shape := ⟨3, ![1, 4096, 4096]⟩
abbrev S4096x8192 : Shape := ⟨2, ![4096, 8192]⟩
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x8192, .f32⟩
  | .hbm, ⟨1, _⟩ => ⟨S1x4096x4096, .f32⟩
  | .hbm, ⟨2, _⟩ => ⟨S4096x8192, .f32⟩
  | .hbm, ⟨3, _⟩ => ⟨S8192x4096, .f32⟩
  | .hbm, ⟨4, _⟩ => ⟨S8192x4096, .bf16⟩
  | .hbm, ⟨5, _⟩ => ⟨S4096x4096, .f32⟩
  | .hbm, ⟨6, _⟩ => ⟨S4096x4096, .bf16⟩
  | .hbm, ⟨7, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutSsmReferenceIdeal.lean ====
abbrev S1x4096x8192 : Shape := ⟨3, ![1, 4096, 8192]⟩
abbrev S1x4096x4096 : Shape := ⟨3, ![1, 4096, 4096]⟩
abbrev S_ : Shape := ⟨0, ![]⟩
abbrev S8192x4096 : Shape := ⟨2, ![8192, 4096]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x8192, .f32⟩
  | .hbm, ⟨1, _⟩ => ⟨S1x4096x4096, .f32⟩
  | .hbm, ⟨2, _⟩ => ⟨S_, .f32⟩
  | .hbm, ⟨3, _⟩ => ⟨S8192x4096, .f32⟩
  | .hbm, ⟨4, _⟩ => ⟨S1x4096x4096, .f32⟩
  | .hbm, ⟨5, _⟩ => ⟨S4096x8192, .f32⟩
  | .hbm, ⟨6, _⟩ => ⟨S8192x4096, .f32⟩
  | .hbm, ⟨7, _⟩ => ⟨S8192x4096, .bf16⟩
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dyn.lean ====
abbrev S8192x4096 : Shape := ⟨2, ![8192, 4096]⟩
abbrev S1x4096x4096 : Shape := ⟨3, ![1, 4096, 4096]⟩
abbrev S4096x4096 : Shape := ⟨2, ![4096, 4096]⟩
abbrev S4096x8192 : Shape := ⟨2, ![4096, 8192]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x4096, .f32⟩
  | .hbm, ⟨2, _⟩ => ⟨S8192x4096, .bf16⟩
  | .hbm, ⟨3, _⟩ => ⟨S4096x4096, .f32⟩
  | .hbm, ⟨4, _⟩ => ⟨S4096x4096, .bf16⟩
  | .hbm, ⟨5, _⟩ => ⟨S4096x8192, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DynReferenceIdeal.lean ====
abbrev S8192x4096 : Shape := ⟨2, ![8192, 4096]⟩
abbrev S1x4096x4096 : Shape := ⟨3, ![1, 4096, 4096]⟩
abbrev S_ : Shape := ⟨0, ![]⟩
abbrev S1x4096x8192 : Shape := ⟨3, ![1, 4096, 8192]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x4096, .f32⟩
  | .hbm, ⟨2, _⟩ => ⟨S_, .f32⟩
  | .hbm, ⟨3, _⟩ => ⟨S1x4096x8192, .f32⟩
  | .hbm, ⟨4, _⟩ => ⟨S1x4096x4096, .f32⟩
  | .hbm, ⟨5, _⟩ => ⟨S1x4096x8192, .f32⟩
  | .hbm, ⟨6, _⟩ => ⟨S4096x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOutAttn.lean ====
abbrev S1x4096x2048 : Shape := ⟨3, ![1, 4096, 2048]⟩
abbrev S1x4096x4096 : Shape := ⟨3, ![1, 4096, 4096]⟩
abbrev S4096x2048 : Shape := ⟨2, ![4096, 2048]⟩
abbrev S2048x4096 : Shape := ⟨2, ![2048, 4096]⟩
abbrev S4096x4096 : Shape := ⟨2, ![4096, 4096]⟩
abbrev S8x2048x512 : Shape := ⟨3, ![8, 2048, 512]⟩
abbrev S1024x4096 : Shape := ⟨2, ![1024, 4096]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S1x4096x4096, .f32⟩
  | .hbm, ⟨2, _⟩ => ⟨S4096x2048, .f32⟩
  | .hbm, ⟨3, _⟩ => ⟨S2048x4096, .f32⟩
  | .hbm, ⟨4, _⟩ => ⟨S2048x4096, .bf16⟩
  | .hbm, ⟨5, _⟩ => ⟨S4096x4096, .f32⟩
  | .hbm, ⟨6, _⟩ => ⟨S4096x4096, .bf16⟩
  | .hbm, ⟨7, _⟩ => ⟨S8x2048x512, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutAttnReferenceIdeal.lean ====
abbrev S1x4096x2048 : Shape := ⟨3, ![1, 4096, 2048]⟩
abbrev S1x4096x4096 : Shape := ⟨3, ![1, 4096, 4096]⟩
abbrev S_ : Shape := ⟨0, ![]⟩
abbrev S2048x4096 : Shape := ⟨2, ![2048, 4096]⟩
abbrev S4096x2048 : Shape := ⟨2, ![4096, 2048]⟩
abbrev S2048x512 : Shape := ⟨2, ![2048, 512]⟩
abbrev S1x2048x512 : Shape := ⟨3, ![1, 2048, 512]⟩
abbrev S8x2048x512 : Shape := ⟨3, ![8, 2048, 512]⟩

abbrev nBuf : Space → Nat
  | .hbm => 25
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x4096, .f32⟩
  | .hbm, ⟨2, _⟩ => ⟨S_, .f32⟩
  | .hbm, ⟨3, _⟩ => ⟨S2048x4096, .f32⟩
  | .hbm, ⟨4, _⟩ => ⟨S1x4096x4096, .f32⟩
  | .hbm, ⟨5, _⟩ => ⟨S4096x2048, .f32⟩
  | .hbm, ⟨6, _⟩ => ⟨S2048x4096, .f32⟩
  | .hbm, ⟨7, _⟩ => ⟨S2048x4096, .bf16⟩
  | .hbm, ⟨8, _⟩ => ⟨S2048x512, .bf16⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S2048x512, .bf16⟩
  | .hbm, ⟨13, _⟩ => ⟨S2048x512, .bf16⟩
  | .hbm, ⟨14, _⟩ => ⟨S2048x512, .bf16⟩
  | .hbm, ⟨15, _⟩ => ⟨S2048x512, .bf16⟩
  | .hbm, ⟨16, _⟩ => ⟨S1x2048x512, .bf16⟩
  | .hbm, ⟨17, _⟩ => ⟨S1x2048x512, .bf16⟩
  | .hbm, ⟨18, _⟩ => ⟨S1x2048x512, .bf16⟩
  | .hbm, ⟨19, _⟩ => ⟨S1x2048x512, .bf16⟩
  | .hbm, ⟨20, _⟩ => ⟨S1x2048x512, .bf16⟩
  | .hbm, ⟨21, _⟩ => ⟨S1x2048x512, .bf16⟩
  | .hbm, ⟨22, _⟩ => ⟨S1x2048x512, .bf16⟩
  | .hbm, ⟨23, _⟩ => ⟨S1x2048x512, .bf16⟩
  | .hbm, ⟨24, _⟩ => ⟨S8x2048x512, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== OutAttn.lean ====
abbrev S1x4096x2048 : Shape := ⟨3, ![1, 4096, 2048]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S2048x4096, .f32⟩
  | .hbm, ⟨2, _⟩ => ⟨S4096x2048, .f32⟩
  | .hbm, ⟨3, _⟩ => ⟨S4096x2048, .bf16⟩
  | .hbm, ⟨4, _⟩ => ⟨S2048x8x512, .f32⟩
  | .hbm, ⟨5, _⟩ => ⟨S8x2048x512, .f32⟩
  | .hbm, ⟨6, _⟩ => ⟨S8x2048x512, .bf16⟩
  | .hbm, ⟨7, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAttnReferenceIdeal.lean ====
abbrev S1x4096x2048 : Shape := ⟨3, ![1, 4096, 2048]⟩
abbrev S2048x4096 : Shape := ⟨2, ![2048, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x4096, .f32⟩
  | .hbm, ⟨2, _⟩ => ⟨S1x4096x4096, .f32⟩
  | .hbm, ⟨3, _⟩ => ⟨S4096x4096, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gate.lean ====
abbrev S1x4096x4096 : Shape := ⟨3, ![1, 4096, 4096]⟩
abbrev S4096x20480 : Shape := ⟨2, ![4096, 20480]⟩
abbrev S4096x4096 : Shape := ⟨2, ![4096, 4096]⟩
abbrev S4096x8x2560 : Shape := ⟨3, ![4096, 8, 2560]⟩
abbrev S8x4096x2560 : Shape := ⟨3, ![8, 4096, 2560]⟩
abbrev S4096x2048 : Shape := ⟨2, ![4096, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S4096x4096, .f32⟩
  | .hbm, ⟨3, _⟩ => ⟨S4096x4096, .bf16⟩
  | .hbm, ⟨4, _⟩ => ⟨S4096x8x2560, .f32⟩
  | .hbm, ⟨5, _⟩ => ⟨S8x4096x2560, .f32⟩
  | .hbm, ⟨6, _⟩ => ⟨S8x4096x2560, .bf16⟩
  | .hbm, ⟨7, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi arg1 c36_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c36_i32_4 : BitVec 32 := 36#32
  let v18 : BitVec 32 := Scalar.addi arg1 c36_i32_4
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S1x4096x4096 : Shape := ⟨3, ![1, 4096, 4096]⟩
abbrev S4096x20480 : Shape := ⟨2, ![4096, 20480]⟩
abbrev S1x4096x20480 : Shape := ⟨3, ![1, 4096, 20480]⟩
abbrev S1x4096x2048 : Shape := ⟨3, ![1, 4096, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S1x4096x20480, .f32⟩
  | .hbm, ⟨3, _⟩ => ⟨S1x4096x2048, .f32⟩
  | .hbm, ⟨4, _⟩ => ⟨S4096x2048, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutSsm.lean ====
abbrev S1x4096x8192 : Shape := ⟨3, ![1, 4096, 8192]⟩
abbrev S8192x4096 : Shape := ⟨2, ![8192, 4096]⟩
abbrev S4096x8192 : Shape := ⟨2, ![4096, 8192]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S1x4096x8192, .f32⟩
  | .hbm, ⟨1, _⟩ => ⟨S8192x4096, .f32⟩
  | .hbm, ⟨2, _⟩ => ⟨S4096x8192, .f32⟩
  | .hbm, ⟨3, _⟩ => ⟨S4096x8192, .bf16⟩
  | .hbm, ⟨4, _⟩ => ⟨S8192x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutSsmReferenceIdeal.lean ====
abbrev S1x4096x8192 : Shape := ⟨3, ![1, 4096, 8192]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S1x4096x8192, .f32⟩
  | .hbm, ⟨1, _⟩ => ⟨S8192x4096, .f32⟩
  | .hbm, ⟨2, _⟩ => ⟨S1x4096x4096, .f32⟩
  | .hbm, ⟨3, _⟩ => ⟨S4096x4096, .f32⟩
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dy.lean ====
abbrev S2048x4096 : Shape := ⟨2, ![2048, 4096]⟩
abbrev S1x4096x4096 : Shape := ⟨3, ![1, 4096, 4096]⟩
abbrev S4096x4096 : Shape := ⟨2, ![4096, 4096]⟩
abbrev S2048x8x512 : Shape := ⟨3, ![2048, 8, 512]⟩
abbrev S8x2048x512 : Shape := ⟨3, ![8, 2048, 512]⟩
abbrev S4096x2048 : Shape := ⟨2, ![4096, 2048]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S1x4096x4096, .f32⟩
  | .hbm, ⟨2, _⟩ => ⟨S4096x4096, .f32⟩
  | .hbm, ⟨3, _⟩ => ⟨S4096x4096, .bf16⟩
  | .hbm, ⟨4, _⟩ => ⟨S2048x8x512, .f32⟩
  | .hbm, ⟨5, _⟩ => ⟨S8x2048x512, .f32⟩
  | .hbm, ⟨6, _⟩ => ⟨S8x2048x512, .bf16⟩
  | .hbm, ⟨7, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyReferenceIdeal.lean ====
abbrev S2048x4096 : Shape := ⟨2, ![2048, 4096]⟩
abbrev S1x4096x4096 : Shape := ⟨3, ![1, 4096, 4096]⟩
abbrev S_ : Shape := ⟨0, ![]⟩
abbrev S1x4096x2048 : Shape := ⟨3, ![1, 4096, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x4096x4096, .f32⟩
  | .hbm, ⟨2, _⟩ => ⟨S_, .f32⟩
  | .hbm, ⟨3, _⟩ => ⟨S1x4096x2048, .f32⟩
  | .hbm, ⟨4, _⟩ => ⟨S1x4096x4096, .f32⟩
  | .hbm, ⟨5, _⟩ => ⟨S1x4096x2048, .f32⟩
  | .hbm, ⟨6, _⟩ => ⟨S4096x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InSsm.lean ====
abbrev S1x4096x4096 : Shape := ⟨3, ![1, 4096, 4096]⟩
abbrev S4096x18560 : Shape := ⟨2, ![4096, 18560]⟩
abbrev S4096x4096 : Shape := ⟨2, ![4096, 4096]⟩
abbrev S18560x4096 : Shape := ⟨2, ![18560, 4096]⟩
abbrev S1024x4096 : Shape := ⟨2, ![1024, 4096]⟩
abbrev S640x4096 : Shape := ⟨2, ![640, 4096]⟩
abbrev S1024x640 : Shape := ⟨2, ![1024, 640]⟩

abbrev nBuf : Space → Nat
  | .hbm => 7
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x18560, .f32⟩
  | .hbm, ⟨2, _⟩ => ⟨S4096x4096, .f32⟩
  | .hbm, ⟨3, _⟩ => ⟨S4096x4096, .bf16⟩
  | .hbm, ⟨4, _⟩ => ⟨S18560x4096, .f32⟩
  | .hbm, ⟨5, _⟩ => ⟨S18560x4096, .bf16⟩
  | .hbm, ⟨6, _⟩ => ⟨S4096x18560, .f32⟩
  | .local _ .vmem, ⟨0, _⟩ => ⟨S1024x4096, .bf16⟩
  | .local _ .vmem, ⟨1, _⟩ => ⟨S1024x4096, .bf16⟩
  | .local _ .vmem, ⟨2, _⟩ => ⟨S640x4096, .bf16⟩
  | .local _ .vmem, ⟨3, _⟩ => ⟨S640x4096, .bf16⟩
  | .local _ .vmem, ⟨4, _⟩ => ⟨S1024x640, .f32⟩
  | .local _ .vmem, ⟨5, _⟩ => ⟨S1024x640, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 29, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSsmReferenceIdeal.lean ====
abbrev S1x4096x4096 : Shape := ⟨3, ![1, 4096, 4096]⟩
abbrev S4096x18560 : Shape := ⟨2, ![4096, 18560]⟩
abbrev S1x4096x18560 : Shape := ⟨3, ![1, 4096, 18560]⟩

abbrev nBuf : Space → Nat
  | .hbm => 4
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x18560, .f32⟩
  | .hbm, ⟨2, _⟩ => ⟨S1x4096x18560, .f32⟩
  | .hbm, ⟨3, _⟩ => ⟨S4096x18560, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dx1.lean ====
abbrev S4096x18560 : Shape := ⟨2, ![4096, 18560]⟩
abbrev S1x4096x18560 : Shape := ⟨3, ![1, 4096, 18560]⟩
abbrev S1x4096x4096 : Shape := ⟨3, ![1, 4096, 4096]⟩
abbrev S18560x4096 : Shape := ⟨2, ![18560, 4096]⟩
abbrev S4096x4096 : Shape := ⟨2, ![4096, 4096]⟩
abbrev S1024x3712 : Shape := ⟨2, ![1024, 3712]⟩
abbrev S3712x512 : Shape := ⟨2, ![3712, 512]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S4096x18560, .f32⟩
  | .hbm, ⟨1, _⟩ => ⟨S1x4096x18560, .f32⟩
  | .hbm, ⟨2, _⟩ => ⟨S1x4096x4096, .f32⟩
  | .hbm, ⟨3, _⟩ => ⟨S4096x18560, .f32⟩
  | .hbm, ⟨4, _⟩ => ⟨S4096x18560, .bf16⟩
  | .hbm, ⟨5, _⟩ => ⟨S18560x4096, .f32⟩
  | .hbm, ⟨6, _⟩ => ⟨S18560x4096, .bf16⟩
  | .hbm, ⟨7, _⟩ => ⟨S4096x4096, .f32⟩
  | .hbm, ⟨8, _⟩ => ⟨S4096x4096, .f32⟩
  | .local _ .vmem, ⟨0, _⟩ => ⟨S1024x3712, .bf16⟩
  | .local _ .vmem, ⟨1, _⟩ => ⟨S1024x3712, .bf16⟩
  | .local _ .vmem, ⟨2, _⟩ => ⟨S3712x512, .bf16⟩
  | .local _ .vmem, ⟨3, _⟩ => ⟨S3712x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x18560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 5], ![false, false, false]⟩

def k0_cond3 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3712x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dx1ReferenceIdeal.lean ====
abbrev S4096x18560 : Shape := ⟨2, ![4096, 18560]⟩
abbrev S1x4096x18560 : Shape := ⟨3, ![1, 4096, 18560]⟩
abbrev S1x4096x4096 : Shape := ⟨3, ![1, 4096, 4096]⟩
abbrev S_ : Shape := ⟨0, ![]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x18560, .f32⟩
  | .hbm, ⟨1, _⟩ => ⟨S1x4096x18560, .f32⟩
  | .hbm, ⟨2, _⟩ => ⟨S1x4096x4096, .f32⟩
  | .hbm, ⟨3, _⟩ => ⟨S_, .f32⟩
  | .hbm, ⟨4, _⟩ => ⟨S1x4096x4096, .f32⟩
  | .hbm, ⟨5, _⟩ => ⟨S1x4096x18560, .f32⟩
  | .hbm, ⟨6, _⟩ => ⟨S_, .f32⟩
  | .hbm, ⟨7, _⟩ => ⟨S1x4096x4096, .f32⟩
  | .hbm, ⟨8, _⟩ => ⟨S1x4096x4096, .f32⟩
  | .hbm, ⟨9, _⟩ => ⟨S_, .f32⟩
  | .hbm, ⟨10, _⟩ => ⟨S1x4096x4096, .f32⟩
  | .hbm, ⟨11, _⟩ => ⟨S1x4096x4096, .f32⟩
  | .hbm, ⟨12, _⟩ => ⟨S1x4096x4096, .f32⟩
  | .hbm, ⟨13, _⟩ => ⟨S1x4096x4096, .f32⟩
  | .hbm, ⟨14, _⟩ => ⟨S4096x4096, .f32⟩
  | _, _ => ⟨S4096x18560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== DwInAttn.lean ====
abbrev S1x4096x4096 : Shape := ⟨3, ![1, 4096, 4096]⟩
abbrev S1x4096x20480 : Shape := ⟨3, ![1, 4096, 20480]⟩
abbrev S4096x4096 : Shape := ⟨2, ![4096, 4096]⟩
abbrev S4096x20480 : Shape := ⟨2, ![4096, 20480]⟩
abbrev S8x4096x2560 : Shape := ⟨3, ![8, 4096, 2560]⟩
abbrev S1024x4096 : Shape := ⟨2, ![1024, 4096]⟩
abbrev S4096x640 : Shape := ⟨2, ![4096, 640]⟩
abbrev S1x1024x640 : Shape := ⟨3, ![1, 1024, 640]⟩
abbrev S1024x640 : Shape := ⟨2, ![1024, 640]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S1x4096x20480, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S4096x20480, .f32⟩
  | .hbm, ⟨6, _⟩ => ⟨S4096x20480, .bf16⟩
  | .hbm, ⟨7, _⟩ => ⟨S8x4096x2560, .bf16⟩
  | .local _ .vmem, ⟨0, _⟩ => ⟨S1024x4096, .bf16⟩
  | .local _ .vmem, ⟨1, _⟩ => ⟨S1024x4096, .bf16⟩
  | .local _ .vmem, ⟨2, _⟩ => ⟨S4096x640, .bf16⟩
  | .local _ .vmem, ⟨3, _⟩ => ⟨S4096x640, .bf16⟩
  | .local _ .vmem, ⟨4, _⟩ => ⟨S1x1024x640, .bf16⟩
  | .local _ .vmem, ⟨5, _⟩ => ⟨S1x1024x640, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInAttnReferenceIdeal.lean ====
abbrev S1x4096x4096 : Shape := ⟨3, ![1, 4096, 4096]⟩
abbrev S1x4096x20480 : Shape := ⟨3, ![1, 4096, 20480]⟩
abbrev S_ : Shape := ⟨0, ![]⟩
abbrev S4096x20480 : Shape := ⟨2, ![4096, 20480]⟩
abbrev S20480x4096 : Shape := ⟨2, ![20480, 4096]⟩
abbrev S4096x2560 : Shape := ⟨2, ![4096, 2560]⟩
abbrev S1x4096x2560 : Shape := ⟨3, ![1, 4096, 2560]⟩
abbrev S8x4096x2560 : Shape := ⟨3, ![8, 4096, 2560]⟩

abbrev nBuf : Space → Nat
  | .hbm => 25
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S1x4096x20480, .f32⟩
  | .hbm, ⟨2, _⟩ => ⟨S_, .f32⟩
  | .hbm, ⟨3, _⟩ => ⟨S4096x20480, .f32⟩
  | .hbm, ⟨4, _⟩ => ⟨S1x4096x20480, .f32⟩
  | .hbm, ⟨5, _⟩ => ⟨S20480x4096, .f32⟩
  | .hbm, ⟨6, _⟩ => ⟨S4096x20480, .f32⟩
  | .hbm, ⟨7, _⟩ => ⟨S4096x20480, .bf16⟩
  | .hbm, ⟨8, _⟩ => ⟨S4096x2560, .bf16⟩
  | .hbm, ⟨9, _⟩ => ⟨S4096x2560, .bf16⟩
  | .hbm, ⟨10, _⟩ => ⟨S4096x2560, .bf16⟩
  | .hbm, ⟨11, _⟩ => ⟨S4096x2560, .bf16⟩
  | .hbm, ⟨12, _⟩ => ⟨S4096x2560, .bf16⟩
  | .hbm, ⟨13, _⟩ => ⟨S4096x2560, .bf16⟩
  | .hbm, ⟨14, _⟩ => ⟨S4096x2560, .bf16⟩
  | .hbm, ⟨15, _⟩ => ⟨S4096x2560, .bf16⟩
  | .hbm, ⟨16, _⟩ => ⟨S1x4096x2560, .bf16⟩
  | .hbm, ⟨17, _⟩ => ⟨S1x4096x2560, .bf16⟩
  | .hbm, ⟨18, _⟩ => ⟨S1x4096x2560, .bf16⟩
  | .hbm, ⟨19, _⟩ => ⟨S1x4096x2560, .bf16⟩
  | .hbm, ⟨20, _⟩ => ⟨S1x4096x2560, .bf16⟩
  | .hbm, ⟨21, _⟩ => ⟨S1x4096x2560, .bf16⟩
  | .hbm, ⟨22, _⟩ => ⟨S1x4096x2560, .bf16⟩
  | .hbm, ⟨23, _⟩ => ⟨S1x4096x2560, .bf16⟩
  | .hbm, ⟨24, _⟩ => ⟨S8x4096x2560, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Dx.lean ====
abbrev S4096x20480 : Shape := ⟨2, ![4096, 20480]⟩
abbrev S1x4096x20480 : Shape := ⟨3, ![1, 4096, 20480]⟩
abbrev S1x4096x4096 : Shape := ⟨3, ![1, 4096, 4096]⟩
abbrev S4096x8x2560 : Shape := ⟨3, ![4096, 8, 2560]⟩
abbrev S8x4096x2560 : Shape := ⟨3, ![8, 4096, 2560]⟩
abbrev S4096x4096 : Shape := ⟨2, ![4096, 4096]⟩
abbrev S1024x2560 : Shape := ⟨2, ![1024, 2560]⟩
abbrev S1x1024x2560 : Shape := ⟨3, ![1, 1024, 2560]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S4096x20480, .f32⟩
  | .hbm, ⟨1, _⟩ => ⟨S1x4096x20480, .f32⟩
  | .hbm, ⟨2, _⟩ => ⟨S1x4096x4096, .f32⟩
  | .hbm, ⟨3, _⟩ => ⟨S4096x20480, .f32⟩
  | .hbm, ⟨4, _⟩ => ⟨S4096x20480, .bf16⟩
  | .hbm, ⟨5, _⟩ => ⟨S4096x8x2560, .f32⟩
  | .hbm, ⟨6, _⟩ => ⟨S8x4096x2560, .f32⟩
  | .hbm, ⟨7, _⟩ => ⟨S8x4096x2560, .bf16⟩
  | .hbm, ⟨8, _⟩ => ⟨S4096x4096, .f32⟩
  | .hbm, ⟨9, _⟩ => ⟨S4096x4096, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxReferenceIdeal.lean ====
abbrev S4096x20480 : Shape := ⟨2, ![4096, 20480]⟩
abbrev S1x4096x20480 : Shape := ⟨3, ![1, 4096, 20480]⟩
abbrev S1x4096x4096 : Shape := ⟨3, ![1, 4096, 4096]⟩
abbrev S_ : Shape := ⟨0, ![]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x20480, .f32⟩
  | .hbm, ⟨1, _⟩ => ⟨S1x4096x20480, .f32⟩
  | .hbm, ⟨2, _⟩ => ⟨S1x4096x4096, .f32⟩
  | .hbm, ⟨3, _⟩ => ⟨S_, .f32⟩
  | .hbm, ⟨4, _⟩ => ⟨S1x4096x4096, .f32⟩
  | .hbm, ⟨5, _⟩ => ⟨S1x4096x20480, .f32⟩
  | .hbm, ⟨6, _⟩ => ⟨S_, .f32⟩
  | .hbm, ⟨7, _⟩ => ⟨S1x4096x4096, .f32⟩
  | .hbm, ⟨8, _⟩ => ⟨S1x4096x4096, .f32⟩
  | .hbm, ⟨9, _⟩ => ⟨S_, .f32⟩
  | .hbm, ⟨10, _⟩ => ⟨S1x4096x4096, .f32⟩
  | .hbm, ⟨11, _⟩ => ⟨S1x4096x4096, .f32⟩
  | .hbm, ⟨12, _⟩ => ⟨S1x4096x4096, .f32⟩
  | .hbm, ⟨13, _⟩ => ⟨S1x4096x4096, .f32⟩
  | .hbm, ⟨14, _⟩ => ⟨S4096x4096, .f32⟩
  | _, _ => ⟨S4096x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== QkvA.lean ====
abbrev S1x4096x4096 : Shape := ⟨3, ![1, 4096, 4096]⟩
abbrev S4096x20480 : Shape := ⟨2, ![4096, 20480]⟩
abbrev S4096x4096 : Shape := ⟨2, ![4096, 4096]⟩
abbrev S4096x8x2560 : Shape := ⟨3, ![4096, 8, 2560]⟩
abbrev S8x4096x2560 : Shape := ⟨3, ![8, 4096, 2560]⟩
abbrev S4096x6144 : Shape := ⟨2, ![4096, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S4096x4096, .f32⟩
  | .hbm, ⟨3, _⟩ => ⟨S4096x4096, .bf16⟩
  | .hbm, ⟨4, _⟩ => ⟨S4096x8x2560, .f32⟩
  | .hbm, ⟨5, _⟩ => ⟨S8x4096x2560, .f32⟩
  | .hbm, ⟨6, _⟩ => ⟨S8x4096x2560, .bf16⟩
  | .hbm, ⟨7, _⟩ => ⟨S4096x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c5_i32 : BitVec 32 := 5#32
  let v1 : BitVec 32 := Scalar.divsi v0 c5_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c5_i32 c0_i32_2
  let v8 : BitVec 32 := Scalar.extui v7
  let c0_i32_3 : BitVec 32 := 0#32
  let v9 : BitVec 1 := Scalar.cmpi .slt c5_i32 c0_i32_3
  let v10 : BitVec 32 := Scalar.extui v9
  let v11 : BitVec 32 := Scalar.subi v8 v10
  let v12 : BitVec 1 := Scalar.cmpi .ne v6 v11
  let v13 : BitVec 32 := Scalar.remsi v0 c5_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c5_i32_6 : BitVec 32 := 5#32
  let c0_i32_7 : BitVec 32 := 0#32
  let v19 : BitVec 1 := Scalar.cmpi .eq c5_i32_6 c0_i32_7
  let c1_i32_8 : BitVec 32 := 1#32
  let v20 : BitVec 32 := Scalar.select v19 c1_i32_8 c5_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvAIdeal.lean ====
abbrev S1x4096x4096 : Shape := ⟨3, ![1, 4096, 4096]⟩
abbrev S4096x20480 : Shape := ⟨2, ![4096, 20480]⟩
abbrev S4096x4096 : Shape := ⟨2, ![4096, 4096]⟩
abbrev S4096x8x2560 : Shape := ⟨3, ![4096, 8, 2560]⟩
abbrev S8x4096x2560 : Shape := ⟨3, ![8, 4096, 2560]⟩
abbrev S4096x6144 : Shape := ⟨2, ![4096, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S4096x4096, .f32⟩
  | .hbm, ⟨3, _⟩ => ⟨S4096x4096, .bf16⟩
  | .hbm, ⟨4, _⟩ => ⟨S4096x8x2560, .f32⟩
  | .hbm, ⟨5, _⟩ => ⟨S8x4096x2560, .f32⟩
  | .hbm, ⟨6, _⟩ => ⟨S8x4096x2560, .bf16⟩
  | .hbm, ⟨7, _⟩ => ⟨S4096x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c5_i32 : BitVec 32 := 5#32
  let v1 : BitVec 32 := Scalar.divsi v0 c5_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c5_i32 c0_i32_2
  let v8 : BitVec 32 := Scalar.extui v7
  let c0_i32_3 : BitVec 32 := 0#32
  let v9 : BitVec 1 := Scalar.cmpi .slt c5_i32 c0_i32_3
  let v10 : BitVec 32 := Scalar.extui v9
  let v11 : BitVec 32 := Scalar.subi v8 v10
  let v12 : BitVec 1 := Scalar.cmpi .ne v6 v11
  let v13 : BitVec 32 := Scalar.remsi v0 c5_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c5_i32_6 : BitVec 32 := 5#32
  let c0_i32_7 : BitVec 32 := 0#32
  let v19 : BitVec 1 := Scalar.cmpi .eq c5_i32_6 c0_i32_7
  let c1_i32_8 : BitVec 32 := 1#32
  let v20 : BitVec 32 := Scalar.select v19 c1_i32_8 c5_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvAReferenceIdeal.lean ====
abbrev S1x4096x4096 : Shape := ⟨3, ![1, 4096, 4096]⟩
abbrev S4096x20480 : Shape := ⟨2, ![4096, 20480]⟩
abbrev S1x4096x20480 : Shape := ⟨3, ![1, 4096, 20480]⟩
abbrev S1x4096x6144 : Shape := ⟨3, ![1, 4096, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S1x4096x20480, .f32⟩
  | .hbm, ⟨3, _⟩ => ⟨S1x4096x6144, .f32⟩
  | .hbm, ⟨4, _⟩ => ⟨S4096x6144, .f32⟩
  | .hbm, ⟨5, _⟩ => ⟨S4096x6144, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QkvB.lean ====
abbrev S1x4096x4096 : Shape := ⟨3, ![1, 4096, 4096]⟩
abbrev S4096x20480 : Shape := ⟨2, ![4096, 20480]⟩
abbrev S4096x4096 : Shape := ⟨2, ![4096, 4096]⟩
abbrev S4096x8x2560 : Shape := ⟨3, ![4096, 8, 2560]⟩
abbrev S8x4096x2560 : Shape := ⟨3, ![8, 4096, 2560]⟩
abbrev S4096x6144 : Shape := ⟨2, ![4096, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S4096x4096, .f32⟩
  | .hbm, ⟨3, _⟩ => ⟨S4096x4096, .bf16⟩
  | .hbm, ⟨4, _⟩ => ⟨S4096x8x2560, .f32⟩
  | .hbm, ⟨5, _⟩ => ⟨S8x4096x2560, .f32⟩
  | .hbm, ⟨6, _⟩ => ⟨S8x4096x2560, .bf16⟩
  | .hbm, ⟨7, _⟩ => ⟨S4096x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let v18 : BitVec 32 := Scalar.addi arg1 c12_i32_4
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvBIdeal.lean ====
abbrev S1x4096x4096 : Shape := ⟨3, ![1, 4096, 4096]⟩
abbrev S4096x20480 : Shape := ⟨2, ![4096, 20480]⟩
abbrev S4096x4096 : Shape := ⟨2, ![4096, 4096]⟩
abbrev S4096x8x2560 : Shape := ⟨3, ![4096, 8, 2560]⟩
abbrev S8x4096x2560 : Shape := ⟨3, ![8, 4096, 2560]⟩
abbrev S4096x6144 : Shape := ⟨2, ![4096, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S4096x4096, .f32⟩
  | .hbm, ⟨3, _⟩ => ⟨S4096x4096, .bf16⟩
  | .hbm, ⟨4, _⟩ => ⟨S4096x8x2560, .f32⟩
  | .hbm, ⟨5, _⟩ => ⟨S8x4096x2560, .f32⟩
  | .hbm, ⟨6, _⟩ => ⟨S8x4096x2560, .bf16⟩
  | .hbm, ⟨7, _⟩ => ⟨S4096x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let v18 : BitVec 32 := Scalar.addi arg1 c12_i32_4
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvBReferenceIdeal.lean ====
abbrev S1x4096x4096 : Shape := ⟨3, ![1, 4096, 4096]⟩
abbrev S4096x20480 : Shape := ⟨2, ![4096, 20480]⟩
abbrev S1x4096x20480 : Shape := ⟨3, ![1, 4096, 20480]⟩
abbrev S1x4096x6144 : Shape := ⟨3, ![1, 4096, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S1x4096x20480, .f32⟩
  | .hbm, ⟨3, _⟩ => ⟨S1x4096x6144, .f32⟩
  | .hbm, ⟨4, _⟩ => ⟨S4096x6144, .f32⟩
  | .hbm, ⟨5, _⟩ => ⟨S4096x6144, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QkvC.lean ====
abbrev S1x4096x4096 : Shape := ⟨3, ![1, 4096, 4096]⟩
abbrev S4096x20480 : Shape := ⟨2, ![4096, 20480]⟩
abbrev S4096x4096 : Shape := ⟨2, ![4096, 4096]⟩
abbrev S4096x8x2560 : Shape := ⟨3, ![4096, 8, 2560]⟩
abbrev S8x4096x2560 : Shape := ⟨3, ![8, 4096, 2560]⟩
abbrev S4096x6144 : Shape := ⟨2, ![4096, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S4096x4096, .f32⟩
  | .hbm, ⟨3, _⟩ => ⟨S4096x4096, .bf16⟩
  | .hbm, ⟨4, _⟩ => ⟨S4096x8x2560, .f32⟩
  | .hbm, ⟨5, _⟩ => ⟨S8x4096x2560, .f32⟩
  | .hbm, ⟨6, _⟩ => ⟨S8x4096x2560, .bf16⟩
  | .hbm, ⟨7, _⟩ => ⟨S4096x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi arg1 c24_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let v18 : BitVec 32 := Scalar.addi arg1 c24_i32_4
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvCReferenceIdeal.lean ====
abbrev S1x4096x4096 : Shape := ⟨3, ![1, 4096, 4096]⟩
abbrev S4096x20480 : Shape := ⟨2, ![4096, 20480]⟩
abbrev S1x4096x20480 : Shape := ⟨3, ![1, 4096, 20480]⟩
abbrev S1x4096x6144 : Shape := ⟨3, ![1, 4096, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x20480, .f32⟩
  | .hbm, ⟨2, _⟩ => ⟨S1x4096x20480, .f32⟩
  | .hbm, ⟨3, _⟩ => ⟨S1x4096x6144, .f32⟩
  | .hbm, ⟨4, _⟩ => ⟨S4096x6144, .f32⟩
  | .hbm, ⟨5, _⟩ => ⟨S4096x6144, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamSmall.lean ====
abbrev S208x128 : Shape := ⟨2, ![208, 128]⟩

abbrev nBuf : Space → Nat
  | .hbm => 7
  | .vmem => 7
  | .smem => 0
  | _ => 0

abbrev bufTy : (tb : Table) → Fin (tcTables nBuf tb) → BufTy
  | .hbm, ⟨0, _⟩ => ⟨S208x128, .f32⟩
  | .hbm, ⟨1, _⟩ => ⟨S208x128, .f32⟩
  | .hbm, ⟨2, _⟩ => ⟨S208x128, .f32⟩
  | .hbm, ⟨3, _⟩ => ⟨S208x128, .f32⟩
  | .hbm, ⟨4, _⟩ => ⟨S208x128, .f32⟩
  | .hbm, ⟨5, _⟩ => ⟨S208x128, .f32⟩
  | .hbm, ⟨6, _⟩ => ⟨S208x128, .f32⟩
  | .local _ .vmem, ⟨0, _⟩ => ⟨S208x128, .f32⟩
  | .local _ .vmem, ⟨1, _⟩ => ⟨S208x128, .f32⟩
  | .local _ .vmem, ⟨2, _⟩ => ⟨S208x128, .f32⟩
  | .local _ .vmem, ⟨3, _⟩ => ⟨S208x128, .f32⟩
  | .local _ .vmem, ⟨4, _⟩ => ⟨S208x128, .f32⟩
  | .local _ .vmem, ⟨5, _⟩ => ⟨S208x128, .f32⟩
  | .local _ .vmem, ⟨6, _⟩ => ⟨S208x128, .f32⟩
  | _, _ => ⟨S208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S208x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S208x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S208x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S208x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S208x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S208x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallReferenceIdeal.lean ====
abbrev S208x128 : Shape := ⟨2, ![208, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S208x128, .f32⟩
  | .hbm, ⟨1, _⟩ => ⟨S208x128, .f32⟩
  | .hbm, ⟨2, _⟩ => ⟨S208x128, .f32⟩
  | .hbm, ⟨3, _⟩ => ⟨S208x128, .f32⟩
  | .hbm, ⟨4, _⟩ => ⟨S_, .f32⟩
  | .hbm, ⟨5, _⟩ => ⟨S208x128, .f32⟩
  | .hbm, ⟨6, _⟩ => ⟨S208x128, .f32⟩
  | .hbm, ⟨7, _⟩ => ⟨S_, .f32⟩
  | .hbm, ⟨8, _⟩ => ⟨S208x128, .f32⟩
  | .hbm, ⟨9, _⟩ => ⟨S208x128, .f32⟩
  | .hbm, ⟨10, _⟩ => ⟨S208x128, .f32⟩
  | .hbm, ⟨11, _⟩ => ⟨S_, .f32⟩
  | .hbm, ⟨12, _⟩ => ⟨S208x128, .f32⟩
  | .hbm, ⟨13, _⟩ => ⟨S208x128, .f32⟩
  | .hbm, ⟨14, _⟩ => ⟨S208x128, .f32⟩
  | .hbm, ⟨15, _⟩ => ⟨S_, .f32⟩
  | .hbm, ⟨16, _⟩ => ⟨S208x128, .f32⟩
  | .hbm, ⟨17, _⟩ => ⟨S208x128, .f32⟩
  | .hbm, ⟨18, _⟩ => ⟨S208x128, .f32⟩
  | .hbm, ⟨19, _⟩ => ⟨S_, .f32⟩
  | .hbm, ⟨20, _⟩ => ⟨S208x128, .f32⟩
  | .hbm, ⟨21, _⟩ => ⟨S208x128, .f32⟩
  | .hbm, ⟨22, _⟩ => ⟨S_, .f32⟩
  | .hbm, ⟨23, _⟩ => ⟨S208x128, .f32⟩
  | .hbm, ⟨24, _⟩ => ⟨S208x128, .f32⟩
  | .hbm, ⟨25, _⟩ => ⟨S208x128, .f32⟩
  | .hbm, ⟨26, _⟩ => ⟨S_, .f32⟩
  | .hbm, ⟨27, _⟩ => ⟨S208x128, .f32⟩
  | .hbm, ⟨28, _⟩ => ⟨S208x128, .f32⟩
  | .hbm, ⟨29, _⟩ => ⟨S208x128, .f32⟩
  | .hbm, ⟨30, _⟩ => ⟨S_, .f32⟩
  | .hbm, ⟨31, _⟩ => ⟨S208x128, .f32⟩
  | .hbm, ⟨32, _⟩ => ⟨S208x128, .f32⟩
  | .hbm, ⟨33, _⟩ => ⟨S208x128, .f32⟩
  | .hbm, ⟨34, _⟩ => ⟨S_, .f32⟩
  | .hbm, ⟨35, _⟩ => ⟨S208x128, .f32⟩
  | .hbm, ⟨36, _⟩ => ⟨S208x128, .f32⟩
  | _, _ => ⟨S208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOutAttn.lean ====
abbrev S8x2048x512 : Shape := ⟨3, ![8, 2048, 512]⟩
abbrev S1x2048x512 : Shape := ⟨3, ![1, 2048, 512]⟩
abbrev S8x128x512 : Shape := ⟨3, ![8, 128, 512]⟩
abbrev S1x128x512 : Shape := ⟨3, ![1, 128, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x512, .bf16⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x512, .f32⟩
  | .hbm, ⟨5, _⟩ => ⟨S1x2048x512, .f32⟩
  | .hbm, ⟨6, _⟩ => ⟨S1x2048x512, .f32⟩
  | .hbm, ⟨7, _⟩ => ⟨S1x2048x512, .f32⟩
  | .local _ .vmem, ⟨0, _⟩ => ⟨S8x128x512, .bf16⟩
  | .local _ .vmem, ⟨1, _⟩ => ⟨S8x128x512, .bf16⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![c0_i32_1.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutAttnReferenceIdeal.lean ====
abbrev S8x2048x512 : Shape := ⟨3, ![8, 2048, 512]⟩
abbrev S1x2048x512 : Shape := ⟨3, ![1, 2048, 512]⟩
abbrev S_ : Shape := ⟨0, ![]⟩
abbrev S2048x512 : Shape := ⟨2, ![2048, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S1x2048x512, .f32⟩
  | .hbm, ⟨8, _⟩ => ⟨S_, .f32⟩
  | .hbm, ⟨9, _⟩ => ⟨S1x2048x512, .f32⟩
  | .hbm, ⟨10, _⟩ => ⟨S1x2048x512, .f32⟩
  | .hbm, ⟨11, _⟩ => ⟨S_, .f32⟩
  | .hbm, ⟨12, _⟩ => ⟨S1x2048x512, .f32⟩
  | .hbm, ⟨13, _⟩ => ⟨S1x2048x512, .f32⟩
  | .hbm, ⟨14, _⟩ => ⟨S1x2048x512, .f32⟩
  | .hbm, ⟨15, _⟩ => ⟨S_, .f32⟩
  | .hbm, ⟨16, _⟩ => ⟨S1x2048x512, .f32⟩
  | .hbm, ⟨17, _⟩ => ⟨S1x2048x512, .f32⟩
  | .hbm, ⟨18, _⟩ => ⟨S1x2048x512, .f32⟩
  | .hbm, ⟨19, _⟩ => ⟨S_, .f32⟩
  | .hbm, ⟨20, _⟩ => ⟨S1x2048x512, .f32⟩
  | .hbm, ⟨21, _⟩ => ⟨S1x2048x512, .f32⟩
  | .hbm, ⟨22, _⟩ => ⟨S1x2048x512, .f32⟩
  | .hbm, ⟨23, _⟩ => ⟨S_, .f32⟩
  | .hbm, ⟨24, _⟩ => ⟨S1x2048x512, .f32⟩
  | .hbm, ⟨25, _⟩ => ⟨S1x2048x512, .f32⟩
  | .hbm, ⟨26, _⟩ => ⟨S_, .f32⟩
  | .hbm, ⟨27, _⟩ => ⟨S1x2048x512, .f32⟩
  | .hbm, ⟨28, _⟩ => ⟨S1x2048x512, .f32⟩
  | .hbm, ⟨29, _⟩ => ⟨S1x2048x512, .f32⟩
  | .hbm, ⟨30, _⟩ => ⟨S_, .f32⟩
  | .hbm, ⟨31, _⟩ => ⟨S1x2048x512, .f32⟩
  | .hbm, ⟨32, _⟩ => ⟨S1x2048x512, .f32⟩
  | .hbm, ⟨33, _⟩ => ⟨S1x2048x512, .f32⟩
  | .hbm, ⟨34, _⟩ => ⟨S_, .f32⟩
  | .hbm, ⟨35, _⟩ => ⟨S1x2048x512, .f32⟩
  | .hbm, ⟨36, _⟩ => ⟨S1x2048x512, .f32⟩
  | .hbm, ⟨37, _⟩ => ⟨S1x2048x512, .f32⟩
  | .hbm, ⟨38, _⟩ => ⟨S_, .f32⟩
  | .hbm, ⟨39, _⟩ => ⟨S1x2048x512, .f32⟩
  | .hbm, ⟨40, _⟩ => ⟨S1x2048x512, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamInAttn.lean ====
abbrev S6x2048x2560 : Shape := ⟨3, ![6, 2048, 2560]⟩
abbrev S2x2048x2560 : Shape := ⟨3, ![2, 2048, 2560]⟩
abbrev S1x2048x2560 : Shape := ⟨3, ![1, 2048, 2560]⟩
abbrev S1x4096x2560 : Shape := ⟨3, ![1, 4096, 2560]⟩
abbrev S6x128x2560 : Shape := ⟨3, ![6, 128, 2560]⟩
abbrev S2x128x2560 : Shape := ⟨3, ![2, 128, 2560]⟩
abbrev S1x128x2560 : Shape := ⟨3, ![1, 128, 2560]⟩
abbrev S128x2560 : Shape := ⟨2, ![128, 2560]⟩

abbrev nBuf : Space → Nat
  | .hbm => 12
  | .vmem => 24
  | .smem => 0
  | _ => 0

abbrev bufTy : (tb : Table) → Fin (tcTables nBuf tb) → BufTy
  | .hbm, ⟨0, _⟩ => ⟨S6x2048x2560, .bf16⟩
  | .hbm, ⟨1, _⟩ => ⟨S2x2048x2560, .bf16⟩
  | .hbm, ⟨2, _⟩ => ⟨S6x2048x2560, .bf16⟩
  | .hbm, ⟨3, _⟩ => ⟨S1x2048x2560, .bf16⟩
  | .hbm, ⟨4, _⟩ => ⟨S1x2048x2560, .bf16⟩
  | .hbm, ⟨5, _⟩ => ⟨S1x4096x2560, .f32⟩
  | .hbm, ⟨6, _⟩ => ⟨S1x4096x2560, .f32⟩
  | .hbm, ⟨7, _⟩ => ⟨S1x4096x2560, .f32⟩
  | .hbm, ⟨8, _⟩ => ⟨S1x4096x2560, .f32⟩
  | .hbm, ⟨9, _⟩ => ⟨S1x4096x2560, .f32⟩
  | .hbm, ⟨10, _⟩ => ⟨S1x4096x2560, .f32⟩
  | .hbm, ⟨11, _⟩ => ⟨S1x4096x2560, .f32⟩
  | .local _ .vmem, ⟨0, _⟩ => ⟨S6x128x2560, .bf16⟩
  | .local _ .vmem, ⟨1, _⟩ => ⟨S6x128x2560, .bf16⟩
  | .local _ .vmem, ⟨2, _⟩ => ⟨S2x128x2560, .bf16⟩
  | .local _ .vmem, ⟨3, _⟩ => ⟨S2x128x2560, .bf16⟩
  | .local _ .vmem, ⟨4, _⟩ => ⟨S6x128x2560, .bf16⟩
  | .local _ .vmem, ⟨5, _⟩ => ⟨S6x128x2560, .bf16⟩
  | .local _ .vmem, ⟨6, _⟩ => ⟨S1x128x2560, .bf16⟩
  | .local _ .vmem, ⟨7, _⟩ => ⟨S1x128x2560, .bf16⟩
  | .local _ .vmem, ⟨8, _⟩ => ⟨S1x128x2560, .bf16⟩
  | .local _ .vmem, ⟨9, _⟩ => ⟨S1x128x2560, .bf16⟩
  | .local _ .vmem, ⟨10, _⟩ => ⟨S1x128x2560, .f32⟩
  | .local _ .vmem, ⟨11, _⟩ => ⟨S1x128x2560, .f32⟩
  | .local _ .vmem, ⟨12, _⟩ => ⟨S1x128x2560, .f32⟩
  | .local _ .vmem, ⟨13, _⟩ => ⟨S1x128x2560, .f32⟩
  | .local _ .vmem, ⟨14, _⟩ => ⟨S1x128x2560, .f32⟩
  | .local _ .vmem, ⟨15, _⟩ => ⟨S1x128x2560, .f32⟩
  | .local _ .vmem, ⟨16, _⟩ => ⟨S1x128x2560, .f32⟩
  | .local _ .vmem, ⟨17, _⟩ => ⟨S1x128x2560, .f32⟩
  | .local _ .vmem, ⟨18, _⟩ => ⟨S1x128x2560, .f32⟩
  | .local _ .vmem, ⟨19, _⟩ => ⟨S1x128x2560, .f32⟩
  | .local _ .vmem, ⟨20, _⟩ => ⟨S1x128x2560, .f32⟩
  | .local _ .vmem, ⟨21, _⟩ => ⟨S1x128x2560, .f32⟩
  | .local _ .vmem, ⟨22, _⟩ => ⟨S1x128x2560, .f32⟩
  | .local _ .vmem, ⟨23, _⟩ => ⟨S1x128x2560, .f32⟩
  | _, _ => ⟨S6x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![c0_i32_1.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![c0_i32_1.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S6x128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S6x128x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2560 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2560 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamInAttnReferenceIdeal.lean ====
abbrev S6x2048x2560 : Shape := ⟨3, ![6, 2048, 2560]⟩
abbrev S2x2048x2560 : Shape := ⟨3, ![2, 2048, 2560]⟩
abbrev S1x2048x2560 : Shape := ⟨3, ![1, 2048, 2560]⟩
abbrev S1x4096x2560 : Shape := ⟨3, ![1, 4096, 2560]⟩
abbrev S_ : Shape := ⟨0, ![]⟩
abbrev S2048x2560 : Shape := ⟨2, ![2048, 2560]⟩
abbrev S4096x2560 : Shape := ⟨2, ![4096, 2560]⟩

abbrev nBuf : Space → Nat
  | .hbm => 61
  | .vmem => 0
  | .smem => 0
  | _ => 0

abbrev bufTy : (tb : Table) → Fin (tcTables nBuf tb) → BufTy
  | .hbm, ⟨0, _⟩ => ⟨S6x2048x2560, .bf16⟩
  | .hbm, ⟨1, _⟩ => ⟨S2x2048x2560, .bf16⟩
  | .hbm, ⟨2, _⟩ => ⟨S6x2048x2560, .bf16⟩
  | .hbm, ⟨3, _⟩ => ⟨S1x2048x2560, .bf16⟩
  | .hbm, ⟨4, _⟩ => ⟨S1x2048x2560, .bf16⟩
  | .hbm, ⟨5, _⟩ => ⟨S1x4096x2560, .f32⟩
  | .hbm, ⟨6, _⟩ => ⟨S1x4096x2560, .f32⟩
  | .hbm, ⟨7, _⟩ => ⟨S1x4096x2560, .f32⟩
  | .hbm, ⟨8, _⟩ => ⟨S6x2048x2560, .f32⟩
  | .hbm, ⟨9, _⟩ => ⟨S_, .f32⟩
  | .hbm, ⟨10, _⟩ => ⟨S2048x2560, .f32⟩
  | .hbm, ⟨11, _⟩ => ⟨S2x2048x2560, .f32⟩
  | .hbm, ⟨12, _⟩ => ⟨S_, .f32⟩
  | .hbm, ⟨13, _⟩ => ⟨S2048x2560, .f32⟩
  | .hbm, ⟨14, _⟩ => ⟨S2048x2560, .f32⟩
  | .hbm, ⟨15, _⟩ => ⟨S6x2048x2560, .f32⟩
  | .hbm, ⟨16, _⟩ => ⟨S_, .f32⟩
  | .hbm, ⟨17, _⟩ => ⟨S2048x2560, .f32⟩
  | .hbm, ⟨18, _⟩ => ⟨S1x2048x2560, .f32⟩
  | .hbm, ⟨19, _⟩ => ⟨S_, .f32⟩
  | .hbm, ⟨20, _⟩ => ⟨S2048x2560, .f32⟩
  | .hbm, ⟨21, _⟩ => ⟨S2048x2560, .f32⟩
  | .hbm, ⟨22, _⟩ => ⟨S1x2048x2560, .f32⟩
  | .hbm, ⟨23, _⟩ => ⟨S_, .f32⟩
  | .hbm, ⟨24, _⟩ => ⟨S2048x2560, .f32⟩
  | .hbm, ⟨25, _⟩ => ⟨S2048x2560, .f32⟩
  | .hbm, ⟨26, _⟩ => ⟨S4096x2560, .f32⟩
  | .hbm, ⟨27, _⟩ => ⟨S1x4096x2560, .f32⟩
  | .hbm, ⟨28, _⟩ => ⟨S_, .f32⟩
  | .hbm, ⟨29, _⟩ => ⟨S1x4096x2560, .f32⟩
  | .hbm, ⟨30, _⟩ => ⟨S1x4096x2560, .f32⟩
  | .hbm, ⟨31, _⟩ => ⟨S_, .f32⟩
  | .hbm, ⟨32, _⟩ => ⟨S1x4096x2560, .f32⟩
  | .hbm, ⟨33, _⟩ => ⟨S1x4096x2560, .f32⟩
  | .hbm, ⟨34, _⟩ => ⟨S1x4096x2560, .f32⟩
  | .hbm, ⟨35, _⟩ => ⟨S_, .f32⟩
  | .hbm, ⟨36, _⟩ => ⟨S1x4096x2560, .f32⟩
  | .hbm, ⟨37, _⟩ => ⟨S1x4096x2560, .f32⟩
  | .hbm, ⟨38, _⟩ => ⟨S1x4096x2560, .f32⟩
  | .hbm, ⟨39, _⟩ => ⟨S_, .f32⟩
  | .hbm, ⟨40, _⟩ => ⟨S1x4096x2560, .f32⟩
  | .hbm, ⟨41, _⟩ => ⟨S1x4096x2560, .f32⟩
  | .hbm, ⟨42, _⟩ => ⟨S1x4096x2560, .f32⟩
  | .hbm, ⟨43, _⟩ => ⟨S_, .f32⟩
  | .hbm, ⟨44, _⟩ => ⟨S1x4096x2560, .f32⟩
  | .hbm, ⟨45, _⟩ => ⟨S1x4096x2560, .f32⟩
  | .hbm, ⟨46, _⟩ => ⟨S_, .f32⟩
  | .hbm, ⟨47, _⟩ => ⟨S1x4096x2560, .f32⟩
  | .hbm, ⟨48, _⟩ => ⟨S1x4096x2560, .f32⟩
  | .hbm, ⟨49, _⟩ => ⟨S1x4096x2560, .f32⟩
  | .hbm, ⟨50, _⟩ => ⟨S_, .f32⟩
  | .hbm, ⟨51, _⟩ => ⟨S1x4096x2560, .f32⟩
  | .hbm, ⟨52, _⟩ => ⟨S1x4096x2560, .f32⟩
  | .hbm, ⟨53, _⟩ => ⟨S1x4096x2560, .f32⟩
  | .hbm, ⟨54, _⟩ => ⟨S_, .f32⟩
  | .hbm, ⟨55, _⟩ => ⟨S1x4096x2560, .f32⟩
  | .hbm, ⟨56, _⟩ => ⟨S1x4096x2560, .f32⟩
  | .hbm, ⟨57, _⟩ => ⟨S1x4096x2560, .f32⟩
  | .hbm, ⟨58, _⟩ => ⟨S_, .f32⟩
  | .hbm, ⟨59, _⟩ => ⟨S1x4096x2560, .f32⟩
  | .hbm, ⟨60, _⟩ => ⟨S1x4096x2560, .f32⟩
  | _, _ => ⟨S6x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== AdamOutSsm.lean ====
abbrev S8x1024x4096 : Shape := ⟨3, ![8, 1024, 4096]⟩
abbrev S1x1024x4096 : Shape := ⟨3, ![1, 1024, 4096]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x4096, .bf16⟩
  | .hbm, ⟨1, _⟩ => ⟨S1x1024x4096, .f32⟩
  | .hbm, ⟨2, _⟩ => ⟨S1x1024x4096, .f32⟩
  | .hbm, ⟨3, _⟩ => ⟨S1x1024x4096, .f32⟩
  | .hbm, ⟨4, _⟩ => ⟨S1x1024x4096, .f32⟩
  | .hbm, ⟨5, _⟩ => ⟨S1x1024x4096, .f32⟩
  | .hbm, ⟨6, _⟩ => ⟨S1x1024x4096, .f32⟩
  | .hbm, ⟨7, _⟩ => ⟨S1x1024x4096, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutSsmReferenceIdeal.lean ====
abbrev S8x1024x4096 : Shape := ⟨3, ![8, 1024, 4096]⟩
abbrev S1x1024x4096 : Shape := ⟨3, ![1, 1024, 4096]⟩
abbrev S_ : Shape := ⟨0, ![]⟩
abbrev S1024x4096 : Shape := ⟨2, ![1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S1x1024x4096, .f32⟩
  | .hbm, ⟨2, _⟩ => ⟨S1x1024x4096, .f32⟩
  | .hbm, ⟨3, _⟩ => ⟨S1x1024x4096, .f32⟩
  | .hbm, ⟨4, _⟩ => ⟨S8x1024x4096, .f32⟩
  | .hbm, ⟨5, _⟩ => ⟨S_, .f32⟩
  | .hbm, ⟨6, _⟩ => ⟨S1024x4096, .f32⟩
  | .hbm, ⟨7, _⟩ => ⟨S1x1024x4096, .f32⟩
  | .hbm, ⟨8, _⟩ => ⟨S_, .f32⟩
  | .hbm, ⟨9, _⟩ => ⟨S1x1024x4096, .f32⟩
  | .hbm, ⟨10, _⟩ => ⟨S1x1024x4096, .f32⟩
  | .hbm, ⟨11, _⟩ => ⟨S_, .f32⟩
  | .hbm, ⟨12, _⟩ => ⟨S1x1024x4096, .f32⟩
  | .hbm, ⟨13, _⟩ => ⟨S1x1024x4096, .f32⟩
  | .hbm, ⟨14, _⟩ => ⟨S1x1024x4096, .f32⟩
  | .hbm, ⟨15, _⟩ => ⟨S_, .f32⟩
  | .hbm, ⟨16, _⟩ => ⟨S1x1024x4096, .f32⟩
  | .hbm, ⟨17, _⟩ => ⟨S1x1024x4096, .f32⟩
  | .hbm, ⟨18, _⟩ => ⟨S1x1024x4096, .f32⟩
  | .hbm, ⟨19, _⟩ => ⟨S_, .f32⟩
  | .hbm, ⟨20, _⟩ => ⟨S1x1024x4096, .f32⟩
  | .hbm, ⟨21, _⟩ => ⟨S1x1024x4096, .f32⟩
  | .hbm, ⟨22, _⟩ => ⟨S1x1024x4096, .f32⟩
  | .hbm, ⟨23, _⟩ => ⟨S_, .f32⟩
  | .hbm, ⟨24, _⟩ => ⟨S1x1024x4096, .f32⟩
  | .hbm, ⟨25, _⟩ => ⟨S1x1024x4096, .f32⟩
  | .hbm, ⟨26, _⟩ => ⟨S_, .f32⟩
  | .hbm, ⟨27, _⟩ => ⟨S1x1024x4096, .f32⟩
  | .hbm, ⟨28, _⟩ => ⟨S1x1024x4096, .f32⟩
  | .hbm, ⟨29, _⟩ => ⟨S1x1024x4096, .f32⟩
  | .hbm, ⟨30, _⟩ => ⟨S_, .f32⟩
  | .hbm, ⟨31, _⟩ => ⟨S1x1024x4096, .f32⟩
  | .hbm, ⟨32, _⟩ => ⟨S1x1024x4096, .f32⟩
  | .hbm, ⟨33, _⟩ => ⟨S1x1024x4096, .f32⟩
  | .hbm, ⟨34, _⟩ => ⟨S_, .f32⟩
  | .hbm, ⟨35, _⟩ => ⟨S1x1024x4096, .f32⟩
  | .hbm, ⟨36, _⟩ => ⟨S1x1024x4096, .f32⟩
  | .hbm, ⟨37, _⟩ => ⟨S1x1024x4096, .f32⟩
  | .hbm, ⟨38, _⟩ => ⟨S_, .f32⟩
  | .hbm, ⟨39, _⟩ => ⟨S1x1024x4096, .f32⟩
  | .hbm, ⟨40, _⟩ => ⟨S1x1024x4096, .f32⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamInSsm.lean ====
abbrev S6x2320x4096 : Shape := ⟨3, ![6, 2320, 4096]⟩
abbrev S1x2320x4096 : Shape := ⟨3, ![1, 2320, 4096]⟩
abbrev S6x80x2048 : Shape := ⟨3, ![6, 80, 2048]⟩
abbrev S1x80x2048 : Shape := ⟨3, ![1, 80, 2048]⟩
abbrev S80x2048 : Shape := ⟨2, ![80, 2048]⟩

abbrev nBuf : Space → Nat
  | .hbm => 10
  | .vmem => 20
  | .smem => 0
  | _ => 0

abbrev bufTy : (tb : Table) → Fin (tcTables nBuf tb) → BufTy
  | .hbm, ⟨0, _⟩ => ⟨S6x2320x4096, .bf16⟩
  | .hbm, ⟨1, _⟩ => ⟨S1x2320x4096, .bf16⟩
  | .hbm, ⟨2, _⟩ => ⟨S1x2320x4096, .bf16⟩
  | .hbm, ⟨3, _⟩ => ⟨S1x2320x4096, .f32⟩
  | .hbm, ⟨4, _⟩ => ⟨S1x2320x4096, .f32⟩
  | .hbm, ⟨5, _⟩ => ⟨S1x2320x4096, .f32⟩
  | .hbm, ⟨6, _⟩ => ⟨S1x2320x4096, .f32⟩
  | .hbm, ⟨7, _⟩ => ⟨S1x2320x4096, .f32⟩
  | .hbm, ⟨8, _⟩ => ⟨S1x2320x4096, .f32⟩
  | .hbm, ⟨9, _⟩ => ⟨S1x2320x4096, .f32⟩
  | .local _ .vmem, ⟨0, _⟩ => ⟨S6x80x2048, .bf16⟩
  | .local _ .vmem, ⟨1, _⟩ => ⟨S6x80x2048, .bf16⟩
  | .local _ .vmem, ⟨2, _⟩ => ⟨S1x80x2048, .bf16⟩
  | .local _ .vmem, ⟨3, _⟩ => ⟨S1x80x2048, .bf16⟩
  | .local _ .vmem, ⟨4, _⟩ => ⟨S1x80x2048, .bf16⟩
  | .local _ .vmem, ⟨5, _⟩ => ⟨S1x80x2048, .bf16⟩
  | .local _ .vmem, ⟨6, _⟩ => ⟨S1x80x2048, .f32⟩
  | .local _ .vmem, ⟨7, _⟩ => ⟨S1x80x2048, .f32⟩
  | .local _ .vmem, ⟨8, _⟩ => ⟨S1x80x2048, .f32⟩
  | .local _ .vmem, ⟨9, _⟩ => ⟨S1x80x2048, .f32⟩
  | .local _ .vmem, ⟨10, _⟩ => ⟨S1x80x2048, .f32⟩
  | .local _ .vmem, ⟨11, _⟩ => ⟨S1x80x2048, .f32⟩
  | .local _ .vmem, ⟨12, _⟩ => ⟨S1x80x2048, .f32⟩
  | .local _ .vmem, ⟨13, _⟩ => ⟨S1x80x2048, .f32⟩
  | .local _ .vmem, ⟨14, _⟩ => ⟨S1x80x2048, .f32⟩
  | .local _ .vmem, ⟨15, _⟩ => ⟨S1x80x2048, .f32⟩
  | .local _ .vmem, ⟨16, _⟩ => ⟨S1x80x2048, .f32⟩
  | .local _ .vmem, ⟨17, _⟩ => ⟨S1x80x2048, .f32⟩
  | .local _ .vmem, ⟨18, _⟩ => ⟨S1x80x2048, .f32⟩
  | .local _ .vmem, ⟨19, _⟩ => ⟨S1x80x2048, .f32⟩
  | _, _ => ⟨S6x2320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![29, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c28_i32 : BitVec 32 := 28#32
  let v1 : BitVec 32 := Scalar.maxsi c0_i32_0 v0
  let v2 : BitVec 32 := Scalar.minsi c28_i32 v1
  let c0_i32_1 : BitVec 32 := 0#32
  let c0_i32_2 : BitVec 32 := 0#32
  ![c0_i32_1.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c28_i32 : BitVec 32 := 28#32
  let v1 : BitVec 32 := Scalar.maxsi c0_i32_0 v0
  let v2 : BitVec 32 := Scalar.minsi c28_i32 v1
  let c0_i32_1 : BitVec 32 := 0#32
  let c0_i32_2 : BitVec 32 := 0#32
  ![c0_i32_1.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c28_i32 : BitVec 32 := 28#32
  let v1 : BitVec 32 := Scalar.maxsi c0_i32_0 v0
  let v2 : BitVec 32 := Scalar.minsi c28_i32 v1
  let c0_i32_1 : BitVec 32 := 0#32
  let c0_i32_2 : BitVec 32 := 0#32
  ![c0_i32_1.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S6x80x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x80x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x80x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x80x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x80x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x80x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x80x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AdamInSsmReferenceIdeal.lean ====
abbrev S6x2320x4096 : Shape := ⟨3, ![6, 2320, 4096]⟩
abbrev S1x2320x4096 : Shape := ⟨3, ![1, 2320, 4096]⟩
abbrev S_ : Shape := ⟨0, ![]⟩
abbrev S2320x4096 : Shape := ⟨2, ![2320, 4096]⟩

abbrev nBuf : Space → Nat
  | .hbm => 51
  | .vmem => 0
  | .smem => 0
  | _ => 0

abbrev bufTy : (tb : Table) → Fin (tcTables nBuf tb) → BufTy
  | .hbm, ⟨0, _⟩ => ⟨S6x2320x4096, .bf16⟩
  | .hbm, ⟨1, _⟩ => ⟨S1x2320x4096, .bf16⟩
  | .hbm, ⟨2, _⟩ => ⟨S1x2320x4096, .bf16⟩
  | .hbm, ⟨3, _⟩ => ⟨S1x2320x4096, .f32⟩
  | .hbm, ⟨4, _⟩ => ⟨S1x2320x4096, .f32⟩
  | .hbm, ⟨5, _⟩ => ⟨S1x2320x4096, .f32⟩
  | .hbm, ⟨6, _⟩ => ⟨S6x2320x4096, .f32⟩
  | .hbm, ⟨7, _⟩ => ⟨S_, .f32⟩
  | .hbm, ⟨8, _⟩ => ⟨S2320x4096, .f32⟩
  | .hbm, ⟨9, _⟩ => ⟨S1x2320x4096, .f32⟩
  | .hbm, ⟨10, _⟩ => ⟨S_, .f32⟩
  | .hbm, ⟨11, _⟩ => ⟨S2320x4096, .f32⟩
  | .hbm, ⟨12, _⟩ => ⟨S2320x4096, .f32⟩
  | .hbm, ⟨13, _⟩ => ⟨S1x2320x4096, .f32⟩
  | .hbm, ⟨14, _⟩ => ⟨S_, .f32⟩
  | .hbm, ⟨15, _⟩ => ⟨S2320x4096, .f32⟩
  | .hbm, ⟨16, _⟩ => ⟨S2320x4096, .f32⟩
  | .hbm, ⟨17, _⟩ => ⟨S1x2320x4096, .f32⟩
  | .hbm, ⟨18, _⟩ => ⟨S_, .f32⟩
  | .hbm, ⟨19, _⟩ => ⟨S1x2320x4096, .f32⟩
  | .hbm, ⟨20, _⟩ => ⟨S1x2320x4096, .f32⟩
  | .hbm, ⟨21, _⟩ => ⟨S_, .f32⟩
  | .hbm, ⟨22, _⟩ => ⟨S1x2320x4096, .f32⟩
  | .hbm, ⟨23, _⟩ => ⟨S1x2320x4096, .f32⟩
  | .hbm, ⟨24, _⟩ => ⟨S1x2320x4096, .f32⟩
  | .hbm, ⟨25, _⟩ => ⟨S_, .f32⟩
  | .hbm, ⟨26, _⟩ => ⟨S1x2320x4096, .f32⟩
  | .hbm, ⟨27, _⟩ => ⟨S1x2320x4096, .f32⟩
  | .hbm, ⟨28, _⟩ => ⟨S1x2320x4096, .f32⟩
  | .hbm, ⟨29, _⟩ => ⟨S_, .f32⟩
  | .hbm, ⟨30, _⟩ => ⟨S1x2320x4096, .f32⟩
  | .hbm, ⟨31, _⟩ => ⟨S1x2320x4096, .f32⟩
  | .hbm, ⟨32, _⟩ => ⟨S1x2320x4096, .f32⟩
  | .hbm, ⟨33, _⟩ => ⟨S_, .f32⟩
  | .hbm, ⟨34, _⟩ => ⟨S1x2320x4096, .f32⟩
  | .hbm, ⟨35, _⟩ => ⟨S1x2320x4096, .f32⟩
  | .hbm, ⟨36, _⟩ => ⟨S_, .f32⟩
  | .hbm, ⟨37, _⟩ => ⟨S1x2320x4096, .f32⟩
  | .hbm, ⟨38, _⟩ => ⟨S1x2320x4096, .f32⟩
  | .hbm, ⟨39, _⟩ => ⟨S1x2320x4096, .f32⟩
  | .hbm, ⟨40, _⟩ => ⟨S_, .f32⟩
  | .hbm, ⟨41, _⟩ => ⟨S1x2320x4096, .f32⟩
  | .hbm, ⟨42, _⟩ => ⟨S1x2320x4096, .f32⟩
  | .hbm, ⟨43, _⟩ => ⟨S1x2320x4096, .f32⟩
  | .hbm, ⟨44, _⟩ => ⟨S_, .f32⟩
  | .hbm, ⟨45, _⟩ => ⟨S1x2320x4096, .f32⟩
  | .hbm, ⟨46, _⟩ => ⟨S1x2320x4096, .f32⟩
  | .hbm, ⟨47, _⟩ => ⟨S1x2320x4096, .f32⟩
  | .hbm, ⟨48, _⟩ => ⟨S_, .f32⟩
  | .hbm, ⟨49, _⟩ => ⟨S1x2320x4096, .f32⟩
  | .hbm, ⟨50, _⟩ => ⟨S1x2320x4096, .f32⟩
  | _, _ => ⟨S6x2320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== SumSmall.lean ====
abbrev S8x608x128 : Shape := ⟨3, ![8, 608, 128]⟩
abbrev S608x128 : Shape := ⟨2, ![608, 128]⟩
abbrev S1x608x128 : Shape := ⟨3, ![1, 608, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x608x128, .f32⟩
  | .hbm, ⟨1, _⟩ => ⟨S608x128, .f32⟩
  | .local _ .vmem, ⟨0, _⟩ => ⟨S8x608x128, .f32⟩
  | .local _ .vmem, ⟨1, _⟩ => ⟨S608x128, .f32⟩
  | _, _ => ⟨S8x608x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x608x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S608x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallReferenceIdeal.lean ====
abbrev S8x608x128 : Shape := ⟨3, ![8, 608, 128]⟩
abbrev S_ : Shape := ⟨0, ![]⟩
abbrev S608x128 : Shape := ⟨2, ![608, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x608x128, .f32⟩
  | .hbm, ⟨1, _⟩ => ⟨S_, .f32⟩
  | .hbm, ⟨2, _⟩ => ⟨S608x128, .f32⟩
  | _, _ => ⟨S8x608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Loss.lean ====
abbrev S4096x4096 : Shape := ⟨2, ![4096, 4096]⟩
abbrev S1x4096 : Shape := ⟨2, ![1, 4096]⟩
abbrev S8x128 : Shape := ⟨2, ![8, 128]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S1x1 : Shape := ⟨2, ![1, 1]⟩
abbrev S4096 : Shape := ⟨1, ![4096]⟩

abbrev nBuf : Space → Nat
  | .hbm => 10
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S8x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S1x4096, .f32⟩
  | .local _ .vmem, ⟨13, _⟩ => ⟨S1x4096, .f32⟩
  | .local _ .vmem, ⟨14, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossReferenceIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== LnFwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnFwdReferenceIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Dt.lean ====
abbrev S4096x18560 : Shape := ⟨2, ![4096, 18560]⟩
abbrev S1x128 : Shape := ⟨2, ![1, 128]⟩
abbrev S4096x128 : Shape := ⟨2, ![4096, 128]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x18560, .f32⟩
  | .hbm, ⟨1, _⟩ => ⟨S1x128, .f32⟩
  | .hbm, ⟨2, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | _, _ => ⟨S4096x18560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c144_i32 : BitVec 32 := 144#32
  let c0_i32 : BitVec 32 := 0#32
  ![arg0.toNat, c144_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DtReferenceIdeal.lean ====
abbrev S4096x18560 : Shape := ⟨2, ![4096, 18560]⟩
abbrev S1x128 : Shape := ⟨2, ![1, 128]⟩
abbrev S4096x128 : Shape := ⟨2, ![4096, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x18560, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .i1⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | _, _ => ⟨S4096x18560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v3 : Ref sig .tc := ⟨.hbm, 18, rfl⟩

abbrev nD : Nat := 1
abbrev τ : Topo := Topo.v7x

variable {F : FTy → Type} [FloatOps F]
-- ==== CastX.lean ====
abbrev S4096x4096 : Shape := ⟨2, ![4096, 4096]⟩
abbrev S512x4096 : Shape := ⟨2, ![512, 4096]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CastXReferenceIdeal.lean ====
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .f32⟩
  | .hbm, ⟨3, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Conv.lean ====
abbrev S4096x18560 : Shape := ⟨2, ![4096, 18560]⟩
abbrev S4x10240 : Shape := ⟨2, ![4, 10240]⟩
abbrev S1x10240 : Shape := ⟨2, ![1, 10240]⟩
abbrev S4096x10240 : Shape := ⟨2, ![4096, 10240]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S1016x512 : Shape := ⟨2, ![1016, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x18560, .f32⟩
  | .hbm, ⟨1, _⟩ => ⟨S4x10240, .f32⟩
  | .hbm, ⟨2, _⟩ => ⟨S1x10240, .f32⟩
  | .hbm, ⟨3, _⟩ => ⟨S4096x10240, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S4096x18560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvReferenceIdeal.lean ====
abbrev S4096x18560 : Shape := ⟨2, ![4096, 18560]⟩
abbrev S4x10240 : Shape := ⟨2, ![4, 10240]⟩
abbrev S1x10240 : Shape := ⟨2, ![1, 10240]⟩
abbrev S_ : Shape := ⟨0, ![]⟩
abbrev S3x10240 : Shape := ⟨2, ![3, 10240]⟩
abbrev S4096x10240 : Shape := ⟨2, ![4096, 10240]⟩
abbrev S4099x10240 : Shape := ⟨2, ![4099, 10240]⟩
abbrev S10240 : Shape := ⟨1, ![10240]⟩

abbrev nBuf : Space → Nat
  | .hbm => 48
  | .vmem => 0
  | .smem => 0
  | _ => 0

abbrev bufTy : (tb : Table) → Fin (tcTables nBuf tb) → BufTy
  | .hbm, ⟨0, _⟩ => ⟨S4096x18560, .f32⟩
  | .hbm, ⟨1, _⟩ => ⟨S4x10240, .f32⟩
  | .hbm, ⟨2, _⟩ => ⟨S1x10240, .f32⟩
  | .hbm, ⟨3, _⟩ => ⟨S_, .f32⟩
  | .hbm, ⟨4, _⟩ => ⟨S3x10240, .f32⟩
  | .hbm, ⟨5, _⟩ => ⟨S4096x10240, .f32⟩
  | .hbm, ⟨6, _⟩ => ⟨S4099x10240, .f32⟩
  | .hbm, ⟨7, _⟩ => ⟨S4096x10240, .f32⟩
  | .hbm, ⟨8, _⟩ => ⟨S1x10240, .f32⟩
  | .hbm, ⟨9, _⟩ => ⟨S10240, .f32⟩
  | .hbm, ⟨10, _⟩ => ⟨S1x10240, .f32⟩
  | .hbm, ⟨11, _⟩ => ⟨S4096x10240, .f32⟩
  | .hbm, ⟨12, _⟩ => ⟨S4096x10240, .f32⟩
  | .hbm, ⟨13, _⟩ => ⟨S_, .f32⟩
  | .hbm, ⟨14, _⟩ => ⟨S4096x10240, .f32⟩
  | .hbm, ⟨15, _⟩ => ⟨S4096x10240, .f32⟩
  | .hbm, ⟨16, _⟩ => ⟨S4096x10240, .f32⟩
  | .hbm, ⟨17, _⟩ => ⟨S1x10240, .f32⟩
  | .hbm, ⟨18, _⟩ => ⟨S10240, .f32⟩
  | .hbm, ⟨19, _⟩ => ⟨S1x10240, .f32⟩
  | .hbm, ⟨20, _⟩ => ⟨S4096x10240, .f32⟩
  | .hbm, ⟨21, _⟩ => ⟨S4096x10240, .f32⟩
  | .hbm, ⟨22, _⟩ => ⟨S4096x10240, .f32⟩
  | .hbm, ⟨23, _⟩ => ⟨S4096x10240, .f32⟩
  | .hbm, ⟨24, _⟩ => ⟨S1x10240, .f32⟩
  | .hbm, ⟨25, _⟩ => ⟨S10240, .f32⟩
  | .hbm, ⟨26, _⟩ => ⟨S1x10240, .f32⟩
  | .hbm, ⟨27, _⟩ => ⟨S4096x10240, .f32⟩
  | .hbm, ⟨28, _⟩ => ⟨S4096x10240, .f32⟩
  | .hbm, ⟨29, _⟩ => ⟨S4096x10240, .f32⟩
  | .hbm, ⟨30, _⟩ => ⟨S4096x10240, .f32⟩
  | .hbm, ⟨31, _⟩ => ⟨S1x10240, .f32⟩
  | .hbm, ⟨32, _⟩ => ⟨S10240, .f32⟩
  | .hbm, ⟨33, _⟩ => ⟨S1x10240, .f32⟩
  | .hbm, ⟨34, _⟩ => ⟨S4096x10240, .f32⟩
  | .hbm, ⟨35, _⟩ => ⟨S4096x10240, .f32⟩
  | .hbm, ⟨36, _⟩ => ⟨S4096x10240, .f32⟩
  | .hbm, ⟨37, _⟩ => ⟨S4096x10240, .f32⟩
  | .hbm, ⟨38, _⟩ => ⟨S4096x10240, .f32⟩
  | .hbm, ⟨39, _⟩ => ⟨S4096x10240, .f32⟩
  | .hbm, ⟨40, _⟩ => ⟨S4096x10240, .f32⟩
  | .hbm, ⟨41, _⟩ => ⟨S_, .f32⟩
  | .hbm, ⟨42, _⟩ => ⟨S4096x10240, .f32⟩
  | .hbm, ⟨43, _⟩ => ⟨S4096x10240, .f32⟩
  | .hbm, ⟨44, _⟩ => ⟨S_, .f32⟩
  | .hbm, ⟨45, _⟩ => ⟨S4096x10240, .f32⟩
  | .hbm, ⟨46, _⟩ => ⟨S4096x10240, .f32⟩
  | .hbm, ⟨47, _⟩ => ⟨S4096x10240, .f32⟩
  | _, _ => ⟨S4096x18560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.DwInSsm.lean ====
/- The value of `DwInSsm`, the weight gradient of the SSM input projection on one device: entry (i, j) of the written
   array is the sum over the 4096 tokens of cotangent column i times input column j, and so is the reference's. -/
module

public import proofs.«01_k».proof.Defs
public import proofs.«01_k».proof.Proof.Gen.DwInSsmIdeal.Value
public import proofs.«01_k».proof.Proof.Gen.DwInSsmReferenceIdeal.Run
public import Idealize.ShloMosaic.Lib.Pointwise
public import Idealize.ShloMosaic.Lib.Claim

@[expose] public section

noncomputable section

namespace Cert.DwInSsmIdeal.Product

open Cert.DwInSsmIdeal Cert.DwInSsmIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- The product both programs compute. -/
def prod (x0 : Vec Ideal S1x4096x4096 .f32) (x1 : Vec Ideal S1x4096x18560 .f32) : Vec Ideal S18560x4096 .bf16 :=
  fun i => ∑ k : Fin 4096, (x1 (ix3 0 k (i 0)) * x0 (ix3 0 k (i 1)) : EReal)

/-- What the body leaves in the output block, entry by entry. -/
theorem out_apply (x : Vec Ideal S640x4096 .bf16) (y : Vec Ideal S4096x1024 .bf16) (p : Fin 640) (q : Fin 1024) :
    out0_2 x y (ix2 p q) = ∑ k : Fin 4096, (x (ix2 p k) * y (ix2 k q) : EReal) := by
  unfold out0_2
  rw [View.canon_unit_zero hz, View.ld_unit_zero (S := S640x4096) hz, View.ld_unit_zero (S := S4096x1024) hz]
  unfold k0_pay1
  pointwise

/-- The left operand's array at the call, entry by entry. -/
theorem entry_a (c : Dev nD) (i : Fin 18560) (k : Fin 4096) :
    V m c main_v4 (ix2 i k) = m ((c : Thread nD τ).loc main_arg1) (ix3 0 k i) := by
  entry_read
  pointwise

/-- The right operand's array at the call, entry by entry. -/
theorem entry_b (c : Dev nD) (k : Fin 4096) (j : Fin 4096) :
    V m c main_v1 (ix2 k j) = m ((c : Thread nD τ).loc main_arg0) (ix3 0 k j) := by
  entry_read
  pointwise

/-- Which blocks grid point `t` reads and writes. -/
theorem index_facts : ∀ t : Fin grid0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4) := by
  decide +kernel

/-- An entry of the left operand's block at `t`. -/
theorem block_a (c : Dev nD) (t : Fin cfg0.N) (p : Fin 640) (k : Fin 4096) (i : Fin 18560) (hi : i.val = t.val / 4 * 640 + p.val) :
    (iblk m c 0 t : Vec Ideal S640x4096 .bf16) (ix2 p k) = m ((c : Thread nD τ).loc main_arg1) (ix3 0 k i) := by
  rw [← entry_a m c i k]
  unfold iblk
  rw [View.read_apply]
  show V m c main_v4 _ = V m c main_v4 _
  congr 1
  funext a
  apply Fin.ext
  obtain ⟨⟨h0, h1⟩, -, -⟩ := index_facts t
  match a with
  | ⟨0, _⟩ => show win0_0.index t 0 * 640 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 1024) (j : Fin 4096) (hj : j.val = t.val % 4 * 1024 + q.val) :
    (iblk m c 1 t : Vec Ideal S4096x1024 .bf16) (ix2 k q) = m ((c : Thread nD τ).loc main_arg0) (ix3 0 k j) := by
  rw [← entry_b m c k j]
  unfold iblk
  rw [View.read_apply]
  show V m c main_v1 _ = V m c main_v1 _
  congr 1
  funext a
  apply Fin.ext
  obtain ⟨-, ⟨h0, h1⟩, -⟩ := index_facts t
  match a with
  | ⟨0, _⟩ => show win0_1.index t 0 * 4096 + 1 * k.val = k.val; rw [h0]; omega
  | ⟨1, _⟩ => show win0_1.index t 1 * 1024 + 1 * q.val = j.val; rw [h1]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 116 := lt_of_lt_of_eq t.isLt N_0
  obtain ⟨-, -, ⟨h0, h1⟩⟩ := index_facts t
  funext y
  rw [View.read_apply]
  obtain ⟨p, q, rfl⟩ : ∃ (p : Fin 640) (q : Fin 1024), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) (block_b m c t k q _ ?_)
  · show win0_2.index t 0 * 640 + 1 * p.val = _; rw [h0]; omega
  · show win0_2.index t 1 * 1024 + 1 * q.val = _; rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 18560 := (i 0).isLt
    have b1 : (i 1 : Nat) < 4096 := (i 1).isLt
    obtain ⟨t, ht⟩ : ∃ t : Fin cfg0.N, t.val = (i 0 : Nat) / 640 * 4 + (i 1 : Nat) / 1024 :=
      ⟨⟨(i 0 : Nat) / 640 * 4 + (i 1 : Nat) / 1024, lt_of_lt_of_eq (by omega) N_0.symm⟩, rfl⟩
    obtain ⟨-, -, ⟨h0, h1⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 640 ≤ (i 0 : Nat) ∧ (i 0 : Nat) < win0_2.index t 0 * 640 + 640
                rw [h0]; omega
    | ⟨1, _⟩ => show win0_2.index t 1 * 1024 ≤ (i 1 : Nat) ∧ (i 1 : Nat) < win0_2.index t 1 * 1024 + 1024
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.DwInSsmIdeal.Product

namespace Cert.DwInSsmReferenceIdeal.Product

open Cert.DwInSsmReferenceIdeal Cert.DwInSsmReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = Cert.DwInSsmIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 18560) (q : Fin 4096), y = ix2 p q := ⟨y 0, y 1, by funext a; fin_cases a <;> rfl⟩
    unfold Cert.DwInSsmIdeal.Product.prod
    pointwise
    exact Fin.sum_univ_one _), (h c).2⟩) (Value.run (F := Ideal) m ρ)

/-- It terminates, faults nowhere, and leaves the arguments and every semaphore as they were. -/
theorem frame : quiescent_DwInSsmReferenceIdeal := fun m ρ _ =>
  (θ_run defs _ _).mono (fun r h => ⟨fun c => (h c).2, sem_eq_zero_of_no_sems (by decide) r.2⟩) (Value.run (F := Ideal) m ρ)

end Cert.DwInSsmReferenceIdeal.Product

namespace Cert.Proof

open Idealize.ShloMosaic Idealize.SL.Sem

/-- The kernel's result and the reference's are the same array. -/
theorem algebraic_DwInSsm : algebraic_DwInSsmIdeal_DwInSsmReferenceIdeal := by
  intro m g m' g' _ hagree
  refine ⟨fun c => Cert.DwInSsmIdeal.Product.result m c, Cert.DwInSsmIdeal.Product.run m g, ?_⟩
  refine (θ_run Cert.DwInSsmReferenceIdeal.defs _ _).mono (fun r h c => ⟨(h c).1.trans ?_, (h c).2⟩)
    (Cert.DwInSsmReferenceIdeal.Product.run m' g')
  rw [(hagree c).1, (hagree c).2]

end Cert.Proof

end
-- ==== Proof.DwOutSsm.lean ====
/- The value of `DwOutSsm`, the weight gradient of the SSM output projection on one device: entry (i, j) of the written
   array is the sum over the 4096 tokens of input column i times cotangent column j, and so is the reference's. -/
module

public import proofs.«01_k».proof.Defs
public import proofs.«01_k».proof.Proof.Gen.DwOutSsmIdeal.Value
public import proofs.«01_k».proof.Proof.Gen.DwOutSsmReferenceIdeal.Run
public import Idealize.ShloMosaic.Lib.Pointwise
public import Idealize.ShloMosaic.Lib.Claim

@[expose] public section

noncomputable section

namespace Cert.DwOutSsmIdeal.Product

open Cert.DwOutSsmIdeal Cert.DwOutSsmIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- The product both programs compute. -/
def prod (x0 : Vec Ideal S1x4096x8192 .f32) (x1 : Vec Ideal S1x4096x4096 .f32) : Vec Ideal S8192x4096 .bf16 :=
  fun i => ∑ k : Fin 4096, (x0 (ix3 0 k (i 0)) * x1 (ix3 0 k (i 1)) : EReal)

/-- What the body leaves in the output block, entry by entry. -/
theorem out_apply (x : Vec Ideal S1024x4096 .bf16) (y : Vec Ideal S4096x1024 .bf16) (p : Fin 1024) (q : Fin 1024) :
    out0_2 x y (ix2 p q) = ∑ k : Fin 4096, (x (ix2 p k) * y (ix2 k q) : EReal) := by
  unfold out0_2
  rw [View.canon_unit_zero hz, View.ld_unit_zero (S := S1024x4096) hz, View.ld_unit_zero (S := S4096x1024) hz]
  unfold k0_pay1
  pointwise

/-- The left operand's array at the call, entry by entry. -/
theorem entry_a (c : Dev nD) (i : Fin 8192) (k : Fin 4096) :
    V m c main_v2 (ix2 i k) = m ((c : Thread nD τ).loc main_arg0) (ix3 0 k i) := by
  entry_read
  pointwise

/-- The right operand's array at the call, entry by entry. -/
theorem entry_b (c : Dev nD) (k : Fin 4096) (j : Fin 4096) :
    V m c main_v4 (ix2 k j) = m ((c : Thread nD τ).loc main_arg1) (ix3 0 k j) := by
  entry_read
  pointwise

/-- Which blocks grid point `t` reads and writes. -/
theorem index_facts : ∀ t : Fin grid0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4) := by
  decide +kernel

/-- An entry of the left operand's block at `t`. -/
theorem block_a (c : Dev nD) (t : Fin cfg0.N) (p : Fin 1024) (k : Fin 4096) (i : Fin 8192) (hi : i.val = t.val / 4 * 1024 + p.val) :
    (iblk m c 0 t : Vec Ideal S1024x4096 .bf16) (ix2 p k) = m ((c : Thread nD τ).loc main_arg0) (ix3 0 k i) := by
  rw [← entry_a m c i k]
  unfold iblk
  rw [View.read_apply]
  show V m c main_v2 _ = V m c main_v2 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 1024) (j : Fin 4096) (hj : j.val = t.val % 4 * 1024 + q.val) :
    (iblk m c 1 t : Vec Ideal S4096x1024 .bf16) (ix2 k q) = m ((c : Thread nD τ).loc main_arg1) (ix3 0 k j) := by
  rw [← entry_b m c k j]
  unfold iblk
  rw [View.read_apply]
  show V m c main_v4 _ = V m c main_v4 _
  congr 1
  funext a
  apply Fin.ext
  obtain ⟨-, ⟨h0, h1⟩, -⟩ := index_facts t
  match a with
  | ⟨0, _⟩ => show win0_1.index t 0 * 4096 + 1 * k.val = k.val; rw [h0]; omega
  | ⟨1, _⟩ => show win0_1.index t 1 * 1024 + 1 * q.val = j.val; rw [h1]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 32 := lt_of_lt_of_eq t.isLt N_0
  obtain ⟨-, -, ⟨h0, h1⟩⟩ := index_facts t
  funext y
  rw [View.read_apply]
  obtain ⟨p, q, rfl⟩ : ∃ (p : Fin 1024) (q : Fin 1024), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) (block_b m c t k q _ ?_)
  · show win0_2.index t 0 * 1024 + 1 * p.val = _; rw [h0]; omega
  · show win0_2.index t 1 * 1024 + 1 * q.val = _; rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 8192 := (i 0).isLt
    have b1 : (i 1 : Nat) < 4096 := (i 1).isLt
    obtain ⟨t, ht⟩ : ∃ t : Fin cfg0.N, t.val = (i 0 : Nat) / 1024 * 4 + (i 1 : Nat) / 1024 :=
      ⟨⟨(i 0 : Nat) / 1024 * 4 + (i 1 : Nat) / 1024, lt_of_lt_of_eq (by omega) N_0.symm⟩, rfl⟩
    obtain ⟨-, -, ⟨h0, h1⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 1024 ≤ (i 1 : Nat) ∧ (i 1 : Nat) < win0_2.index t 1 * 1024 + 1024
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.DwOutSsmIdeal.Product

namespace Cert.DwOutSsmReferenceIdeal.Product

open Cert.DwOutSsmReferenceIdeal Cert.DwOutSsmReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = Cert.DwOutSsmIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 8192) (q : Fin 4096), y = ix2 p q := ⟨y 0, y 1, by funext a; fin_cases a <;> rfl⟩
    unfold Cert.DwOutSsmIdeal.Product.prod
    pointwise
    refine (Fin.sum_univ_one _).trans (Finset.sum_congr rfl fun k _ => mul_comm _ _)), (h c).2⟩) (Value.run (F := Ideal) m ρ)

/-- It terminates, faults nowhere, and leaves the arguments and every semaphore as they were. -/
theorem frame : quiescent_DwOutSsmReferenceIdeal := fun m ρ _ =>
  (θ_run defs _ _).mono (fun r h => ⟨fun c => (h c).2, sem_eq_zero_of_no_sems (by decide) r.2⟩) (Value.run (F := Ideal) m ρ)

end Cert.DwOutSsmReferenceIdeal.Product

namespace Cert.Proof

open Idealize.ShloMosaic Idealize.SL.Sem

/-- The kernel's result and the reference's are the same array. -/
theorem algebraic_DwOutSsm : algebraic_DwOutSsmIdeal_DwOutSsmReferenceIdeal := by
  intro m g m' g' _ hagree
  refine ⟨fun c => Cert.DwOutSsmIdeal.Product.result m c, Cert.DwOutSsmIdeal.Product.run m g, ?_⟩
  refine (θ_run Cert.DwOutSsmReferenceIdeal.defs _ _).mono (fun r h c => ⟨(h c).1.trans ?_, (h c).2⟩)
    (Cert.DwOutSsmReferenceIdeal.Product.run m' g')
  rw [(hagree c).1, (hagree c).2]

end Cert.Proof

end
-- ==== Proof.Dyn.lean ====
/- The value of `Dyn`, the gradient with respect to the SSM output projection's input on one device: entry (i, j) of the
   written array is the sum over the 4096 features of cotangent row i times weight row j, and so is the reference's. -/
module

public import proofs.«01_k».proof.Defs
public import proofs.«01_k».proof.Proof.Gen.DynIdeal.Value
public import proofs.«01_k».proof.Proof.Gen.DynReferenceIdeal.Run
public import Idealize.ShloMosaic.Lib.Pointwise
public import Idealize.ShloMosaic.Lib.Claim

@[expose] public section

noncomputable section

namespace Cert.DynIdeal.Product

open Cert.DynIdeal Cert.DynIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- The product both programs compute. -/
def prod (x0 : Vec Ideal S8192x4096 .f32) (x1 : Vec Ideal S1x4096x4096 .f32) : Vec Ideal S4096x8192 .f32 :=
  fun i => ∑ k : Fin 4096, (x1 (ix3 0 (i 0) k) * x0 (ix2 (i 1) k) : EReal)

/-- What the body leaves in the output block, entry by entry. -/
theorem out_apply (x : Vec Ideal S1024x4096 .bf16) (y : Vec Ideal S1024x4096 .bf16) (p : Fin 1024) (q : Fin 1024) :
    out0_2 x y (ix2 p q) = ∑ k : Fin 4096, (x (ix2 p k) * y (ix2 q k) : EReal) := by
  unfold out0_2
  rw [View.canon_unit_zero hz, View.ld_unit_zero (S := S1024x4096) hz, View.ld_unit_zero (S := S1024x4096) hz]
  unfold k0_pay1
  pointwise

/-- The left operand's array at the call, entry by entry. -/
theorem entry_a (c : Dev nD) (i : Fin 4096) (k : Fin 4096) :
    V m c main_v2 (ix2 i k) = m ((c : Thread nD τ).loc main_arg1) (ix3 0 i k) := by
  entry_read
  pointwise

/-- The right operand's array at the call, entry by entry. -/
theorem entry_b (c : Dev nD) (j : Fin 8192) (k : Fin 4096) :
    V m c main_v0 (ix2 j k) = m ((c : Thread nD τ).loc main_arg0) (ix2 j k) := by
  entry_read
  pointwise

/-- Which blocks grid point `t` reads and writes. -/
theorem index_facts : ∀ t : Fin grid0.N, (win0_0.index t 0 = t.val / 8 ∧ win0_0.index t 1 = 0)
    ∧ (win0_1.index t 0 = t.val % 8 ∧ win0_1.index t 1 = 0)
    ∧ (win0_2.index t 0 = t.val / 8 ∧ win0_2.index t 1 = t.val % 8) := by
  decide +kernel

/-- An entry of the left operand's block at `t`. -/
theorem block_a (c : Dev nD) (t : Fin cfg0.N) (p : Fin 1024) (k : Fin 4096) (i : Fin 4096) (hi : i.val = t.val / 8 * 1024 + p.val) :
    (iblk m c 0 t : Vec Ideal S1024x4096 .bf16) (ix2 p k) = m ((c : Thread nD τ).loc main_arg1) (ix3 0 i k) := by
  rw [← entry_a m c i k]
  unfold iblk
  rw [View.read_apply]
  show V m c main_v2 _ = V m c main_v2 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 1024) (j : Fin 8192) (hj : j.val = t.val % 8 * 1024 + q.val) :
    (iblk m c 1 t : Vec Ideal S1024x4096 .bf16) (ix2 q k) = m ((c : Thread nD τ).loc main_arg0) (ix2 j k) := by
  rw [← entry_b m c j k]
  unfold iblk
  rw [View.read_apply]
  show V m c main_v0 _ = V m c main_v0 _
  congr 1
  funext a
  apply Fin.ext
  obtain ⟨-, ⟨h0, h1⟩, -⟩ := index_facts t
  match a with
  | ⟨0, _⟩ => show win0_1.index t 0 * 1024 + 1 * q.val = j.val; rw [h0]; omega
  | ⟨1, _⟩ => show win0_1.index t 1 * 4096 + 1 * k.val = k.val; rw [h1]; omega

/-- The result array after the run. -/
abbrev result (c : Dev nD) : Buf (Elt Ideal) ((c : Thread nD τ).loc main_v3) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 32 := lt_of_lt_of_eq t.isLt N_0
  obtain ⟨-, -, ⟨h0, h1⟩⟩ := index_facts t
  funext y
  rw [View.read_apply]
  obtain ⟨p, q, rfl⟩ : ∃ (p : Fin 1024) (q : Fin 1024), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) (block_b m c t k q _ ?_)
  · show win0_2.index t 0 * 1024 + 1 * p.val = _; rw [h0]; omega
  · show win0_2.index t 1 * 1024 + 1 * q.val = _; rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 4096 := (i 0).isLt
    have b1 : (i 1 : Nat) < 8192 := (i 1).isLt
    obtain ⟨t, ht⟩ : ∃ t : Fin cfg0.N, t.val = (i 0 : Nat) / 1024 * 8 + (i 1 : Nat) / 1024 :=
      ⟨⟨(i 0 : Nat) / 1024 * 8 + (i 1 : Nat) / 1024, lt_of_lt_of_eq (by omega) N_0.symm⟩, rfl⟩
    obtain ⟨-, -, ⟨h0, h1⟩⟩ := index_facts t
    refine ⟨t, flush0_2 t, ?_⟩
    show i ∈ ((View.whole main_v3).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 1024 ≤ (i 1 : Nat) ∧ (i 1 : Nat) < win0_2.index t 1 * 1024 + 1024
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.DynIdeal.Product

namespace Cert.DynReferenceIdeal.Product

open Cert.DynReferenceIdeal Cert.DynReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = Cert.DynIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 8192), y = ix2 p q := ⟨y 0, y 1, by funext a; fin_cases a <;> rfl⟩
    unfold Cert.DynIdeal.Product.prod
    pointwise), (h c).2⟩) (Value.run (F := Ideal) m ρ)

/-- It terminates, faults nowhere, and leaves the arguments and every semaphore as they were. -/
theorem frame : quiescent_DynReferenceIdeal := fun m ρ _ =>
  (θ_run defs _ _).mono (fun r h => ⟨fun c => (h c).2, sem_eq_zero_of_no_sems (by decide) r.2⟩) (Value.run (F := Ideal) m ρ)

end Cert.DynReferenceIdeal.Product

namespace Cert.Proof

open Idealize.ShloMosaic Idealize.SL.Sem

/-- The kernel's result and the reference's are the same array. -/
theorem algebraic_Dyn : algebraic_DynIdeal_DynReferenceIdeal := by
  intro m g m' g' _ hagree
  refine ⟨fun c => Cert.DynIdeal.Product.result m c, Cert.DynIdeal.Product.run m g, ?_⟩
  refine (θ_run Cert.DynReferenceIdeal.defs _ _).mono (fun r h c => ⟨(h c).1.trans ?_, (h c).2⟩)
    (Cert.DynReferenceIdeal.Product.run m' g')
  rw [(hagree c).1, (hagree c).2]

end Cert.Proof

end
-- ==== Proof.DwOutAttn.lean ====
/- The value of `DwOutAttn`, the weight gradient of the attention output projection on one device, written as eight slabs
   of 512 columns: entry (s, i, j) is the sum over the 4096 tokens of input column i times cotangent column 512 s + j, and
   so is the reference's. -/
module

public import proofs.«01_k».proof.Defs
public import proofs.«01_k».proof.Proof.Gen.DwOutAttnIdeal.Value
public import proofs.«01_k».proof.Proof.Gen.DwOutAttnReferenceIdeal.Run
public import Idealize.ShloMosaic.Lib.Pointwise
public import Idealize.ShloMosaic.Lib.Claim

@[expose] public section

noncomputable section

namespace Cert.DwOutAttnIdeal.Product

open Cert.DwOutAttnIdeal Cert.DwOutAttnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of slab `s`. -/
def col (s : Fin 8) (j : Fin 512) : Fin 4096 := ⟨s.val * 512 + j.val, by omega⟩

/-- The product both programs compute. -/
def prod (x0 : Vec Ideal S1x4096x2048 .f32) (x1 : Vec Ideal S1x4096x4096 .f32) : Vec Ideal S8x2048x512 .bf16 :=
  fun i => ∑ k : Fin 4096, (x0 (ix3 0 k (i 1)) * x1 (ix3 0 k (col (i 0) (i 2))) : EReal)

/-- What the body leaves in the output block, entry by entry. -/
theorem out_apply (x : Vec Ideal S1024x4096 .bf16) (y : Vec Ideal S4096x512 .bf16) (p : Fin 1024) (q : Fin 512) :
    out0_2 x y (ix3 0 p q) = ∑ k : Fin 4096, (x (ix2 p k) * y (ix2 k q) : EReal) := by
  unfold out0_2
  rw [View.canon_unit_zero hz3, View.ld_unit_zero (S := S1024x4096) hz, View.ld_unit_zero (S := S4096x512) hz]
  unfold k0_pay1
  pointwise

/-- The left operand's array at the call, entry by entry. -/
theorem entry_a (c : Dev nD) (i : Fin 2048) (k : Fin 4096) :
    V m c main_v2 (ix2 i k) = m ((c : Thread nD τ).loc main_arg0) (ix3 0 k i) := by
  entry_read
  pointwise

/-- The right operand's array at the call, entry by entry. -/
theorem entry_b (c : Dev nD) (k : Fin 4096) (j : Fin 4096) :
    V m c main_v4 (ix2 k j) = m ((c : Thread nD τ).loc main_arg1) (ix3 0 k j) := by
  entry_read
  pointwise

/-- Which blocks grid point `t` reads and writes. -/
theorem index_facts : ∀ t : Fin grid0.N, (win0_0.index t 0 = t.val / 8 ∧ win0_0.index t 1 = 0)
    ∧ (win0_1.index t 0 = 0 ∧ win0_1.index t 1 = t.val % 8)
    ∧ (win0_2.index t 0 = t.val % 8 ∧ win0_2.index t 1 = t.val / 8 ∧ win0_2.index t 2 = 0) := by
  decide +kernel

/-- An entry of the left operand's block at `t`. -/
theorem block_a (c : Dev nD) (t : Fin cfg0.N) (p : Fin 1024) (k : Fin 4096) (i : Fin 2048) (hi : i.val = t.val / 8 * 1024 + p.val) :
    (iblk m c 0 t : Vec Ideal S1024x4096 .bf16) (ix2 p k) = m ((c : Thread nD τ).loc main_arg0) (ix3 0 k i) := by
  rw [← entry_a m c i k]
  unfold iblk
  rw [View.read_apply]
  show V m c main_v2 _ = V m c main_v2 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 512) (j : Fin 4096) (hj : j.val = t.val % 8 * 512 + q.val) :
    (iblk m c 1 t : Vec Ideal S4096x512 .bf16) (ix2 k q) = m ((c : Thread nD τ).loc main_arg1) (ix3 0 k j) := by
  rw [← entry_b m c k j]
  unfold iblk
  rw [View.read_apply]
  show V m c main_v4 _ = V m c main_v4 _
  congr 1
  funext a
  apply Fin.ext
  obtain ⟨-, ⟨h0, h1⟩, -⟩ := index_facts t
  match a with
  | ⟨0, _⟩ => show win0_1.index t 0 * 4096 + 1 * k.val = k.val; rw [h0]; omega
  | ⟨1, _⟩ => show win0_1.index t 1 * 512 + 1 * q.val = j.val; rw [h1]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 16 := lt_of_lt_of_eq t.isLt N_0
  obtain ⟨-, -, ⟨h0, h1, h2⟩⟩ := index_facts t
  funext y
  rw [View.read_apply]
  obtain ⟨p, q, rfl⟩ : ∃ (p : Fin 1024) (q : Fin 512), y = ix3 0 p q := ⟨y 1, y 2, by funext a; fin_cases a; exacts [Fin.ext (by have h : (y 0 : Nat) < 1 := (y 0).isLt; show (y 0 : Nat) = 0; omega), rfl, rfl]⟩
  show out0_2 (iblk m c 0 t) (iblk m c 1 t) (ix3 0 p q) = result m c _
  refine (out_apply _ _ p q).trans ?_
  unfold result prod
  refine Finset.sum_congr rfl fun k _ => ?_
  refine congrArg₂ _ (block_a m c t p k _ ?_) (block_b m c t k q _ ?_)
  · show win0_2.index t 1 * 1024 + 1 * p.val = _; rw [h1]; omega
  · show (win0_2.index t 0 * 1 + 1 * (0 : Fin 1).val) * 512 + (win0_2.index t 2 * 512 + 1 * q.val) = _; rw [h0, h2]; simp

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 8 := (i 0).isLt
    have b1 : (i 1 : Nat) < 2048 := (i 1).isLt
    have b2 : (i 2 : Nat) < 512 := (i 2).isLt
    obtain ⟨t, ht⟩ : ∃ t : Fin cfg0.N, t.val = (i 1 : Nat) / 1024 * 8 + (i 0 : Nat) :=
      ⟨⟨(i 1 : Nat) / 1024 * 8 + (i 0 : Nat), lt_of_lt_of_eq (by omega) N_0.symm⟩, rfl⟩
    obtain ⟨-, -, ⟨h0, h1, h2⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [h0]; omega
    | ⟨1, _⟩ => show win0_2.index t 1 * 1024 ≤ (i 1 : Nat) ∧ (i 1 : Nat) < win0_2.index t 1 * 1024 + 1024
                rw [h1]; omega
    | ⟨2, _⟩ => show win0_2.index t 2 * 512 ≤ (i 2 : Nat) ∧ (i 2 : Nat) < win0_2.index t 2 * 512 + 512
                rw [h2]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.DwOutAttnIdeal.Product

namespace Cert.DwOutAttnReferenceIdeal.Product

open Cert.DwOutAttnReferenceIdeal Cert.DwOutAttnReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
        = Cert.DwOutAttnIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨s, p, q, rfl⟩ : ∃ (s : Fin 8) (p : Fin 2048) (q : Fin 512), y = ix3 s p q := ⟨y 0, y 1, y 2, by funext a; fin_cases a <;> rfl⟩
    unfold Cert.DwOutAttnIdeal.Product.prod
    fin_cases s
    all_goals pointwise
    all_goals
      refine (Fin.sum_univ_one _).trans (Finset.sum_congr rfl fun k _ => (mul_comm _ _).trans
        (congrArg (fun z => @HMul.hMul EReal EReal EReal _ (m (c.tc.loc main_arg0) (ix3 0 k p)) (m (c.tc.loc main_arg1) (ix3 0 k z))) (Fin.ext ?_)))
      simp [Cert.DwOutAttnIdeal.Product.col]), (h c).2⟩) (Value.run (F := Ideal) m ρ)

/-- It terminates, faults nowhere, and leaves the arguments and every semaphore as they were. -/
theorem frame : quiescent_DwOutAttnReferenceIdeal := fun m ρ _ =>
  (θ_run defs _ _).mono (fun r h => ⟨fun c => (h c).2, sem_eq_zero_of_no_sems (by decide) r.2⟩) (Value.run (F := Ideal) m ρ)

end Cert.DwOutAttnReferenceIdeal.Product

namespace Cert.Proof

open Idealize.ShloMosaic Idealize.SL.Sem

/-- The kernel's result and the reference's are the same array. -/
theorem algebraic_DwOutAttn : algebraic_DwOutAttnIdeal_DwOutAttnReferenceIdeal := by
  intro m g m' g' _ hagree
  refine ⟨fun c => Cert.DwOutAttnIdeal.Product.result m c, Cert.DwOutAttnIdeal.Product.run m g, ?_⟩
  refine (θ_run Cert.DwOutAttnReferenceIdeal.defs _ _).mono (fun r h c => ⟨(h c).1.trans ?_, (h c).2⟩)
    (Cert.DwOutAttnReferenceIdeal.Product.run m' g')
  rw [(hagree c).1, (hagree c).2]

end Cert.Proof

end
-- ==== Proof.OutAttn.lean ====
/- The value of `OutAttn`, the attention output projection on one device, its weight held as eight slabs of 512 columns:
   entry (i, j) of the written array is the sum over the 2048 features of input row i times weight column j, and so is
   the reference's. -/
module

public import proofs.«01_k».proof.Defs
public import proofs.«01_k».proof.Proof.Gen.OutAttnIdeal.Value
public import proofs.«01_k».proof.Proof.Gen.OutAttnReferenceIdeal.Run
public import Idealize.ShloMosaic.Lib.Pointwise
public import Idealize.ShloMosaic.Lib.Claim

@[expose] public section

noncomputable section

namespace Cert.OutAttnIdeal.Product

open Cert.OutAttnIdeal Cert.OutAttnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of slab `s`. -/
def col (s : Fin 8) (j : Fin 512) : Fin 4096 := ⟨s.val * 512 + j.val, by omega⟩

/-- The product both programs compute. -/
def prod (x0 : Vec Ideal S1x4096x2048 .f32) (x1 : Vec Ideal S2048x4096 .f32) : Vec Ideal S4096x4096 .f32 :=
  fun i => ∑ k : Fin 2048, (x0 (ix3 0 (i 0) k) * x1 (ix2 k (i 1)) : EReal)

/-- What the body leaves in the output block, entry by entry. -/
theorem out_apply (x : Vec Ideal S1024x2048 .bf16) (y : Vec Ideal S1x2048x512 .bf16) (p : Fin 1024) (q : Fin 512) :
    out0_2 x y (ix2 p q) = ∑ k : Fin 2048, (x (ix2 p k) * y (ix3 0 k q) : EReal) := by
  unfold out0_2
  rw [View.canon_unit_zero hz, View.ld_unit_zero (S := S1024x2048) hz, View.ld_unit_zero (S := S1x2048x512) hz3]
  unfold k0_pay1
  pointwise

/-- The left operand's array at the call, entry by entry. -/
theorem entry_a (c : Dev nD) (i : Fin 4096) (k : Fin 2048) :
    V m c main_v1 (ix2 i k) = m ((c : Thread nD τ).loc main_arg0) (ix3 0 i k) := by
  entry_read
  pointwise

/-- The right operand's array at the call, entry by entry. -/
theorem entry_b (c : Dev nD) (s : Fin 8) (k : Fin 2048) (j : Fin 512) :
    V m c main_v4 (ix3 s k j) = m ((c : Thread nD τ).loc main_arg1) (ix2 k (col s j)) := by
  entry_read
  pointwise
  rfl

/-- Which blocks grid point `t` reads and writes. -/
theorem index_facts : ∀ t : Fin grid0.N, (win0_0.index t 0 = t.val / 8 ∧ win0_0.index t 1 = 0)
    ∧ (win0_1.index t 0 = t.val % 8 ∧ win0_1.index t 1 = 0 ∧ win0_1.index t 2 = 0)
    ∧ (win0_2.index t 0 = t.val / 8 ∧ win0_2.index t 1 = t.val % 8) := by
  decide +kernel

/-- An entry of the left operand's block at `t`. -/
theorem block_a (c : Dev nD) (t : Fin cfg0.N) (p : Fin 1024) (k : Fin 2048) (i : Fin 4096) (hi : i.val = t.val / 8 * 1024 + p.val) :
    (iblk m c 0 t : Vec Ideal S1024x2048 .bf16) (ix2 p k) = m ((c : Thread nD τ).loc main_arg0) (ix3 0 i k) := by
  rw [← entry_a m c i k]
  unfold iblk
  rw [View.read_apply]
  show V m c main_v1 _ = V m c main_v1 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 2048 + 1 * k.val = k.val; rw [h1]; omega

/-- An entry of the right operand's block at `t`. -/
theorem block_b (c : Dev nD) (t : Fin cfg0.N) (k : Fin 2048) (q : Fin 512) (s : Fin 8) (j : Fin 512) (hs : s.val = t.val % 8) (hj : j.val = 0 * 512 + q.val) :
    (iblk m c 1 t : Vec Ideal S1x2048x512 .bf16) (ix3 0 k q) = m ((c : Thread nD τ).loc main_arg1) (ix2 k (col s j)) := by
  rw [← entry_b m c s k j]
  unfold iblk
  rw [View.read_apply]
  show V m c main_v4 _ = V m c main_v4 _
  congr 1
  funext a
  apply Fin.ext
  obtain ⟨-, ⟨h0, h1, h2⟩, -⟩ := index_facts t
  match a with
  | ⟨0, _⟩ => show win0_1.index t 0 * 1 + 1 * (0 : Fin 1).val = s.val; rw [h0]; simp; omega
  | ⟨1, _⟩ => show win0_1.index t 1 * 2048 + 1 * k.val = k.val; rw [h1]; omega
  | ⟨2, _⟩ => show win0_1.index t 2 * 512 + 1 * q.val = j.val; rw [h2]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 32 := lt_of_lt_of_eq t.isLt N_0
  obtain ⟨-, -, ⟨h0, h1⟩⟩ := index_facts t
  funext y
  rw [View.read_apply]
  obtain ⟨p, q, rfl⟩ : ∃ (p : Fin 1024) (q : Fin 512), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) ((block_b m c t k q ⟨t.val % 8, by omega⟩ q rfl (by omega)).trans ?_)
  · show win0_2.index t 0 * 1024 + 1 * p.val = _; rw [h0]; omega
  · refine congrArg (fun z => m ((c : Thread nD τ).loc main_arg1) (ix2 k z)) (Fin.ext ?_)
    show t.val % 8 * 512 + q.val = win0_2.index t 1 * 512 + 1 * q.val; rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 4096 := (i 0).isLt
    have b1 : (i 1 : Nat) < 4096 := (i 1).isLt
    obtain ⟨t, ht⟩ : ∃ t : Fin cfg0.N, t.val = (i 0 : Nat) / 1024 * 8 + (i 1 : Nat) / 512 :=
      ⟨⟨(i 0 : Nat) / 1024 * 8 + (i 1 : Nat) / 512, lt_of_lt_of_eq (by omega) N_0.symm⟩, rfl⟩
    obtain ⟨-, -, ⟨h0, h1⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 512 ≤ (i 1 : Nat) ∧ (i 1 : Nat) < win0_2.index t 1 * 512 + 512
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.OutAttnIdeal.Product

namespace Cert.OutAttnReferenceIdeal.Product

open Cert.OutAttnReferenceIdeal Cert.OutAttnReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1)
        = Cert.OutAttnIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 4096), y = ix2 p q := ⟨y 0, y 1, by funext a; fin_cases a <;> rfl⟩
    unfold Cert.OutAttnIdeal.Product.prod
    pointwise), (h c).2⟩) (Value.run (F := Ideal) m ρ)

/-- It terminates, faults nowhere, and leaves the arguments and every semaphore as they were. -/
theorem frame : quiescent_OutAttnReferenceIdeal := fun m ρ _ =>
  (θ_run defs _ _).mono (fun r h => ⟨fun c => (h c).2, sem_eq_zero_of_no_sems (by decide) r.2⟩) (Value.run (F := Ideal) m ρ)

end Cert.OutAttnReferenceIdeal.Product

namespace Cert.Proof

open Idealize.ShloMosaic Idealize.SL.Sem

/-- The kernel's result and the reference's are the same array. -/
theorem algebraic_OutAttn : algebraic_OutAttnIdeal_OutAttnReferenceIdeal := by
  intro m g m' g' _ hagree
  refine ⟨fun c => Cert.OutAttnIdeal.Product.result m c, Cert.OutAttnIdeal.Product.run m g, ?_⟩
  refine (θ_run Cert.OutAttnReferenceIdeal.defs _ _).mono (fun r h c => ⟨(h c).1.trans ?_, (h c).2⟩)
    (Cert.OutAttnReferenceIdeal.Product.run m' g')
  rw [(hagree c).1, (hagree c).2]

end Cert.Proof

end
-- ==== Proof.Gate.lean ====
/- The value of `Gate`, the attention gate's columns of the attention input projection on one device, the weight held as
   eight slabs of 2560 columns: entry (i, j) of the written array is the sum over the 4096 features of input row i times
   weight column 18432 + j, and so is the reference's. -/
module

public import proofs.«01_k».proof.Defs
public import proofs.«01_k».proof.Proof.Gen.GateIdeal.Value
public import proofs.«01_k».proof.Proof.Gen.GateReferenceIdeal.Run
public import Idealize.ShloMosaic.Lib.Pointwise
public import Idealize.ShloMosaic.Lib.Claim

@[expose] public section

noncomputable section

namespace Cert.GateIdeal.Product

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of the gate. -/
def gate (j : Fin 2048) : Fin 20480 := ⟨18432 + j.val, by omega⟩

/-- Column `j` of slab `s`. -/
def col (s : Fin 8) (j : Fin 2560) : Fin 20480 := ⟨s.val * 2560 + j.val, by omega⟩

/-- The product both programs compute. -/
def prod (x0 : Vec Ideal S1x4096x4096 .f32) (x1 : Vec Ideal S4096x20480 .f32) : Vec Ideal S4096x2048 .f32 :=
  fun i => ∑ k : Fin 4096, (x0 (ix3 0 (i 0) k) * x1 (ix2 k (gate (i 1))) : EReal)

/-- What the body leaves in the output block, entry by entry. -/
theorem out_apply (x : Vec Ideal S1024x4096 .bf16) (y : Vec Ideal S1x4096x512 .bf16) (p : Fin 1024) (q : Fin 512) :
    out0_2 x y (ix2 p q) = ∑ k : Fin 4096, (x (ix2 p k) * y (ix3 0 k q) : EReal) := by
  unfold out0_2
  rw [View.canon_unit_zero hz, View.ld_unit_zero (S := S1024x4096) hz, View.ld_unit_zero (S := S1x4096x512) hz3]
  unfold k0_pay1
  pointwise

/-- The left operand's array at the call, entry by entry. -/
theorem entry_a (c : Dev nD) (i : Fin 4096) (k : Fin 4096) :
    V m c main_v1 (ix2 i k) = m ((c : Thread nD τ).loc main_arg0) (ix3 0 i k) := by
  entry_read
  pointwise

/-- The right operand's array at the call, entry by entry. -/
theorem entry_b (c : Dev nD) (s : Fin 8) (k : Fin 4096) (j : Fin 2560) :
    V m c main_v4 (ix3 s k j) = m ((c : Thread nD τ).loc main_arg1) (ix2 k (col s j)) := by
  entry_read
  pointwise
  rfl

/-- Which blocks grid point `t` reads and writes. -/
theorem index_facts : ∀ t : Fin grid0.N, (win0_0.index t 0 = t.val / 4 ∧ win0_0.index t 1 = 0)
    ∧ (win0_1.index t 0 = (t.val % 4 + 36) / 5 ∧ win0_1.index t 1 = 0 ∧ win0_1.index t 2 = (t.val % 4 + 36) % 5)
    ∧ (win0_2.index t 0 = t.val / 4 ∧ win0_2.index t 1 = t.val % 4) := by
  decide +kernel

/-- An entry of the left operand's block at `t`. -/
theorem block_a (c : Dev nD) (t : Fin cfg0.N) (p : Fin 1024) (k : Fin 4096) (i : Fin 4096) (hi : i.val = t.val / 4 * 1024 + p.val) :
    (iblk m c 0 t : Vec Ideal S1024x4096 .bf16) (ix2 p k) = m ((c : Thread nD τ).loc main_arg0) (ix3 0 i k) := by
  rw [← entry_a m c i k]
  unfold iblk
  rw [View.read_apply]
  show V m c main_v1 _ = V m c main_v1 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 512) (s : Fin 8) (j : Fin 2560) (hs : s.val = (t.val % 4 + 36) / 5) (hj : j.val = (t.val % 4 + 36) % 5 * 512 + q.val) :
    (iblk m c 1 t : Vec Ideal S1x4096x512 .bf16) (ix3 0 k q) = m ((c : Thread nD τ).loc main_arg1) (ix2 k (col s j)) := by
  rw [← entry_b m c s k j]
  unfold iblk
  rw [View.read_apply]
  show V m c main_v4 _ = V m c main_v4 _
  congr 1
  funext a
  apply Fin.ext
  obtain ⟨-, ⟨h0, h1, h2⟩, -⟩ := index_facts t
  match a with
  | ⟨0, _⟩ => show win0_1.index t 0 * 1 + 1 * (0 : Fin 1).val = s.val; rw [h0]; simp; omega
  | ⟨1, _⟩ => show win0_1.index t 1 * 4096 + 1 * k.val = k.val; rw [h1]; omega
  | ⟨2, _⟩ => show win0_1.index t 2 * 512 + 1 * q.val = j.val; rw [h2]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 16 := lt_of_lt_of_eq t.isLt N_0
  obtain ⟨-, -, ⟨h0, h1⟩⟩ := index_facts t
  funext y
  rw [View.read_apply]
  obtain ⟨p, q, rfl⟩ : ∃ (p : Fin 1024) (q : Fin 512), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) ((block_b m c t k q ⟨(t.val % 4 + 36) / 5, by omega⟩ ⟨(t.val % 4 + 36) % 5 * 512 + q.val, by omega⟩ rfl rfl).trans ?_)
  · show win0_2.index t 0 * 1024 + 1 * p.val = _; rw [h0]; omega
  · refine congrArg (fun z => m ((c : Thread nD τ).loc main_arg1) (ix2 k z)) (Fin.ext ?_)
    show (t.val % 4 + 36) / 5 * 2560 + ((t.val % 4 + 36) % 5 * 512 + q.val) = 18432 + (win0_2.index t 1 * 512 + 1 * q.val); rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 4096 := (i 0).isLt
    have b1 : (i 1 : Nat) < 2048 := (i 1).isLt
    obtain ⟨t, ht⟩ : ∃ t : Fin cfg0.N, t.val = (i 0 : Nat) / 1024 * 4 + (i 1 : Nat) / 512 :=
      ⟨⟨(i 0 : Nat) / 1024 * 4 + (i 1 : Nat) / 512, lt_of_lt_of_eq (by omega) N_0.symm⟩, rfl⟩
    obtain ⟨-, -, ⟨h0, h1⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 512 ≤ (i 1 : Nat) ∧ (i 1 : Nat) < win0_2.index t 1 * 512 + 512
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.GateIdeal.Product

namespace Cert.GateReferenceIdeal.Product

open Cert.GateReferenceIdeal Cert.GateReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = Cert.GateIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 2048), y = ix2 p q := ⟨y 0, y 1, by funext a; fin_cases a <;> rfl⟩
    unfold Cert.GateIdeal.Product.prod
    pointwise
    rfl), (h c).2⟩) (Value.run (F := Ideal) m ρ)

/-- It terminates, faults nowhere, and leaves the arguments and every semaphore as they were. -/
theorem frame : quiescent_GateReferenceIdeal := fun m ρ _ =>
  (θ_run defs _ _).mono (fun r h => ⟨fun c => (h c).2, sem_eq_zero_of_no_sems (by decide) r.2⟩) (Value.run (F := Ideal) m ρ)

end Cert.GateReferenceIdeal.Product

namespace Cert.Proof

open Idealize.ShloMosaic Idealize.SL.Sem

/-- The kernel's result and the reference's are the same array. -/
theorem algebraic_Gate : algebraic_GateIdeal_GateReferenceIdeal := by
  intro m g m' g' _ hagree
  refine ⟨fun c => Cert.GateIdeal.Product.result m c, Cert.GateIdeal.Product.run m g, ?_⟩
  refine (θ_run Cert.GateReferenceIdeal.defs _ _).mono (fun r h c => ⟨(h c).1.trans ?_, (h c).2⟩)
    (Cert.GateReferenceIdeal.Product.run m' g')
  rw [(hagree c).1, (hagree c).2]

end Cert.Proof

end
-- ==== Proof.OutSsm.lean ====
/- The value of `OutSsm`, the SSM output projection on one device, accumulated over two halves of the contraction:
   entry (i, j) of the written array is the sum over the 8192 features of input row i times weight column j, and so is
   the reference's. -/
module

public import proofs.«01_k».proof.Defs
public import proofs.«01_k».proof.Proof.Gen.OutSsmIdeal.Value
public import proofs.«01_k».proof.Proof.Gen.OutSsmReferenceIdeal.Run
public import Idealize.ShloMosaic.Lib.Pointwise
public import Idealize.ShloMosaic.Lib.Claim

@[expose] public section

noncomputable section

namespace Cert.OutSsmIdeal.Product

open Cert.OutSsmIdeal Cert.OutSsmIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- The product both programs compute. -/
def prod (x0 : Vec Ideal S1x4096x8192 .f32) (x1 : Vec Ideal S8192x4096 .f32) : Vec Ideal S4096x4096 .f32 :=
  fun i => ∑ k : Fin 8192, (x0 (ix3 0 (i 0) k) * x1 (ix2 k (i 1)) : EReal)

/-- The product of two blocks, entry by entry. -/
theorem dot_apply (x : Vec Ideal S1024x4096 .bf16) (y : Vec Ideal S4096x512 .bf16) (p : Fin 1024) (q : Fin 512) :
    k0_pay1 x y (ix2 p q) = ∑ k : Fin 4096, (x (ix2 p k) * y (ix2 k q) : EReal) := by
  unfold k0_pay1
  pointwise

/-- The first point of a run leaves its blocks' product in the accumulator. -/
theorem sout_A (c : Dev nD) (i : grid0.Coords) (a3 : Memref sig .tc .vmem S1024x4096 .bf16) (h3 : a3.IsWhole) (a4 : Memref sig .tc .vmem S4096x512 .bf16) (h4 : a4.IsWhole)
    (a5 : Memref sig .tc .vmem S1024x512 .f32) (h5 : a5.IsWhole) (a6 : Memref sig .tc .vmem S1024x512 .f32) (h6 : a6.IsWhole) (hc0 : cond0_0 i) (hc1 : ¬cond0_1 i) (hc2 : ¬cond0_2 i)
    (x : Vec Ideal S1024x4096 .bf16) (y : Vec Ideal S4096x512 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  unfold k0_pay2
  simp only [View.readAt_eq_ld, h3.read_unread, h4.read_unread, View.ld_unit_zero (S := S1024x4096) hz, View.ld_unit_zero (S := S4096x512) hz, shapeCast_self]

/-- The last point of a run writes the accumulator and its blocks' product, added. -/
theorem out_B (c : Dev nD) (i : grid0.Coords) (a3 : Memref sig .tc .vmem S1024x4096 .bf16) (h3 : a3.IsWhole) (a4 : Memref sig .tc .vmem S4096x512 .bf16) (h4 : a4.IsWhole)
    (a5 : Memref sig .tc .vmem S1024x512 .f32) (h5 : a5.IsWhole) (a6 : Memref sig .tc .vmem S1024x512 .f32) (h6 : a6.IsWhole) (hc0 : ¬cond0_0 i) (hc1 : cond0_1 i) (hc2 : cond0_2 i)
    (x : Vec Ideal S1024x4096 .bf16) (y : Vec Ideal S4096x512 .bf16) (acc : Vec Ideal S1024x512 .f32) :
    out0_B_2 c i a3 h3 a4 h4 a5 h5 a6 h6 hc0 hc1 hc2 x y acc = addf acc (k0_pay1 x y) := by
  unfold out0_B_2
  rw [View.read_writes_eq_canon _ _ _ (cover0_B_2 c i a3 h3 a4 h4 a5 h5 a6 h6 hc0 hc1 hc2 x y acc)]
  unfold kernelRun0_B
  dsimp only
  sl_unfold_words
  rw [View.canon_unit_zero hz, View.readCov_unit_zero (S := S1024x512) _ hz]
  unfold k0_pay3
  simp only [View.readAt_eq_ld, h3.read_unread, h4.read_unread, h6.read_unread, View.ld_unit_zero (S := S1024x4096) hz, View.ld_unit_zero (S := S4096x512) hz, View.ld_unit_zero (S := S1024x512) hz, shapeCast_self]

/-- Point `n`'s share of entry (p, q) of its output block. -/
def share (c : Dev nD) (p : Fin 1024) (q : Fin 512) (n : ℕ) : EReal :=
  if h : n < cfg0.N then k0_pay1 (iblk m c 0 ⟨n, h⟩) (iblk m c 1 ⟨n, h⟩) (ix2 p q) else 0

theorem share_eq (c : Dev nD) (p : Fin 1024) (q : Fin 512) (t : Fin cfg0.N) :
    share m c p q t.val = k0_pay1 (iblk m c 0 t) (iblk m c 1 t) (ix2 p q) := by
  unfold share; rw [dif_pos t.isLt]

/-- What the accumulator holds after point `n`, unless `n` is the last of its run: the shares of the run so far. -/
theorem acc_eq (c : Dev nD) (p : Fin 1024) (q : Fin 512) : ∀ (n : ℕ) (h : n < cfg0.N), n % 2 ≠ 1 →
    (outsAt0 m c n h).2 (ix2 p q) = ∑ l ∈ Finset.range (n % 2 + 1), share m c p q (n / 2 * 2 + l)
  | 0, h, _ => by
    rw [outsAt0_A m c ⟨0, h⟩ (by dsimp only) (by dsimp only; omega) (by dsimp only; omega)]
    dsimp only
    rw [sout_A]
    refine (share_eq m c p q ⟨0, h⟩).symm.trans ?_
    simp
  | n + 1, h, hl => by
    by_cases h0 : (n + 1) % 2 = 0
    · rw [outsAt0_A m c ⟨n + 1, h⟩ h0 (by dsimp only; omega) (by dsimp only; omega)]
      dsimp only
      rw [sout_A]
      refine (share_eq m c p q ⟨n + 1, h⟩).symm.trans ?_
      rw [h0]
      have e : (n + 1) / 2 * 2 = n + 1 := by omega
      simp [e]
    · exact absurd (by omega : (n + 1) % 2 = 1) hl

/-- What the last point of a run leaves in the output block: the shares of the whole run. -/
theorem out_eq (c : Dev nD) (p : Fin 1024) (q : Fin 512) (t : Fin cfg0.N) (ht : t.val % 2 = 1) :
    (outsAt0 m c t.val t.isLt).1 (ix2 p q) = ∑ l ∈ Finset.range 2, share m c p q (t.val / 2 * 2 + l) := by
  obtain ⟨n, h⟩ := t
  dsimp only at ht
  obtain ⟨n, rfl⟩ : ∃ k, n = k + 1 := ⟨n - 1, by omega⟩
  rw [outsAt0_B m c ⟨n + 1, h⟩ (by dsimp only; omega) (by dsimp only; omega) (by dsimp only; omega)]
  dsimp only
  rw [out_B]
  have ih := acc_eq m c p q n (Nat.lt_of_succ_lt h) (by omega)
  have e1 : (n + 1) / 2 = n / 2 := by omega
  have e2 : n % 2 + 1 = 1 := by omega
  have e3 : n / 2 * 2 + 1 = n + 1 := by omega
  rw [e2] at ih
  rw [e1, show Finset.range 2 = Finset.range (1 + 1) from rfl, Finset.sum_range_succ, ← ih, e3, share_eq m c p q ⟨n + 1, h⟩]
  rfl

/-- A sum over 8192 = 2 · 4096 positions, 4096 at a time. -/
theorem sum_split (f : Fin 8192 → EReal) :
    ∑ l ∈ Finset.range 2, (if h : l < 2 then ∑ k : Fin 4096, f ⟨l * 4096 + k.val, by omega⟩ else 0) = ∑ k, f k := by
  rw [Finset.sum_range, ← (finProdFinEquiv (m := 2) (n := 4096)).sum_comp (g := f), Fintype.sum_prod_type]
  refine Finset.sum_congr rfl fun l _ => ?_
  rw [dif_pos l.isLt]
  refine Finset.sum_congr rfl fun k _ => congrArg f (Fin.ext ?_)
  show l.val * 4096 + k.val = k.val + 4096 * l.val
  omega

/-- The left operand's array at the call, entry by entry. -/
theorem entry_a (c : Dev nD) (i : Fin 4096) (k : Fin 8192) :
    V m c main_v1 (ix2 i k) = m ((c : Thread nD τ).loc main_arg0) (ix3 0 i k) := by
  entry_read
  pointwise

/-- The right operand's array at the call, entry by entry. -/
theorem entry_b (c : Dev nD) (k : Fin 8192) (j : Fin 4096) :
    V m c main_v2 (ix2 k j) = m ((c : Thread nD τ).loc main_arg1) (ix2 k j) := by
  entry_read
  pointwise

/-- Which blocks grid point `t` reads and writes. -/
theorem index_facts : ∀ t : Fin grid0.N, (win0_0.index t 0 = t.val / 16 ∧ win0_0.index t 1 = t.val % 2)
    ∧ (win0_1.index t 0 = t.val % 2 ∧ win0_1.index t 1 = t.val / 2 % 8)
    ∧ (win0_2.index t 0 = t.val / 16 ∧ win0_2.index t 1 = t.val / 2 % 8) := by
  decide +kernel

/-- An entry of the left operand's block at `t`. -/
theorem block_a (c : Dev nD) (t : Fin cfg0.N) (p : Fin 1024) (l : Fin 4096) (i : Fin 4096) (k : Fin 8192)
    (hi : i.val = t.val / 16 * 1024 + p.val) (hk : k.val = t.val % 2 * 4096 + l.val) :
    (iblk m c 0 t : Vec Ideal S1024x4096 .bf16) (ix2 p l) = m ((c : Thread nD τ).loc main_arg0) (ix3 0 i k) := by
  rw [← entry_a m c i k]
  unfold iblk
  rw [View.read_apply]
  show V m c main_v1 _ = V m c main_v1 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * l.val = k.val; rw [h1]; omega

/-- An entry of the right operand's block at `t`. -/
theorem block_b (c : Dev nD) (t : Fin cfg0.N) (l : Fin 4096) (q : Fin 512) (k : Fin 8192) (j : Fin 4096)
    (hk : k.val = t.val % 2 * 4096 + l.val) (hj : j.val = t.val / 2 % 8 * 512 + q.val) :
    (iblk m c 1 t : Vec Ideal S4096x512 .bf16) (ix2 l q) = m ((c : Thread nD τ).loc main_arg1) (ix2 k j) := by
  rw [← entry_b m c k j]
  unfold iblk
  rw [View.read_apply]
  show V m c main_v2 _ = V m c main_v2 _
  congr 1
  funext a
  apply Fin.ext
  obtain ⟨-, ⟨h0, h1⟩, -⟩ := index_facts t
  match a with
  | ⟨0, _⟩ => show win0_1.index t 0 * 4096 + 1 * l.val = k.val; rw [h0]; omega
  | ⟨1, _⟩ => show win0_1.index t 1 * 512 + 1 * q.val = j.val; rw [h1]; omega

/-- The result array after the run. -/
abbrev result (c : Dev nD) : Buf (Elt Ideal) ((c : Thread nD τ).loc main_v3) :=
  prod (m ((c : Thread nD τ).loc main_arg0)) (m ((c : Thread nD τ).loc main_arg1))

set_option maxRecDepth 10000 in
/-- The last point of a run writes block `t` of the product. -/
theorem flushed_eq (c : Dev nD) (t : Fin cfg0.N) (hf : (cfg0.win 2).flush t = true) :
    (dats m 0 c).flushed 2 t = ((cfg0.win 2).blk t).view.read (Elt Ideal) (result m c) := by
  have hl : t.val % 2 = 1 := (flush0_2 t).mp hf
  have ht : t.val < 64 := lt_of_lt_of_eq t.isLt N_0
  show (cfg0.win 2).cut (grid0.coords t) ((dats m 0 c).after 2 t) = _
  rw [after0_2]
  obtain ⟨-, -, ⟨h0, h1⟩⟩ := index_facts t
  funext y
  rw [View.read_apply]
  obtain ⟨p, q, rfl⟩ : ∃ (p : Fin 1024) (q : Fin 512), y = ix2 p q := ⟨y 0, y 1, by funext a; fin_cases a <;> rfl⟩
  show (outsAt0 m c t.val t.isLt).1 (ix2 p q) = result m c _
  refine (out_eq m c p q t hl).trans ?_
  unfold result prod
  rw [← sum_split]
  refine Finset.sum_congr rfl fun l hlr => ?_
  have hl2 : l < 2 := Finset.mem_range.mp hlr
  rw [dif_pos hl2]
  have hn : t.val / 2 * 2 + l < cfg0.N := lt_of_lt_of_eq (by omega : _ < 64) N_0.symm
  refine (share_eq m c p q ⟨_, hn⟩).trans ((dot_apply _ _ p q).trans (Finset.sum_congr rfl fun k _ => ?_))
  refine congrArg₂ _ (block_a m c _ p k _ _ ?_ ?_) (block_b m c _ k q _ _ ?_ ?_)
  · show win0_2.index t 0 * 1024 + 1 * p.val = (t.val / 2 * 2 + l) / 16 * 1024 + p.val; rw [h0]; omega
  · show l * 4096 + k.val = (t.val / 2 * 2 + l) % 2 * 4096 + k.val; omega
  · show l * 4096 + k.val = (t.val / 2 * 2 + l) % 2 * 4096 + k.val; omega
  · show win0_2.index t 1 * 512 + 1 * q.val = (t.val / 2 * 2 + l) / 2 % 8 * 512 + q.val; rw [h1]; omega

/-- The result array is the product: the blocks tile it. -/
theorem final_eq (c : Dev nD) : (dats m 0 c).arrAt 2 cfg0.N = result m c :=
  (dats m 0 c).arrAt_eq_of_cover 2 (result m c) (flushed_eq m c) fun i => by
    have b0 : (i 0 : Nat) < 4096 := (i 0).isLt
    have b1 : (i 1 : Nat) < 4096 := (i 1).isLt
    obtain ⟨t, ht⟩ : ∃ t : Fin cfg0.N, t.val = (i 0 : Nat) / 1024 * 16 + (i 1 : Nat) / 512 * 2 + 1 :=
      ⟨⟨(i 0 : Nat) / 1024 * 16 + (i 1 : Nat) / 512 * 2 + 1, lt_of_lt_of_eq (by omega) N_0.symm⟩, rfl⟩
    obtain ⟨-, -, ⟨h0, h1⟩⟩ := index_facts t
    refine ⟨t, (flush0_2 t).mpr (by omega), ?_⟩
    show i ∈ ((View.whole main_v3).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 512 ≤ (i 1 : Nat) ∧ (i 1 : Nat) < win0_2.index t 1 * 512 + 512
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.OutSsmIdeal.Product

namespace Cert.OutSsmReferenceIdeal.Product

open Cert.OutSsmReferenceIdeal Cert.OutSsmReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1)
        = Cert.OutSsmIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 4096), y = ix2 p q := ⟨y 0, y 1, by funext a; fin_cases a <;> rfl⟩
    unfold Cert.OutSsmIdeal.Product.prod
    pointwise), (h c).2⟩) (Value.run (F := Ideal) m ρ)

/-- It terminates, faults nowhere, and leaves the arguments and every semaphore as they were. -/
theorem frame : quiescent_OutSsmReferenceIdeal := fun m ρ _ =>
  (θ_run defs _ _).mono (fun r h => ⟨fun c => (h c).2, sem_eq_zero_of_no_sems (by decide) r.2⟩) (Value.run (F := Ideal) m ρ)

end Cert.OutSsmReferenceIdeal.Product

namespace Cert.Proof

open Idealize.ShloMosaic Idealize.SL.Sem

/-- The kernel's result and the reference's are the same array. -/
theorem algebraic_OutSsm : algebraic_OutSsmIdeal_OutSsmReferenceIdeal := by
  intro m g m' g' _ hagree
  refine ⟨fun c => Cert.OutSsmIdeal.Product.result m c, Cert.OutSsmIdeal.Product.run m g, ?_⟩
  refine (θ_run Cert.OutSsmReferenceIdeal.defs _ _).mono (fun r h c => ⟨(h c).1.trans ?_, (h c).2⟩)
    (Cert.OutSsmReferenceIdeal.Product.run m' g')
  rw [(hagree c).1, (hagree c).2]

end Cert.Proof

end
-- ==== Proof.Dy.lean ====
/- The value of `Dy`, the gradient with respect to the attention output projection's input on one device, the weight held
   as eight slabs of 512 columns and the product accumulated slab by slab: entry (i, j) of the written array is the sum
   over the 4096 features of cotangent row i times weight row j, and so is the reference's. -/
module

public import proofs.«01_k».proof.Defs
public import proofs.«01_k».proof.Proof.Gen.DyIdeal.Value
public import proofs.«01_k».proof.Proof.Gen.DyReferenceIdeal.Run
public import Idealize.ShloMosaic.Lib.Pointwise
public import Idealize.ShloMosaic.Lib.Claim

@[expose] public section

noncomputable section

namespace Cert.DyIdeal.Product

open Cert.DyIdeal Cert.DyIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of slab `s`. -/
def col (s : Fin 8) (j : Fin 512) : Fin 4096 := ⟨s.val * 512 + j.val, by omega⟩

/-- The product both programs compute. -/
def prod (x0 : Vec Ideal S2048x4096 .f32) (x1 : Vec Ideal S1x4096x4096 .f32) : Vec Ideal S4096x2048 .f32 :=
  fun i => ∑ k : Fin 4096, (x1 (ix3 0 (i 0) k) * x0 (ix2 (i 1) k) : EReal)

/-- The product of two blocks, entry by entry. -/
theorem dot_apply (x : Vec Ideal S1024x512 .bf16) (y : Vec Ideal S1x1024x512 .bf16) (p : Fin 1024) (q : Fin 1024) :
    k0_pay1 x y (ix2 p q) = ∑ k : Fin 512, (x (ix2 p k) * y (ix3 0 q k) : EReal) := by
  unfold k0_pay1
  pointwise

/-- The first point of a run leaves its blocks' product in the accumulator. -/
theorem sout_A (c : Dev nD) (i : grid0.Coords) (a3 : Memref sig .tc .vmem S1024x512 .bf16) (h3 : a3.IsWhole) (a4 : Memref sig .tc .vmem S1x1024x512 .bf16) (h4 : a4.IsWhole)
    (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x : Vec Ideal S1024x512 .bf16) (y : Vec Ideal S1x1024x512 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  unfold k0_pay2
  simp only [View.readAt_eq_ld, h3.read_unread, h4.read_unread, View.ld_unit_zero (S := S1024x512) hz, View.ld_unit_zero (S := S1x1024x512) hz3, shapeCast_self]

/-- A middle point adds its blocks' product to the accumulator. -/
theorem sout_B (c : Dev nD) (i : grid0.Coords) (a3 : Memref sig .tc .vmem S1024x512 .bf16) (h3 : a3.IsWhole) (a4 : Memref sig .tc .vmem S1x1024x512 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i) (hc2 : ¬cond0_2 i)
    (x : Vec Ideal S1024x512 .bf16) (y : Vec Ideal S1x1024x512 .bf16) (acc : Vec Ideal S1024x1024 .f32) :
    sout0_B_0 c i a3 h3 a4 h4 a5 h5 a6 h6 hc0 hc1 hc2 x y acc = addf acc (k0_pay1 x y) := by
  unfold sout0_B_0
  rw [View.read_writes_eq_canon _ _ _ (scover0_B_0 c i a3 h3 a4 h4 a5 h5 a6 h6 hc0 hc1 hc2 x y acc)]
  unfold kernelRun0_B
  dsimp only
  sl_unfold_words
  rw [View.canon_unit_zero hz]
  unfold k0_pay3
  simp only [View.readAt_eq_ld, h3.read_unread, h4.read_unread, h6.read_unread, View.ld_unit_zero (S := S1024x512) hz, View.ld_unit_zero (S := S1x1024x512) hz3, View.ld_unit_zero (S := S1024x1024) hz, shapeCast_self]

/-- The last point of a run writes the accumulator and its blocks' product, added. -/
theorem out_C (c : Dev nD) (i : grid0.Coords) (a3 : Memref sig .tc .vmem S1024x512 .bf16) (h3 : a3.IsWhole) (a4 : Memref sig .tc .vmem S1x1024x512 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i) (hc2 : cond0_2 i)
    (x : Vec Ideal S1024x512 .bf16) (y : Vec Ideal S1x1024x512 .bf16) (acc : Vec Ideal S1024x1024 .f32) :
    out0_C_2 c i a3 h3 a4 h4 a5 h5 a6 h6 hc0 hc1 hc2 x y acc = addf acc (k0_pay1 x y) := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1024x512) hz, View.ld_unit_zero (S := S1x1024x512) hz3, View.ld_unit_zero (S := S1024x1024) hz, shapeCast_self]

/-- Point `n`'s share of entry (p, q) of its output block. -/
def share (c : Dev nD) (p : Fin 1024) (q : Fin 1024) (n : ℕ) : EReal :=
  if h : n < cfg0.N then k0_pay1 (iblk m c 0 ⟨n, h⟩) (iblk m c 1 ⟨n, h⟩) (ix2 p q) else 0

theorem share_eq (c : Dev nD) (p : Fin 1024) (q : Fin 1024) (t : Fin cfg0.N) :
    share m c p q t.val = k0_pay1 (iblk m c 0 t) (iblk m c 1 t) (ix2 p q) := by
  unfold share; rw [dif_pos t.isLt]

/-- What the accumulator holds after point `n`, unless `n` is the last of its run: the shares of the run so far. -/
theorem acc_eq (c : Dev nD) (p : Fin 1024) (q : Fin 1024) : ∀ (n : ℕ) (h : n < cfg0.N), n % 8 ≠ 7 →
    (outsAt0 m c n h).2 (ix2 p q) = ∑ l ∈ Finset.range (n % 8 + 1), share m c p q (n / 8 * 8 + l)
  | 0, h, _ => by
    rw [outsAt0_A m c ⟨0, h⟩ (by dsimp only) (by dsimp only; omega) (by dsimp only; omega)]
    dsimp only
    rw [sout_A]
    refine (share_eq m c p q ⟨0, h⟩).symm.trans ?_
    simp
  | n + 1, h, hl => by
    by_cases h0 : (n + 1) % 8 = 0
    · rw [outsAt0_A m c ⟨n + 1, h⟩ h0 (by dsimp only; omega) (by dsimp only; omega)]
      dsimp only
      rw [sout_A]
      refine (share_eq m c p q ⟨n + 1, h⟩).symm.trans ?_
      rw [h0]
      have e : (n + 1) / 8 * 8 = n + 1 := by omega
      simp [e]
    · rw [outsAt0_B m c ⟨n + 1, h⟩ h0 (by dsimp only; omega) (by dsimp only; omega)]
      dsimp only
      rw [sout_B]
      have ih := acc_eq c p q n (Nat.lt_of_succ_lt h) (by omega)
      have e1 : (n + 1) / 8 = n / 8 := by omega
      have e2 : (n + 1) % 8 = n % 8 + 1 := by omega
      have e3 : n / 8 * 8 + (n % 8 + 1) = n + 1 := by omega
      rw [e1, e2, Finset.sum_range_succ, ← ih, e3, share_eq m c p q ⟨n + 1, h⟩]
      rfl

/-- What the last point of a run leaves in the output block: the shares of the whole run. -/
theorem out_eq (c : Dev nD) (p : Fin 1024) (q : Fin 1024) (t : Fin cfg0.N) (ht : t.val % 8 = 7) :
    (outsAt0 m c t.val t.isLt).1 (ix2 p q) = ∑ l ∈ Finset.range 8, share m c p q (t.val / 8 * 8 + l) := by
  obtain ⟨n, h⟩ := t
  dsimp only at ht
  obtain ⟨n, rfl⟩ : ∃ k, n = k + 1 := ⟨n - 1, by omega⟩
  rw [outsAt0_C m c ⟨n + 1, h⟩ (by dsimp only; omega) (by dsimp only; omega) (by dsimp only; omega)]
  dsimp only
  rw [out_C]
  have ih := acc_eq m c p q n (Nat.lt_of_succ_lt h) (by omega)
  have e1 : (n + 1) / 8 = n / 8 := by omega
  have e2 : n % 8 + 1 = 7 := by omega
  have e3 : n / 8 * 8 + 7 = n + 1 := by omega
  rw [e2] at ih
  rw [e1, show Finset.range 8 = Finset.range (7 + 1) from rfl, Finset.sum_range_succ, ← ih, e3, share_eq m c p q ⟨n + 1, h⟩]
  rfl

/-- A sum over 4096 = 8 · 512 positions, 512 at a time. -/
theorem sum_split (f : Fin 4096 → EReal) :
    ∑ l ∈ Finset.range 8, (if h : l < 8 then ∑ k : Fin 512, f ⟨l * 512 + k.val, by omega⟩ else 0) = ∑ k, f k := by
  rw [Finset.sum_range, ← (finProdFinEquiv (m := 8) (n := 512)).sum_comp (g := f), Fintype.sum_prod_type]
  refine Finset.sum_congr rfl fun l _ => ?_
  rw [dif_pos l.isLt]
  refine Finset.sum_congr rfl fun k _ => congrArg f (Fin.ext ?_)
  show l.val * 512 + k.val = k.val + 512 * l.val
  omega

/-- The left operand's array at the call, entry by entry. -/
theorem entry_a (c : Dev nD) (i : Fin 4096) (k : Fin 4096) :
    V m c main_v1 (ix2 i k) = m ((c : Thread nD τ).loc main_arg1) (ix3 0 i k) := by
  entry_read
  pointwise

/-- The right operand's array at the call, entry by entry. -/
theorem entry_b (c : Dev nD) (s : Fin 8) (j : Fin 2048) (k : Fin 512) :
    V m c main_v4 (ix3 s j k) = m ((c : Thread nD τ).loc main_arg0) (ix2 j (col s k)) := by
  entry_read
  pointwise
  rfl

/-- Which blocks grid point `t` reads and writes. -/
theorem index_facts : ∀ t : Fin grid0.N, (win0_0.index t 0 = t.val / 16 ∧ win0_0.index t 1 = t.val % 8)
    ∧ (win0_1.index t 0 = t.val % 8 ∧ win0_1.index t 1 = t.val / 8 % 2 ∧ win0_1.index t 2 = 0)
    ∧ (win0_2.index t 0 = t.val / 16 ∧ win0_2.index t 1 = t.val / 8 % 2) := by
  decide +kernel

/-- An entry of the left operand's block at `t`. -/
theorem block_a (c : Dev nD) (t : Fin cfg0.N) (p : Fin 1024) (l : Fin 512) (i : Fin 4096) (k : Fin 4096)
    (hi : i.val = t.val / 16 * 1024 + p.val) (hk : k.val = t.val % 8 * 512 + l.val) :
    (iblk m c 0 t : Vec Ideal S1024x512 .bf16) (ix2 p l) = m ((c : Thread nD τ).loc main_arg1) (ix3 0 i k) := by
  rw [← entry_a m c i k]
  unfold iblk
  rw [View.read_apply]
  show V m c main_v1 _ = V m c main_v1 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 512 + 1 * l.val = k.val; rw [h1]; omega

/-- An entry of the right operand's block at `t`. -/
theorem block_b (c : Dev nD) (t : Fin cfg0.N) (q : Fin 1024) (l : Fin 512) (j : Fin 2048) (k : Fin 4096)
    (hj : j.val = t.val / 8 % 2 * 1024 + q.val) (hk : k.val = t.val % 8 * 512 + l.val) :
    (iblk m c 1 t : Vec Ideal S1x1024x512 .bf16) (ix3 0 q l) = m ((c : Thread nD τ).loc main_arg0) (ix2 j k) := by
  have hs : t.val % 8 < 8 := by omega
  rw [show k = col ⟨t.val % 8, hs⟩ l from Fin.ext hk, ← entry_b m c ⟨t.val % 8, hs⟩ j l]
  unfold iblk
  rw [View.read_apply]
  show V m c main_v4 _ = V m c main_v4 _
  congr 1
  funext a
  apply Fin.ext
  obtain ⟨-, ⟨h0, h1, h2⟩, -⟩ := index_facts t
  match a with
  | ⟨0, _⟩ => show win0_1.index t 0 * 1 + 1 * (0 : Fin 1).val = t.val % 8; rw [h0]; simp
  | ⟨1, _⟩ => show win0_1.index t 1 * 1024 + 1 * q.val = j.val; rw [h1]; omega
  | ⟨2, _⟩ => show win0_1.index t 2 * 512 + 1 * l.val = l.val; rw [h2]; omega

/-- The result array after the run. -/
abbrev result (c : Dev nD) : Buf (Elt Ideal) ((c : Thread nD τ).loc main_v5) :=
  prod (m ((c : Thread nD τ).loc main_arg0)) (m ((c : Thread nD τ).loc main_arg1))

set_option maxRecDepth 10000 in
/-- The last point of a run writes block `t` of the product. -/
theorem flushed_eq (c : Dev nD) (t : Fin cfg0.N) (hf : (cfg0.win 2).flush t = true) :
    (dats m 0 c).flushed 2 t = ((cfg0.win 2).blk t).view.read (Elt Ideal) (result m c) := by
  have hl : t.val % 8 = 7 := (flush0_2 t).mp hf
  have ht : t.val < 64 := lt_of_lt_of_eq t.isLt N_0
  show (cfg0.win 2).cut (grid0.coords t) ((dats m 0 c).after 2 t) = _
  rw [after0_2]
  obtain ⟨-, -, ⟨h0, h1⟩⟩ := index_facts t
  funext y
  rw [View.read_apply]
  obtain ⟨p, q, rfl⟩ : ∃ (p : Fin 1024) (q : Fin 1024), y = ix2 p q := ⟨y 0, y 1, by funext a; fin_cases a <;> rfl⟩
  show (outsAt0 m c t.val t.isLt).1 (ix2 p q) = result m c _
  refine (out_eq m c p q t hl).trans ?_
  unfold result prod
  rw [← sum_split]
  refine Finset.sum_congr rfl fun l hlr => ?_
  have hl8 : l < 8 := Finset.mem_range.mp hlr
  rw [dif_pos hl8]
  have hn : t.val / 8 * 8 + l < cfg0.N := lt_of_lt_of_eq (by omega : _ < 64) N_0.symm
  refine (share_eq m c p q ⟨_, hn⟩).trans ((dot_apply _ _ p q).trans (Finset.sum_congr rfl fun k _ => ?_))
  refine congrArg₂ _ (block_a m c _ p k _ _ ?_ ?_) (block_b m c _ q k _ _ ?_ ?_)
  · show win0_2.index t 0 * 1024 + 1 * p.val = (t.val / 8 * 8 + l) / 16 * 1024 + p.val; rw [h0]; omega
  · show l * 512 + k.val = (t.val / 8 * 8 + l) % 8 * 512 + k.val; omega
  · show win0_2.index t 1 * 1024 + 1 * q.val = (t.val / 8 * 8 + l) / 8 % 2 * 1024 + q.val; rw [h1]; omega
  · show l * 512 + k.val = (t.val / 8 * 8 + l) % 8 * 512 + k.val; omega

/-- The result array is the product: the blocks tile it. -/
theorem final_eq (c : Dev nD) : (dats m 0 c).arrAt 2 cfg0.N = result m c :=
  (dats m 0 c).arrAt_eq_of_cover 2 (result m c) (flushed_eq m c) fun i => by
    have b0 : (i 0 : Nat) < 4096 := (i 0).isLt
    have b1 : (i 1 : Nat) < 2048 := (i 1).isLt
    obtain ⟨t, ht⟩ : ∃ t : Fin cfg0.N, t.val = (i 0 : Nat) / 1024 * 16 + (i 1 : Nat) / 1024 * 8 + 7 :=
      ⟨⟨(i 0 : Nat) / 1024 * 16 + (i 1 : Nat) / 1024 * 8 + 7, lt_of_lt_of_eq (by omega) N_0.symm⟩, rfl⟩
    obtain ⟨-, -, ⟨h0, h1⟩⟩ := index_facts t
    refine ⟨t, (flush0_2 t).mpr (by omega), ?_⟩
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 1024 ≤ (i 1 : Nat) ∧ (i 1 : Nat) < win0_2.index t 1 * 1024 + 1024
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.DyIdeal.Product

namespace Cert.DyReferenceIdeal.Product

open Cert.DyReferenceIdeal Cert.DyReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = Cert.DyIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 2048), y = ix2 p q := ⟨y 0, y 1, by funext a; fin_cases a <;> rfl⟩
    unfold Cert.DyIdeal.Product.prod
    pointwise), (h c).2⟩) (Value.run (F := Ideal) m ρ)

/-- It terminates, faults nowhere, and leaves the arguments and every semaphore as they were. -/
theorem frame : quiescent_DyReferenceIdeal := fun m ρ _ =>
  (θ_run defs _ _).mono (fun r h => ⟨fun c => (h c).2, sem_eq_zero_of_no_sems (by decide) r.2⟩) (Value.run (F := Ideal) m ρ)

end Cert.DyReferenceIdeal.Product

namespace Cert.Proof

open Idealize.ShloMosaic Idealize.SL.Sem

/-- The kernel's result and the reference's are the same array. -/
theorem algebraic_Dy : algebraic_DyIdeal_DyReferenceIdeal := by
  intro m g m' g' _ hagree
  refine ⟨fun c => Cert.DyIdeal.Product.result m c, Cert.DyIdeal.Product.run m g, ?_⟩
  refine (θ_run Cert.DyReferenceIdeal.defs _ _).mono (fun r h c => ⟨(h c).1.trans ?_, (h c).2⟩)
    (Cert.DyReferenceIdeal.Product.run m' g')
  rw [(hagree c).1, (hagree c).2]

end Cert.Proof

end
-- ==== Proof.InSsm.lean ====
/- The value of `InSsm`, the SSM input projection on one device, the weight held transposed: entry (i, j) of the written
   array is the sum over the 4096 features of input row i times weight column j, and so is the reference's. -/
module

public import proofs.«01_k».proof.Defs
public import proofs.«01_k».proof.Proof.Gen.InSsmIdeal.Value
public import proofs.«01_k».proof.Proof.Gen.InSsmReferenceIdeal.Run
public import Idealize.ShloMosaic.Lib.Pointwise
public import Idealize.ShloMosaic.Lib.Claim

@[expose] public section

noncomputable section

namespace Cert.InSsmIdeal.Product

open Cert.InSsmIdeal Cert.InSsmIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- The product both programs compute. -/
def prod (x0 : Vec Ideal S1x4096x4096 .f32) (x1 : Vec Ideal S4096x18560 .f32) : Vec Ideal S4096x18560 .f32 :=
  fun i => ∑ k : Fin 4096, (x0 (ix3 0 (i 0) k) * x1 (ix2 k (i 1)) : EReal)

/-- What the body leaves in the output block, entry by entry. -/
theorem out_apply (x : Vec Ideal S1024x4096 .bf16) (y : Vec Ideal S640x4096 .bf16) (p : Fin 1024) (q : Fin 640) :
    out0_2 x y (ix2 p q) = ∑ k : Fin 4096, (x (ix2 p k) * y (ix2 q k) : EReal) := by
  unfold out0_2
  rw [View.canon_unit_zero hz, View.ld_unit_zero (S := S1024x4096) hz, View.ld_unit_zero (S := S640x4096) hz]
  unfold k0_pay1
  pointwise

/-- The left operand's array at the call, entry by entry. -/
theorem entry_a (c : Dev nD) (i : Fin 4096) (k : Fin 4096) :
    V m c main_v1 (ix2 i k) = m ((c : Thread nD τ).loc main_arg0) (ix3 0 i k) := by
  entry_read
  pointwise

/-- The right operand's array at the call, entry by entry. -/
theorem entry_b (c : Dev nD) (j : Fin 18560) (k : Fin 4096) :
    V m c main_v3 (ix2 j k) = m ((c : Thread nD τ).loc main_arg1) (ix2 k j) := by
  entry_read
  pointwise

/-- Which blocks grid point `t` reads and writes. -/
theorem index_facts : ∀ t : Fin grid0.N, (win0_0.index t 0 = t.val / 29 ∧ win0_0.index t 1 = 0)
    ∧ (win0_1.index t 0 = t.val % 29 ∧ win0_1.index t 1 = 0)
    ∧ (win0_2.index t 0 = t.val / 29 ∧ win0_2.index t 1 = t.val % 29) := by
  decide +kernel

/-- An entry of the left operand's block at `t`. -/
theorem block_a (c : Dev nD) (t : Fin cfg0.N) (p : Fin 1024) (k : Fin 4096) (i : Fin 4096) (hi : i.val = t.val / 29 * 1024 + p.val) :
    (iblk m c 0 t : Vec Ideal S1024x4096 .bf16) (ix2 p k) = m ((c : Thread nD τ).loc main_arg0) (ix3 0 i k) := by
  rw [← entry_a m c i k]
  unfold iblk
  rw [View.read_apply]
  show V m c main_v1 _ = V m c main_v1 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 640) (j : Fin 18560) (hj : j.val = t.val % 29 * 640 + q.val) :
    (iblk m c 1 t : Vec Ideal S640x4096 .bf16) (ix2 q k) = m ((c : Thread nD τ).loc main_arg1) (ix2 k j) := by
  rw [← entry_b m c j k]
  unfold iblk
  rw [View.read_apply]
  show V m c main_v3 _ = V m c main_v3 _
  congr 1
  funext a
  apply Fin.ext
  obtain ⟨-, ⟨h0, h1⟩, -⟩ := index_facts t
  match a with
  | ⟨0, _⟩ => show win0_1.index t 0 * 640 + 1 * q.val = j.val; rw [h0]; omega
  | ⟨1, _⟩ => show win0_1.index t 1 * 4096 + 1 * k.val = k.val; rw [h1]; omega

/-- The result array after the run. -/
abbrev result (c : Dev nD) : Buf (Elt Ideal) ((c : Thread nD τ).loc main_v4) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 116 := lt_of_lt_of_eq t.isLt N_0
  obtain ⟨-, -, ⟨h0, h1⟩⟩ := index_facts t
  funext y
  rw [View.read_apply]
  obtain ⟨p, q, rfl⟩ : ∃ (p : Fin 1024) (q : Fin 640), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) (block_b m c t k q _ ?_)
  · show win0_2.index t 0 * 1024 + 1 * p.val = _; rw [h0]; omega
  · show win0_2.index t 1 * 640 + 1 * q.val = _; rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 4096 := (i 0).isLt
    have b1 : (i 1 : Nat) < 18560 := (i 1).isLt
    obtain ⟨t, ht⟩ : ∃ t : Fin cfg0.N, t.val = (i 0 : Nat) / 1024 * 29 + (i 1 : Nat) / 640 :=
      ⟨⟨(i 0 : Nat) / 1024 * 29 + (i 1 : Nat) / 640, lt_of_lt_of_eq (by omega) N_0.symm⟩, rfl⟩
    obtain ⟨-, -, ⟨h0, h1⟩⟩ := index_facts t
    refine ⟨t, flush0_2 t, ?_⟩
    show i ∈ ((View.whole main_v4).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 640 ≤ (i 1 : Nat) ∧ (i 1 : Nat) < win0_2.index t 1 * 640 + 640
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.InSsmIdeal.Product

namespace Cert.InSsmReferenceIdeal.Product

open Cert.InSsmReferenceIdeal Cert.InSsmReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1)
        = Cert.InSsmIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 18560), y = ix2 p q := ⟨y 0, y 1, by funext a; fin_cases a <;> rfl⟩
    unfold Cert.InSsmIdeal.Product.prod
    pointwise), (h c).2⟩) (Value.run (F := Ideal) m ρ)

/-- It terminates, faults nowhere, and leaves the arguments and every semaphore as they were. -/
theorem frame : quiescent_InSsmReferenceIdeal := fun m ρ _ =>
  (θ_run defs _ _).mono (fun r h => ⟨fun c => (h c).2, sem_eq_zero_of_no_sems (by decide) r.2⟩) (Value.run (F := Ideal) m ρ)

end Cert.InSsmReferenceIdeal.Product

namespace Cert.Proof

open Idealize.ShloMosaic Idealize.SL.Sem

/-- The kernel's result and the reference's are the same array. -/
theorem algebraic_InSsm : algebraic_InSsmIdeal_InSsmReferenceIdeal := by
  intro m g m' g' _ hagree
  refine ⟨fun c => Cert.InSsmIdeal.Product.result m c, Cert.InSsmIdeal.Product.run m g, ?_⟩
  refine (θ_run Cert.InSsmReferenceIdeal.defs _ _).mono (fun r h c => ⟨(h c).1.trans ?_, (h c).2⟩)
    (Cert.InSsmReferenceIdeal.Product.run m' g')
  rw [(hagree c).1, (hagree c).2]

end Cert.Proof

end
-- ==== Proof.Dx1.lean ====
/- The value of `Dx1`, the gradient with respect to the SSM layer's input on one device, accumulated over five parts of
   the contraction, with the scaled gradient of the residual path added at the end: entry (i, j) of the written array is
   the sum over the 18560 columns of cotangent row i times weight row j, plus the scaled residual's entry, and so is the
   reference's. -/
module

public import proofs.«01_k».proof.Defs
public import proofs.«01_k».proof.Proof.Gen.Dx1Ideal.Value
public import proofs.«01_k».proof.Proof.Gen.Dx1ReferenceIdeal.Run
public import Idealize.ShloMosaic.Lib.Pointwise
public import Idealize.ShloMosaic.Lib.Claim

@[expose] public section

noncomputable section

namespace Cert.Dx1Ideal.Product

open Cert.Dx1Ideal Cert.Dx1Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- The residual's scale, the fourth root of 4 as a float's value. -/
def alpha : EReal := (Scalar.ofBits .f32 0x3FB504F3#32 : Ideal .f32)

/-- The product and the scaled residual, which both programs compute. -/
def prod (x0 : Vec Ideal S4096x18560 .f32) (x1 : Vec Ideal S1x4096x18560 .f32) (x2 : Vec Ideal S1x4096x4096 .f32) : Vec Ideal S4096x4096 .f32 :=
  fun i => (∑ k : Fin 18560, (x1 (ix3 0 (i 0) k) * x0 (ix2 (i 1) k) : EReal)) + alpha * x2 (ix3 0 (i 0) (i 1))

/-- The product of two blocks, entry by entry. -/
theorem dot_apply (x : Vec Ideal S1024x3712 .bf16) (y : Vec Ideal S3712x512 .bf16) (p : Fin 1024) (q : Fin 512) :
    k0_pay1 x y (ix2 p q) = ∑ k : Fin 3712, (x (ix2 p k) * y (ix2 k q) : EReal) := by
  unfold k0_pay1
  pointwise

/-- Adding the scaled residual, entry by entry. -/
theorem residual_apply (u r : Vec Ideal S1024x512 .f32) (p : Fin 1024) (q : Fin 512) :
    k0_pay4 u r (ix2 p q) = u (ix2 p q) + alpha * r (ix2 p q) := by
  unfold k0_pay4 alpha
  pointwise

/-- The first point of a run leaves its blocks' product in the accumulator. -/
theorem sout_A (c : Dev nD) (i : grid0.Coords) (a3 : Memref sig .tc .vmem S1024x3712 .bf16) (h3 : a3.IsWhole) (a4 : Memref sig .tc .vmem S3712x512 .bf16) (h4 : a4.IsWhole)
    (a5 : Memref sig .tc .vmem S1024x512 .f32) (h5 : a5.IsWhole) (a6 : Memref sig .tc .vmem S1024x512 .f32) (h6 : a6.IsWhole)
    (a7 : Memref sig .tc .vmem S1024x512 .f32) (h7 : a7.IsWhole) (hc0 : cond0_0 i) (hc1 : ¬cond0_1 i) (hc2 : ¬cond0_2 i)
    (x : Vec Ideal S1024x3712 .bf16) (y : Vec Ideal S3712x512 .bf16) (r : Vec Ideal S1024x512 .f32) :
    sout0_A_0 c i a3 h3 a4 h4 a5 h5 a6 h6 a7 h7 hc0 hc1 hc2 x y r = k0_pay1 x y := by
  unfold sout0_A_0
  rw [View.read_writes_eq_canon _ _ _ (scover0_A_0 c i a3 h3 a4 h4 a5 h5 a6 h6 a7 h7 hc0 hc1 hc2 x y r)]
  unfold kernelRun0_A
  dsimp only
  sl_unfold_words
  rw [View.canon_unit_zero hz]
  unfold k0_pay2
  simp only [View.readAt_eq_ld, h3.read_unread, h4.read_unread, View.ld_unit_zero (S := S1024x3712) hz, View.ld_unit_zero (S := S3712x512) hz, shapeCast_self]

/-- A middle point adds its blocks' product to the accumulator. -/
theorem sout_B (c : Dev nD) (i : grid0.Coords) (a3 : Memref sig .tc .vmem S1024x3712 .bf16) (h3 : a3.IsWhole) (a4 : Memref sig .tc .vmem S3712x512 .bf16) (h4 : a4.IsWhole)
    (a5 : Memref sig .tc .vmem S1024x512 .f32) (h5 : a5.IsWhole) (a6 : Memref sig .tc .vmem S1024x512 .f32) (h6 : a6.IsWhole)
    (a7 : Memref sig .tc .vmem S1024x512 .f32) (h7 : a7.IsWhole) (hc0 : ¬cond0_0 i) (hc1 : cond0_1 i) (hc2 : ¬cond0_2 i)
    (x : Vec Ideal S1024x3712 .bf16) (y : Vec Ideal S3712x512 .bf16) (r : Vec Ideal S1024x512 .f32) (acc : Vec Ideal S1024x512 .f32) :
    sout0_B_0 c i a3 h3 a4 h4 a5 h5 a6 h6 a7 h7 hc0 hc1 hc2 x y r acc = addf acc (k0_pay1 x y) := by
  unfold sout0_B_0
  rw [View.read_writes_eq_canon _ _ _ (scover0_B_0 c i a3 h3 a4 h4 a5 h5 a6 h6 a7 h7 hc0 hc1 hc2 x y r acc)]
  unfold kernelRun0_B
  dsimp only
  sl_unfold_words
  rw [View.canon_unit_zero hz]
  unfold k0_pay3
  simp only [View.readAt_eq_ld, h3.read_unread, h4.read_unread, h5.read_unread, h7.read_unread, View.ld_unit_zero (S := S1024x3712) hz, View.ld_unit_zero (S := S3712x512) hz, View.ld_unit_zero (S := S1024x512) hz, shapeCast_self]

/-- The last point of a run writes the accumulator and its blocks' product, added, and the scaled residual. -/
theorem out_C (c : Dev nD) (i : grid0.Coords) (a3 : Memref sig .tc .vmem S1024x3712 .bf16) (h3 : a3.IsWhole) (a4 : Memref sig .tc .vmem S3712x512 .bf16) (h4 : a4.IsWhole)
    (a5 : Memref sig .tc .vmem S1024x512 .f32) (h5 : a5.IsWhole) (a6 : Memref sig .tc .vmem S1024x512 .f32) (h6 : a6.IsWhole)
    (a7 : Memref sig .tc .vmem S1024x512 .f32) (h7 : a7.IsWhole) (hc0 : ¬cond0_0 i) (hc1 : cond0_1 i) (hc2 : cond0_2 i)
    (x : Vec Ideal S1024x3712 .bf16) (y : Vec Ideal S3712x512 .bf16) (r : Vec Ideal S1024x512 .f32) (acc : Vec Ideal S1024x512 .f32) :
    out0_C_3 c i a3 h3 a4 h4 a5 h5 a6 h6 a7 h7 hc0 hc1 hc2 x y r acc = k0_pay4 (addf acc (k0_pay1 x y)) r := by
  unfold out0_C_3
  rw [View.read_writes_eq_canon _ _ _ (cover0_C_3 c i a3 h3 a4 h4 a5 h5 a6 h6 a7 h7 hc0 hc1 hc2 x y r acc)]
  unfold kernelRun0_C
  dsimp only
  sl_unfold_words
  rw [View.canon_unit_zero hz, View.readCov_unit_zero (S := S1024x512) _ hz]
  unfold k0_pay3
  simp only [View.readAt_eq_ld, h3.read_unread, h4.read_unread, h5.read_unread, h7.read_unread, View.ld_unit_zero (S := S1024x3712) hz, View.ld_unit_zero (S := S3712x512) hz, View.ld_unit_zero (S := S1024x512) hz, shapeCast_self]

/-- Point `n`'s share of entry (p, q) of its output block. -/
def share (c : Dev nD) (p : Fin 1024) (q : Fin 512) (n : ℕ) : EReal :=
  if h : n < cfg0.N then k0_pay1 (iblk m c 0 ⟨n, h⟩) (iblk m c 1 ⟨n, h⟩) (ix2 p q) else 0

theorem share_eq (c : Dev nD) (p : Fin 1024) (q : Fin 512) (t : Fin cfg0.N) :
    share m c p q t.val = k0_pay1 (iblk m c 0 t) (iblk m c 1 t) (ix2 p q) := by
  unfold share; rw [dif_pos t.isLt]

/-- What the accumulator holds after point `n`, unless `n` is the last of its run: the shares of the run so far. -/
theorem acc_eq (c : Dev nD) (p : Fin 1024) (q : Fin 512) : ∀ (n : ℕ) (h : n < cfg0.N), n % 5 ≠ 4 →
    (outsAt0 m c n h).2 (ix2 p q) = ∑ l ∈ Finset.range (n % 5 + 1), share m c p q (n / 5 * 5 + l)
  | 0, h, _ => by
    rw [outsAt0_A m c ⟨0, h⟩ (by dsimp only) (by dsimp only; omega) (by dsimp only; omega)]
    dsimp only
    rw [sout_A]
    refine (share_eq m c p q ⟨0, h⟩).symm.trans ?_
    simp
  | n + 1, h, hl => by
    by_cases h0 : (n + 1) % 5 = 0
    · rw [outsAt0_A m c ⟨n + 1, h⟩ h0 (by dsimp only; omega) (by dsimp only; omega)]
      dsimp only
      rw [sout_A]
      refine (share_eq m c p q ⟨n + 1, h⟩).symm.trans ?_
      rw [h0]
      have e : (n + 1) / 5 * 5 = n + 1 := by omega
      simp [e]
    · rw [outsAt0_B m c ⟨n + 1, h⟩ h0 (by dsimp only; omega) (by dsimp only; omega)]
      dsimp only
      rw [sout_B]
      have ih := acc_eq c p q n (Nat.lt_of_succ_lt h) (by omega)
      have e1 : (n + 1) / 5 = n / 5 := by omega
      have e2 : (n + 1) % 5 = n % 5 + 1 := by omega
      have e3 : n / 5 * 5 + (n % 5 + 1) = n + 1 := by omega
      rw [e1, e2, Finset.sum_range_succ, ← ih, e3, share_eq m c p q ⟨n + 1, h⟩]
      rfl

/-- What the last point of a run leaves in the output block: the shares of the whole run and the scaled residual. -/
theorem out_eq (c : Dev nD) (p : Fin 1024) (q : Fin 512) (t : Fin cfg0.N) (ht : t.val % 5 = 4) :
    (outsAt0 m c t.val t.isLt).1 (ix2 p q)
      = (∑ l ∈ Finset.range 5, share m c p q (t.val / 5 * 5 + l)) + alpha * (iblk m c 2 t : Vec Ideal S1024x512 .f32) (ix2 p q) := by
  obtain ⟨n, h⟩ := t
  dsimp only at ht
  obtain ⟨n, rfl⟩ : ∃ k, n = k + 1 := ⟨n - 1, by omega⟩
  rw [outsAt0_C m c ⟨n + 1, h⟩ (by dsimp only; omega) (by dsimp only; omega) (by dsimp only; omega)]
  dsimp only
  rw [out_C, residual_apply]
  have ih := acc_eq m c p q n (Nat.lt_of_succ_lt h) (by omega)
  have e1 : (n + 1) / 5 = n / 5 := by omega
  have e2 : n % 5 + 1 = 4 := by omega
  have e3 : n / 5 * 5 + 4 = n + 1 := by omega
  rw [e2] at ih
  rw [e1, show Finset.range 5 = Finset.range (4 + 1) from rfl, Finset.sum_range_succ, ← ih, e3, share_eq m c p q ⟨n + 1, h⟩]
  rfl

/-- A sum over 18560 = 5 · 3712 positions, 3712 at a time. -/
theorem sum_split (f : Fin 18560 → EReal) :
    ∑ l ∈ Finset.range 5, (if h : l < 5 then ∑ k : Fin 3712, f ⟨l * 3712 + k.val, by omega⟩ else 0) = ∑ k, f k := by
  rw [Finset.sum_range, ← (finProdFinEquiv (m := 5) (n := 3712)).sum_comp (g := f), Fintype.sum_prod_type]
  refine Finset.sum_congr rfl fun l _ => ?_
  rw [dif_pos l.isLt]
  refine Finset.sum_congr rfl fun k _ => congrArg f (Fin.ext ?_)
  show l.val * 3712 + k.val = k.val + 3712 * l.val
  omega

/-- The left operand's array at the call, entry by entry. -/
theorem entry_a (c : Dev nD) (i : Fin 4096) (k : Fin 18560) :
    V m c main_v1 (ix2 i k) = m ((c : Thread nD τ).loc main_arg1) (ix3 0 i k) := by
  entry_read
  pointwise

/-- The right operand's array at the call, entry by entry. -/
theorem entry_b (c : Dev nD) (k : Fin 18560) (j : Fin 4096) :
    V m c main_v3 (ix2 k j) = m ((c : Thread nD τ).loc main_arg0) (ix2 j k) := by
  entry_read
  pointwise

/-- The residual's array at the call, entry by entry. -/
theorem entry_r (c : Dev nD) (i : Fin 4096) (j : Fin 4096) :
    V m c main_v4 (ix2 i j) = m ((c : Thread nD τ).loc main_arg2) (ix3 0 i j) := by
  entry_read
  pointwise

/-- Which blocks grid point `t` reads and writes. -/
theorem index_facts : ∀ t : Fin grid0.N, (win0_0.index t 0 = t.val / 40 ∧ win0_0.index t 1 = t.val % 5)
    ∧ (win0_1.index t 0 = t.val % 5 ∧ win0_1.index t 1 = t.val / 5 % 8)
    ∧ (win0_2.index t 0 = t.val / 40 ∧ win0_2.index t 1 = t.val / 5 % 8) ∧ (win0_3.index t 0 = t.val / 40 ∧ win0_3.index t 1 = t.val / 5 % 8) := by
  decide +kernel

/-- An entry of the left operand's block at `t`. -/
theorem block_a (c : Dev nD) (t : Fin cfg0.N) (p : Fin 1024) (l : Fin 3712) (i : Fin 4096) (k : Fin 18560)
    (hi : i.val = t.val / 40 * 1024 + p.val) (hk : k.val = t.val % 5 * 3712 + l.val) :
    (iblk m c 0 t : Vec Ideal S1024x3712 .bf16) (ix2 p l) = m ((c : Thread nD τ).loc main_arg1) (ix3 0 i k) := by
  rw [← entry_a m c i k]
  unfold iblk
  rw [View.read_apply]
  show V m c main_v1 _ = V m c main_v1 _
  congr 1
  funext a
  apply Fin.ext
  obtain ⟨⟨h0, h1⟩, -, -, -⟩ := index_facts t
  match a with
  | ⟨0, _⟩ => show win0_0.index t 0 * 1024 + 1 * p.val = i.val; rw [h0]; omega
  | ⟨1, _⟩ => show win0_0.index t 1 * 3712 + 1 * l.val = k.val; rw [h1]; omega

/-- An entry of the right operand's block at `t`. -/
theorem block_b (c : Dev nD) (t : Fin cfg0.N) (l : Fin 3712) (q : Fin 512) (k : Fin 18560) (j : Fin 4096)
    (hk : k.val = t.val % 5 * 3712 + l.val) (hj : j.val = t.val / 5 % 8 * 512 + q.val) :
    (iblk m c 1 t : Vec Ideal S3712x512 .bf16) (ix2 l q) = m ((c : Thread nD τ).loc main_arg0) (ix2 j k) := by
  rw [← entry_b m c k j]
  unfold iblk
  rw [View.read_apply]
  show V m c main_v3 _ = V m c main_v3 _
  congr 1
  funext a
  apply Fin.ext
  obtain ⟨-, ⟨h0, h1⟩, -, -⟩ := index_facts t
  match a with
  | ⟨0, _⟩ => show win0_1.index t 0 * 3712 + 1 * l.val = k.val; rw [h0]; omega
  | ⟨1, _⟩ => show win0_1.index t 1 * 512 + 1 * q.val = j.val; rw [h1]; omega

/-- An entry of the residual's block at `t`. -/
theorem block_r (c : Dev nD) (t : Fin cfg0.N) (p : Fin 1024) (q : Fin 512) (i : Fin 4096) (j : Fin 4096)
    (hi : i.val = t.val / 40 * 1024 + p.val) (hj : j.val = t.val / 5 % 8 * 512 + q.val) :
    (iblk m c 2 t : Vec Ideal S1024x512 .f32) (ix2 p q) = m ((c : Thread nD τ).loc main_arg2) (ix3 0 i j) := by
  rw [← entry_r m c i j]
  unfold iblk
  rw [View.read_apply]
  show V m c main_v4 _ = V m c main_v4 _
  congr 1
  funext a
  apply Fin.ext
  obtain ⟨-, -, ⟨h0, h1⟩, -⟩ := index_facts t
  match a with
  | ⟨0, _⟩ => show win0_2.index t 0 * 1024 + 1 * p.val = i.val; rw [h0]; omega
  | ⟨1, _⟩ => show win0_2.index t 1 * 512 + 1 * q.val = j.val; rw [h1]; omega

/-- The result array after the run. -/
abbrev result (c : Dev nD) : Buf (Elt Ideal) ((c : Thread nD τ).loc main_v5) :=
  prod (m ((c : Thread nD τ).loc main_arg0)) (m ((c : Thread nD τ).loc main_arg1)) (m ((c : Thread nD τ).loc main_arg2))

set_option maxRecDepth 10000 in
/-- The last point of a run writes block `t` of the product. -/
theorem flushed_eq (c : Dev nD) (t : Fin cfg0.N) (hf : (cfg0.win 3).flush t = true) :
    (dats m 0 c).flushed 3 t = ((cfg0.win 3).blk t).view.read (Elt Ideal) (result m c) := by
  have hl : t.val % 5 = 4 := (flush0_3 t).mp hf
  have ht : t.val < 160 := lt_of_lt_of_eq t.isLt N_0
  show (cfg0.win 3).cut (grid0.coords t) ((dats m 0 c).after 3 t) = _
  rw [after0_3]
  obtain ⟨-, -, -, ⟨h0, h1⟩⟩ := index_facts t
  funext y
  rw [View.read_apply]
  obtain ⟨p, q, rfl⟩ : ∃ (p : Fin 1024) (q : Fin 512), y = ix2 p q := ⟨y 0, y 1, by funext a; fin_cases a <;> rfl⟩
  show (outsAt0 m c t.val t.isLt).1 (ix2 p q) = result m c _
  refine (out_eq m c p q t hl).trans ?_
  unfold result prod
  rw [← sum_split]
  refine congrArg₂ _ ?_ (congrArg (alpha * ·) (block_r m c t p q _ _ ?_ ?_))
  rotate_left
  · show win0_3.index t 0 * 1024 + 1 * p.val = _; rw [h0]; omega
  · show win0_3.index t 1 * 512 + 1 * q.val = _; rw [h1]; omega
  refine Finset.sum_congr rfl fun l hlr => ?_
  have hl5 : l < 5 := Finset.mem_range.mp hlr
  rw [dif_pos hl5]
  have hn : t.val / 5 * 5 + l < cfg0.N := lt_of_lt_of_eq (by omega : _ < 160) N_0.symm
  refine (share_eq m c p q ⟨_, hn⟩).trans ((dot_apply _ _ p q).trans (Finset.sum_congr rfl fun k _ => ?_))
  refine congrArg₂ _ (block_a m c _ p k _ _ ?_ ?_) (block_b m c _ k q _ _ ?_ ?_)
  · show win0_3.index t 0 * 1024 + 1 * p.val = (t.val / 5 * 5 + l) / 40 * 1024 + p.val; rw [h0]; omega
  · show l * 3712 + k.val = (t.val / 5 * 5 + l) % 5 * 3712 + k.val; omega
  · show l * 3712 + k.val = (t.val / 5 * 5 + l) % 5 * 3712 + k.val; omega
  · show win0_3.index t 1 * 512 + 1 * q.val = (t.val / 5 * 5 + l) / 5 % 8 * 512 + q.val; rw [h1]; omega

/-- The result array is the product: the blocks tile it. -/
theorem final_eq (c : Dev nD) : (dats m 0 c).arrAt 3 cfg0.N = result m c :=
  (dats m 0 c).arrAt_eq_of_cover 3 (result m c) (flushed_eq m c) fun i => by
    have b0 : (i 0 : Nat) < 4096 := (i 0).isLt
    have b1 : (i 1 : Nat) < 4096 := (i 1).isLt
    obtain ⟨t, ht⟩ : ∃ t : Fin cfg0.N, t.val = (i 0 : Nat) / 1024 * 40 + (i 1 : Nat) / 512 * 5 + 4 :=
      ⟨⟨(i 0 : Nat) / 1024 * 40 + (i 1 : Nat) / 512 * 5 + 4, lt_of_lt_of_eq (by omega) N_0.symm⟩, rfl⟩
    obtain ⟨-, -, -, ⟨h0, h1⟩⟩ := index_facts t
    refine ⟨t, (flush0_3 t).mpr (by omega), ?_⟩
    show i ∈ ((View.whole main_v5).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [h0]; omega
    | ⟨1, _⟩ => show win0_3.index t 1 * 512 ≤ (i 1 : Nat) ∧ (i 1 : Nat) < win0_3.index t 1 * 512 + 512
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c), (h c).2⟩) (Value.run_blocks m ρ)

end Cert.Dx1Ideal.Product

namespace Cert.Dx1ReferenceIdeal.Product

open Cert.Dx1ReferenceIdeal Cert.Dx1ReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
        = Cert.Dx1Ideal.Product.prod (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    funext y
    obtain ⟨p, q, rfl⟩ : ∃ (p : Fin 4096) (q : Fin 4096), y = ix2 p q := ⟨y 0, y 1, by funext a; fin_cases a <;> rfl⟩
    unfold Cert.Dx1Ideal.Product.prod
    pointwise
    exact add_comm _ _), (h c).2⟩) (Value.run (F := Ideal) m ρ)

/-- It terminates, faults nowhere, and leaves the arguments and every semaphore as they were. -/
theorem frame : quiescent_Dx1ReferenceIdeal := fun m ρ _ =>
  (θ_run defs _ _).mono (fun r h => ⟨fun c => (h c).2, sem_eq_zero_of_no_sems (by decide) r.2⟩) (Value.run (F := Ideal) m ρ)

end Cert.Dx1ReferenceIdeal.Product

namespace Cert.Proof

open Idealize.ShloMosaic Idealize.SL.Sem

/-- The kernel's result and the reference's are the same array. -/
theorem algebraic_Dx1 : algebraic_Dx1Ideal_Dx1ReferenceIdeal := by
  intro m g m' g' _ hagree
  refine ⟨fun c => Cert.Dx1Ideal.Product.result m c, Cert.Dx1Ideal.Product.run m g, ?_⟩
  refine (θ_run Cert.Dx1ReferenceIdeal.defs _ _).mono (fun r h c => ⟨(h c).1.trans ?_, (h c).2⟩)
    (Cert.Dx1ReferenceIdeal.Product.run m' g')
  rw [(hagree c).1, (hagree c).2.1, (hagree c).2.2]

end Cert.Proof

end
-- ==== Proof.DwInAttn.lean ====
/- The value of `DwInAttn`, the weight gradient of the attention input projection on one device, written as eight slabs
   of 2560 columns: entry (s, i, j) is the sum over the 4096 tokens of input column i times cotangent column 2560 s + j,
   and so is the reference's. -/
module

public import proofs.«01_k».proof.Defs
public import proofs.«01_k».proof.Proof.Gen.DwInAttnIdeal.Value
public import proofs.«01_k».proof.Proof.Gen.DwInAttnReferenceIdeal.Run
public import Idealize.ShloMosaic.Lib.Pointwise
public import Idealize.ShloMosaic.Lib.Claim

@[expose] public section

noncomputable section

namespace Cert.DwInAttnIdeal.Product

open Cert.DwInAttnIdeal Cert.DwInAttnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of slab `s`. -/
def col (s : Fin 8) (j : Fin 2560) : Fin 20480 := ⟨s.val * 2560 + j.val, by omega⟩

/-- The product both programs compute. -/
def prod (x0 : Vec Ideal S1x4096x4096 .f32) (x1 : Vec Ideal S1x4096x20480 .f32) : Vec Ideal S8x4096x2560 .bf16 :=
  fun i => ∑ k : Fin 4096, (x0 (ix3 0 k (i 1)) * x1 (ix3 0 k (col (i 0) (i 2))) : EReal)

/-- What the body leaves in the output block, entry by entry. -/
theorem out_apply (x : Vec Ideal S1024x4096 .bf16) (y : Vec Ideal S4096x640 .bf16) (p : Fin 1024) (q : Fin 640) :
    out0_2 x y (ix3 0 p q) = ∑ k : Fin 4096, (x (ix2 p k) * y (ix2 k q) : EReal) := by
  unfold out0_2
  rw [View.canon_unit_zero hz3, View.ld_unit_zero (S := S1024x4096) hz, View.ld_unit_zero (S := S4096x640) hz]
  unfold k0_pay1
  pointwise

/-- The left operand's array at the call, entry by entry. -/
theorem entry_a (c : Dev nD) (i : Fin 4096) (k : Fin 4096) :
    V m c main_v2 (ix2 i k) = m ((c : Thread nD τ).loc main_arg0) (ix3 0 k i) := by
  entry_read
  pointwise

/-- The right operand's array at the call, entry by entry. -/
theorem entry_b (c : Dev nD) (k : Fin 4096) (j : Fin 20480) :
    V m c main_v4 (ix2 k j) = m ((c : Thread nD τ).loc main_arg1) (ix3 0 k j) := by
  entry_read
  pointwise

/-- Which blocks grid point `t` reads and writes. -/
theorem index_facts : ∀ t : Fin grid0.N, (win0_0.index t 0 = t.val / 32 ∧ win0_0.index t 1 = 0)
    ∧ (win0_1.index t 0 = 0 ∧ win0_1.index t 1 = t.val % 32)
    ∧ (win0_2.index t 0 = t.val % 32 / 4 ∧ win0_2.index t 1 = t.val / 32 ∧ win0_2.index t 2 = t.val % 32 % 4) := by
  decide +kernel

/-- An entry of the left operand's block at `t`. -/
theorem block_a (c : Dev nD) (t : Fin cfg0.N) (p : Fin 1024) (k : Fin 4096) (i : Fin 4096) (hi : i.val = t.val / 32 * 1024 + p.val) :
    (iblk m c 0 t : Vec Ideal S1024x4096 .bf16) (ix2 p k) = m ((c : Thread nD τ).loc main_arg0) (ix3 0 k i) := by
  rw [← entry_a m c i k]
  unfold iblk
  rw [View.read_apply]
  show V m c main_v2 _ = V m c main_v2 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 640) (j : Fin 20480) (hj : j.val = t.val % 32 * 640 + q.val) :
    (iblk m c 1 t : Vec Ideal S4096x640 .bf16) (ix2 k q) = m ((c : Thread nD τ).loc main_arg1) (ix3 0 k j) := by
  rw [← entry_b m c k j]
  unfold iblk
  rw [View.read_apply]
  show V m c main_v4 _ = V m c main_v4 _
  congr 1
  funext a
  apply Fin.ext
  obtain ⟨-, ⟨h0, h1⟩, -⟩ := index_facts t
  match a with
  | ⟨0, _⟩ => show win0_1.index t 0 * 4096 + 1 * k.val = k.val; rw [h0]; omega
  | ⟨1, _⟩ => show win0_1.index t 1 * 640 + 1 * q.val = j.val; rw [h1]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 128 := lt_of_lt_of_eq t.isLt N_0
  obtain ⟨-, -, ⟨h0, h1, h2⟩⟩ := index_facts t
  funext y
  rw [View.read_apply]
  obtain ⟨p, q, rfl⟩ : ∃ (p : Fin 1024) (q : Fin 640), y = ix3 0 p q := ⟨y 1, y 2, by funext a; fin_cases a; exacts [Fin.ext (by have h : (y 0 : Nat) < 1 := (y 0).isLt; show (y 0 : Nat) = 0; omega), rfl, rfl]⟩
  show out0_2 (iblk m c 0 t) (iblk m c 1 t) (ix3 0 p q) = result m c _
  refine (out_apply _ _ p q).trans ?_
  unfold result prod
  refine Finset.sum_congr rfl fun k _ => ?_
  refine congrArg₂ _ (block_a m c t p k _ ?_) (block_b m c t k q _ ?_)
  · show win0_2.index t 1 * 1024 + 1 * p.val = _; rw [h1]; omega
  · have z : (0 : Fin 1).val = 0 := rfl
    show (win0_2.index t 0 * 1 + 1 * (0 : Fin 1).val) * 2560 + (win0_2.index t 2 * 640 + 1 * q.val) = _; rw [h0, h2, z]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 8 := (i 0).isLt
    have b1 : (i 1 : Nat) < 4096 := (i 1).isLt
    have b2 : (i 2 : Nat) < 2560 := (i 2).isLt
    obtain ⟨t, ht⟩ : ∃ t : Fin cfg0.N, t.val = (i 1 : Nat) / 1024 * 32 + (i 0 : Nat) * 4 + (i 2 : Nat) / 640 :=
      ⟨⟨(i 1 : Nat) / 1024 * 32 + (i 0 : Nat) * 4 + (i 2 : Nat) / 640, lt_of_lt_of_eq (by omega) N_0.symm⟩, rfl⟩
    obtain ⟨-, -, ⟨h0, h1, h2⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [h0]; omega
    | ⟨1, _⟩ => show win0_2.index t 1 * 1024 ≤ (i 1 : Nat) ∧ (i 1 : Nat) < win0_2.index t 1 * 1024 + 1024
                rw [h1]; omega
    | ⟨2, _⟩ => show win0_2.index t 2 * 640 ≤ (i 2 : Nat) ∧ (i 2 : Nat) < win0_2.index t 2 * 640 + 640
                rw [h2]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.DwInAttnIdeal.Product

namespace Cert.DwInAttnReferenceIdeal.Product

open Cert.DwInAttnReferenceIdeal Cert.DwInAttnReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
        = Cert.DwInAttnIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨s, p, q, rfl⟩ : ∃ (s : Fin 8) (p : Fin 4096) (q : Fin 2560), y = ix3 s p q := ⟨y 0, y 1, y 2, by funext a; fin_cases a <;> rfl⟩
    unfold Cert.DwInAttnIdeal.Product.prod Value.res_main_v21
    fin_cases s
    all_goals pointwise
    all_goals
      show @Eq EReal _ _
      refine (Fin.sum_univ_one _).trans (Finset.sum_congr rfl fun k _ => (mul_comm _ _).trans
        (congrArg (fun z => @HMul.hMul EReal EReal EReal _ (m (c.tc.loc main_arg0) (ix3 0 k p)) (m (c.tc.loc main_arg1) (ix3 0 k z))) (Fin.ext ?_)))
      simp [Cert.DwInAttnIdeal.Product.col]), (h c).2⟩) (Value.run (F := Ideal) m ρ)

/-- It terminates, faults nowhere, and leaves the arguments and every semaphore as they were. -/
theorem frame : quiescent_DwInAttnReferenceIdeal := fun m ρ _ =>
  (θ_run defs _ _).mono (fun r h => ⟨fun c => (h c).2, sem_eq_zero_of_no_sems (by decide) r.2⟩) (Value.run (F := Ideal) m ρ)

end Cert.DwInAttnReferenceIdeal.Product

namespace Cert.Proof

open Idealize.ShloMosaic Idealize.SL.Sem

/-- The kernel's result and the reference's are the same array. -/
theorem algebraic_DwInAttn : algebraic_DwInAttnIdeal_DwInAttnReferenceIdeal := by
  intro m g m' g' _ hagree
  refine ⟨fun c => Cert.DwInAttnIdeal.Product.result m c, Cert.DwInAttnIdeal.Product.run m g, ?_⟩
  refine (θ_run Cert.DwInAttnReferenceIdeal.defs _ _).mono (fun r h c => ⟨(h c).1.trans ?_, (h c).2⟩)
    (Cert.DwInAttnReferenceIdeal.Product.run m' g')
  rw [(hagree c).1, (hagree c).2]

end Cert.Proof

end
-- ==== Proof.Dx.lean ====
/- The value of `Dx`, the gradient with respect to the attention layer's input on one device, the weight held as eight
   slabs of 2560 columns and the product accumulated slab by slab, with the scaled gradient of the residual path added at
   the end: entry (i, j) of the written array is the sum over the 20480 columns of cotangent row i times weight row j, plus
   the scaled residual's entry, and so is the reference's. -/
module

public import proofs.«01_k».proof.Defs
public import proofs.«01_k».proof.Proof.Gen.DxIdeal.Value
public import proofs.«01_k».proof.Proof.Gen.DxReferenceIdeal.Run
public import Idealize.ShloMosaic.Lib.Pointwise
public import Idealize.ShloMosaic.Lib.Claim

@[expose] public section

noncomputable section

namespace Cert.DxIdeal.Product

open Cert.DxIdeal Cert.DxIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- The residual's scale, the fourth root of 4 as a float's value. -/
def alpha : EReal := (Scalar.ofBits .f32 0x3FB504F3#32 : Ideal .f32)

/-- Column `j` of slab `s`. -/
def col (s : Fin 8) (j : Fin 2560) : Fin 20480 := ⟨s.val * 2560 + j.val, by omega⟩

/-- The product and the scaled residual, which both programs compute. -/
def prod (x0 : Vec Ideal S4096x20480 .f32) (x1 : Vec Ideal S1x4096x20480 .f32) (x2 : Vec Ideal S1x4096x4096 .f32) : Vec Ideal S4096x4096 .f32 :=
  fun i => (∑ k : Fin 20480, (x1 (ix3 0 (i 0) k) * x0 (ix2 (i 1) k) : EReal)) + alpha * x2 (ix3 0 (i 0) (i 1))

/-- The product of two blocks, entry by entry. -/
theorem dot_apply (x : Vec Ideal S1024x2560 .bf16) (y : Vec Ideal S1x1024x2560 .bf16) (p : Fin 1024) (q : Fin 1024) :
    k0_pay1 x y (ix2 p q) = ∑ k : Fin 2560, (x (ix2 p k) * y (ix3 0 q k) : EReal) := by
  unfold k0_pay1
  pointwise

/-- Adding the scaled residual, entry by entry. -/
theorem residual_apply (u r : Vec Ideal S1024x1024 .f32) (p : Fin 1024) (q : Fin 1024) :
    k0_pay4 u r (ix2 p q) = u (ix2 p q) + alpha * r (ix2 p q) := by
  unfold k0_pay4 alpha
  pointwise

/-- The first point of a run leaves its blocks' product in the accumulator. -/
theorem sout_A (c : Dev nD) (i : grid0.Coords) (a3 : Memref sig .tc .vmem S1024x2560 .bf16) (h3 : a3.IsWhole) (a4 : Memref sig .tc .vmem S1x1024x2560 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i) (hc2 : ¬cond0_2 i)
    (x : Vec Ideal S1024x2560 .bf16) (y : Vec Ideal S1x1024x2560 .bf16) (r : Vec Ideal S1024x1024 .f32) :
    sout0_A_0 c i a3 h3 a4 h4 a5 h5 a6 h6 a7 h7 hc0 hc1 hc2 x y r = k0_pay1 x y := by
  unfold sout0_A_0
  rw [View.read_writes_eq_canon _ _ _ (scover0_A_0 c i a3 h3 a4 h4 a5 h5 a6 h6 a7 h7 hc0 hc1 hc2 x y r)]
  unfold kernelRun0_A
  dsimp only
  sl_unfold_words
  rw [View.canon_unit_zero hz]
  unfold k0_pay2
  simp only [View.readAt_eq_ld, h3.read_unread, h4.read_unread, View.ld_unit_zero (S := S1024x2560) hz, View.ld_unit_zero (S := S1x1024x2560) hz3, shapeCast_self]

/-- A middle point adds its blocks' product to the accumulator. -/
theorem sout_B (c : Dev nD) (i : grid0.Coords) (a3 : Memref sig .tc .vmem S1024x2560 .bf16) (h3 : a3.IsWhole) (a4 : Memref sig .tc .vmem S1x1024x2560 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : ¬cond0_2 i)
    (x : Vec Ideal S1024x2560 .bf16) (y : Vec Ideal S1x1024x2560 .bf16) (r : Vec Ideal S1024x1024 .f32) (acc : Vec Ideal S1024x1024 .f32) :
    sout0_B_0 c i a3 h3 a4 h4 a5 h5 a6 h6 a7 h7 hc0 hc1 hc2 x y r acc = addf acc (k0_pay1 x y) := by
  unfold sout0_B_0
  rw [View.read_writes_eq_canon _ _ _ (scover0_B_0 c i a3 h3 a4 h4 a5 h5 a6 h6 a7 h7 hc0 hc1 hc2 x y r acc)]
  unfold kernelRun0_B
  dsimp only
  sl_unfold_words
  rw [View.canon_unit_zero hz]
  unfold k0_pay3
  simp only [View.readAt_eq_ld, h3.read_unread, h4.read_unread, h5.read_unread, h7.read_unread, View.ld_unit_zero (S := S1024x2560) hz, View.ld_unit_zero (S := S1x1024x2560) hz3, View.ld_unit_zero (S := S1024x1024) hz, shapeCast_self]

/-- The last point of a run writes the accumulator and its blocks' product, added, and the scaled residual. -/
theorem out_C (c : Dev nD) (i : grid0.Coords) (a3 : Memref sig .tc .vmem S1024x2560 .bf16) (h3 : a3.IsWhole) (a4 : Memref sig .tc .vmem S1x1024x2560 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : cond0_2 i)
    (x : Vec Ideal S1024x2560 .bf16) (y : Vec Ideal S1x1024x2560 .bf16) (r : Vec Ideal S1024x1024 .f32) (acc : Vec Ideal S1024x1024 .f32) :
    out0_C_3 c i a3 h3 a4 h4 a5 h5 a6 h6 a7 h7 hc0 hc1 hc2 x y r acc = k0_pay4 (addf acc (k0_pay1 x y)) r := by
  unfold out0_C_3
  rw [View.read_writes_eq_canon _ _ _ (cover0_C_3 c i a3 h3 a4 h4 a5 h5 a6 h6 a7 h7 hc0 hc1 hc2 x y r acc)]
  unfold kernelRun0_C
  dsimp only
  sl_unfold_words
  rw [View.canon_unit_zero hz, View.readCov_unit_zero (S := S1024x1024) _ hz]
  unfold k0_pay3
  simp only [View.readAt_eq_ld, h3.read_unread, h4.read_unread, h5.read_unread, h7.read_unread, View.ld_unit_zero (S := S1024x2560) hz, View.ld_unit_zero (S := S1x1024x2560) hz3, View.ld_unit_zero (S := S1024x1024) hz, shapeCast_self]

/-- Point `n`'s share of entry (p, q) of its output block. -/
def share (c : Dev nD) (p : Fin 1024) (q : Fin 1024) (n : ℕ) : EReal :=
  if h : n < cfg0.N then k0_pay1 (iblk m c 0 ⟨n, h⟩) (iblk m c 1 ⟨n, h⟩) (ix2 p q) else 0

theorem share_eq (c : Dev nD) (p : Fin 1024) (q : Fin 1024) (t : Fin cfg0.N) :
    share m c p q t.val = k0_pay1 (iblk m c 0 t) (iblk m c 1 t) (ix2 p q) := by
  unfold share; rw [dif_pos t.isLt]

/-- What the accumulator holds after point `n`, unless `n` is the last of its run: the shares of the run so far. -/
theorem acc_eq (c : Dev nD) (p : Fin 1024) (q : Fin 1024) : ∀ (n : ℕ) (h : n < cfg0.N), n % 8 ≠ 7 →
    (outsAt0 m c n h).2 (ix2 p q) = ∑ l ∈ Finset.range (n % 8 + 1), share m c p q (n / 8 * 8 + l)
  | 0, h, _ => by
    rw [outsAt0_A m c ⟨0, h⟩ (by dsimp only) (by dsimp only; omega) (by dsimp only; omega)]
    dsimp only
    rw [sout_A]
    refine (share_eq m c p q ⟨0, h⟩).symm.trans ?_
    simp
  | n + 1, h, hl => by
    by_cases h0 : (n + 1) % 8 = 0
    · rw [outsAt0_A m c ⟨n + 1, h⟩ h0 (by dsimp only; omega) (by dsimp only; omega)]
      dsimp only
      rw [sout_A]
      refine (share_eq m c p q ⟨n + 1, h⟩).symm.trans ?_
      rw [h0]
      have e : (n + 1) / 8 * 8 = n + 1 := by omega
      simp [e]
    · rw [outsAt0_B m c ⟨n + 1, h⟩ h0 (by dsimp only; omega) (by dsimp only; omega)]
      dsimp only
      rw [sout_B]
      have ih := acc_eq c p q n (Nat.lt_of_succ_lt h) (by omega)
      have e1 : (n + 1) / 8 = n / 8 := by omega
      have e2 : (n + 1) % 8 = n % 8 + 1 := by omega
      have e3 : n / 8 * 8 + (n % 8 + 1) = n + 1 := by omega
      rw [e1, e2, Finset.sum_range_succ, ← ih, e3, share_eq m c p q ⟨n + 1, h⟩]
      rfl

/-- What the last point of a run leaves in the output block: the shares of the whole run and the scaled residual. -/
theorem out_eq (c : Dev nD) (p : Fin 1024) (q : Fin 1024) (t : Fin cfg0.N) (ht : t.val % 8 = 7) :
    (outsAt0 m c t.val t.isLt).1 (ix2 p q)
      = (∑ l ∈ Finset.range 8, share m c p q (t.val / 8 * 8 + l)) + alpha * (iblk m c 2 t : Vec Ideal S1024x1024 .f32) (ix2 p q) := by
  obtain ⟨n, h⟩ := t
  dsimp only at ht
  obtain ⟨n, rfl⟩ : ∃ k, n = k + 1 := ⟨n - 1, by omega⟩
  rw [outsAt0_C m c ⟨n + 1, h⟩ (by dsimp only; omega) (by dsimp only; omega) (by dsimp only; omega)]
  dsimp only
  rw [out_C, residual_apply]
  have ih := acc_eq m c p q n (Nat.lt_of_succ_lt h) (by omega)
  have e1 : (n + 1) / 8 = n / 8 := by omega
  have e2 : n % 8 + 1 = 7 := by omega
  have e3 : n / 8 * 8 + 7 = n + 1 := by omega
  rw [e2] at ih
  rw [e1, show Finset.range 8 = Finset.range (7 + 1) from rfl, Finset.sum_range_succ, ← ih, e3, share_eq m c p q ⟨n + 1, h⟩]
  rfl

/-- A sum over 20480 = 8 · 2560 positions, 2560 at a time. -/
theorem sum_split (f : Fin 20480 → EReal) :
    ∑ l ∈ Finset.range 8, (if h : l < 8 then ∑ k : Fin 2560, f ⟨l * 2560 + k.val, by omega⟩ else 0) = ∑ k, f k := by
  rw [Finset.sum_range, ← (finProdFinEquiv (m := 8) (n := 2560)).sum_comp (g := f), Fintype.sum_prod_type]
  refine Finset.sum_congr rfl fun l _ => ?_
  rw [dif_pos l.isLt]
  refine Finset.sum_congr rfl fun k _ => congrArg f (Fin.ext ?_)
  show l.val * 2560 + k.val = k.val + 2560 * l.val
  omega

/-- The left operand's array at the call, entry by entry. -/
theorem entry_a (c : Dev nD) (i : Fin 4096) (k : Fin 20480) :
    V m c main_v1 (ix2 i k) = m ((c : Thread nD τ).loc main_arg1) (ix3 0 i k) := by
  entry_read
  pointwise

/-- The right operand's array at the call, entry by entry. -/
theorem entry_b (c : Dev nD) (s : Fin 8) (j : Fin 4096) (k : Fin 2560) :
    V m c main_v4 (ix3 s j k) = m ((c : Thread nD τ).loc main_arg0) (ix2 j (col s k)) := by
  entry_read
  pointwise
  rfl

/-- The residual's array at the call, entry by entry. -/
theorem entry_r (c : Dev nD) (i : Fin 4096) (j : Fin 4096) :
    V m c main_v5 (ix2 i j) = m ((c : Thread nD τ).loc main_arg2) (ix3 0 i j) := by
  entry_read
  pointwise

/-- Which blocks grid point `t` reads and writes. -/
theorem index_facts : ∀ t : Fin grid0.N, (win0_0.index t 0 = t.val / 32 ∧ win0_0.index t 1 = t.val % 8)
    ∧ (win0_1.index t 0 = t.val % 8 ∧ win0_1.index t 1 = t.val / 8 % 4 ∧ win0_1.index t 2 = 0)
    ∧ (win0_2.index t 0 = t.val / 32 ∧ win0_2.index t 1 = t.val / 8 % 4) ∧ (win0_3.index t 0 = t.val / 32 ∧ win0_3.index t 1 = t.val / 8 % 4) := by
  decide +kernel

/-- An entry of the left operand's block at `t`. -/
theorem block_a (c : Dev nD) (t : Fin cfg0.N) (p : Fin 1024) (l : Fin 2560) (i : Fin 4096) (k : Fin 20480)
    (hi : i.val = t.val / 32 * 1024 + p.val) (hk : k.val = t.val % 8 * 2560 + l.val) :
    (iblk m c 0 t : Vec Ideal S1024x2560 .bf16) (ix2 p l) = m ((c : Thread nD τ).loc main_arg1) (ix3 0 i k) := by
  rw [← entry_a m c i k]
  unfold iblk
  rw [View.read_apply]
  show V m c main_v1 _ = V m c main_v1 _
  congr 1
  funext a
  apply Fin.ext
  obtain ⟨⟨h0, h1⟩, -, -, -⟩ := index_facts t
  match a with
  | ⟨0, _⟩ => show win0_0.index t 0 * 1024 + 1 * p.val = i.val; rw [h0]; omega
  | ⟨1, _⟩ => show win0_0.index t 1 * 2560 + 1 * l.val = k.val; rw [h1]; omega

/-- An entry of the right operand's block at `t`. -/
theorem block_b (c : Dev nD) (t : Fin cfg0.N) (q : Fin 1024) (l : Fin 2560) (j : Fin 4096) (k : Fin 20480)
    (hj : j.val = t.val / 8 % 4 * 1024 + q.val) (hk : k.val = t.val % 8 * 2560 + l.val) :
    (iblk m c 1 t : Vec Ideal S1x1024x2560 .bf16) (ix3 0 q l) = m ((c : Thread nD τ).loc main_arg0) (ix2 j k) := by
  have hs : t.val % 8 < 8 := by omega
  rw [show k = col ⟨t.val % 8, hs⟩ l from Fin.ext hk, ← entry_b m c ⟨t.val % 8, hs⟩ j l]
  unfold iblk
  rw [View.read_apply]
  show V m c main_v4 _ = V m c main_v4 _
  congr 1
  funext a
  apply Fin.ext
  obtain ⟨-, ⟨h0, h1, h2⟩, -, -⟩ := index_facts t
  match a with
  | ⟨0, _⟩ => show win0_1.index t 0 * 1 + 1 * (0 : Fin 1).val = t.val % 8; rw [h0]; simp
  | ⟨1, _⟩ => show win0_1.index t 1 * 1024 + 1 * q.val = j.val; rw [h1]; omega
  | ⟨2, _⟩ => show win0_1.index t 2 * 2560 + 1 * l.val = l.val; rw [h2]; omega

/-- An entry of the residual's block at `t`. -/
theorem block_r (c : Dev nD) (t : Fin cfg0.N) (p : Fin 1024) (q : Fin 1024) (i : Fin 4096) (j : Fin 4096)
    (hi : i.val = t.val / 32 * 1024 + p.val) (hj : j.val = t.val / 8 % 4 * 1024 + q.val) :
    (iblk m c 2 t : Vec Ideal S1024x1024 .f32) (ix2 p q) = m ((c : Thread nD τ).loc main_arg2) (ix3 0 i j) := by
  rw [← entry_r m c i j]
  unfold iblk
  rw [View.read_apply]
  show V m c main_v5 _ = V m c main_v5 _
  congr 1
  funext a
  apply Fin.ext
  obtain ⟨-, -, ⟨h0, h1⟩, -⟩ := index_facts t
  match a with
  | ⟨0, _⟩ => show win0_2.index t 0 * 1024 + 1 * p.val = i.val; rw [h0]; omega
  | ⟨1, _⟩ => show win0_2.index t 1 * 1024 + 1 * q.val = j.val; rw [h1]; omega

/-- The result array after the run. -/
abbrev result (c : Dev nD) : Buf (Elt Ideal) ((c : Thread nD τ).loc main_v6) :=
  prod (m ((c : Thread nD τ).loc main_arg0)) (m ((c : Thread nD τ).loc main_arg1)) (m ((c : Thread nD τ).loc main_arg2))

set_option maxRecDepth 10000 in
/-- The last point of a run writes block `t` of the product. -/
theorem flushed_eq (c : Dev nD) (t : Fin cfg0.N) (hf : (cfg0.win 3).flush t = true) :
    (dats m 0 c).flushed 3 t = ((cfg0.win 3).blk t).view.read (Elt Ideal) (result m c) := by
  have hl : t.val % 8 = 7 := (flush0_3 t).mp hf
  have ht : t.val < 128 := lt_of_lt_of_eq t.isLt N_0
  show (cfg0.win 3).cut (grid0.coords t) ((dats m 0 c).after 3 t) = _
  rw [after0_3]
  obtain ⟨-, -, -, ⟨h0, h1⟩⟩ := index_facts t
  funext y
  rw [View.read_apply]
  obtain ⟨p, q, rfl⟩ : ∃ (p : Fin 1024) (q : Fin 1024), y = ix2 p q := ⟨y 0, y 1, by funext a; fin_cases a <;> rfl⟩
  show (outsAt0 m c t.val t.isLt).1 (ix2 p q) = result m c _
  refine (out_eq m c p q t hl).trans ?_
  unfold result prod
  rw [← sum_split]
  refine congrArg₂ _ ?_ (congrArg (alpha * ·) (block_r m c t p q _ _ ?_ ?_))
  rotate_left
  · show win0_3.index t 0 * 1024 + 1 * p.val = _; rw [h0]; omega
  · show win0_3.index t 1 * 1024 + 1 * q.val = _; rw [h1]; omega
  refine Finset.sum_congr rfl fun l hlr => ?_
  have hl8 : l < 8 := Finset.mem_range.mp hlr
  rw [dif_pos hl8]
  have hn : t.val / 8 * 8 + l < cfg0.N := lt_of_lt_of_eq (by omega : _ < 128) N_0.symm
  refine (share_eq m c p q ⟨_, hn⟩).trans ((dot_apply _ _ p q).trans (Finset.sum_congr rfl fun k _ => ?_))
  refine congrArg₂ _ (block_a m c _ p k _ _ ?_ ?_) (block_b m c _ q k _ _ ?_ ?_)
  · show win0_3.index t 0 * 1024 + 1 * p.val = (t.val / 8 * 8 + l) / 32 * 1024 + p.val; rw [h0]; omega
  · show l * 2560 + k.val = (t.val / 8 * 8 + l) % 8 * 2560 + k.val; omega
  · show win0_3.index t 1 * 1024 + 1 * q.val = (t.val / 8 * 8 + l) / 8 % 4 * 1024 + q.val; rw [h1]; omega
  · show l * 2560 + k.val = (t.val / 8 * 8 + l) % 8 * 2560 + k.val; omega

/-- The result array is the product: the blocks tile it. -/
theorem final_eq (c : Dev nD) : (dats m 0 c).arrAt 3 cfg0.N = result m c :=
  (dats m 0 c).arrAt_eq_of_cover 3 (result m c) (flushed_eq m c) fun i => by
    have b0 : (i 0 : Nat) < 4096 := (i 0).isLt
    have b1 : (i 1 : Nat) < 4096 := (i 1).isLt
    obtain ⟨t, ht⟩ : ∃ t : Fin cfg0.N, t.val = (i 0 : Nat) / 1024 * 32 + (i 1 : Nat) / 1024 * 8 + 7 :=
      ⟨⟨(i 0 : Nat) / 1024 * 32 + (i 1 : Nat) / 1024 * 8 + 7, lt_of_lt_of_eq (by omega) N_0.symm⟩, rfl⟩
    obtain ⟨-, -, -, ⟨h0, h1⟩⟩ := index_facts t
    refine ⟨t, (flush0_3 t).mpr (by omega), ?_⟩
    show i ∈ ((View.whole main_v6).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [h0]; omega
    | ⟨1, _⟩ => show win0_3.index t 1 * 1024 ≤ (i 1 : Nat) ∧ (i 1 : Nat) < win0_3.index t 1 * 1024 + 1024
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c), (h c).2⟩) (Value.run_blocks m ρ)

end Cert.DxIdeal.Product

namespace Cert.DxReferenceIdeal.Product

open Cert.DxReferenceIdeal Cert.DxReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
        = Cert.DxIdeal.Product.prod (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    funext y
    obtain ⟨p, q, rfl⟩ : ∃ (p : Fin 4096) (q : Fin 4096), y = ix2 p q := ⟨y 0, y 1, by funext a; fin_cases a <;> rfl⟩
    unfold Cert.DxIdeal.Product.prod
    pointwise
    exact add_comm _ _), (h c).2⟩) (Value.run (F := Ideal) m ρ)

/-- It terminates, faults nowhere, and leaves the arguments and every semaphore as they were. -/
theorem frame : quiescent_DxReferenceIdeal := fun m ρ _ =>
  (θ_run defs _ _).mono (fun r h => ⟨fun c => (h c).2, sem_eq_zero_of_no_sems (by decide) r.2⟩) (Value.run (F := Ideal) m ρ)

end Cert.DxReferenceIdeal.Product

namespace Cert.Proof

open Idealize.ShloMosaic Idealize.SL.Sem

/-- The kernel's result and the reference's are the same array. -/
theorem algebraic_Dx : algebraic_DxIdeal_DxReferenceIdeal := by
  intro m g m' g' _ hagree
  refine ⟨fun c => Cert.DxIdeal.Product.result m c, Cert.DxIdeal.Product.run m g, ?_⟩
  refine (θ_run Cert.DxReferenceIdeal.defs _ _).mono (fun r h c => ⟨(h c).1.trans ?_, (h c).2⟩)
    (Cert.DxReferenceIdeal.Product.run m' g')
  rw [(hagree c).1, (hagree c).2.1, (hagree c).2.2]

end Cert.Proof

end
-- ==== Proof.QkvA.lean ====
/- The value of `QkvA`, the columns of attention group 0's queries, keys and values in the attention input projection on one
   device, the weight held as eight slabs of 2560 columns: entry (i, j) of the written array is the sum over the 4096
   features of input row i times weight column j, and so is the reference's. -/
module

public import proofs.«01_k».proof.Defs
public import proofs.«01_k».proof.Proof.Gen.QkvAIdeal.Value
public import proofs.«01_k».proof.Proof.Gen.QkvAReferenceIdeal.Run
public import Idealize.ShloMosaic.Lib.Pointwise
public import Idealize.ShloMosaic.Lib.Claim

@[expose] public section

noncomputable section

namespace Cert.QkvAIdeal.Product

open Cert.QkvAIdeal Cert.QkvAIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of the group. -/
def part (j : Fin 6144) : Fin 20480 := ⟨j.val, by omega⟩

/-- Column `j` of slab `s`. -/
def col (s : Fin 8) (j : Fin 2560) : Fin 20480 := ⟨s.val * 2560 + j.val, by omega⟩

/-- The product both programs compute. -/
def prod (x0 : Vec Ideal S1x4096x4096 .f32) (x1 : Vec Ideal S4096x20480 .f32) : Vec Ideal S4096x6144 .bf16 :=
  fun i => ∑ k : Fin 4096, (x0 (ix3 0 (i 0) k) * x1 (ix2 k (part (i 1))) : EReal)

/-- What the body leaves in the output block, entry by entry. -/
theorem out_apply (x : Vec Ideal S1024x4096 .bf16) (y : Vec Ideal S1x4096x512 .bf16) (p : Fin 1024) (q : Fin 512) :
    out0_2 x y (ix2 p q) = ∑ k : Fin 4096, (x (ix2 p k) * y (ix3 0 k q) : EReal) := by
  unfold out0_2
  rw [View.canon_unit_zero hz, View.ld_unit_zero (S := S1024x4096) hz, View.ld_unit_zero (S := S1x4096x512) hz3]
  unfold k0_pay1
  pointwise

/-- The left operand's array at the call, entry by entry. -/
theorem entry_a (c : Dev nD) (i : Fin 4096) (k : Fin 4096) :
    V m c main_v1 (ix2 i k) = m ((c : Thread nD τ).loc main_arg0) (ix3 0 i k) := by
  entry_read
  pointwise

/-- The right operand's array at the call, entry by entry. -/
theorem entry_b (c : Dev nD) (s : Fin 8) (k : Fin 4096) (j : Fin 2560) :
    V m c main_v4 (ix3 s k j) = m ((c : Thread nD τ).loc main_arg1) (ix2 k (col s j)) := by
  entry_read
  pointwise
  rfl

/-- Which blocks grid point `t` reads and writes. -/
theorem index_facts : ∀ t : Fin grid0.N, (win0_0.index t 0 = t.val / 12 ∧ win0_0.index t 1 = 0)
    ∧ (win0_1.index t 0 = (t.val % 12 + 0) / 5 ∧ win0_1.index t 1 = 0 ∧ win0_1.index t 2 = (t.val % 12 + 0) % 5)
    ∧ (win0_2.index t 0 = t.val / 12 ∧ win0_2.index t 1 = t.val % 12) := by
  decide +kernel

/-- An entry of the left operand's block at `t`. -/
theorem block_a (c : Dev nD) (t : Fin cfg0.N) (p : Fin 1024) (k : Fin 4096) (i : Fin 4096) (hi : i.val = t.val / 12 * 1024 + p.val) :
    (iblk m c 0 t : Vec Ideal S1024x4096 .bf16) (ix2 p k) = m ((c : Thread nD τ).loc main_arg0) (ix3 0 i k) := by
  rw [← entry_a m c i k]
  unfold iblk
  rw [View.read_apply]
  show V m c main_v1 _ = V m c main_v1 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 512) (s : Fin 8) (j : Fin 2560) (hs : s.val = (t.val % 12 + 0) / 5) (hj : j.val = (t.val % 12 + 0) % 5 * 512 + q.val) :
    (iblk m c 1 t : Vec Ideal S1x4096x512 .bf16) (ix3 0 k q) = m ((c : Thread nD τ).loc main_arg1) (ix2 k (col s j)) := by
  rw [← entry_b m c s k j]
  unfold iblk
  rw [View.read_apply]
  show V m c main_v4 _ = V m c main_v4 _
  congr 1
  funext a
  apply Fin.ext
  obtain ⟨-, ⟨h0, h1, h2⟩, -⟩ := index_facts t
  match a with
  | ⟨0, _⟩ => show win0_1.index t 0 * 1 + 1 * (0 : Fin 1).val = s.val; rw [h0]; simp; omega
  | ⟨1, _⟩ => show win0_1.index t 1 * 4096 + 1 * k.val = k.val; rw [h1]; omega
  | ⟨2, _⟩ => show win0_1.index t 2 * 512 + 1 * q.val = j.val; rw [h2]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 48 := lt_of_lt_of_eq t.isLt N_0
  obtain ⟨-, -, ⟨h0, h1⟩⟩ := index_facts t
  funext y
  rw [View.read_apply]
  obtain ⟨p, q, rfl⟩ : ∃ (p : Fin 1024) (q : Fin 512), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) ((block_b m c t k q ⟨(t.val % 12 + 0) / 5, by omega⟩ ⟨(t.val % 12 + 0) % 5 * 512 + q.val, by omega⟩ rfl rfl).trans ?_)
  · show win0_2.index t 0 * 1024 + 1 * p.val = _; rw [h0]; omega
  · refine congrArg (fun z => m ((c : Thread nD τ).loc main_arg1) (ix2 k z)) (Fin.ext ?_)
    show (t.val % 12 + 0) / 5 * 2560 + ((t.val % 12 + 0) % 5 * 512 + q.val) = win0_2.index t 1 * 512 + 1 * q.val; rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 4096 := (i 0).isLt
    have b1 : (i 1 : Nat) < 6144 := (i 1).isLt
    obtain ⟨t, ht⟩ : ∃ t : Fin cfg0.N, t.val = (i 0 : Nat) / 1024 * 12 + (i 1 : Nat) / 512 :=
      ⟨⟨(i 0 : Nat) / 1024 * 12 + (i 1 : Nat) / 512, lt_of_lt_of_eq (by omega) N_0.symm⟩, rfl⟩
    obtain ⟨-, -, ⟨h0, h1⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 512 ≤ (i 1 : Nat) ∧ (i 1 : Nat) < win0_2.index t 1 * 512 + 512
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.QkvAIdeal.Product

namespace Cert.QkvAReferenceIdeal.Product

open Cert.QkvAReferenceIdeal Cert.QkvAReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = Cert.QkvAIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 6144), y = ix2 p q := ⟨y 0, y 1, by funext a; fin_cases a <;> rfl⟩
    unfold Cert.QkvAIdeal.Product.prod
    pointwise
    rfl), (h c).2⟩) (Value.run (F := Ideal) m ρ)

/-- It terminates, faults nowhere, and leaves the arguments and every semaphore as they were. -/
theorem frame : quiescent_QkvAReferenceIdeal := fun m ρ _ =>
  (θ_run defs _ _).mono (fun r h => ⟨fun c => (h c).2, sem_eq_zero_of_no_sems (by decide) r.2⟩) (Value.run (F := Ideal) m ρ)

end Cert.QkvAReferenceIdeal.Product

namespace Cert.Proof

open Idealize.ShloMosaic Idealize.SL.Sem

/-- The kernel's result and the reference's are the same array. -/
theorem algebraic_QkvA : algebraic_QkvAIdeal_QkvAReferenceIdeal := by
  intro m g m' g' _ hagree
  refine ⟨fun c => Cert.QkvAIdeal.Product.result m c, Cert.QkvAIdeal.Product.run m g, ?_⟩
  refine (θ_run Cert.QkvAReferenceIdeal.defs _ _).mono (fun r h c => ⟨(h c).1.trans ?_, (h c).2⟩)
    (Cert.QkvAReferenceIdeal.Product.run m' g')
  rw [(hagree c).1, (hagree c).2]

end Cert.Proof

end
-- ==== Proof.QkvB.lean ====
/- The value of `QkvB`, the columns of attention group 1's queries, keys and values in the attention input projection on one
   device, the weight held as eight slabs of 2560 columns: entry (i, j) of the written array is the sum over the 4096
   features of input row i times weight column 6144 + j, and so is the reference's. -/
module

public import proofs.«01_k».proof.Defs
public import proofs.«01_k».proof.Proof.Gen.QkvBIdeal.Value
public import proofs.«01_k».proof.Proof.Gen.QkvBReferenceIdeal.Run
public import Idealize.ShloMosaic.Lib.Pointwise
public import Idealize.ShloMosaic.Lib.Claim

@[expose] public section

noncomputable section

namespace Cert.QkvBIdeal.Product

open Cert.QkvBIdeal Cert.QkvBIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of the group. -/
def part (j : Fin 6144) : Fin 20480 := ⟨6144 + j.val, by omega⟩

/-- Column `j` of slab `s`. -/
def col (s : Fin 8) (j : Fin 2560) : Fin 20480 := ⟨s.val * 2560 + j.val, by omega⟩

/-- The product both programs compute. -/
def prod (x0 : Vec Ideal S1x4096x4096 .f32) (x1 : Vec Ideal S4096x20480 .f32) : Vec Ideal S4096x6144 .bf16 :=
  fun i => ∑ k : Fin 4096, (x0 (ix3 0 (i 0) k) * x1 (ix2 k (part (i 1))) : EReal)

/-- What the body leaves in the output block, entry by entry. -/
theorem out_apply (x : Vec Ideal S1024x4096 .bf16) (y : Vec Ideal S1x4096x512 .bf16) (p : Fin 1024) (q : Fin 512) :
    out0_2 x y (ix2 p q) = ∑ k : Fin 4096, (x (ix2 p k) * y (ix3 0 k q) : EReal) := by
  unfold out0_2
  rw [View.canon_unit_zero hz, View.ld_unit_zero (S := S1024x4096) hz, View.ld_unit_zero (S := S1x4096x512) hz3]
  unfold k0_pay1
  pointwise

/-- The left operand's array at the call, entry by entry. -/
theorem entry_a (c : Dev nD) (i : Fin 4096) (k : Fin 4096) :
    V m c main_v1 (ix2 i k) = m ((c : Thread nD τ).loc main_arg0) (ix3 0 i k) := by
  entry_read
  pointwise

/-- The right operand's array at the call, entry by entry. -/
theorem entry_b (c : Dev nD) (s : Fin 8) (k : Fin 4096) (j : Fin 2560) :
    V m c main_v4 (ix3 s k j) = m ((c : Thread nD τ).loc main_arg1) (ix2 k (col s j)) := by
  entry_read
  pointwise
  rfl

/-- Which blocks grid point `t` reads and writes. -/
theorem index_facts : ∀ t : Fin grid0.N, (win0_0.index t 0 = t.val / 12 ∧ win0_0.index t 1 = 0)
    ∧ (win0_1.index t 0 = (t.val % 12 + 12) / 5 ∧ win0_1.index t 1 = 0 ∧ win0_1.index t 2 = (t.val % 12 + 12) % 5)
    ∧ (win0_2.index t 0 = t.val / 12 ∧ win0_2.index t 1 = t.val % 12) := by
  decide +kernel

/-- An entry of the left operand's block at `t`. -/
theorem block_a (c : Dev nD) (t : Fin cfg0.N) (p : Fin 1024) (k : Fin 4096) (i : Fin 4096) (hi : i.val = t.val / 12 * 1024 + p.val) :
    (iblk m c 0 t : Vec Ideal S1024x4096 .bf16) (ix2 p k) = m ((c : Thread nD τ).loc main_arg0) (ix3 0 i k) := by
  rw [← entry_a m c i k]
  unfold iblk
  rw [View.read_apply]
  show V m c main_v1 _ = V m c main_v1 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 512) (s : Fin 8) (j : Fin 2560) (hs : s.val = (t.val % 12 + 12) / 5) (hj : j.val = (t.val % 12 + 12) % 5 * 512 + q.val) :
    (iblk m c 1 t : Vec Ideal S1x4096x512 .bf16) (ix3 0 k q) = m ((c : Thread nD τ).loc main_arg1) (ix2 k (col s j)) := by
  rw [← entry_b m c s k j]
  unfold iblk
  rw [View.read_apply]
  show V m c main_v4 _ = V m c main_v4 _
  congr 1
  funext a
  apply Fin.ext
  obtain ⟨-, ⟨h0, h1, h2⟩, -⟩ := index_facts t
  match a with
  | ⟨0, _⟩ => show win0_1.index t 0 * 1 + 1 * (0 : Fin 1).val = s.val; rw [h0]; simp; omega
  | ⟨1, _⟩ => show win0_1.index t 1 * 4096 + 1 * k.val = k.val; rw [h1]; omega
  | ⟨2, _⟩ => show win0_1.index t 2 * 512 + 1 * q.val = j.val; rw [h2]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 48 := lt_of_lt_of_eq t.isLt N_0
  obtain ⟨-, -, ⟨h0, h1⟩⟩ := index_facts t
  funext y
  rw [View.read_apply]
  obtain ⟨p, q, rfl⟩ : ∃ (p : Fin 1024) (q : Fin 512), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) ((block_b m c t k q ⟨(t.val % 12 + 12) / 5, by omega⟩ ⟨(t.val % 12 + 12) % 5 * 512 + q.val, by omega⟩ rfl rfl).trans ?_)
  · show win0_2.index t 0 * 1024 + 1 * p.val = _; rw [h0]; omega
  · refine congrArg (fun z => m ((c : Thread nD τ).loc main_arg1) (ix2 k z)) (Fin.ext ?_)
    show (t.val % 12 + 12) / 5 * 2560 + ((t.val % 12 + 12) % 5 * 512 + q.val) = 6144 + (win0_2.index t 1 * 512 + 1 * q.val); rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 4096 := (i 0).isLt
    have b1 : (i 1 : Nat) < 6144 := (i 1).isLt
    obtain ⟨t, ht⟩ : ∃ t : Fin cfg0.N, t.val = (i 0 : Nat) / 1024 * 12 + (i 1 : Nat) / 512 :=
      ⟨⟨(i 0 : Nat) / 1024 * 12 + (i 1 : Nat) / 512, lt_of_lt_of_eq (by omega) N_0.symm⟩, rfl⟩
    obtain ⟨-, -, ⟨h0, h1⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 512 ≤ (i 1 : Nat) ∧ (i 1 : Nat) < win0_2.index t 1 * 512 + 512
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.QkvBIdeal.Product

namespace Cert.QkvBReferenceIdeal.Product

open Cert.QkvBReferenceIdeal Cert.QkvBReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = Cert.QkvBIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 6144), y = ix2 p q := ⟨y 0, y 1, by funext a; fin_cases a <;> rfl⟩
    unfold Cert.QkvBIdeal.Product.prod
    pointwise
    rfl), (h c).2⟩) (Value.run (F := Ideal) m ρ)

/-- It terminates, faults nowhere, and leaves the arguments and every semaphore as they were. -/
theorem frame : quiescent_QkvBReferenceIdeal := fun m ρ _ =>
  (θ_run defs _ _).mono (fun r h => ⟨fun c => (h c).2, sem_eq_zero_of_no_sems (by decide) r.2⟩) (Value.run (F := Ideal) m ρ)

end Cert.QkvBReferenceIdeal.Product

namespace Cert.Proof

open Idealize.ShloMosaic Idealize.SL.Sem

/-- The kernel's result and the reference's are the same array. -/
theorem algebraic_QkvB : algebraic_QkvBIdeal_QkvBReferenceIdeal := by
  intro m g m' g' _ hagree
  refine ⟨fun c => Cert.QkvBIdeal.Product.result m c, Cert.QkvBIdeal.Product.run m g, ?_⟩
  refine (θ_run Cert.QkvBReferenceIdeal.defs _ _).mono (fun r h c => ⟨(h c).1.trans ?_, (h c).2⟩)
    (Cert.QkvBReferenceIdeal.Product.run m' g')
  rw [(hagree c).1, (hagree c).2]

end Cert.Proof

end
-- ==== Proof.QkvC.lean ====
/- The value of `QkvC`, the columns of attention group 2's queries, keys and values in the attention input projection on one
   device, the weight held as eight slabs of 2560 columns: entry (i, j) of the written array is the sum over the 4096
   features of input row i times weight column 12288 + j, and so is the reference's. -/
module

public import proofs.«01_k».proof.Defs
public import proofs.«01_k».proof.Proof.Gen.QkvCIdeal.Value
public import proofs.«01_k».proof.Proof.Gen.QkvCReferenceIdeal.Run
public import Idealize.ShloMosaic.Lib.Pointwise
public import Idealize.ShloMosaic.Lib.Claim

@[expose] public section

noncomputable section

namespace Cert.QkvCIdeal.Product

open Cert.QkvCIdeal Cert.QkvCIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of the group. -/
def part (j : Fin 6144) : Fin 20480 := ⟨12288 + j.val, by omega⟩

/-- Column `j` of slab `s`. -/
def col (s : Fin 8) (j : Fin 2560) : Fin 20480 := ⟨s.val * 2560 + j.val, by omega⟩

/-- The product both programs compute. -/
def prod (x0 : Vec Ideal S1x4096x4096 .f32) (x1 : Vec Ideal S4096x20480 .f32) : Vec Ideal S4096x6144 .bf16 :=
  fun i => ∑ k : Fin 4096, (x0 (ix3 0 (i 0) k) * x1 (ix2 k (part (i 1))) : EReal)

/-- What the body leaves in the output block, entry by entry. -/
theorem out_apply (x : Vec Ideal S1024x4096 .bf16) (y : Vec Ideal S1x4096x512 .bf16) (p : Fin 1024) (q : Fin 512) :
    out0_2 x y (ix2 p q) = ∑ k : Fin 4096, (x (ix2 p k) * y (ix3 0 k q) : EReal) := by
  unfold out0_2
  rw [View.canon_unit_zero hz, View.ld_unit_zero (S := S1024x4096) hz, View.ld_unit_zero (S := S1x4096x512) hz3]
  unfold k0_pay1
  pointwise

/-- The left operand's array at the call, entry by entry. -/
theorem entry_a (c : Dev nD) (i : Fin 4096) (k : Fin 4096) :
    V m c main_v1 (ix2 i k) = m ((c : Thread nD τ).loc main_arg0) (ix3 0 i k) := by
  entry_read
  pointwise

/-- The right operand's array at the call, entry by entry. -/
theorem entry_b (c : Dev nD) (s : Fin 8) (k : Fin 4096) (j : Fin 2560) :
    V m c main_v4 (ix3 s k j) = m ((c : Thread nD τ).loc main_arg1) (ix2 k (col s j)) := by
  entry_read
  pointwise
  rfl

/-- Which blocks grid point `t` reads and writes. -/
theorem index_facts : ∀ t : Fin grid0.N, (win0_0.index t 0 = t.val / 12 ∧ win0_0.index t 1 = 0)
    ∧ (win0_1.index t 0 = (t.val % 12 + 24) / 5 ∧ win0_1.index t 1 = 0 ∧ win0_1.index t 2 = (t.val % 12 + 24) % 5)
    ∧ (win0_2.index t 0 = t.val / 12 ∧ win0_2.index t 1 = t.val % 12) := by
  decide +kernel

/-- An entry of the left operand's block at `t`. -/
theorem block_a (c : Dev nD) (t : Fin cfg0.N) (p : Fin 1024) (k : Fin 4096) (i : Fin 4096) (hi : i.val = t.val / 12 * 1024 + p.val) :
    (iblk m c 0 t : Vec Ideal S1024x4096 .bf16) (ix2 p k) = m ((c : Thread nD τ).loc main_arg0) (ix3 0 i k) := by
  rw [← entry_a m c i k]
  unfold iblk
  rw [View.read_apply]
  show V m c main_v1 _ = V m c main_v1 _
  congr 1
  funext a
  apply Fin.ext
  obtain ⟨⟨h0, h1⟩, -, -⟩ := index_facts t
  match a with
  | ⟨0, _⟩ => show win0_0.index t 0 * 1024 + 1 * p.val = i.val; rw [h0]; omega
  | ⟨1, _⟩ => show win0_0.index t 1 * 4096 + 1 * k.val = k.val; rw [h1]; omega

/-- An entry of the right operand's block at `t`. -/
theorem block_b (c : Dev nD) (t : Fin cfg0.N) (k : Fin 4096) (q : Fin 512) (s : Fin 8) (j : Fin 2560) (hs : s.val = (t.val % 12 + 24) / 5) (hj : j.val = (t.val % 12 + 24) % 5 * 512 + q.val) :
    (iblk m c 1 t : Vec Ideal S1x4096x512 .bf16) (ix3 0 k q) = m ((c : Thread nD τ).loc main_arg1) (ix2 k (col s j)) := by
  rw [← entry_b m c s k j]
  unfold iblk
  rw [View.read_apply]
  show V m c main_v4 _ = V m c main_v4 _
  congr 1
  funext a
  apply Fin.ext
  obtain ⟨-, ⟨h0, h1, h2⟩, -⟩ := index_facts t
  match a with
  | ⟨0, _⟩ => show win0_1.index t 0 * 1 + 1 * (0 : Fin 1).val = s.val; rw [h0]; simp; omega
  | ⟨1, _⟩ => show win0_1.index t 1 * 4096 + 1 * k.val = k.val; rw [h1]; omega
  | ⟨2, _⟩ => show win0_1.index t 2 * 512 + 1 * q.val = j.val; rw [h2]; omega

/-- The result array after the run. -/
abbrev result (c : Dev nD) : Buf (Elt Ideal) ((c : Thread nD τ).loc main_v5) :=
  prod (m ((c : Thread nD τ).loc main_arg0)) (m ((c : Thread nD τ).loc main_arg1))

/-- Point `t` writes block `t` of the product. -/
theorem flushed_eq (c : Dev nD) (t : Fin cfg0.N) :
    (dats m 0 c).flushed 2 t = ((cfg0.win 2).blk t).view.read (Elt Ideal) (result m c) := by
  rw [Value.flushed2]
  have ht : t.val < 48 := lt_of_lt_of_eq t.isLt N_0
  obtain ⟨-, -, ⟨h0, h1⟩⟩ := index_facts t
  funext y
  rw [View.read_apply]
  obtain ⟨p, q, rfl⟩ : ∃ (p : Fin 1024) (q : Fin 512), y = ix2 p q := ⟨y 0, y 1, by funext a; fin_cases a <;> rfl⟩
  show out0_2 (iblk m c 0 t) (iblk m c 1 t) (ix2 p q) = result m c _
  refine (out_apply _ _ p q).trans ?_
  unfold result prod
  refine Finset.sum_congr rfl fun k _ => ?_
  refine congrArg₂ _ (block_a m c t p k _ ?_) ((block_b m c t k q ⟨(t.val % 12 + 24) / 5, by omega⟩ ⟨(t.val % 12 + 24) % 5 * 512 + q.val, by omega⟩ rfl rfl).trans ?_)
  · show win0_2.index t 0 * 1024 + 1 * p.val = _; rw [h0]; omega
  · refine congrArg (fun z => m ((c : Thread nD τ).loc main_arg1) (ix2 k z)) (Fin.ext ?_)
    show (t.val % 12 + 24) / 5 * 2560 + ((t.val % 12 + 24) % 5 * 512 + q.val) = 12288 + (win0_2.index t 1 * 512 + 1 * q.val); rw [h1]; omega

/-- The result array is the product: the blocks tile it. -/
theorem final_eq (c : Dev nD) : (dats m 0 c).arrAt 2 cfg0.N = result m c :=
  (dats m 0 c).arrAt_eq_of_cover 2 (result m c) (fun t _ => flushed_eq m c t) fun i => by
    have b0 : (i 0 : Nat) < 4096 := (i 0).isLt
    have b1 : (i 1 : Nat) < 6144 := (i 1).isLt
    obtain ⟨t, ht⟩ : ∃ t : Fin cfg0.N, t.val = (i 0 : Nat) / 1024 * 12 + (i 1 : Nat) / 512 :=
      ⟨⟨(i 0 : Nat) / 1024 * 12 + (i 1 : Nat) / 512, lt_of_lt_of_eq (by omega) N_0.symm⟩, rfl⟩
    obtain ⟨-, -, ⟨h0, h1⟩⟩ := index_facts t
    refine ⟨t, flush0_2 t, ?_⟩
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 512 ≤ (i 1 : Nat) ∧ (i 1 : Nat) < win0_2.index t 1 * 512 + 512
                rw [h1]; omega

/-- The run: the result array at the product, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.QkvCIdeal.Product

namespace Cert.QkvCReferenceIdeal.Product

open Cert.QkvCReferenceIdeal Cert.QkvCReferenceIdeal.Gen Idealize.ShloMosaic Idealize.ShloMosaic.TcCoe Idealize.SL.Sem

/-- The reference's run: its result is the same product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = Cert.QkvCIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 6144), y = ix2 p q := ⟨y 0, y 1, by funext a; fin_cases a <;> rfl⟩
    unfold Cert.QkvCIdeal.Product.prod
    pointwise
    rfl), (h c).2⟩) (Value.run (F := Ideal) m ρ)

/-- It terminates, faults nowhere, and leaves the arguments and every semaphore as they were. -/
theorem frame : quiescent_QkvCReferenceIdeal := fun m ρ _ =>
  (θ_run defs _ _).mono (fun r h => ⟨fun c => (h c).2, sem_eq_zero_of_no_sems (by decide) r.2⟩) (Value.run (F := Ideal) m ρ)

end Cert.QkvCReferenceIdeal.Product

namespace Cert.Proof

open Idealize.ShloMosaic Idealize.SL.Sem

/-- The kernel's result and the reference's are the same array. -/
theorem algebraic_QkvC : algebraic_QkvCIdeal_QkvCReferenceIdeal := by
  intro m g m' g' _ hagree
  refine ⟨fun c => Cert.QkvCIdeal.Product.result m c, Cert.QkvCIdeal.Product.run m g, ?_⟩
  refine (θ_run Cert.QkvCReferenceIdeal.defs _ _).mono (fun r h c => ⟨(h c).1.trans ?_, (h c).2⟩)
    (Cert.QkvCReferenceIdeal.Product.run m' g')
  rw [(hagree c).1, (hagree c).2]

end Cert.Proof

end
-- ==== Proof.AdamSmall.lean ====
/- The value of `AdamSmall`, the AdamW update of the small weights, packed as one array: the change of the weights, the new
   first moment and the new second moment are, entry by entry, the same functions of gradient, weight and moments that the
   reference computes. -/
module

public import proofs.«01_k».proof.Defs
public import proofs.«01_k».proof.Proof.Gen.AdamSmallIdeal.Value
public import proofs.«01_k».proof.Proof.Gen.AdamSmallReferenceIdeal.Run
public import Idealize.ShloMosaic.Lib.Pointwise
public import Idealize.ShloMosaic.Lib.Claim

@[expose] public section

noncomputable section

namespace Cert.AdamSmallReferenceIdeal.Update

open Cert.AdamSmallReferenceIdeal Cert.AdamSmallReferenceIdeal.Gen Idealize.ShloMosaic Idealize.ShloMosaic.TcCoe Idealize.SL.Sem

/-- The reference's run: its results are the kernel's functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = Cert.AdamSmallIdeal.Value.G4 (F := Ideal) (m ((c.tc : Thread nD τ).loc main_arg1)) (m ((c.tc : Thread nD τ).loc main_arg0))
          (m ((c.tc : Thread nD τ).loc main_arg2)) (m ((c.tc : Thread nD τ).loc main_arg3))
      ∧ r.2.mem ((c.tc : Thread nD τ).loc main_v4)
        = Cert.AdamSmallIdeal.Value.G5 (F := Ideal) (m ((c.tc : Thread nD τ).loc main_arg0)) (m ((c.tc : Thread nD τ).loc main_arg2))
      ∧ r.2.mem ((c.tc : Thread nD τ).loc main_v10)
        = Cert.AdamSmallIdeal.Value.G6 (F := Ideal) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by funext i; rfl), (h c).2.1.trans (by funext i; rfl),
    (h c).2.2.1.trans (by funext i; rfl), (h c).2.2.2⟩) (Value.run (F := Ideal) m ρ)

/-- It terminates, faults nowhere, and leaves the arguments and every semaphore as they were. -/
theorem frame : quiescent_AdamSmallReferenceIdeal := fun m ρ _ =>
  (θ_run defs _ _).mono (fun r h => ⟨fun c => (h c).2.2.2, sem_eq_zero_of_no_sems (by decide) r.2⟩) (Value.run (F := Ideal) m ρ)

end Cert.AdamSmallReferenceIdeal.Update

namespace Cert.Proof

open Idealize.ShloMosaic Idealize.SL.Sem

/-- The kernel's results and the reference's are the same arrays. -/
theorem algebraic_AdamSmall : algebraic_AdamSmallIdeal_AdamSmallReferenceIdeal := by
  intro m g m' g' _ hagree
  refine ⟨_, _, _, Cert.AdamSmallIdeal.Value.run (F := Ideal) m g, ?_⟩
  refine (θ_run Cert.AdamSmallReferenceIdeal.defs _ _).mono
    (fun r h c => ⟨(h c).1.trans ?_, (h c).2.1.trans ?_, (h c).2.2.1.trans ?_, (h c).2.2.2⟩)
    (Cert.AdamSmallReferenceIdeal.Update.run m' g')
  · rw [(hagree c).1, (hagree c).2.1, (hagree c).2.2.1, (hagree c).2.2.2]
  · rw [(hagree c).1, (hagree c).2.2.1]
  · rw [(hagree c).1, (hagree c).2.2.2]

end Cert.Proof

end
-- ==== Proof.AdamOutAttn.lean ====
/- The value of `AdamOutAttn`, the AdamW update of one device's shard of the attention output weight: the gradient is the
   sum of the eight devices' parts, and gradient, weight change, new first moment and new second moment are, entry by
   entry, the functions of parts, weight and moments that the reference computes. -/
module

public import proofs.«01_k».proof.Defs
public import proofs.«01_k».proof.Proof.Gen.AdamOutAttnIdeal.Value
public import proofs.«01_k».proof.Proof.Gen.AdamOutAttnReferenceIdeal.Run
public import Idealize.ShloMosaic.Lib.Pointwise
public import Idealize.ShloMosaic.Lib.Claim

@[expose] public section

noncomputable section

namespace Cert.AdamOutAttnIdeal.Update

open Cert.AdamOutAttnIdeal Cert.AdamOutAttnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The new first moment of an entry with gradient `g`. -/
def moment (g μ : Ideal .f32) : Ideal .f32 :=
  FloatOps.addf (FloatOps.mulf (Scalar.ofBits .f32 0x3F666666#32) μ) (FloatOps.mulf (Scalar.ofBits .f32 0x3DCCCCCD#32) g)

/-- The new second moment of an entry with gradient `g`. -/
def square (g ν : Ideal .f32) : Ideal .f32 :=
  FloatOps.addf (FloatOps.mulf (Scalar.ofBits .f32 0x3F7FBE77#32) ν)
    (FloatOps.mulf (Scalar.ofBits .f32 0x3A83126F#32) (FloatOps.mulf g g))

/-- The change of an entry with gradient `g` and weight `w`. -/
def change (g w μ ν : Ideal .f32) : Ideal .f32 :=
  FloatOps.mulf (Scalar.ofBits .f32 0xBA83126F#32)
    (FloatOps.addf
      (FloatOps.divf (FloatOps.divf (moment g μ) (Scalar.ofBits .f32 0x3F26BD02#32))
        (FloatOps.addf (FloatOps.sqrt (FloatOps.divf (square g ν) (Scalar.ofBits .f32 0x3C231ACC#32))) (Scalar.ofBits .f32 0x322BCC77#32)))
      (FloatOps.mulf (Scalar.ofBits .f32 0x3C23D70A#32) w))

/-- The gradient: the parts summed. -/
def total (x0 : Vec Ideal S8x2048x512 .bf16) : Vec Ideal S1x2048x512 .f32 :=
  fun i => ∑ s : Fin 8, (x0 (ix3 s (i 1) (i 2)) : EReal)

/-- The gradient a point sums, entry by entry. -/
theorem grad_apply (x0 : Vec Ideal S8x128x512 .bf16) (x1 x2 x3 : Vec Ideal S1x128x512 .f32) (p : Fin 128) (q : Fin 512) :
    k0_pay8 x0 x1 x2 x3 (ix2 p q) = ∑ s : Fin 8, (x0 (ix3 s p q) : EReal) := by
  unfold k0_pay8 k0_pay3
  pointwise
  rw [Fin.sum_univ_eight]

/-- The payloads, entry by entry. -/
theorem moment_apply (g : FVec Ideal S128x512 .f32) (x : Vec Ideal S1x128x512 .f32) (p : Fin 128) (q : Fin 512) :
    k0_pay4 g x (ix2 p q) = moment (g (ix2 p q)) (x (ix3 0 p q)) := by
  unfold k0_pay4 moment
  pointwise

theorem square_apply (g : FVec Ideal S128x512 .f32) (x : Vec Ideal S1x128x512 .f32) (p : Fin 128) (q : Fin 512) :
    k0_pay5 g x (ix2 p q) = square (g (ix2 p q)) (x (ix3 0 p q)) := by
  unfold k0_pay5 square
  pointwise

theorem change_apply (g : FVec Ideal S128x512 .f32) (w x y : Vec Ideal S1x128x512 .f32) (p : Fin 128) (q : Fin 512) :
    k0_pay7 g w x y (ix3 0 p q) = change (g (ix2 p q)) (w (ix3 0 p q)) (x (ix3 0 p q)) (y (ix3 0 p q)) := by
  unfold k0_pay7 k0_pay4 k0_pay5 change moment square
  pointwise

/-- What the body leaves in the four output blocks, entry by entry. -/
theorem out_grad (x0 : Vec Ideal S8x128x512 .bf16) (x1 x2 x3 : Vec Ideal S1x128x512 .f32) (p : Fin 128) (q : Fin 512) :
    out0_4 x0 x1 x2 x3 (ix3 0 p q) = k0_pay8 x0 x1 x2 x3 (ix2 p q) := by
  unfold out0_4
  rw [View.canon_unit_zero hz3]
  unfold k0_pay6
  pointwise

theorem out_change (x0 : Vec Ideal S8x128x512 .bf16) (x1 x2 x3 : Vec Ideal S1x128x512 .f32) (p : Fin 128) (q : Fin 512) :
    out0_5 x0 x1 x2 x3 (ix3 0 p q) = change (k0_pay8 x0 x1 x2 x3 (ix2 p q)) (x1 (ix3 0 p q)) (x2 (ix3 0 p q)) (x3 (ix3 0 p q)) := by
  unfold out0_5
  rw [View.canon_unit_zero hz3, change_apply, View.ld_unit_zero (S := S1x128x512) hz3, View.ld_unit_zero (S := S1x128x512) hz3, View.ld_unit_zero (S := S1x128x512) hz3]

theorem out_moment (x0 : Vec Ideal S8x128x512 .bf16) (x1 x2 x3 : Vec Ideal S1x128x512 .f32) (p : Fin 128) (q : Fin 512) :
    out0_6 x0 x1 x2 x3 (ix3 0 p q) = moment (k0_pay8 x0 x1 x2 x3 (ix2 p q)) (x2 (ix3 0 p q)) := by
  unfold out0_6
  rw [View.canon_unit_zero hz3, View.ld_unit_zero (S := S1x128x512) hz3, ← moment_apply]
  unfold k0_pay1
  pointwise

theorem out_square (x0 : Vec Ideal S8x128x512 .bf16) (x1 x2 x3 : Vec Ideal S1x128x512 .f32) (p : Fin 128) (q : Fin 512) :
    out0_7 x0 x1 x2 x3 (ix3 0 p q) = square (k0_pay8 x0 x1 x2 x3 (ix2 p q)) (x3 (ix3 0 p q)) := by
  unfold out0_7
  rw [View.canon_unit_zero hz3, View.ld_unit_zero (S := S1x128x512) hz3, ← square_apply]
  unfold k0_pay2
  pointwise

theorem index_0 : ∀ t : Fin grid0.N, win0_0.index t 0 = 0 ∧ win0_0.index t 1 = t.val ∧ win0_0.index t 2 = 0 := by
  decide +kernel

theorem block_0 (c : Dev nD) (t : Fin cfg0.N) (s : Fin 8) (p : Fin 128) (q : Fin 512) (i : Fin 2048) (hi : i.val = t.val * 128 + p.val) :
    (iblk m c 0 t : Vec Ideal S8x128x512 .bf16) (ix3 s p q) = m ((c : Thread nD τ).loc main_arg0) (ix3 s i q) := by
  unfold iblk
  rw [View.read_apply]
  show m ((c : Thread nD τ).loc main_arg0) _ = m ((c : Thread nD τ).loc main_arg0) _
  congr 1
  funext a
  apply Fin.ext
  obtain ⟨h0, h1, h2⟩ := index_0 t
  match a with
  | ⟨0, _⟩ => show win0_0.index t 0 * 8 + 1 * s.val = s.val; rw [h0]; omega
  | ⟨1, _⟩ => show win0_0.index t 1 * 128 + 1 * p.val = i.val; rw [h1]; omega
  | ⟨2, _⟩ => show win0_0.index t 2 * 512 + 1 * q.val = q.val; rw [h2]; omega

theorem index_1 : ∀ t : Fin grid0.N, win0_1.index t 0 = 0 ∧ win0_1.index t 1 = t.val ∧ win0_1.index t 2 = 0 := by
  decide +kernel

theorem block_1 (c : Dev nD) (t : Fin cfg0.N) (p : Fin 128) (q : Fin 512) (i : Fin 2048) (hi : i.val = t.val * 128 + p.val) :
    (iblk m c 1 t : Vec Ideal S1x128x512 .f32) (ix3 0 p q) = m ((c : Thread nD τ).loc main_arg1) (ix3 0 i q) := by
  unfold iblk
  rw [View.read_apply]
  show m ((c : Thread nD τ).loc main_arg1) _ = m ((c : Thread nD τ).loc main_arg1) _
  congr 1
  funext a
  apply Fin.ext
  obtain ⟨h0, h1, h2⟩ := index_1 t
  match a with
  | ⟨0, _⟩ => show win0_1.index t 0 * 1 + 1 * (0 : Fin 1).val = (0 : Fin 1).val; rw [h0]; rfl
  | ⟨1, _⟩ => show win0_1.index t 1 * 128 + 1 * p.val = i.val; rw [h1]; omega
  | ⟨2, _⟩ => show win0_1.index t 2 * 512 + 1 * q.val = q.val; rw [h2]; omega

theorem index_2 : ∀ t : Fin grid0.N, win0_2.index t 0 = 0 ∧ win0_2.index t 1 = t.val ∧ win0_2.index t 2 = 0 := by
  decide +kernel

theorem block_2 (c : Dev nD) (t : Fin cfg0.N) (p : Fin 128) (q : Fin 512) (i : Fin 2048) (hi : i.val = t.val * 128 + p.val) :
    (iblk m c 2 t : Vec Ideal S1x128x512 .f32) (ix3 0 p q) = m ((c : Thread nD τ).loc main_arg2) (ix3 0 i q) := by
  unfold iblk
  rw [View.read_apply]
  show m ((c : Thread nD τ).loc main_arg2) _ = m ((c : Thread nD τ).loc main_arg2) _
  congr 1
  funext a
  apply Fin.ext
  obtain ⟨h0, h1, h2⟩ := index_2 t
  match a with
  | ⟨0, _⟩ => show win0_2.index t 0 * 1 + 1 * (0 : Fin 1).val = (0 : Fin 1).val; rw [h0]; rfl
  | ⟨1, _⟩ => show win0_2.index t 1 * 128 + 1 * p.val = i.val; rw [h1]; omega
  | ⟨2, _⟩ => show win0_2.index t 2 * 512 + 1 * q.val = q.val; rw [h2]; omega

theorem index_3 : ∀ t : Fin grid0.N, win0_3.index t 0 = 0 ∧ win0_3.index t 1 = t.val ∧ win0_3.index t 2 = 0 := by
  decide +kernel

theorem block_3 (c : Dev nD) (t : Fin cfg0.N) (p : Fin 128) (q : Fin 512) (i : Fin 2048) (hi : i.val = t.val * 128 + p.val) :
    (iblk m c 3 t : Vec Ideal S1x128x512 .f32) (ix3 0 p q) = m ((c : Thread nD τ).loc main_arg3) (ix3 0 i q) := by
  unfold iblk
  rw [View.read_apply]
  show m ((c : Thread nD τ).loc main_arg3) _ = m ((c : Thread nD τ).loc main_arg3) _
  congr 1
  funext a
  apply Fin.ext
  obtain ⟨h0, h1, h2⟩ := index_3 t
  match a with
  | ⟨0, _⟩ => show win0_3.index t 0 * 1 + 1 * (0 : Fin 1).val = (0 : Fin 1).val; rw [h0]; rfl
  | ⟨1, _⟩ => show win0_3.index t 1 * 128 + 1 * p.val = i.val; rw [h1]; omega
  | ⟨2, _⟩ => show win0_3.index t 2 * 512 + 1 * q.val = q.val; rw [h2]; omega

/-- The gradient that point `t` sums is its block of the whole sum. -/
theorem grad_block (c : Dev nD) (t : Fin cfg0.N) (p : Fin 128) (q : Fin 512) (i : Fin 2048) (hi : i.val = t.val * 128 + p.val) :
    k0_pay8 (iblk m c 0 t) (iblk m c 1 t) (iblk m c 2 t) (iblk m c 3 t) (ix2 p q)
      = total (m ((c : Thread nD τ).loc main_arg0)) (ix3 0 i q) := by
  rw [grad_apply]
  exact Finset.sum_congr rfl fun s _ => block_0 m c t s p q i hi

/-- The four result arrays after the run. -/
abbrev resG (c : Dev nD) : Buf (Elt Ideal) ((c : Thread nD τ).loc main_v0_0) :=
  total (m ((c : Thread nD τ).loc main_arg0))

abbrev resD (c : Dev nD) : Buf (Elt Ideal) ((c : Thread nD τ).loc main_v0_1) :=
  fun i => change (total (m ((c : Thread nD τ).loc main_arg0)) i) (m ((c : Thread nD τ).loc main_arg1) i)
    (m ((c : Thread nD τ).loc main_arg2) i) (m ((c : Thread nD τ).loc main_arg3) i)

abbrev resM (c : Dev nD) : Buf (Elt Ideal) ((c : Thread nD τ).loc main_v0_2) :=
  fun i => moment (total (m ((c : Thread nD τ).loc main_arg0)) i) (m ((c : Thread nD τ).loc main_arg2) i)

abbrev resV (c : Dev nD) : Buf (Elt Ideal) ((c : Thread nD τ).loc main_v0_3) :=
  fun i => square (total (m ((c : Thread nD τ).loc main_arg0)) i) (m ((c : Thread nD τ).loc main_arg3) i)

theorem index_4 : ∀ t : Fin grid0.N, win0_4.index t 0 = 0 ∧ win0_4.index t 1 = t.val ∧ win0_4.index t 2 = 0 := by
  decide +kernel

/-- Point `t` writes its block of the result. -/
theorem flushed_G (c : Dev nD) (t : Fin cfg0.N) :
    (dats m 0 c).flushed 4 t = ((cfg0.win 4).blk t).view.read (Elt Ideal) (resG m c) := by
  rw [Value.flushed4]
  have ht : t.val < 16 := lt_of_lt_of_eq t.isLt N_0
  obtain ⟨h0, h1, h2⟩ := index_4 t
  funext y
  rw [View.read_apply]
  obtain ⟨p, q, rfl⟩ : ∃ (p : Fin 128) (q : Fin 512), y = ix3 0 p q := ⟨y 1, y 2, by funext a; fin_cases a; exacts [Fin.ext (by have h : (y 0 : Nat) < 1 := (y 0).isLt; show (y 0 : Nat) = 0; omega), rfl, rfl]⟩
  have e : ((cfg0.win 4).blk t).view.emb (ix3 0 p q) = (ix3 0 ⟨t.val * 128 + p.val, by omega⟩ q : S1x2048x512.Idx) := by
    funext a
    apply Fin.ext
    match a with
    | ⟨0, _⟩ => show win0_4.index t 0 * 1 + 1 * (0 : Fin 1).val = (0 : Fin 1).val; rw [h0]; rfl
    | ⟨1, _⟩ => show win0_4.index t 1 * 128 + 1 * p.val = t.val * 128 + p.val; rw [h1]; omega
    | ⟨2, _⟩ => show win0_4.index t 2 * 512 + 1 * q.val = q.val; rw [h2]; omega
  have hi : ((⟨t.val * 128 + p.val, by omega⟩ : Fin 2048) : Nat) = t.val * 128 + p.val := rfl
  show out0_4 (iblk m c 0 t) (iblk m c 1 t) (iblk m c 2 t) (iblk m c 3 t) (ix3 0 p q) = resG m c (((cfg0.win 4).blk t).view.emb (ix3 0 p q))
  refine Eq.trans ?_ (congrArg (resG m c) e).symm
  rw [out_grad, grad_block m c t p q _ hi]

theorem final_G (c : Dev nD) : (dats m 0 c).arrAt 4 cfg0.N = resG m c :=
  (dats m 0 c).arrAt_eq_of_cover 4 (resG m c) (fun t _ => flushed_G m c t) fun i => by
    have b0 : (i 0 : Nat) < 1 := (i 0).isLt
    have b1 : (i 1 : Nat) < 2048 := (i 1).isLt
    have b2 : (i 2 : Nat) < 512 := (i 2).isLt
    obtain ⟨t, ht⟩ : ∃ t : Fin cfg0.N, t.val = (i 1 : Nat) / 128 :=
      ⟨⟨(i 1 : Nat) / 128, lt_of_lt_of_eq (by omega) N_0.symm⟩, rfl⟩
    obtain ⟨h0, h1, h2⟩ := index_4 t
    refine ⟨t, flush0_4 t, ?_⟩
    show i ∈ ((View.whole main_v0_0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [h0]; omega
    | ⟨1, _⟩ => show win0_4.index t 1 * 128 ≤ (i 1 : Nat) ∧ (i 1 : Nat) < win0_4.index t 1 * 128 + 128
                rw [h1]; omega
    | ⟨2, _⟩ => show win0_4.index t 2 * 512 ≤ (i 2 : Nat) ∧ (i 2 : Nat) < win0_4.index t 2 * 512 + 512
                rw [h2]; omega

theorem index_5 : ∀ t : Fin grid0.N, win0_5.index t 0 = 0 ∧ win0_5.index t 1 = t.val ∧ win0_5.index t 2 = 0 := by
  decide +kernel

/-- Point `t` writes its block of the result. -/
theorem flushed_D (c : Dev nD) (t : Fin cfg0.N) :
    (dats m 0 c).flushed 5 t = ((cfg0.win 5).blk t).view.read (Elt Ideal) (resD m c) := by
  rw [Value.flushed5]
  have ht : t.val < 16 := lt_of_lt_of_eq t.isLt N_0
  obtain ⟨h0, h1, h2⟩ := index_5 t
  funext y
  rw [View.read_apply]
  obtain ⟨p, q, rfl⟩ : ∃ (p : Fin 128) (q : Fin 512), y = ix3 0 p q := ⟨y 1, y 2, by funext a; fin_cases a; exacts [Fin.ext (by have h : (y 0 : Nat) < 1 := (y 0).isLt; show (y 0 : Nat) = 0; omega), rfl, rfl]⟩
  have e : ((cfg0.win 5).blk t).view.emb (ix3 0 p q) = (ix3 0 ⟨t.val * 128 + p.val, by omega⟩ q : S1x2048x512.Idx) := by
    funext a
    apply Fin.ext
    match a with
    | ⟨0, _⟩ => show win0_5.index t 0 * 1 + 1 * (0 : Fin 1).val = (0 : Fin 1).val; rw [h0]; rfl
    | ⟨1, _⟩ => show win0_5.index t 1 * 128 + 1 * p.val = t.val * 128 + p.val; rw [h1]; omega
    | ⟨2, _⟩ => show win0_5.index t 2 * 512 + 1 * q.val = q.val; rw [h2]; omega
  have hi : ((⟨t.val * 128 + p.val, by omega⟩ : Fin 2048) : Nat) = t.val * 128 + p.val := rfl
  show out0_5 (iblk m c 0 t) (iblk m c 1 t) (iblk m c 2 t) (iblk m c 3 t) (ix3 0 p q) = resD m c (((cfg0.win 5).blk t).view.emb (ix3 0 p q))
  refine Eq.trans ?_ (congrArg (resD m c) e).symm
  rw [out_change, grad_block m c t p q _ hi, block_1 m c t p q _ hi, block_2 m c t p q _ hi, block_3 m c t p q _ hi]

theorem final_D (c : Dev nD) : (dats m 0 c).arrAt 5 cfg0.N = resD m c :=
  (dats m 0 c).arrAt_eq_of_cover 5 (resD m c) (fun t _ => flushed_D m c t) fun i => by
    have b0 : (i 0 : Nat) < 1 := (i 0).isLt
    have b1 : (i 1 : Nat) < 2048 := (i 1).isLt
    have b2 : (i 2 : Nat) < 512 := (i 2).isLt
    obtain ⟨t, ht⟩ : ∃ t : Fin cfg0.N, t.val = (i 1 : Nat) / 128 :=
      ⟨⟨(i 1 : Nat) / 128, lt_of_lt_of_eq (by omega) N_0.symm⟩, rfl⟩
    obtain ⟨h0, h1, h2⟩ := index_5 t
    refine ⟨t, flush0_5 t, ?_⟩
    show i ∈ ((View.whole main_v0_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [h0]; omega
    | ⟨1, _⟩ => show win0_5.index t 1 * 128 ≤ (i 1 : Nat) ∧ (i 1 : Nat) < win0_5.index t 1 * 128 + 128
                rw [h1]; omega
    | ⟨2, _⟩ => show win0_5.index t 2 * 512 ≤ (i 2 : Nat) ∧ (i 2 : Nat) < win0_5.index t 2 * 512 + 512
                rw [h2]; omega

theorem index_6 : ∀ t : Fin grid0.N, win0_6.index t 0 = 0 ∧ win0_6.index t 1 = t.val ∧ win0_6.index t 2 = 0 := by
  decide +kernel

/-- Point `t` writes its block of the result. -/
theorem flushed_M (c : Dev nD) (t : Fin cfg0.N) :
    (dats m 0 c).flushed 6 t = ((cfg0.win 6).blk t).view.read (Elt Ideal) (resM m c) := by
  rw [Value.flushed6]
  have ht : t.val < 16 := lt_of_lt_of_eq t.isLt N_0
  obtain ⟨h0, h1, h2⟩ := index_6 t
  funext y
  rw [View.read_apply]
  obtain ⟨p, q, rfl⟩ : ∃ (p : Fin 128) (q : Fin 512), y = ix3 0 p q := ⟨y 1, y 2, by funext a; fin_cases a; exacts [Fin.ext (by have h : (y 0 : Nat) < 1 := (y 0).isLt; show (y 0 : Nat) = 0; omega), rfl, rfl]⟩
  have e : ((cfg0.win 6).blk t).view.emb (ix3 0 p q) = (ix3 0 ⟨t.val * 128 + p.val, by omega⟩ q : S1x2048x512.Idx) := by
    funext a
    apply Fin.ext
    match a with
    | ⟨0, _⟩ => show win0_6.index t 0 * 1 + 1 * (0 : Fin 1).val = (0 : Fin 1).val; rw [h0]; rfl
    | ⟨1, _⟩ => show win0_6.index t 1 * 128 + 1 * p.val = t.val * 128 + p.val; rw [h1]; omega
    | ⟨2, _⟩ => show win0_6.index t 2 * 512 + 1 * q.val = q.val; rw [h2]; omega
  have hi : ((⟨t.val * 128 + p.val, by omega⟩ : Fin 2048) : Nat) = t.val * 128 + p.val := rfl
  show out0_6 (iblk m c 0 t) (iblk m c 1 t) (iblk m c 2 t) (iblk m c 3 t) (ix3 0 p q) = resM m c (((cfg0.win 6).blk t).view.emb (ix3 0 p q))
  refine Eq.trans ?_ (congrArg (resM m c) e).symm
  rw [out_moment, grad_block m c t p q _ hi, block_2 m c t p q _ hi]

theorem final_M (c : Dev nD) : (dats m 0 c).arrAt 6 cfg0.N = resM m c :=
  (dats m 0 c).arrAt_eq_of_cover 6 (resM m c) (fun t _ => flushed_M m c t) fun i => by
    have b0 : (i 0 : Nat) < 1 := (i 0).isLt
    have b1 : (i 1 : Nat) < 2048 := (i 1).isLt
    have b2 : (i 2 : Nat) < 512 := (i 2).isLt
    obtain ⟨t, ht⟩ : ∃ t : Fin cfg0.N, t.val = (i 1 : Nat) / 128 :=
      ⟨⟨(i 1 : Nat) / 128, lt_of_lt_of_eq (by omega) N_0.symm⟩, rfl⟩
    obtain ⟨h0, h1, h2⟩ := index_6 t
    refine ⟨t, flush0_6 t, ?_⟩
    show i ∈ ((View.whole main_v0_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [h0]; omega
    | ⟨1, _⟩ => show win0_6.index t 1 * 128 ≤ (i 1 : Nat) ∧ (i 1 : Nat) < win0_6.index t 1 * 128 + 128
                rw [h1]; omega
    | ⟨2, _⟩ => show win0_6.index t 2 * 512 ≤ (i 2 : Nat) ∧ (i 2 : Nat) < win0_6.index t 2 * 512 + 512
                rw [h2]; omega

theorem index_7 : ∀ t : Fin grid0.N, win0_7.index t 0 = 0 ∧ win0_7.index t 1 = t.val ∧ win0_7.index t 2 = 0 := by
  decide +kernel

/-- Point `t` writes its block of the result. -/
theorem flushed_V (c : Dev nD) (t : Fin cfg0.N) :
    (dats m 0 c).flushed 7 t = ((cfg0.win 7).blk t).view.read (Elt Ideal) (resV m c) := by
  rw [Value.flushed7]
  have ht : t.val < 16 := lt_of_lt_of_eq t.isLt N_0
  obtain ⟨h0, h1, h2⟩ := index_7 t
  funext y
  rw [View.read_apply]
  obtain ⟨p, q, rfl⟩ : ∃ (p : Fin 128) (q : Fin 512), y = ix3 0 p q := ⟨y 1, y 2, by funext a; fin_cases a; exacts [Fin.ext (by have h : (y 0 : Nat) < 1 := (y 0).isLt; show (y 0 : Nat) = 0; omega), rfl, rfl]⟩
  have e : ((cfg0.win 7).blk t).view.emb (ix3 0 p q) = (ix3 0 ⟨t.val * 128 + p.val, by omega⟩ q : S1x2048x512.Idx) := by
    funext a
    apply Fin.ext
    match a with
    | ⟨0, _⟩ => show win0_7.index t 0 * 1 + 1 * (0 : Fin 1).val = (0 : Fin 1).val; rw [h0]; rfl
    | ⟨1, _⟩ => show win0_7.index t 1 * 128 + 1 * p.val = t.val * 128 + p.val; rw [h1]; omega
    | ⟨2, _⟩ => show win0_7.index t 2 * 512 + 1 * q.val = q.val; rw [h2]; omega
  have hi : ((⟨t.val * 128 + p.val, by omega⟩ : Fin 2048) : Nat) = t.val * 128 + p.val := rfl
  show out0_7 (iblk m c 0 t) (iblk m c 1 t) (iblk m c 2 t) (iblk m c 3 t) (ix3 0 p q) = resV m c (((cfg0.win 7).blk t).view.emb (ix3 0 p q))
  refine Eq.trans ?_ (congrArg (resV m c) e).symm
  rw [out_square, grad_block m c t p q _ hi, block_3 m c t p q _ hi]

theorem final_V (c : Dev nD) : (dats m 0 c).arrAt 7 cfg0.N = resV m c :=
  (dats m 0 c).arrAt_eq_of_cover 7 (resV m c) (fun t _ => flushed_V m c t) fun i => by
    have b0 : (i 0 : Nat) < 1 := (i 0).isLt
    have b1 : (i 1 : Nat) < 2048 := (i 1).isLt
    have b2 : (i 2 : Nat) < 512 := (i 2).isLt
    obtain ⟨t, ht⟩ : ∃ t : Fin cfg0.N, t.val = (i 1 : Nat) / 128 :=
      ⟨⟨(i 1 : Nat) / 128, lt_of_lt_of_eq (by omega) N_0.symm⟩, rfl⟩
    obtain ⟨h0, h1, h2⟩ := index_7 t
    refine ⟨t, flush0_7 t, ?_⟩
    show i ∈ ((View.whole main_v0_3).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [h0]; omega
    | ⟨1, _⟩ => show win0_7.index t 1 * 128 ≤ (i 1 : Nat) ∧ (i 1 : Nat) < win0_7.index t 1 * 128 + 128
                rw [h1]; omega
    | ⟨2, _⟩ => show win0_7.index t 2 * 512 ≤ (i 2 : Nat) ∧ (i 2 : Nat) < win0_7.index t 2 * 512 + 512
                rw [h2]; omega

/-- The kernel's run: its results are these arrays, its arguments unchanged. -/
theorem run : θ_run defs (onTc (τ := τ) (main (F := Ideal))) ⟨m, fun _ => 0, ρ⟩ fun r => ∀ c : Dev nD,
      r.2.mem ((c : Thread nD τ).loc main_v0_0) = resG m c
      ∧ r.2.mem ((c : Thread nD τ).loc main_v0_1) = resD m c
      ∧ r.2.mem ((c : Thread nD τ).loc main_v0_2) = resM m c
      ∧ r.2.mem ((c : Thread nD τ).loc main_v0_3) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_G m c), (h c).2.1.trans (final_D m c),
    (h c).2.2.1.trans (final_M m c), (h c).2.2.2.1.trans (final_V m c), (h c).2.2.2.2⟩) (Value.run_blocks m ρ)

end Cert.AdamOutAttnIdeal.Update

namespace Cert.AdamOutAttnReferenceIdeal.Update

open Cert.AdamOutAttnReferenceIdeal Cert.AdamOutAttnReferenceIdeal.Gen Idealize.ShloMosaic Idealize.ShloMosaic.TcCoe Idealize.SL.Sem
open Cert.AdamOutAttnIdeal.Update (total change moment square)

/-- The reference's gradient is the same sum of the parts. -/
theorem total_eq (x0 : Vec Ideal S8x2048x512 .bf16) :
    (broadcastInDim S1x2048x512 ![1, 2] bcast_S2048x512_S1x2048x512_1_2 (Host.reduceAdd (extf .f32 x0 bitsLt_bf16_f32) (constant (F := Ideal) S_ .f32 0x00000000#32) reducesTo_S8x2048x512_S2048x512_d0 h_S_) : Vec Ideal S1x2048x512 .f32) = total x0 := by
  funext y
  obtain ⟨z, p, q, rfl⟩ : ∃ (z : Fin 1) (p : Fin 2048) (q : Fin 512), y = ix3 z p q := ⟨y 0, y 1, y 2, by funext a; fin_cases a <;> rfl⟩
  unfold total
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = total (m ((c.tc : Thread nD τ).loc main_arg0))
      ∧ r.2.mem ((c.tc : Thread nD τ).loc main_v26) = (fun i => change (total (m ((c.tc : Thread nD τ).loc main_arg0)) i)
        (m ((c.tc : Thread nD τ).loc main_arg1) i) (m ((c.tc : Thread nD τ).loc main_arg2) i) (m ((c.tc : Thread nD τ).loc main_arg3) i))
      ∧ r.2.mem ((c.tc : Thread nD τ).loc main_v7) = (fun i => moment (total (m ((c.tc : Thread nD τ).loc main_arg0)) i) (m ((c.tc : Thread nD τ).loc main_arg2) i))
      ∧ r.2.mem ((c.tc : Thread nD τ).loc main_v13) = (fun i => square (total (m ((c.tc : Thread nD τ).loc main_arg0)) i) (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (total_eq ..), (h c).2.1.trans (by
    rw [total_eq]
    funext i
    rfl), (h c).2.2.1.trans (by
    rw [total_eq]
    funext i
    rfl), (h c).2.2.2.1.trans (by
    rw [total_eq]
    funext i
    rfl), (h c).2.2.2.2⟩) (Value.run (F := Ideal) m ρ)

/-- It terminates, faults nowhere, and leaves the arguments and every semaphore as they were. -/
theorem frame : quiescent_AdamOutAttnReferenceIdeal := fun m ρ _ =>
  (θ_run defs _ _).mono (fun r h => ⟨fun c => (h c).2.2.2.2, sem_eq_zero_of_no_sems (by decide) r.2⟩) (Value.run (F := Ideal) m ρ)

end Cert.AdamOutAttnReferenceIdeal.Update

namespace Cert.Proof

open Idealize.ShloMosaic Idealize.SL.Sem

/-- The kernel's results and the reference's are the same arrays. -/
theorem algebraic_AdamOutAttn : algebraic_AdamOutAttnIdeal_AdamOutAttnReferenceIdeal := by
  intro m g m' g' _ hagree
  refine ⟨fun c => Cert.AdamOutAttnIdeal.Update.resG m c, fun c => Cert.AdamOutAttnIdeal.Update.resD m c,
    fun c => Cert.AdamOutAttnIdeal.Update.resM m c, fun c => Cert.AdamOutAttnIdeal.Update.resV m c, Cert.AdamOutAttnIdeal.Update.run m g, ?_⟩
  refine (θ_run Cert.AdamOutAttnReferenceIdeal.defs _ _).mono
    (fun r h c => ⟨(h c).1.trans ?_, (h c).2.1.trans ?_, (h c).2.2.1.trans ?_, (h c).2.2.2.1.trans ?_, (h c).2.2.2.2⟩)
    (Cert.AdamOutAttnReferenceIdeal.Update.run m' g')
  · rw [(hagree c).1]
  · rw [(hagree c).1, (hagree c).2.1, (hagree c).2.2.1, (hagree c).2.2.2]
    rfl
  · rw [(hagree c).1, (hagree c).2.2.1]
    rfl
  · rw [(hagree c).1, (hagree c).2.2.2]
    rfl

end Cert.Proof

end
-- ==== Proof.AdamInAttn.lean ====
/- The value of `AdamInAttn`, the AdamW update of one device's shard of the attention input weight: the gradient is the
   sum of the devices' parts, the upper rows' and the lower rows' kept apart, and gradient, weight change, new first
   moment and new second moment are, entry by entry, the functions of parts, weight and moments that the reference
   computes. -/
module

public import proofs.«01_k».proof.Defs
public import proofs.«01_k».proof.Proof.Gen.AdamInAttnIdeal.Value
public import proofs.«01_k».proof.Proof.Gen.AdamInAttnReferenceIdeal.Run
public import Idealize.ShloMosaic.Lib.Pointwise
public import Idealize.ShloMosaic.Lib.Claim

@[expose] public section

noncomputable section

namespace Cert.AdamInAttnIdeal.Update

open Cert.AdamInAttnIdeal Cert.AdamInAttnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The new first moment of an entry with gradient `g`. -/
def moment (g μ : Ideal .f32) : Ideal .f32 :=
  FloatOps.addf (FloatOps.mulf (Scalar.ofBits .f32 0x3F666666#32) μ) (FloatOps.mulf (Scalar.ofBits .f32 0x3DCCCCCD#32) g)

/-- The new second moment of an entry with gradient `g`. -/
def square (g ν : Ideal .f32) : Ideal .f32 :=
  FloatOps.addf (FloatOps.mulf (Scalar.ofBits .f32 0x3F7FBE77#32) ν)
    (FloatOps.mulf (Scalar.ofBits .f32 0x3A83126F#32) (FloatOps.mulf g g))

/-- The change of an entry with gradient `g` and weight `w`. -/
def change (g w μ ν : Ideal .f32) : Ideal .f32 :=
  FloatOps.mulf (Scalar.ofBits .f32 0xBA83126F#32)
    (FloatOps.addf
      (FloatOps.divf (FloatOps.divf (moment g μ) (Scalar.ofBits .f32 0x3F26BD02#32))
        (FloatOps.addf (FloatOps.sqrt (FloatOps.divf (square g ν) (Scalar.ofBits .f32 0x3C231ACC#32))) (Scalar.ofBits .f32 0x322BCC77#32)))
      (FloatOps.mulf (Scalar.ofBits .f32 0x3C23D70A#32) w))

/-- The gradient: the parts summed, the upper half of the rows from the first two arrays, the lower from the others. -/
def total (x0 : Vec Ideal S6x2048x2560 .bf16) (x1 : Vec Ideal S2x2048x2560 .bf16) (x2 : Vec Ideal S6x2048x2560 .bf16)
    (x3 x4 : Vec Ideal S1x2048x2560 .bf16) : Vec Ideal S1x4096x2560 .f32 := fun i =>
  if h : (i 1).val < 2048 then
    ((∑ s : Fin 6, (x0 (ix3 s ⟨(i 1).val, h⟩ (i 2)) : EReal)) + ∑ s : Fin 2, (x1 (ix3 s ⟨(i 1).val, h⟩ (i 2)) : EReal) : EReal)
  else
    have hb : (i 1).val - 2048 < 2048 := by have : (i 1).val < 4096 := (i 1).isLt; omega
    (((∑ s : Fin 6, (x2 (ix3 s ⟨(i 1).val - 2048, hb⟩ (i 2)) : EReal)) + (x3 (ix3 0 ⟨(i 1).val - 2048, hb⟩ (i 2)) : EReal))
      + (x4 (ix3 0 ⟨(i 1).val - 2048, hb⟩ (i 2)) : EReal) : EReal)

/-- The gradient a point sums, entry by entry: in the upper half of the grid from the first two blocks. -/
theorem grad_top (i : grid0.Coords) (x0 : Vec Ideal S6x128x2560 .bf16) (x1 : Vec Ideal S2x128x2560 .bf16) (x2 : Vec Ideal S6x128x2560 .bf16) (x3 x4 : Vec Ideal S1x128x2560 .bf16) (x5 x6 x7 : Vec Ideal S1x128x2560 .f32)
    (h : Scalar.cmpi .sge (BitVec.ofNat 32 (i 0).val) 16#32 = 0#1) (p : Fin 128) (q : Fin 2560) :
    k0_pay10 i x0 x1 x2 x3 x4 x5 x6 x7 (ix2 p q)
      = ((∑ s : Fin 6, (x0 (ix3 s p q) : EReal)) + ∑ s : Fin 2, (x1 (ix3 s p q) : EReal) : EReal) := by
  unfold k0_pay10 k0_pay4
  dsimp only
  rw [h]
  unfold k0_pay3
  pointwise
  rw [Fin.sum_univ_six, Fin.sum_univ_two, ← add_assoc]

/-- In the lower half it sums the other three. -/
theorem grad_bottom (i : grid0.Coords) (x0 : Vec Ideal S6x128x2560 .bf16) (x1 : Vec Ideal S2x128x2560 .bf16) (x2 : Vec Ideal S6x128x2560 .bf16) (x3 x4 : Vec Ideal S1x128x2560 .bf16) (x5 x6 x7 : Vec Ideal S1x128x2560 .f32)
    (h : Scalar.cmpi .sge (BitVec.ofNat 32 (i 0).val) 16#32 = 1#1) (p : Fin 128) (q : Fin 2560) :
    k0_pay10 i x0 x1 x2 x3 x4 x5 x6 x7 (ix2 p q)
      = (((∑ s : Fin 6, (x2 (ix3 s p q) : EReal)) + (x3 (ix3 0 p q) : EReal)) + (x4 (ix3 0 p q) : EReal) : EReal) := by
  unfold k0_pay10 k0_pay4
  dsimp only
  rw [h]
  pointwise
  rw [Fin.sum_univ_six]

/-- Which half of the grid a point lies in. -/
theorem half : ∀ t : Fin grid0.N, Scalar.cmpi .sge (BitVec.ofNat 32 ((grid0.coords t) 0).val) 16#32 = if t.val < 16 then 0#1 else 1#1 := by
  decide +kernel

/-- The payloads, entry by entry. -/
theorem moment_apply (g : FVec Ideal S128x2560 .f32) (x : Vec Ideal S1x128x2560 .f32) (p : Fin 128) (q : Fin 2560) :
    k0_pay6 g x (ix2 p q) = moment (g (ix2 p q)) (x (ix3 0 p q)) := by
  unfold k0_pay6 moment
  pointwise

theorem square_apply (g : FVec Ideal S128x2560 .f32) (x : Vec Ideal S1x128x2560 .f32) (p : Fin 128) (q : Fin 2560) :
    k0_pay7 g x (ix2 p q) = square (g (ix2 p q)) (x (ix3 0 p q)) := by
  unfold k0_pay7 square
  pointwise

theorem change_apply (g : FVec Ideal S128x2560 .f32) (w x y : Vec Ideal S1x128x2560 .f32) (p : Fin 128) (q : Fin 2560) :
    k0_pay9 g (k0_pay5 w) x y (ix3 0 p q) = change (g (ix2 p q)) (w (ix3 0 p q)) (x (ix3 0 p q)) (y (ix3 0 p q)) := by
  unfold k0_pay9 k0_pay5 k0_pay6 k0_pay7 change moment square
  pointwise

/-- What the body leaves in the four output blocks, entry by entry. -/
theorem out_grad (i : grid0.Coords) (x0 : Vec Ideal S6x128x2560 .bf16) (x1 : Vec Ideal S2x128x2560 .bf16) (x2 : Vec Ideal S6x128x2560 .bf16) (x3 : Vec Ideal S1x128x2560 .bf16) (x4 : Vec Ideal S1x128x2560 .bf16) (x5 x6 x7 : Vec Ideal S1x128x2560 .f32) (p : Fin 128) (q : Fin 2560) :
    out0_8 i x0 x1 x2 x3 x4 x5 x6 x7 (ix3 0 p q) = k0_pay10 i x0 x1 x2 x3 x4 x5 x6 x7 (ix2 p q) := by
  unfold out0_8
  rw [View.canon_unit_zero hz3]
  unfold k0_pay8
  pointwise

theorem out_change (i : grid0.Coords) (x0 : Vec Ideal S6x128x2560 .bf16) (x1 : Vec Ideal S2x128x2560 .bf16) (x2 : Vec Ideal S6x128x2560 .bf16) (x3 : Vec Ideal S1x128x2560 .bf16) (x4 : Vec Ideal S1x128x2560 .bf16) (x5 x6 x7 : Vec Ideal S1x128x2560 .f32) (p : Fin 128) (q : Fin 2560) :
    out0_9 i x0 x1 x2 x3 x4 x5 x6 x7 (ix3 0 p q) = change (k0_pay10 i x0 x1 x2 x3 x4 x5 x6 x7 (ix2 p q)) (x5 (ix3 0 p q)) (x6 (ix3 0 p q)) (x7 (ix3 0 p q)) := by
  unfold out0_9
  rw [View.canon_unit_zero hz3, change_apply, View.ld_unit_zero (S := S1x128x2560) hz3, View.ld_unit_zero (S := S1x128x2560) hz3, View.ld_unit_zero (S := S1x128x2560) hz3]

theorem out_moment (i : grid0.Coords) (x0 : Vec Ideal S6x128x2560 .bf16) (x1 : Vec Ideal S2x128x2560 .bf16) (x2 : Vec Ideal S6x128x2560 .bf16) (x3 : Vec Ideal S1x128x2560 .bf16) (x4 : Vec Ideal S1x128x2560 .bf16) (x5 x6 x7 : Vec Ideal S1x128x2560 .f32) (p : Fin 128) (q : Fin 2560) :
    out0_10 i x0 x1 x2 x3 x4 x5 x6 x7 (ix3 0 p q) = moment (k0_pay10 i x0 x1 x2 x3 x4 x5 x6 x7 (ix2 p q)) (x6 (ix3 0 p q)) := by
  unfold out0_10
  rw [View.canon_unit_zero hz3, View.ld_unit_zero (S := S1x128x2560) hz3, ← moment_apply]
  unfold k0_pay1
  pointwise

theorem out_square (i : grid0.Coords) (x0 : Vec Ideal S6x128x2560 .bf16) (x1 : Vec Ideal S2x128x2560 .bf16) (x2 : Vec Ideal S6x128x2560 .bf16) (x3 : Vec Ideal S1x128x2560 .bf16) (x4 : Vec Ideal S1x128x2560 .bf16) (x5 x6 x7 : Vec Ideal S1x128x2560 .f32) (p : Fin 128) (q : Fin 2560) :
    out0_11 i x0 x1 x2 x3 x4 x5 x6 x7 (ix3 0 p q) = square (k0_pay10 i x0 x1 x2 x3 x4 x5 x6 x7 (ix2 p q)) (x7 (ix3 0 p q)) := by
  unfold out0_11
  rw [View.canon_unit_zero hz3, View.ld_unit_zero (S := S1x128x2560) hz3, ← square_apply]
  unfold k0_pay2
  pointwise

theorem index_0 : ∀ t : Fin grid0.N, win0_0.index t 0 = 0 ∧ win0_0.index t 1 = (min t.val 15) ∧ win0_0.index t 2 = 0 := by
  decide +kernel

theorem block_0 (c : Dev nD) (t : Fin cfg0.N) (s : Fin 6) (p : Fin 128) (q : Fin 2560) (i : Fin 2048) (hi : i.val = (min t.val 15) * 128 + p.val) :
    (iblk m c 0 t : Vec Ideal S6x128x2560 .bf16) (ix3 s p q) = m ((c : Thread nD τ).loc main_arg0) (ix3 s i q) := by
  unfold iblk
  rw [View.read_apply]
  show m ((c : Thread nD τ).loc main_arg0) _ = m ((c : Thread nD τ).loc main_arg0) _
  congr 1
  funext a
  apply Fin.ext
  obtain ⟨h0, h1, h2⟩ := index_0 t
  match a with
  | ⟨0, _⟩ => show win0_0.index t 0 * 6 + 1 * s.val = s.val; rw [h0]; omega
  | ⟨1, _⟩ => show win0_0.index t 1 * 128 + 1 * p.val = i.val; rw [h1]; omega
  | ⟨2, _⟩ => show win0_0.index t 2 * 2560 + 1 * q.val = q.val; rw [h2]; omega

theorem index_1 : ∀ t : Fin grid0.N, win0_1.index t 0 = 0 ∧ win0_1.index t 1 = (min t.val 15) ∧ win0_1.index t 2 = 0 := by
  decide +kernel

theorem block_1 (c : Dev nD) (t : Fin cfg0.N) (s : Fin 2) (p : Fin 128) (q : Fin 2560) (i : Fin 2048) (hi : i.val = (min t.val 15) * 128 + p.val) :
    (iblk m c 1 t : Vec Ideal S2x128x2560 .bf16) (ix3 s p q) = m ((c : Thread nD τ).loc main_arg1) (ix3 s i q) := by
  unfold iblk
  rw [View.read_apply]
  show m ((c : Thread nD τ).loc main_arg1) _ = m ((c : Thread nD τ).loc main_arg1) _
  congr 1
  funext a
  apply Fin.ext
  obtain ⟨h0, h1, h2⟩ := index_1 t
  match a with
  | ⟨0, _⟩ => show win0_1.index t 0 * 2 + 1 * s.val = s.val; rw [h0]; omega
  | ⟨1, _⟩ => show win0_1.index t 1 * 128 + 1 * p.val = i.val; rw [h1]; omega
  | ⟨2, _⟩ => show win0_1.index t 2 * 2560 + 1 * q.val = q.val; rw [h2]; omega

theorem index_2 : ∀ t : Fin grid0.N, win0_2.index t 0 = 0 ∧ win0_2.index t 1 = (t.val - 16) ∧ win0_2.index t 2 = 0 := by
  decide +kernel

theorem block_2 (c : Dev nD) (t : Fin cfg0.N) (s : Fin 6) (p : Fin 128) (q : Fin 2560) (i : Fin 2048) (hi : i.val = (t.val - 16) * 128 + p.val) :
    (iblk m c 2 t : Vec Ideal S6x128x2560 .bf16) (ix3 s p q) = m ((c : Thread nD τ).loc main_arg2) (ix3 s i q) := by
  unfold iblk
  rw [View.read_apply]
  show m ((c : Thread nD τ).loc main_arg2) _ = m ((c : Thread nD τ).loc main_arg2) _
  congr 1
  funext a
  apply Fin.ext
  obtain ⟨h0, h1, h2⟩ := index_2 t
  match a with
  | ⟨0, _⟩ => show win0_2.index t 0 * 6 + 1 * s.val = s.val; rw [h0]; omega
  | ⟨1, _⟩ => show win0_2.index t 1 * 128 + 1 * p.val = i.val; rw [h1]; omega
  | ⟨2, _⟩ => show win0_2.index t 2 * 2560 + 1 * q.val = q.val; rw [h2]; omega

theorem index_3 : ∀ t : Fin grid0.N, win0_3.index t 0 = 0 ∧ win0_3.index t 1 = (t.val - 16) ∧ win0_3.index t 2 = 0 := by
  decide +kernel

theorem block_3 (c : Dev nD) (t : Fin cfg0.N) (s : Fin 1) (p : Fin 128) (q : Fin 2560) (i : Fin 2048) (hi : i.val = (t.val - 16) * 128 + p.val) :
    (iblk m c 3 t : Vec Ideal S1x128x2560 .bf16) (ix3 s p q) = m ((c : Thread nD τ).loc main_arg3) (ix3 s i q) := by
  unfold iblk
  rw [View.read_apply]
  show m ((c : Thread nD τ).loc main_arg3) _ = m ((c : Thread nD τ).loc main_arg3) _
  congr 1
  funext a
  apply Fin.ext
  obtain ⟨h0, h1, h2⟩ := index_3 t
  match a with
  | ⟨0, _⟩ => show win0_3.index t 0 * 1 + 1 * s.val = s.val; rw [h0]; omega
  | ⟨1, _⟩ => show win0_3.index t 1 * 128 + 1 * p.val = i.val; rw [h1]; omega
  | ⟨2, _⟩ => show win0_3.index t 2 * 2560 + 1 * q.val = q.val; rw [h2]; omega

theorem index_4 : ∀ t : Fin grid0.N, win0_4.index t 0 = 0 ∧ win0_4.index t 1 = (t.val - 16) ∧ win0_4.index t 2 = 0 := by
  decide +kernel

theorem block_4 (c : Dev nD) (t : Fin cfg0.N) (s : Fin 1) (p : Fin 128) (q : Fin 2560) (i : Fin 2048) (hi : i.val = (t.val - 16) * 128 + p.val) :
    (iblk m c 4 t : Vec Ideal S1x128x2560 .bf16) (ix3 s p q) = m ((c : Thread nD τ).loc main_arg4) (ix3 s i q) := by
  unfold iblk
  rw [View.read_apply]
  show m ((c : Thread nD τ).loc main_arg4) _ = m ((c : Thread nD τ).loc main_arg4) _
  congr 1
  funext a
  apply Fin.ext
  obtain ⟨h0, h1, h2⟩ := index_4 t
  match a with
  | ⟨0, _⟩ => show win0_4.index t 0 * 1 + 1 * s.val = s.val; rw [h0]; omega
  | ⟨1, _⟩ => show win0_4.index t 1 * 128 + 1 * p.val = i.val; rw [h1]; omega
  | ⟨2, _⟩ => show win0_4.index t 2 * 2560 + 1 * q.val = q.val; rw [h2]; omega

theorem index_5 : ∀ t : Fin grid0.N, win0_5.index t 0 = 0 ∧ win0_5.index t 1 = t.val ∧ win0_5.index t 2 = 0 := by
  decide +kernel

theorem block_5 (c : Dev nD) (t : Fin cfg0.N) (p : Fin 128) (q : Fin 2560) (i : Fin 4096) (hi : i.val = t.val * 128 + p.val) :
    (iblk m c 5 t : Vec Ideal S1x128x2560 .f32) (ix3 0 p q) = m ((c : Thread nD τ).loc main_arg5) (ix3 0 i q) := by
  unfold iblk
  rw [View.read_apply]
  show m ((c : Thread nD τ).loc main_arg5) _ = m ((c : Thread nD τ).loc main_arg5) _
  congr 1
  funext a
  apply Fin.ext
  obtain ⟨h0, h1, h2⟩ := index_5 t
  match a with
  | ⟨0, _⟩ => show win0_5.index t 0 * 1 + 1 * (0 : Fin 1).val = (0 : Fin 1).val; rw [h0]; rfl
  | ⟨1, _⟩ => show win0_5.index t 1 * 128 + 1 * p.val = i.val; rw [h1]; omega
  | ⟨2, _⟩ => show win0_5.index t 2 * 2560 + 1 * q.val = q.val; rw [h2]; omega

theorem index_6 : ∀ t : Fin grid0.N, win0_6.index t 0 = 0 ∧ win0_6.index t 1 = t.val ∧ win0_6.index t 2 = 0 := by
  decide +kernel

theorem block_6 (c : Dev nD) (t : Fin cfg0.N) (p : Fin 128) (q : Fin 2560) (i : Fin 4096) (hi : i.val = t.val * 128 + p.val) :
    (iblk m c 6 t : Vec Ideal S1x128x2560 .f32) (ix3 0 p q) = m ((c : Thread nD τ).loc main_arg6) (ix3 0 i q) := by
  unfold iblk
  rw [View.read_apply]
  show m ((c : Thread nD τ).loc main_arg6) _ = m ((c : Thread nD τ).loc main_arg6) _
  congr 1
  funext a
  apply Fin.ext
  obtain ⟨h0, h1, h2⟩ := index_6 t
  match a with
  | ⟨0, _⟩ => show win0_6.index t 0 * 1 + 1 * (0 : Fin 1).val = (0 : Fin 1).val; rw [h0]; rfl
  | ⟨1, _⟩ => show win0_6.index t 1 * 128 + 1 * p.val = i.val; rw [h1]; omega
  | ⟨2, _⟩ => show win0_6.index t 2 * 2560 + 1 * q.val = q.val; rw [h2]; omega

theorem index_7 : ∀ t : Fin grid0.N, win0_7.index t 0 = 0 ∧ win0_7.index t 1 = t.val ∧ win0_7.index t 2 = 0 := by
  decide +kernel

theorem block_7 (c : Dev nD) (t : Fin cfg0.N) (p : Fin 128) (q : Fin 2560) (i : Fin 4096) (hi : i.val = t.val * 128 + p.val) :
    (iblk m c 7 t : Vec Ideal S1x128x2560 .f32) (ix3 0 p q) = m ((c : Thread nD τ).loc main_arg7) (ix3 0 i q) := by
  unfold iblk
  rw [View.read_apply]
  show m ((c : Thread nD τ).loc main_arg7) _ = m ((c : Thread nD τ).loc main_arg7) _
  congr 1
  funext a
  apply Fin.ext
  obtain ⟨h0, h1, h2⟩ := index_7 t
  match a with
  | ⟨0, _⟩ => show win0_7.index t 0 * 1 + 1 * (0 : Fin 1).val = (0 : Fin 1).val; rw [h0]; rfl
  | ⟨1, _⟩ => show win0_7.index t 1 * 128 + 1 * p.val = i.val; rw [h1]; omega
  | ⟨2, _⟩ => show win0_7.index t 2 * 2560 + 1 * q.val = q.val; rw [h2]; omega

/-- The gradient that point `t` sums is its block of the whole sum. -/
theorem grad_block (c : Dev nD) (t : Fin cfg0.N) (p : Fin 128) (q : Fin 2560) (i : Fin 4096) (hi : i.val = t.val * 128 + p.val) :
    k0_pay10 (grid0.coords t) (iblk m c 0 t) (iblk m c 1 t) (iblk m c 2 t) (iblk m c 3 t) (iblk m c 4 t) (iblk m c 5 t) (iblk m c 6 t) (iblk m c 7 t) (ix2 p q)
      = total (m ((c : Thread nD τ).loc main_arg0)) (m ((c : Thread nD τ).loc main_arg1)) (m ((c : Thread nD τ).loc main_arg2)) (m ((c : Thread nD τ).loc main_arg3)) (m ((c : Thread nD τ).loc main_arg4)) (ix3 0 i q) := by
  have ht : t.val < 32 := lt_of_lt_of_eq t.isLt N_0
  by_cases h : t.val < 16
  · rw [grad_top _ _ _ _ _ _ _ _ _ ((half t).trans (if_pos h))]
    have hr : ((ix3 0 i q : S1x4096x2560.Idx) 1).val < 2048 := by show i.val < 2048; omega
    refine Eq.trans ?_ (dif_pos hr).symm
    refine congrArg₂ (fun a b : EReal => a + b) (Finset.sum_congr rfl fun s _ => ?_) (Finset.sum_congr rfl fun s _ => ?_)
    · exact block_0 m c t s p q _ (by show i.val = _; omega)
    · exact block_1 m c t s p q _ (by show i.val = _; omega)
  · rw [grad_bottom _ _ _ _ _ _ _ _ _ ((half t).trans (if_neg h))]
    have hr : ¬ ((ix3 0 i q : S1x4096x2560.Idx) 1).val < 2048 := by show ¬ i.val < 2048; omega
    refine Eq.trans ?_ (dif_neg hr).symm
    refine congrArg₂ (fun a b : EReal => a + b) (congrArg₂ (fun a b : EReal => a + b) (Finset.sum_congr rfl fun s _ => ?_) ?_) ?_
    · exact block_2 m c t s p q _ (by show i.val - 2048 = _; omega)
    · exact block_3 m c t 0 p q _ (by show i.val - 2048 = _; omega)
    · exact block_4 m c t 0 p q _ (by show i.val - 2048 = _; omega)

/-- The four result arrays after the run. -/
abbrev resG (c : Dev nD) : Buf (Elt Ideal) ((c : Thread nD τ).loc main_v0_0) :=
  total (m ((c : Thread nD τ).loc main_arg0)) (m ((c : Thread nD τ).loc main_arg1)) (m ((c : Thread nD τ).loc main_arg2)) (m ((c : Thread nD τ).loc main_arg3)) (m ((c : Thread nD τ).loc main_arg4))

abbrev resD (c : Dev nD) : Buf (Elt Ideal) ((c : Thread nD τ).loc main_v0_1) :=
  fun i => change (total (m ((c : Thread nD τ).loc main_arg0)) (m ((c : Thread nD τ).loc main_arg1)) (m ((c : Thread nD τ).loc main_arg2)) (m ((c : Thread nD τ).loc main_arg3)) (m ((c : Thread nD τ).loc main_arg4)) i) (m ((c : Thread nD τ).loc main_arg5) i)
    (m ((c : Thread nD τ).loc main_arg6) i) (m ((c : Thread nD τ).loc main_arg7) i)

abbrev resM (c : Dev nD) : Buf (Elt Ideal) ((c : Thread nD τ).loc main_v0_2) :=
  fun i => moment (total (m ((c : Thread nD τ).loc main_arg0)) (m ((c : Thread nD τ).loc main_arg1)) (m ((c : Thread nD τ).loc main_arg2)) (m ((c : Thread nD τ).loc main_arg3)) (m ((c : Thread nD τ).loc main_arg4)) i) (m ((c : Thread nD τ).loc main_arg6) i)

abbrev resV (c : Dev nD) : Buf (Elt Ideal) ((c : Thread nD τ).loc main_v0_3) :=
  fun i => square (total (m ((c : Thread nD τ).loc main_arg0)) (m ((c : Thread nD τ).loc main_arg1)) (m ((c : Thread nD τ).loc main_arg2)) (m ((c : Thread nD τ).loc main_arg3)) (m ((c : Thread nD τ).loc main_arg4)) i) (m ((c : Thread nD τ).loc main_arg7) i)

theorem index_8 : ∀ t : Fin grid0.N, win0_8.index t 0 = 0 ∧ win0_8.index t 1 = t.val ∧ win0_8.index t 2 = 0 := by
  decide +kernel

/-- Point `t` writes its block of the result. -/
theorem flushed_G (c : Dev nD) (t : Fin cfg0.N) :
    (dats m 0 c).flushed 8 t = ((cfg0.win 8).blk t).view.read (Elt Ideal) (resG m c) := by
  rw [Value.flushed8]
  have ht : t.val < 32 := lt_of_lt_of_eq t.isLt N_0
  obtain ⟨h0, h1, h2⟩ := index_8 t
  funext y
  rw [View.read_apply]
  obtain ⟨p, q, rfl⟩ : ∃ (p : Fin 128) (q : Fin 2560), y = ix3 0 p q := ⟨y 1, y 2, by funext a; fin_cases a; exacts [Fin.ext (by have h : (y 0 : Nat) < 1 := (y 0).isLt; show (y 0 : Nat) = 0; omega), rfl, rfl]⟩
  have e : ((cfg0.win 8).blk t).view.emb (ix3 0 p q) = (ix3 0 ⟨t.val * 128 + p.val, by omega⟩ q : S1x4096x2560.Idx) := by
    funext a
    apply Fin.ext
    match a with
    | ⟨0, _⟩ => show win0_8.index t 0 * 1 + 1 * (0 : Fin 1).val = (0 : Fin 1).val; rw [h0]; rfl
    | ⟨1, _⟩ => show win0_8.index t 1 * 128 + 1 * p.val = t.val * 128 + p.val; rw [h1]; omega
    | ⟨2, _⟩ => show win0_8.index t 2 * 2560 + 1 * q.val = q.val; rw [h2]; omega
  have hi : ((⟨t.val * 128 + p.val, by omega⟩ : Fin 4096) : Nat) = t.val * 128 + p.val := rfl
  show out0_8 (grid0.coords t) (iblk m c 0 t) (iblk m c 1 t) (iblk m c 2 t) (iblk m c 3 t) (iblk m c 4 t) (iblk m c 5 t) (iblk m c 6 t) (iblk m c 7 t) (ix3 0 p q) = resG m c (((cfg0.win 8).blk t).view.emb (ix3 0 p q))
  refine Eq.trans ?_ (congrArg (resG m c) e).symm
  rw [out_grad, grad_block m c t p q _ hi]

theorem final_G (c : Dev nD) : (dats m 0 c).arrAt 8 cfg0.N = resG m c :=
  (dats m 0 c).arrAt_eq_of_cover 8 (resG m c) (fun t _ => flushed_G m c t) fun i => by
    have b0 : (i 0 : Nat) < 1 := (i 0).isLt
    have b1 : (i 1 : Nat) < 4096 := (i 1).isLt
    have b2 : (i 2 : Nat) < 2560 := (i 2).isLt
    obtain ⟨t, ht⟩ : ∃ t : Fin cfg0.N, t.val = (i 1 : Nat) / 128 :=
      ⟨⟨(i 1 : Nat) / 128, lt_of_lt_of_eq (by omega) N_0.symm⟩, rfl⟩
    obtain ⟨h0, h1, h2⟩ := index_8 t
    refine ⟨t, flush0_8 t, ?_⟩
    show i ∈ ((View.whole main_v0_0).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [h0]; omega
    | ⟨1, _⟩ => show win0_8.index t 1 * 128 ≤ (i 1 : Nat) ∧ (i 1 : Nat) < win0_8.index t 1 * 128 + 128
                rw [h1]; omega
    | ⟨2, _⟩ => show win0_8.index t 2 * 2560 ≤ (i 2 : Nat) ∧ (i 2 : Nat) < win0_8.index t 2 * 2560 + 2560
                rw [h2]; omega

theorem index_9 : ∀ t : Fin grid0.N, win0_9.index t 0 = 0 ∧ win0_9.index t 1 = t.val ∧ win0_9.index t 2 = 0 := by
  decide +kernel

/-- Point `t` writes its block of the result. -/
theorem flushed_D (c : Dev nD) (t : Fin cfg0.N) :
    (dats m 0 c).flushed 9 t = ((cfg0.win 9).blk t).view.read (Elt Ideal) (resD m c) := by
  rw [Value.flushed9]
  have ht : t.val < 32 := lt_of_lt_of_eq t.isLt N_0
  obtain ⟨h0, h1, h2⟩ := index_9 t
  funext y
  rw [View.read_apply]
  obtain ⟨p, q, rfl⟩ : ∃ (p : Fin 128) (q : Fin 2560), y = ix3 0 p q := ⟨y 1, y 2, by funext a; fin_cases a; exacts [Fin.ext (by have h : (y 0 : Nat) < 1 := (y 0).isLt; show (y 0 : Nat) = 0; omega), rfl, rfl]⟩
  have e : ((cfg0.win 9).blk t).view.emb (ix3 0 p q) = (ix3 0 ⟨t.val * 128 + p.val, by omega⟩ q : S1x4096x2560.Idx) := by
    funext a
    apply Fin.ext
    match a with
    | ⟨0, _⟩ => show win0_9.index t 0 * 1 + 1 * (0 : Fin 1).val = (0 : Fin 1).val; rw [h0]; rfl
    | ⟨1, _⟩ => show win0_9.index t 1 * 128 + 1 * p.val = t.val * 128 + p.val; rw [h1]; omega
    | ⟨2, _⟩ => show win0_9.index t 2 * 2560 + 1 * q.val = q.val; rw [h2]; omega
  have hi : ((⟨t.val * 128 + p.val, by omega⟩ : Fin 4096) : Nat) = t.val * 128 + p.val := rfl
  show out0_9 (grid0.coords t) (iblk m c 0 t) (iblk m c 1 t) (iblk m c 2 t) (iblk m c 3 t) (iblk m c 4 t) (iblk m c 5 t) (iblk m c 6 t) (iblk m c 7 t) (ix3 0 p q) = resD m c (((cfg0.win 9).blk t).view.emb (ix3 0 p q))
  refine Eq.trans ?_ (congrArg (resD m c) e).symm
  rw [out_change, grad_block m c t p q _ hi, block_5 m c t p q _ hi, block_6 m c t p q _ hi, block_7 m c t p q _ hi]

theorem final_D (c : Dev nD) : (dats m 0 c).arrAt 9 cfg0.N = resD m c :=
  (dats m 0 c).arrAt_eq_of_cover 9 (resD m c) (fun t _ => flushed_D m c t) fun i => by
    have b0 : (i 0 : Nat) < 1 := (i 0).isLt
    have b1 : (i 1 : Nat) < 4096 := (i 1).isLt
    have b2 : (i 2 : Nat) < 2560 := (i 2).isLt
    obtain ⟨t, ht⟩ : ∃ t : Fin cfg0.N, t.val = (i 1 : Nat) / 128 :=
      ⟨⟨(i 1 : Nat) / 128, lt_of_lt_of_eq (by omega) N_0.symm⟩, rfl⟩
    obtain ⟨h0, h1, h2⟩ := index_9 t
    refine ⟨t, flush0_9 t, ?_⟩
    show i ∈ ((View.whole main_v0_1).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [h0]; omega
    | ⟨1, _⟩ => show win0_9.index t 1 * 128 ≤ (i 1 : Nat) ∧ (i 1 : Nat) < win0_9.index t 1 * 128 + 128
                rw [h1]; omega
    | ⟨2, _⟩ => show win0_9.index t 2 * 2560 ≤ (i 2 : Nat) ∧ (i 2 : Nat) < win0_9.index t 2 * 2560 + 2560
                rw [h2]; omega

theorem index_10 : ∀ t : Fin grid0.N, win0_10.index t 0 = 0 ∧ win0_10.index t 1 = t.val ∧ win0_10.index t 2 = 0 := by
  decide +kernel

/-- Point `t` writes its block of the result. -/
theorem flushed_M (c : Dev nD) (t : Fin cfg0.N) :
    (dats m 0 c).flushed 10 t = ((cfg0.win 10).blk t).view.read (Elt Ideal) (resM m c) := by
  rw [Value.flushed10]
  have ht : t.val < 32 := lt_of_lt_of_eq t.isLt N_0
  obtain ⟨h0, h1, h2⟩ := index_10 t
  funext y
  rw [View.read_apply]
  obtain ⟨p, q, rfl⟩ : ∃ (p : Fin 128) (q : Fin 2560), y = ix3 0 p q := ⟨y 1, y 2, by funext a; fin_cases a; exacts [Fin.ext (by have h : (y 0 : Nat) < 1 := (y 0).isLt; show (y 0 : Nat) = 0; omega), rfl, rfl]⟩
  have e : ((cfg0.win 10).blk t).view.emb (ix3 0 p q) = (ix3 0 ⟨t.val * 128 + p.val, by omega⟩ q : S1x4096x2560.Idx) := by
    funext a
    apply Fin.ext
    match a with
    | ⟨0, _⟩ => show win0_10.index t 0 * 1 + 1 * (0 : Fin 1).val = (0 : Fin 1).val; rw [h0]; rfl
    | ⟨1, _⟩ => show win0_10.index t 1 * 128 + 1 * p.val = t.val * 128 + p.val; rw [h1]; omega
    | ⟨2, _⟩ => show win0_10.index t 2 * 2560 + 1 * q.val = q.val; rw [h2]; omega
  have hi : ((⟨t.val * 128 + p.val, by omega⟩ : Fin 4096) : Nat) = t.val * 128 + p.val := rfl
  show out0_10 (grid0.coords t) (iblk m c 0 t) (iblk m c 1 t) (iblk m c 2 t) (iblk m c 3 t) (iblk m c 4 t) (iblk m c 5 t) (iblk m c 6 t) (iblk m c 7 t) (ix3 0 p q) = resM m c (((cfg0.win 10).blk t).view.emb (ix3 0 p q))
  refine Eq.trans ?_ (congrArg (resM m c) e).symm
  rw [out_moment, grad_block m c t p q _ hi, block_6 m c t p q _ hi]

theorem final_M (c : Dev nD) : (dats m 0 c).arrAt 10 cfg0.N = resM m c :=
  (dats m 0 c).arrAt_eq_of_cover 10 (resM m c) (fun t _ => flushed_M m c t) fun i => by
    have b0 : (i 0 : Nat) < 1 := (i 0).isLt
    have b1 : (i 1 : Nat) < 4096 := (i 1).isLt
    have b2 : (i 2 : Nat) < 2560 := (i 2).isLt
    obtain ⟨t, ht⟩ : ∃ t : Fin cfg0.N, t.val = (i 1 : Nat) / 128 :=
      ⟨⟨(i 1 : Nat) / 128, lt_of_lt_of_eq (by omega) N_0.symm⟩, rfl⟩
    obtain ⟨h0, h1, h2⟩ := index_10 t
    refine ⟨t, flush0_10 t, ?_⟩
    show i ∈ ((View.whole main_v0_2).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1
                rw [h0]; omega
    | ⟨1, _⟩ => show win0_10.index t 1 * 128 ≤ (i 1 : Nat) ∧ (i 1 : Nat) < win0_10.index t 1 * 128 + 128
                rw [h1]; omega
    | ⟨2, _⟩ => show win0_10.index t 2 * 2560 ≤ (i 2 : Nat) ∧ (i 2 : Nat) < win0_10.index t 2 * 2560 + 2560
                rw [h2]; omega

theorem index_11 : ∀ t : Fin grid0.N, win0_11.index t 0 = 0 ∧ win0_11.index t 1 = t.val ∧ win0_11.index t 2 = 0 := by
  decide +kernel

/-- Point `t` writes its block of the result. -/
theorem flushed_V (c : Dev nD) (t : Fin cfg0.N) :
    (dats m 0 c).flushed 11 t = ((cfg0.win 11).blk t).view.read (Elt Ideal) (resV m c) := by
  rw [Value.flushed11]
  have ht : t.val < 32 := lt_of_lt_of_eq t.isLt N_0
  obtain ⟨h0, h1, h2⟩ := index_11 t
  funext y
  rw [View.read_apply]
  obtain ⟨p, q, rfl⟩ : ∃ (p : Fin 128) (q : Fin 2560), y = ix3 0 p q := ⟨y 1, y 2, by funext a; fin_cases a; exacts [Fin.ext (by have h : (y 0 : Nat) < 1 := (y 0).isLt; show (y 0 : Nat) = 0; omega), rfl, rfl]⟩
  have e : ((cfg0.win 11).blk t).view.emb (ix3 0 p q) = (ix3 0 ⟨t.val * 128 + p.val, by omega⟩ q : S1x4096x2560.Idx) := by
    funext a
    apply Fin.ext
    match a with
    | ⟨0, _⟩ => show win0_11.index t 0 * 1 + 1 * (0 : Fin 1).val = (0 : Fin 1).val; rw [h0]; rfl
    | ⟨1, _⟩ => show win0_11.index t 1 * 128 + 1 * p.val = t.val * 128 + p.val; rw [h1]; omega
    | ⟨2, _⟩ => show win0_11.index t 2 * 2560 + 1 * q.val = q.val; rw [h2]; omega
  have hi : ((⟨t.val * 128 + p.val, by omega⟩ : Fin 4096) : Nat) = t.val * 128 + p.val := rfl
  show out0_11 (grid0.coords t) (iblk m c 0 t) (iblk m c 1 t) (iblk m c 2 t) (iblk m c 3 t) (iblk m c 4 t) (iblk m c 5 t) (iblk m c 6 t) (iblk m c 7 t) (ix3 0 p q) = resV m c (((cfg0.win 11).blk t).view.emb (ix3 0 p q))
  refine Eq.trans ?_ (congrArg (resV m c) e).symm
  rw [out_square, grad_block m c t p q _ hi, block_7 m c t p q _ hi]

theorem final_V (c : Dev nD) : (dats m 0 c).arrAt 11 cfg0.N = resV m c :=
  (dats m 0 c).arrAt_eq_of_cover 11 (resV m c) (fun t _ => flushed_V m c t) fun i => by
    have b0 : (i 0 : Nat) < 1 := (i 0).isLt
    have b1 : (i 1 : Nat) < 4096 := (i 1).isLt
    have b2 : (i 2 : Nat) < 2560 := (i 2).isLt
    obtain ⟨t, ht⟩ : ∃ t : Fin cfg0.N, t.val = (i 1 : Nat) / 128 :=
      ⟨⟨(i 1 : Nat) / 128, lt_of_lt_of_eq (by omega) N_0.symm⟩, rfl⟩
    obtain ⟨h0, h1, h2⟩ := index_11 t
    refine ⟨t, flush0_11 t, ?_⟩
    show i ∈ ((View.whole main_v0_3).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                rw [h0]; omega
    | ⟨1, _⟩ => show win0_11.index t 1 * 128 ≤ (i 1 : Nat) ∧ (i 1 : Nat) < win0_11.index t 1 * 128 + 128
                rw [h1]; omega
    | ⟨2, _⟩ => show win0_11.index t 2 * 2560 ≤ (i 2 : Nat) ∧ (i 2 : Nat) < win0_11.index t 2 * 2560 + 2560
                rw [h2]; omega

/-- The kernel's run: its results are these arrays, its arguments unchanged. -/
theorem run : θ_run defs (onTc (τ := τ) (main (F := Ideal))) ⟨m, fun _ => 0, ρ⟩ fun r => ∀ c : Dev nD,
      r.2.mem ((c : Thread nD τ).loc main_v0_0) = resG m c
      ∧ r.2.mem ((c : Thread nD τ).loc main_v0_1) = resD m c
      ∧ r.2.mem ((c : Thread nD τ).loc main_v0_2) = resM m c
      ∧ r.2.mem ((c : Thread nD τ).loc main_v0_3) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_G m c), (h c).2.1.trans (final_D m c),
    (h c).2.2.1.trans (final_M m c), (h c).2.2.2.1.trans (final_V m c), (h c).2.2.2.2⟩) (Value.run_blocks m ρ)

end Cert.AdamInAttnIdeal.Update

namespace Cert.AdamInAttnReferenceIdeal.Update

open Cert.AdamInAttnReferenceIdeal Cert.AdamInAttnReferenceIdeal.Gen Idealize.ShloMosaic Idealize.ShloMosaic.TcCoe Idealize.SL.Sem
open Cert.AdamInAttnIdeal.Update (total change moment square)

/-- The reference's gradient is the same sum of the parts. -/
theorem total_eq (x0 : Vec Ideal S6x2048x2560 .bf16) (x1 : Vec Ideal S2x2048x2560 .bf16) (x2 : Vec Ideal S6x2048x2560 .bf16) (x3 : Vec Ideal S1x2048x2560 .bf16) (x4 : Vec Ideal S1x2048x2560 .bf16) :
    (broadcastInDim S1x4096x2560 ![1, 2] bcast_S4096x2560_S1x4096x2560_1_2 (concatenate S4096x2560 0 [⟨S2048x2560, addf (Host.reduceAdd (extf .f32 x0 bitsLt_bf16_f32) (constant (F := Ideal) S_ .f32 0x00000000#32) reducesTo_S6x2048x2560_S2048x2560_d0 h_S_) (Host.reduceAdd (extf .f32 x1 bitsLt_bf16_f32) (constant (F := Ideal) S_ .f32 0x00000000#32) reducesTo_S2x2048x2560_S2048x2560_d0 h_S_)⟩, ⟨S2048x2560, addf (addf (Host.reduceAdd (extf .f32 x2 bitsLt_bf16_f32) (constant (F := Ideal) S_ .f32 0x00000000#32) reducesTo_S6x2048x2560_S2048x2560_d0 h_S_) (Host.reduceAdd (extf .f32 x3 bitsLt_bf16_f32) (constant (F := Ideal) S_ .f32 0x00000000#32) reducesTo_S1x2048x2560_S2048x2560_d0 h_S_)) (Host.reduceAdd (extf .f32 x4 bitsLt_bf16_f32) (constant (F := Ideal) S_ .f32 0x00000000#32) reducesTo_S1x2048x2560_S2048x2560_d0 h_S_)⟩] concatenates_S2048x2560_S2048x2560_S4096x2560_d0) : Vec Ideal S1x4096x2560 .f32) = total x0 x1 x2 x3 x4 := by
  funext y
  obtain ⟨z, p, q, rfl⟩ : ∃ (z : Fin 1) (p : Fin 4096) (q : Fin 2560), y = ix3 z p q := ⟨y 0, y 1, y 2, by funext a; fin_cases a <;> rfl⟩
  unfold total
  pointwise
  split
  · rfl
  · exact congrArg₂ (fun a b : EReal => a + b) (congrArg₂ (fun a b : EReal => a + b) rfl (Fin.sum_univ_one _)) (Fin.sum_univ_one _)

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v38) = (fun i => change (total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)
        (m ((c.tc : Thread nD τ).loc main_arg5) i) (m ((c.tc : Thread nD τ).loc main_arg6) i) (m ((c.tc : Thread nD τ).loc main_arg7) i))
      ∧ r.2.mem ((c.tc : Thread nD τ).loc main_v19) = (fun i => moment (total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i) (m ((c.tc : Thread nD τ).loc main_arg6) i))
      ∧ r.2.mem ((c.tc : Thread nD τ).loc main_v25) = (fun i => square (total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i) (m ((c.tc : Thread nD τ).loc main_arg7) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (total_eq ..), (h c).2.1.trans (by
    unfold Value.res_main_v38
    rw [total_eq]
    funext i
    rfl), (h c).2.2.1.trans (by
    rw [total_eq]
    funext i
    rfl), (h c).2.2.2.1.trans (by
    rw [total_eq]
    funext i
    rfl), (h c).2.2.2.2⟩) (Value.run (F := Ideal) m ρ)

/-- It terminates, faults nowhere, and leaves the arguments and every semaphore as they were. -/
theorem frame : quiescent_AdamInAttnReferenceIdeal := fun m ρ _ =>
  (θ_run defs _ _).mono (fun r h => ⟨fun c => (h c).2.2.2.2, sem_eq_zero_of_no_sems (by decide) r.2⟩) (Value.run (F := Ideal) m ρ)

end Cert.AdamInAttnReferenceIdeal.Update

namespace Cert.Proof

open Idealize.ShloMosaic Idealize.SL.Sem

/-- The kernel's results and the reference's are the same arrays. -/
theorem algebraic_AdamInAttn : algebraic_AdamInAttnIdeal_AdamInAttnReferenceIdeal := by
  intro m g m' g' _ hagree
  refine ⟨fun c => Cert.AdamInAttnIdeal.Update.resG m c, fun c => Cert.AdamInAttnIdeal.Update.resD m c,
    fun c => Cert.AdamInAttnIdeal.Update.resM m c, fun c => Cert.AdamInAttnIdeal.Update.resV m c, Cert.AdamInAttnIdeal.Update.run m g, ?_⟩
  refine (θ_run Cert.AdamInAttnReferenceIdeal.defs _ _).mono
    (fun r h c => ⟨(h c).1.trans ?_, (h c).2.1.trans ?_, (h c).2.2.1.trans ?_, (h c).2.2.2.1.trans ?_, (h c).2.2.2.2⟩)
    (Cert.AdamInAttnReferenceIdeal.Update.run m' g')
  · rw [(hagree c).1, (hagree c).2.1, (hagree c).2.2.1, (hagree c).2.2.2.1, (hagree c).2.2.2.2.1]
  · rw [(hagree c).1, (hagree c).2.1, (hagree c).2.2.1, (hagree c).2.2.2.1, (hagree c).2.2.2.2.1, (hagree c).2.2.2.2.2.1, (hagree c).2.2.2.2.2.2.1, (hagree c).2.2.2.2.2.2.2]
    rfl
  · rw [(hagree c).1, (hagree c).2.1, (hagree c).2.2.1, (hagree c).2.2.2.1, (hagree c).2.2.2.2.1, (hagree c).2.2.2.2.2.2.1]
    rfl
  · rw [(hagree c).1, (hagree c).2.1, (hagree c).2.2.1, (hagree c).2.2.2.1, (hagree c).2.2.2.2.1, (hagree c).2.2.2.2.2.2.2]
    rfl

end Cert.Proof

end
-- ==== Proof.AdamOutSsm.lean ====
/- The value of `AdamOutSsm`, the AdamW update of one device's shard of the SSM output weight: the gradient is the sum of the
   eight devices' parts, and gradient, weight change, new first moment and new second moment are, entry by entry, the
   functions of parts, weight and moments that the reference computes. -/
module

public import proofs.«01_k».proof.Defs
public import proofs.«01_k».proof.Proof.Gen.AdamOutSsmIdeal.Value
public import proofs.«01_k».proof.Proof.Gen.AdamOutSsmReferenceIdeal.Run
public import Idealize.ShloMosaic.Lib.Pointwise
public import Idealize.ShloMosaic.Lib.Claim

@[expose] public section

noncomputable section

namespace Cert.AdamOutSsmIdeal.Update

open Cert.AdamOutSsmIdeal Cert.AdamOutSsmIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The new first moment of an entry with gradient `g`. -/
def moment (g μ : Ideal .f32) : Ideal .f32 :=
  FloatOps.addf (FloatOps.mulf (Scalar.ofBits .f32 0x3F666666#32) μ) (FloatOps.mulf (Scalar.ofBits .f32 0x3DCCCCCD#32) g)

/-- The new second moment of an entry with gradient `g`. -/
def square (g ν : Ideal .f32) : Ideal .f32 :=
  FloatOps.addf (FloatOps.mulf (Scalar.ofBits .f32 0x3F7FBE77#32) ν)
    (FloatOps.mulf (Scalar.ofBits .f32 0x3A83126F#32) (FloatOps.mulf g g))

/-- The change of an entry with gradient `g` and weight `w`. -/
def change (g w μ ν : Ideal .f32) : Ideal .f32 :=
  FloatOps.mulf (Scalar.ofBits .f32 0xBA83126F#32)
    (FloatOps.addf
      (FloatOps.divf (FloatOps.divf (moment g μ) (Scalar.ofBits .f32 0x3F26BD02#32))
        (FloatOps.addf (FloatOps.sqrt (FloatOps.divf (square g ν) (Scalar.ofBits .f32 0x3C231ACC#32))) (Scalar.ofBits .f32 0x322BCC77#32)))
      (FloatOps.mulf (Scalar.ofBits .f32 0x3C23D70A#32) w))

/-- The sum of the eight devices' parts. -/
def total (x0 : Vec Ideal S8x1024x4096 .bf16) : Vec Ideal S1x1024x4096 .f32 :=
  fun i => ∑ s : Fin 8, (x0 (ix3 s (i 1) (i 2)) : EReal)

/-- A point sums its block of the parts. -/
theorem grad_apply (x0 : Vec Ideal S8x128x2048 .bf16) (x1 x2 x3 : Vec Ideal S1x128x2048 .f32) (p : Fin 128) (q : Fin 2048) :
    k0_pay8 x0 x1 x2 x3 (ix2 p q) = (∑ s : Fin 8, (x0 (ix3 s p q) : EReal) : EReal) := by
  unfold k0_pay8 k0_pay3
  pointwise
  rw [Fin.sum_univ_eight]

/-- The payloads, entry by entry. -/
theorem moment_apply (g : FVec Ideal S128x2048 .f32) (x : Vec Ideal S1x128x2048 .f32) (p : Fin 128) (q : Fin 2048) :
    k0_pay4 g x (ix2 p q) = moment (g (ix2 p q)) (x (ix3 0 p q)) := by
  unfold k0_pay4 moment
  pointwise

theorem square_apply (g : FVec Ideal S128x2048 .f32) (x : Vec Ideal S1x128x2048 .f32) (p : Fin 128) (q : Fin 2048) :
    k0_pay5 g x (ix2 p q) = square (g (ix2 p q)) (x (ix3 0 p q)) := by
  unfold k0_pay5 square
  pointwise

theorem change_apply (g : FVec Ideal S128x2048 .f32) (w x y : Vec Ideal S1x128x2048 .f32) (p : Fin 128) (q : Fin 2048) :
    k0_pay7 g w x y (ix3 0 p q) = change (g (ix2 p q)) (w (ix3 0 p q)) (x (ix3 0 p q)) (y (ix3 0 p q)) := by
  unfold k0_pay7 k0_pay4 k0_pay5 change moment square
  pointwise

/-- What the body leaves in the four output blocks, entry by entry. -/
theorem out_grad (x0 : Vec Ideal S8x128x2048 .bf16) (x1 x2 x3 : Vec Ideal S1x128x2048 .f32) (p : Fin 128) (q : Fin 2048) :
    out0_4 x0 x1 x2 x3 (ix3 0 p q) = k0_pay8 x0 x1 x2 x3 (ix2 p q) := by
  unfold out0_4
  rw [View.canon_unit_zero hz3]
  unfold k0_pay6
  pointwise

theorem out_change (x0 : Vec Ideal S8x128x2048 .bf16) (x1 x2 x3 : Vec Ideal S1x128x2048 .f32) (p : Fin 128) (q : Fin 2048) :
    out0_5 x0 x1 x2 x3 (ix3 0 p q) = change (k0_pay8 x0 x1 x2 x3 (ix2 p q)) (x1 (ix3 0 p q)) (x2 (ix3 0 p q)) (x3 (ix3 0 p q)) := by
  unfold out0_5
  rw [View.canon_unit_zero hz3, change_apply, View.ld_unit_zero (S := S1x128x2048) hz3, View.ld_unit_zero (S := S1x128x2048) hz3, View.ld_unit_zero (S := S1x128x2048) hz3]

theorem out_moment (x0 : Vec Ideal S8x128x2048 .bf16) (x1 x2 x3 : Vec Ideal S1x128x2048 .f32) (p : Fin 128) (q : Fin 2048) :
    out0_6 x0 x1 x2 x3 (ix3 0 p q) = moment (k0_pay8 x0 x1 x2 x3 (ix2 p q)) (x2 (ix3 0 p q)) := by
  unfold out0_6
  rw [View.canon_unit_zero hz3, View.ld_unit_zero (S := S1x128x2048) hz3, ← moment_apply]
  unfold k0_pay1
  pointwise

theorem out_square (x0 : Vec Ideal S8x128x2048 .bf16) (x1 x2 x3 : Vec Ideal S1x128x2048 .f32) (p : Fin 128) (q : Fin 2048) :
    out0_7 x0 x1 x2 x3 (ix3 0 p q) = square (k0_pay8 x0 x1 x2 x3 (ix2 p q)) (x3 (ix3 0 p q)) := by
  unfold out0_7
  rw [View.canon_unit_zero hz3, View.ld_unit_zero (S := S1x128x2048) hz3, ← square_apply]
  unfold k0_pay2
  pointwise

theorem index_0 : ∀ t : Fin grid0.N, win0_0.index t 0 = 0 ∧ win0_0.index t 1 = (t.val / 2) ∧ win0_0.index t 2 = (t.val % 2) := by
  decide +kernel

theorem block_0 (c : Dev nD) (t : Fin cfg0.N) (s : Fin 8) (p : Fin 128) (q : Fin 2048) (i : Fin 1024) (j : Fin 4096) (hi : i.val = (t.val / 2) * 128 + p.val) (hj : j.val = (t.val % 2) * 2048 + q.val) :
    (iblk m c 0 t : Vec Ideal S8x128x2048 .bf16) (ix3 s p q) = m ((c : Thread nD τ).loc main_arg0) (ix3 s i j) := by
  unfold iblk
  rw [View.read_apply]
  show m ((c : Thread nD τ).loc main_arg0) _ = m ((c : Thread nD τ).loc main_arg0) _
  congr 1
  funext a
  apply Fin.ext
  obtain ⟨h0, h1, h2⟩ := index_0 t
  match a with
  | ⟨0, _⟩ => show win0_0.index t 0 * 8 + 1 * s.val = s.val; rw [h0]; omega
  | ⟨1, _⟩ => show win0_0.index t 1 * 128 + 1 * p.val = i.val; rw [h1]; omega
  | ⟨2, _⟩ => show win0_0.index t 2 * 2048 + 1 * q.val = j.val; rw [h2]; omega

theorem index_1 : ∀ t : Fin grid0.N, win0_1.index t 0 = 0 ∧ win0_1.index t 1 = (t.val / 2) ∧ win0_1.index t 2 = (t.val % 2) := by
  decide +kernel

theorem block_1 (c : Dev nD) (t : Fin cfg0.N) (p : Fin 128) (q : Fin 2048) (i : Fin 1024) (j : Fin 4096) (hi : i.val = (t.val / 2) * 128 + p.val) (hj : j.val = (t.val % 2) * 2048 + q.val) :
    (iblk m c 1 t : Vec Ideal S1x128x2048 .f32) (ix3 0 p q) = m ((c : Thread nD τ).loc main_arg1) (ix3 0 i j) := by
  unfold iblk
  rw [View.read_apply]
  show m ((c : Thread nD τ).loc main_arg1) _ = m ((c : Thread nD τ).loc main_arg1) _
  congr 1
  funext a
  apply Fin.ext
  obtain ⟨h0, h1, h2⟩ := index_1 t
  match a with
  | ⟨0, _⟩ => show win0_1.index t 0 * 1 + 1 * (0 : Fin 1).val = (0 : Fin 1).val; rw [h0]; rfl
  | ⟨1, _⟩ => show win0_1.index t 1 * 128 + 1 * p.val = i.val; rw [h1]; omega
  | ⟨2, _⟩ => show win0_1.index t 2 * 2048 + 1 * q.val = j.val; rw [h2]; omega

theorem index_2 : ∀ t : Fin grid0.N, win0_2.index t 0 = 0 ∧ win0_2.index t 1 = (t.val / 2) ∧ win0_2.index t 2 = (t.val % 2) := by
  decide +kernel

theorem block_2 (c : Dev nD) (t : Fin cfg0.N) (p : Fin 128) (q : Fin 2048) (i : Fin 1024) (j : Fin 4096) (hi : i.val = (t.val / 2) * 128 + p.val) (hj : j.val = (t.val % 2) * 2048 + q.val) :
    (iblk m c 2 t : Vec Ideal S1x128x2048 .f32) (ix3 0 p q) = m ((c : Thread nD τ).loc main_arg2) (ix3 0 i j) := by
  unfold iblk
  rw [View.read_apply]
  show m ((c : Thread nD τ).loc main_arg2) _ = m ((c : Thread nD τ).loc main_arg2) _
  congr 1
  funext a
  apply Fin.ext
  obtain ⟨h0, h1, h2⟩ := index_2 t
  match a with
  | ⟨0, _⟩ => show win0_2.index t 0 * 1 + 1 * (0 : Fin 1).val = (0 : Fin 1).val; rw [h0]; rfl
  | ⟨1, _⟩ => show win0_2.index t 1 * 128 + 1 * p.val = i.val; rw [h1]; omega
  | ⟨2, _⟩ => show win0_2.index t 2 * 2048 + 1 * q.val = j.val; rw [h2]; omega

theorem index_3 : ∀ t : Fin grid0.N, win0_3.index t 0 = 0 ∧ win0_3.index t 1 = (t.val / 2) ∧ win0_3.index t 2 = (t.val % 2) := by
  decide +kernel

theorem block_3 (c : Dev nD) (t : Fin cfg0.N) (p : Fin 128) (q : Fin 2048) (i : Fin 1024) (j : Fin 4096) (hi : i.val = (t.val / 2) * 128 + p.val) (hj : j.val = (t.val % 2) * 2048 + q.val) :
    (iblk m c 3 t : Vec Ideal S1x128x2048 .f32) (ix3 0 p q) = m ((c : Thread nD τ).loc main_arg3) (ix3 0 i j) := by
  unfold iblk
  rw [View.read_apply]
  show m ((c : Thread nD τ).loc main_arg3) _ = m ((c : Thread nD τ).loc main_arg3) _
  congr 1
  funext a
  apply Fin.ext
  obtain ⟨h0, h1, h2⟩ := index_3 t
  match a with
  | ⟨0, _⟩ => show win0_3.index t 0 * 1 + 1 * (0 : Fin 1).val = (0 : Fin 1).val; rw [h0]; rfl
  | ⟨1, _⟩ => show win0_3.index t 1 * 128 + 1 * p.val = i.val; rw [h1]; omega
  | ⟨2, _⟩ => show win0_3.index t 2 * 2048 + 1 * q.val = j.val; rw [h2]; omega

/-- The gradient that point `t` sums is its block of the whole sum. -/
theorem grad_block (c : Dev nD) (t : Fin cfg0.N) (p : Fin 128) (q : Fin 2048) (i : Fin 1024) (j : Fin 4096) (hi : i.val = (t.val / 2) * 128 + p.val) (hj : j.val = (t.val % 2) * 2048 + q.val) :
    k0_pay8 (iblk m c 0 t) (iblk m c 1 t) (iblk m c 2 t) (iblk m c 3 t) (ix2 p q)
      = total (m ((c : Thread nD τ).loc main_arg0)) (ix3 0 i j) := by
  rw [grad_apply]
  exact Finset.sum_congr rfl fun s _ => block_0 m c t s p q i j hi hj

/-- The four result arrays after the run. -/
abbrev resG (c : Dev nD) : Buf (Elt Ideal) ((c : Thread nD τ).loc main_v0_0) :=
  total (m ((c : Thread nD τ).loc main_arg0))

abbrev resD (c : Dev nD) : Buf (Elt Ideal) ((c : Thread nD τ).loc main_v0_1) :=
  fun i => change (total (m ((c : Thread nD τ).loc main_arg0)) i) (m ((c : Thread nD τ).loc main_arg1) i)
    (m ((c : Thread nD τ).loc main_arg2) i) (m ((c : Thread nD τ).loc main_arg3) i)

abbrev resM (c : Dev nD) : Buf (Elt Ideal) ((c : Thread nD τ).loc main_v0_2) :=
  fun i => moment (total (m ((c : Thread nD τ).loc main_arg0)) i) (m ((c : Thread nD τ).loc main_arg2) i)

abbrev resV (c : Dev nD) : Buf (Elt Ideal) ((c : Thread nD τ).loc main_v0_3) :=
  fun i => square (total (m ((c : Thread nD τ).loc main_arg0)) i) (m ((c : Thread nD τ).loc main_arg3) i)

theorem index_4 : ∀ t : Fin grid0.N, win0_4.index t 0 = 0 ∧ win0_4.index t 1 = (t.val / 2) ∧ win0_4.index t 2 = (t.val % 2) := by
  decide +kernel

/-- Point `t` writes its block of the result. -/
theorem flushed_G (c : Dev nD) (t : Fin cfg0.N) :
    (dats m 0 c).flushed 4 t = ((cfg0.win 4).blk t).view.read (Elt Ideal) (resG m c) := by
  rw [Value.flushed4]
  have ht : t.val < 16 := lt_of_lt_of_eq t.isLt N_0
  obtain ⟨h0, h1, h2⟩ := index_4 t
  funext y
  rw [View.read_apply]
  obtain ⟨p, q, rfl⟩ : ∃ (p : Fin 128) (q : Fin 2048), y = ix3 0 p q := ⟨y 1, y 2, by funext a; fin_cases a; exacts [Fin.ext (by have h : (y 0 : Nat) < 1 := (y 0).isLt; show (y 0 : Nat) = 0; omega), rfl, rfl]⟩
  have e : ((cfg0.win 4).blk t).view.emb (ix3 0 p q) = (ix3 0 ⟨(t.val / 2) * 128 + p.val, by omega⟩ ⟨(t.val % 2) * 2048 + q.val, by omega⟩ : S1x1024x4096.Idx) := by
    funext a
    apply Fin.ext
    match a with
    | ⟨0, _⟩ => show win0_4.index t 0 * 1 + 1 * (0 : Fin 1).val = (0 : Fin 1).val; rw [h0]; rfl
    | ⟨1, _⟩ => show win0_4.index t 1 * 128 + 1 * p.val = (t.val / 2) * 128 + p.val; rw [h1]; omega
    | ⟨2, _⟩ => show win0_4.index t 2 * 2048 + 1 * q.val = (t.val % 2) * 2048 + q.val; rw [h2]; omega
  have hi : ((⟨(t.val / 2) * 128 + p.val, by omega⟩ : Fin 1024) : Nat) = (t.val / 2) * 128 + p.val := rfl
  have hj : ((⟨(t.val % 2) * 2048 + q.val, by omega⟩ : Fin 4096) : Nat) = (t.val % 2) * 2048 + q.val := rfl
  show out0_4 (iblk m c 0 t) (iblk m c 1 t) (iblk m c 2 t) (iblk m c 3 t) (ix3 0 p q) = resG m c (((cfg0.win 4).blk t).view.emb (ix3 0 p q))
  refine Eq.trans ?_ (congrArg (resG m c) e).symm
  rw [out_grad, grad_block m c t p q _ _ hi hj]

theorem final_G (c : Dev nD) : (dats m 0 c).arrAt 4 cfg0.N = resG m c :=
  (dats m 0 c).arrAt_eq_of_cover 4 (resG m c) (fun t _ => flushed_G m c t) fun i => by
    have b0 : (i 0 : Nat) < 1 := (i 0).isLt
    have b1 : (i 1 : Nat) < 1024 := (i 1).isLt
    have b2 : (i 2 : Nat) < 4096 := (i 2).isLt
    obtain ⟨t, ht⟩ : ∃ t : Fin cfg0.N, t.val = (i 1 : Nat) / 128 * 2 + (i 2 : Nat) / 2048 :=
      ⟨⟨(i 1 : Nat) / 128 * 2 + (i 2 : Nat) / 2048, lt_of_lt_of_eq (by omega) N_0.symm⟩, rfl⟩
    obtain ⟨h0, h1, h2⟩ := index_4 t
    refine ⟨t, flush0_4 t, ?_⟩
    show i ∈ ((View.whole main_v0_0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [h0]; omega
    | ⟨1, _⟩ => show win0_4.index t 1 * 128 ≤ (i 1 : Nat) ∧ (i 1 : Nat) < win0_4.index t 1 * 128 + 128
                rw [h1]; omega
    | ⟨2, _⟩ => show win0_4.index t 2 * 2048 ≤ (i 2 : Nat) ∧ (i 2 : Nat) < win0_4.index t 2 * 2048 + 2048
                rw [h2]; omega

theorem index_5 : ∀ t : Fin grid0.N, win0_5.index t 0 = 0 ∧ win0_5.index t 1 = (t.val / 2) ∧ win0_5.index t 2 = (t.val % 2) := by
  decide +kernel

/-- Point `t` writes its block of the result. -/
theorem flushed_D (c : Dev nD) (t : Fin cfg0.N) :
    (dats m 0 c).flushed 5 t = ((cfg0.win 5).blk t).view.read (Elt Ideal) (resD m c) := by
  rw [Value.flushed5]
  have ht : t.val < 16 := lt_of_lt_of_eq t.isLt N_0
  obtain ⟨h0, h1, h2⟩ := index_5 t
  funext y
  rw [View.read_apply]
  obtain ⟨p, q, rfl⟩ : ∃ (p : Fin 128) (q : Fin 2048), y = ix3 0 p q := ⟨y 1, y 2, by funext a; fin_cases a; exacts [Fin.ext (by have h : (y 0 : Nat) < 1 := (y 0).isLt; show (y 0 : Nat) = 0; omega), rfl, rfl]⟩
  have e : ((cfg0.win 5).blk t).view.emb (ix3 0 p q) = (ix3 0 ⟨(t.val / 2) * 128 + p.val, by omega⟩ ⟨(t.val % 2) * 2048 + q.val, by omega⟩ : S1x1024x4096.Idx) := by
    funext a
    apply Fin.ext
    match a with
    | ⟨0, _⟩ => show win0_5.index t 0 * 1 + 1 * (0 : Fin 1).val = (0 : Fin 1).val; rw [h0]; rfl
    | ⟨1, _⟩ => show win0_5.index t 1 * 128 + 1 * p.val = (t.val / 2) * 128 + p.val; rw [h1]; omega
    | ⟨2, _⟩ => show win0_5.index t 2 * 2048 + 1 * q.val = (t.val % 2) * 2048 + q.val; rw [h2]; omega
  have hi : ((⟨(t.val / 2) * 128 + p.val, by omega⟩ : Fin 1024) : Nat) = (t.val / 2) * 128 + p.val := rfl
  have hj : ((⟨(t.val % 2) * 2048 + q.val, by omega⟩ : Fin 4096) : Nat) = (t.val % 2) * 2048 + q.val := rfl
  show out0_5 (iblk m c 0 t) (iblk m c 1 t) (iblk m c 2 t) (iblk m c 3 t) (ix3 0 p q) = resD m c (((cfg0.win 5).blk t).view.emb (ix3 0 p q))
  refine Eq.trans ?_ (congrArg (resD m c) e).symm
  rw [out_change, grad_block m c t p q _ _ hi hj, block_1 m c t p q _ _ hi hj, block_2 m c t p q _ _ hi hj, block_3 m c t p q _ _ hi hj]

theorem final_D (c : Dev nD) : (dats m 0 c).arrAt 5 cfg0.N = resD m c :=
  (dats m 0 c).arrAt_eq_of_cover 5 (resD m c) (fun t _ => flushed_D m c t) fun i => by
    have b0 : (i 0 : Nat) < 1 := (i 0).isLt
    have b1 : (i 1 : Nat) < 1024 := (i 1).isLt
    have b2 : (i 2 : Nat) < 4096 := (i 2).isLt
    obtain ⟨t, ht⟩ : ∃ t : Fin cfg0.N, t.val = (i 1 : Nat) / 128 * 2 + (i 2 : Nat) / 2048 :=
      ⟨⟨(i 1 : Nat) / 128 * 2 + (i 2 : Nat) / 2048, lt_of_lt_of_eq (by omega) N_0.symm⟩, rfl⟩
    obtain ⟨h0, h1, h2⟩ := index_5 t
    refine ⟨t, flush0_5 t, ?_⟩
    show i ∈ ((View.whole main_v0_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [h0]; omega
    | ⟨1, _⟩ => show win0_5.index t 1 * 128 ≤ (i 1 : Nat) ∧ (i 1 : Nat) < win0_5.index t 1 * 128 + 128
                rw [h1]; omega
    | ⟨2, _⟩ => show win0_5.index t 2 * 2048 ≤ (i 2 : Nat) ∧ (i 2 : Nat) < win0_5.index t 2 * 2048 + 2048
                rw [h2]; omega

theorem index_6 : ∀ t : Fin grid0.N, win0_6.index t 0 = 0 ∧ win0_6.index t 1 = (t.val / 2) ∧ win0_6.index t 2 = (t.val % 2) := by
  decide +kernel

/-- Point `t` writes its block of the result. -/
theorem flushed_M (c : Dev nD) (t : Fin cfg0.N) :
    (dats m 0 c).flushed 6 t = ((cfg0.win 6).blk t).view.read (Elt Ideal) (resM m c) := by
  rw [Value.flushed6]
  have ht : t.val < 16 := lt_of_lt_of_eq t.isLt N_0
  obtain ⟨h0, h1, h2⟩ := index_6 t
  funext y
  rw [View.read_apply]
  obtain ⟨p, q, rfl⟩ : ∃ (p : Fin 128) (q : Fin 2048), y = ix3 0 p q := ⟨y 1, y 2, by funext a; fin_cases a; exacts [Fin.ext (by have h : (y 0 : Nat) < 1 := (y 0).isLt; show (y 0 : Nat) = 0; omega), rfl, rfl]⟩
  have e : ((cfg0.win 6).blk t).view.emb (ix3 0 p q) = (ix3 0 ⟨(t.val / 2) * 128 + p.val, by omega⟩ ⟨(t.val % 2) * 2048 + q.val, by omega⟩ : S1x1024x4096.Idx) := by
    funext a
    apply Fin.ext
    match a with
    | ⟨0, _⟩ => show win0_6.index t 0 * 1 + 1 * (0 : Fin 1).val = (0 : Fin 1).val; rw [h0]; rfl
    | ⟨1, _⟩ => show win0_6.index t 1 * 128 + 1 * p.val = (t.val / 2) * 128 + p.val; rw [h1]; omega
    | ⟨2, _⟩ => show win0_6.index t 2 * 2048 + 1 * q.val = (t.val % 2) * 2048 + q.val; rw [h2]; omega
  have hi : ((⟨(t.val / 2) * 128 + p.val, by omega⟩ : Fin 1024) : Nat) = (t.val / 2) * 128 + p.val := rfl
  have hj : ((⟨(t.val % 2) * 2048 + q.val, by omega⟩ : Fin 4096) : Nat) = (t.val % 2) * 2048 + q.val := rfl
  show out0_6 (iblk m c 0 t) (iblk m c 1 t) (iblk m c 2 t) (iblk m c 3 t) (ix3 0 p q) = resM m c (((cfg0.win 6).blk t).view.emb (ix3 0 p q))
  refine Eq.trans ?_ (congrArg (resM m c) e).symm
  rw [out_moment, grad_block m c t p q _ _ hi hj, block_2 m c t p q _ _ hi hj]

theorem final_M (c : Dev nD) : (dats m 0 c).arrAt 6 cfg0.N = resM m c :=
  (dats m 0 c).arrAt_eq_of_cover 6 (resM m c) (fun t _ => flushed_M m c t) fun i => by
    have b0 : (i 0 : Nat) < 1 := (i 0).isLt
    have b1 : (i 1 : Nat) < 1024 := (i 1).isLt
    have b2 : (i 2 : Nat) < 4096 := (i 2).isLt
    obtain ⟨t, ht⟩ : ∃ t : Fin cfg0.N, t.val = (i 1 : Nat) / 128 * 2 + (i 2 : Nat) / 2048 :=
      ⟨⟨(i 1 : Nat) / 128 * 2 + (i 2 : Nat) / 2048, lt_of_lt_of_eq (by omega) N_0.symm⟩, rfl⟩
    obtain ⟨h0, h1, h2⟩ := index_6 t
    refine ⟨t, flush0_6 t, ?_⟩
    show i ∈ ((View.whole main_v0_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [h0]; omega
    | ⟨1, _⟩ => show win0_6.index t 1 * 128 ≤ (i 1 : Nat) ∧ (i 1 : Nat) < win0_6.index t 1 * 128 + 128
                rw [h1]; omega
    | ⟨2, _⟩ => show win0_6.index t 2 * 2048 ≤ (i 2 : Nat) ∧ (i 2 : Nat) < win0_6.index t 2 * 2048 + 2048
                rw [h2]; omega

theorem index_7 : ∀ t : Fin grid0.N, win0_7.index t 0 = 0 ∧ win0_7.index t 1 = (t.val / 2) ∧ win0_7.index t 2 = (t.val % 2) := by
  decide +kernel

/-- Point `t` writes its block of the result. -/
theorem flushed_V (c : Dev nD) (t : Fin cfg0.N) :
    (dats m 0 c).flushed 7 t = ((cfg0.win 7).blk t).view.read (Elt Ideal) (resV m c) := by
  rw [Value.flushed7]
  have ht : t.val < 16 := lt_of_lt_of_eq t.isLt N_0
  obtain ⟨h0, h1, h2⟩ := index_7 t
  funext y
  rw [View.read_apply]
  obtain ⟨p, q, rfl⟩ : ∃ (p : Fin 128) (q : Fin 2048), y = ix3 0 p q := ⟨y 1, y 2, by funext a; fin_cases a; exacts [Fin.ext (by have h : (y 0 : Nat) < 1 := (y 0).isLt; show (y 0 : Nat) = 0; omega), rfl, rfl]⟩
  have e : ((cfg0.win 7).blk t).view.emb (ix3 0 p q) = (ix3 0 ⟨(t.val / 2) * 128 + p.val, by omega⟩ ⟨(t.val % 2) * 2048 + q.val, by omega⟩ : S1x1024x4096.Idx) := by
    funext a
    apply Fin.ext
    match a with
    | ⟨0, _⟩ => show win0_7.index t 0 * 1 + 1 * (0 : Fin 1).val = (0 : Fin 1).val; rw [h0]; rfl
    | ⟨1, _⟩ => show win0_7.index t 1 * 128 + 1 * p.val = (t.val / 2) * 128 + p.val; rw [h1]; omega
    | ⟨2, _⟩ => show win0_7.index t 2 * 2048 + 1 * q.val = (t.val % 2) * 2048 + q.val; rw [h2]; omega
  have hi : ((⟨(t.val / 2) * 128 + p.val, by omega⟩ : Fin 1024) : Nat) = (t.val / 2) * 128 + p.val := rfl
  have hj : ((⟨(t.val % 2) * 2048 + q.val, by omega⟩ : Fin 4096) : Nat) = (t.val % 2) * 2048 + q.val := rfl
  show out0_7 (iblk m c 0 t) (iblk m c 1 t) (iblk m c 2 t) (iblk m c 3 t) (ix3 0 p q) = resV m c (((cfg0.win 7).blk t).view.emb (ix3 0 p q))
  refine Eq.trans ?_ (congrArg (resV m c) e).symm
  rw [out_square, grad_block m c t p q _ _ hi hj, block_3 m c t p q _ _ hi hj]

theorem final_V (c : Dev nD) : (dats m 0 c).arrAt 7 cfg0.N = resV m c :=
  (dats m 0 c).arrAt_eq_of_cover 7 (resV m c) (fun t _ => flushed_V m c t) fun i => by
    have b0 : (i 0 : Nat) < 1 := (i 0).isLt
    have b1 : (i 1 : Nat) < 1024 := (i 1).isLt
    have b2 : (i 2 : Nat) < 4096 := (i 2).isLt
    obtain ⟨t, ht⟩ : ∃ t : Fin cfg0.N, t.val = (i 1 : Nat) / 128 * 2 + (i 2 : Nat) / 2048 :=
      ⟨⟨(i 1 : Nat) / 128 * 2 + (i 2 : Nat) / 2048, lt_of_lt_of_eq (by omega) N_0.symm⟩, rfl⟩
    obtain ⟨h0, h1, h2⟩ := index_7 t
    refine ⟨t, flush0_7 t, ?_⟩
    show i ∈ ((View.whole main_v0_3).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [h0]; omega
    | ⟨1, _⟩ => show win0_7.index t 1 * 128 ≤ (i 1 : Nat) ∧ (i 1 : Nat) < win0_7.index t 1 * 128 + 128
                rw [h1]; omega
    | ⟨2, _⟩ => show win0_7.index t 2 * 2048 ≤ (i 2 : Nat) ∧ (i 2 : Nat) < win0_7.index t 2 * 2048 + 2048
                rw [h2]; omega

/-- The kernel's run: its results are these arrays, its arguments unchanged. -/
theorem run : θ_run defs (onTc (τ := τ) (main (F := Ideal))) ⟨m, fun _ => 0, ρ⟩ fun r => ∀ c : Dev nD,
      r.2.mem ((c : Thread nD τ).loc main_v0_0) = resG m c
      ∧ r.2.mem ((c : Thread nD τ).loc main_v0_1) = resD m c
      ∧ r.2.mem ((c : Thread nD τ).loc main_v0_2) = resM m c
      ∧ r.2.mem ((c : Thread nD τ).loc main_v0_3) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_G m c), (h c).2.1.trans (final_D m c),
    (h c).2.2.1.trans (final_M m c), (h c).2.2.2.1.trans (final_V m c), (h c).2.2.2.2⟩) (Value.run_blocks m ρ)

end Cert.AdamOutSsmIdeal.Update

namespace Cert.AdamOutSsmReferenceIdeal.Update

open Cert.AdamOutSsmReferenceIdeal Cert.AdamOutSsmReferenceIdeal.Gen Idealize.ShloMosaic Idealize.ShloMosaic.TcCoe Idealize.SL.Sem
open Cert.AdamOutSsmIdeal.Update (total change moment square)

/-- The reference's gradient is the same sum of the parts. -/
theorem total_eq (x0 : Vec Ideal S8x1024x4096 .bf16) :
    (broadcastInDim S1x1024x4096 ![1, 2] bcast_S1024x4096_S1x1024x4096_1_2 (Host.reduceAdd (extf .f32 x0 bitsLt_bf16_f32) (constant (F := Ideal) S_ .f32 0x00000000#32) reducesTo_S8x1024x4096_S1024x4096_d0 h_S_) : Vec Ideal S1x1024x4096 .f32) = total x0 := by
  funext y
  obtain ⟨z, p, q, rfl⟩ : ∃ (z : Fin 1) (p : Fin 1024) (q : Fin 4096), y = ix3 z p q := ⟨y 0, y 1, y 2, by funext a; fin_cases a <;> rfl⟩
  unfold total
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = total (m ((c.tc : Thread nD τ).loc main_arg0))
      ∧ r.2.mem ((c.tc : Thread nD τ).loc main_v26) = (fun i => change (total (m ((c.tc : Thread nD τ).loc main_arg0)) i)
        (m ((c.tc : Thread nD τ).loc main_arg1) i) (m ((c.tc : Thread nD τ).loc main_arg2) i) (m ((c.tc : Thread nD τ).loc main_arg3) i))
      ∧ r.2.mem ((c.tc : Thread nD τ).loc main_v7) = (fun i => moment (total (m ((c.tc : Thread nD τ).loc main_arg0)) i) (m ((c.tc : Thread nD τ).loc main_arg2) i))
      ∧ r.2.mem ((c.tc : Thread nD τ).loc main_v13) = (fun i => square (total (m ((c.tc : Thread nD τ).loc main_arg0)) i) (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (total_eq ..), (h c).2.1.trans (by
    rw [total_eq]
    funext i
    rfl), (h c).2.2.1.trans (by
    rw [total_eq]
    funext i
    rfl), (h c).2.2.2.1.trans (by
    rw [total_eq]
    funext i
    rfl), (h c).2.2.2.2⟩) (Value.run (F := Ideal) m ρ)

/-- It terminates, faults nowhere, and leaves the arguments and every semaphore as they were. -/
theorem frame : quiescent_AdamOutSsmReferenceIdeal := fun m ρ _ =>
  (θ_run defs _ _).mono (fun r h => ⟨fun c => (h c).2.2.2.2, sem_eq_zero_of_no_sems (by decide) r.2⟩) (Value.run (F := Ideal) m ρ)

end Cert.AdamOutSsmReferenceIdeal.Update

namespace Cert.Proof

open Idealize.ShloMosaic Idealize.SL.Sem

/-- The kernel's results and the reference's are the same arrays. -/
theorem algebraic_AdamOutSsm : algebraic_AdamOutSsmIdeal_AdamOutSsmReferenceIdeal := by
  intro m g m' g' _ hagree
  refine ⟨fun c => Cert.AdamOutSsmIdeal.Update.resG m c, fun c => Cert.AdamOutSsmIdeal.Update.resD m c,
    fun c => Cert.AdamOutSsmIdeal.Update.resM m c, fun c => Cert.AdamOutSsmIdeal.Update.resV m c, Cert.AdamOutSsmIdeal.Update.run m g, ?_⟩
  refine (θ_run Cert.AdamOutSsmReferenceIdeal.defs _ _).mono
    (fun r h c => ⟨(h c).1.trans ?_, (h c).2.1.trans ?_, (h c).2.2.1.trans ?_, (h c).2.2.2.1.trans ?_, (h c).2.2.2.2⟩)
    (Cert.AdamOutSsmReferenceIdeal.Update.run m' g')
  · rw [(hagree c).1]
  · rw [(hagree c).1, (hagree c).2.1, (hagree c).2.2.1, (hagree c).2.2.2]
    rfl
  · rw [(hagree c).1, (hagree c).2.2.1]
    rfl
  · rw [(hagree c).1, (hagree c).2.2.2]
    rfl

end Cert.Proof

end
-- ==== Proof.AdamInSsm.lean ====
/- The value of `AdamInSsm`, the AdamW update of one device's shard of the SSM input weight, transposed: the gradient is the
   sum of the devices' parts, which arrive in three arrays, and gradient, weight change, new first moment and new second
   moment are, entry by entry, the functions of parts, weight and moments that the reference computes. -/
module

public import proofs.«01_k».proof.Defs
public import proofs.«01_k».proof.Proof.Gen.AdamInSsmIdeal.Value
public import proofs.«01_k».proof.Proof.Gen.AdamInSsmReferenceIdeal.Run
public import Idealize.ShloMosaic.Lib.Pointwise
public import Idealize.ShloMosaic.Lib.Claim

@[expose] public section

noncomputable section

namespace Cert.AdamInSsmIdeal.Update

open Cert.AdamInSsmIdeal Cert.AdamInSsmIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The new first moment of an entry with gradient `g`. -/
def moment (g μ : Ideal .f32) : Ideal .f32 :=
  FloatOps.addf (FloatOps.mulf (Scalar.ofBits .f32 0x3F666666#32) μ) (FloatOps.mulf (Scalar.ofBits .f32 0x3DCCCCCD#32) g)

/-- The new second moment of an entry with gradient `g`. -/
def square (g ν : Ideal .f32) : Ideal .f32 :=
  FloatOps.addf (FloatOps.mulf (Scalar.ofBits .f32 0x3F7FBE77#32) ν)
    (FloatOps.mulf (Scalar.ofBits .f32 0x3A83126F#32) (FloatOps.mulf g g))

/-- The change of an entry with gradient `g` and weight `w`. -/
def change (g w μ ν : Ideal .f32) : Ideal .f32 :=
  FloatOps.mulf (Scalar.ofBits .f32 0xBA83126F#32)
    (FloatOps.addf
      (FloatOps.divf (FloatOps.divf (moment g μ) (Scalar.ofBits .f32 0x3F26BD02#32))
        (FloatOps.addf (FloatOps.sqrt (FloatOps.divf (square g ν) (Scalar.ofBits .f32 0x3C231ACC#32))) (Scalar.ofBits .f32 0x322BCC77#32)))
      (FloatOps.mulf (Scalar.ofBits .f32 0x3C23D70A#32) w))

/-- The sum of the eight devices' parts: six in one array, and one in each of two more. -/
def total (x0 : Vec Ideal S6x2320x4096 .bf16) (x1 x2 : Vec Ideal S1x2320x4096 .bf16) : Vec Ideal S1x2320x4096 .f32 :=
  fun i => (((∑ s : Fin 6, (x0 (ix3 s (i 1) (i 2)) : EReal)) + (x1 (ix3 0 (i 1) (i 2)) : EReal)) + (x2 (ix3 0 (i 1) (i 2)) : EReal) : EReal)

/-- A point sums its block of the parts. -/
theorem grad_apply (x0 : Vec Ideal S6x80x2048 .bf16) (x1 x2 : Vec Ideal S1x80x2048 .bf16) (x3 x4 x5 : Vec Ideal S1x80x2048 .f32) (p : Fin 80) (q : Fin 2048) :
    k0_pay8 x0 x1 x2 x3 x4 x5 (ix2 p q)
      = (((∑ s : Fin 6, (x0 (ix3 s p q) : EReal)) + (x1 (ix3 0 p q) : EReal)) + (x2 (ix3 0 p q) : EReal) : EReal) := by
  unfold k0_pay8 k0_pay3
  pointwise
  rw [Fin.sum_univ_six]

/-- The payloads, entry by entry. -/
theorem moment_apply (g : FVec Ideal S80x2048 .f32) (x : Vec Ideal S1x80x2048 .f32) (p : Fin 80) (q : Fin 2048) :
    k0_pay4 g x (ix2 p q) = moment (g (ix2 p q)) (x (ix3 0 p q)) := by
  unfold k0_pay4 moment
  pointwise

theorem square_apply (g : FVec Ideal S80x2048 .f32) (x : Vec Ideal S1x80x2048 .f32) (p : Fin 80) (q : Fin 2048) :
    k0_pay5 g x (ix2 p q) = square (g (ix2 p q)) (x (ix3 0 p q)) := by
  unfold k0_pay5 square
  pointwise

theorem change_apply (g : FVec Ideal S80x2048 .f32) (w x y : Vec Ideal S1x80x2048 .f32) (p : Fin 80) (q : Fin 2048) :
    k0_pay7 g w x y (ix3 0 p q) = change (g (ix2 p q)) (w (ix3 0 p q)) (x (ix3 0 p q)) (y (ix3 0 p q)) := by
  unfold k0_pay7 k0_pay4 k0_pay5 change moment square
  pointwise

/-- What the body leaves in the four output blocks, entry by entry. -/
theorem out_grad (x0 : Vec Ideal S6x80x2048 .bf16) (x1 : Vec Ideal S1x80x2048 .bf16) (x2 : Vec Ideal S1x80x2048 .bf16) (x3 x4 x5 : Vec Ideal S1x80x2048 .f32) (p : Fin 80) (q : Fin 2048) :
    out0_6 x0 x1 x2 x3 x4 x5 (ix3 0 p q) = k0_pay8 x0 x1 x2 x3 x4 x5 (ix2 p q) := by
  unfold out0_6
  rw [View.canon_unit_zero hz3]
  unfold k0_pay6
  pointwise

theorem out_change (x0 : Vec Ideal S6x80x2048 .bf16) (x1 : Vec Ideal S1x80x2048 .bf16) (x2 : Vec Ideal S1x80x2048 .bf16) (x3 x4 x5 : Vec Ideal S1x80x2048 .f32) (p : Fin 80) (q : Fin 2048) :
    out0_7 x0 x1 x2 x3 x4 x5 (ix3 0 p q) = change (k0_pay8 x0 x1 x2 x3 x4 x5 (ix2 p q)) (x3 (ix3 0 p q)) (x4 (ix3 0 p q)) (x5 (ix3 0 p q)) := by
  unfold out0_7
  rw [View.canon_unit_zero hz3, change_apply, View.ld_unit_zero (S := S1x80x2048) hz3, View.ld_unit_zero (S := S1x80x2048) hz3, View.ld_unit_zero (S := S1x80x2048) hz3]

theorem out_moment (x0 : Vec Ideal S6x80x2048 .bf16) (x1 : Vec Ideal S1x80x2048 .bf16) (x2 : Vec Ideal S1x80x2048 .bf16) (x3 x4 x5 : Vec Ideal S1x80x2048 .f32) (p : Fin 80) (q : Fin 2048) :
    out0_8 x0 x1 x2 x3 x4 x5 (ix3 0 p q) = moment (k0_pay8 x0 x1 x2 x3 x4 x5 (ix2 p q)) (x4 (ix3 0 p q)) := by
  unfold out0_8
  rw [View.canon_unit_zero hz3, View.ld_unit_zero (S := S1x80x2048) hz3, ← moment_apply]
  unfold k0_pay1
  pointwise

theorem out_square (x0 : Vec Ideal S6x80x2048 .bf16) (x1 : Vec Ideal S1x80x2048 .bf16) (x2 : Vec Ideal S1x80x2048 .bf16) (x3 x4 x5 : Vec Ideal S1x80x2048 .f32) (p : Fin 80) (q : Fin 2048) :
    out0_9 x0 x1 x2 x3 x4 x5 (ix3 0 p q) = square (k0_pay8 x0 x1 x2 x3 x4 x5 (ix2 p q)) (x5 (ix3 0 p q)) := by
  unfold out0_9
  rw [View.canon_unit_zero hz3, View.ld_unit_zero (S := S1x80x2048) hz3, ← square_apply]
  unfold k0_pay2
  pointwise

theorem index_0 : ∀ t : Fin grid0.N, win0_0.index t 0 = 0 ∧ win0_0.index t 1 = (t.val / 2) ∧ win0_0.index t 2 = (t.val % 2) := by
  decide +kernel

theorem block_0 (c : Dev nD) (t : Fin cfg0.N) (s : Fin 6) (p : Fin 80) (q : Fin 2048) (i : Fin 2320) (j : Fin 4096) (hi : i.val = (t.val / 2) * 80 + p.val) (hj : j.val = (t.val % 2) * 2048 + q.val) :
    (iblk m c 0 t : Vec Ideal S6x80x2048 .bf16) (ix3 s p q) = m ((c : Thread nD τ).loc main_arg0) (ix3 s i j) := by
  unfold iblk
  rw [View.read_apply]
  show m ((c : Thread nD τ).loc main_arg0) _ = m ((c : Thread nD τ).loc main_arg0) _
  congr 1
  funext a
  apply Fin.ext
  obtain ⟨h0, h1, h2⟩ := index_0 t
  match a with
  | ⟨0, _⟩ => show win0_0.index t 0 * 6 + 1 * s.val = s.val; rw [h0]; omega
  | ⟨1, _⟩ => show win0_0.index t 1 * 80 + 1 * p.val = i.val; rw [h1]; omega
  | ⟨2, _⟩ => show win0_0.index t 2 * 2048 + 1 * q.val = j.val; rw [h2]; omega

theorem index_1 : ∀ t : Fin grid0.N, win0_1.index t 0 = 0 ∧ win0_1.index t 1 = (t.val / 2) ∧ win0_1.index t 2 = (t.val % 2) := by
  decide +kernel

theorem block_1 (c : Dev nD) (t : Fin cfg0.N) (s : Fin 1) (p : Fin 80) (q : Fin 2048) (i : Fin 2320) (j : Fin 4096) (hi : i.val = (t.val / 2) * 80 + p.val) (hj : j.val = (t.val % 2) * 2048 + q.val) :
    (iblk m c 1 t : Vec Ideal S1x80x2048 .bf16) (ix3 s p q) = m ((c : Thread nD τ).loc main_arg1) (ix3 s i j) := by
  unfold iblk
  rw [View.read_apply]
  show m ((c : Thread nD τ).loc main_arg1) _ = m ((c : Thread nD τ).loc main_arg1) _
  congr 1
  funext a
  apply Fin.ext
  obtain ⟨h0, h1, h2⟩ := index_1 t
  match a with
  | ⟨0, _⟩ => show win0_1.index t 0 * 1 + 1 * s.val = s.val; rw [h0]; omega
  | ⟨1, _⟩ => show win0_1.index t 1 * 80 + 1 * p.val = i.val; rw [h1]; omega
  | ⟨2, _⟩ => show win0_1.index t 2 * 2048 + 1 * q.val = j.val; rw [h2]; omega

theorem index_2 : ∀ t : Fin grid0.N, win0_2.index t 0 = 0 ∧ win0_2.index t 1 = (t.val / 2) ∧ win0_2.index t 2 = (t.val % 2) := by
  decide +kernel

theorem block_2 (c : Dev nD) (t : Fin cfg0.N) (s : Fin 1) (p : Fin 80) (q : Fin 2048) (i : Fin 2320) (j : Fin 4096) (hi : i.val = (t.val / 2) * 80 + p.val) (hj : j.val = (t.val % 2) * 2048 + q.val) :
    (iblk m c 2 t : Vec Ideal S1x80x2048 .bf16) (ix3 s p q) = m ((c : Thread nD τ).loc main_arg2) (ix3 s i j) := by
  unfold iblk
  rw [View.read_apply]
  show m ((c : Thread nD τ).loc main_arg2) _ = m ((c : Thread nD τ).loc main_arg2) _
  congr 1
  funext a
  apply Fin.ext
  obtain ⟨h0, h1, h2⟩ := index_2 t
  match a with
  | ⟨0, _⟩ => show win0_2.index t 0 * 1 + 1 * s.val = s.val; rw [h0]; omega
  | ⟨1, _⟩ => show win0_2.index t 1 * 80 + 1 * p.val = i.val; rw [h1]; omega
  | ⟨2, _⟩ => show win0_2.index t 2 * 2048 + 1 * q.val = j.val; rw [h2]; omega

theorem index_3 : ∀ t : Fin grid0.N, win0_3.index t 0 = 0 ∧ win0_3.index t 1 = (t.val / 2) ∧ win0_3.index t 2 = (t.val % 2) := by
  decide +kernel

theorem block_3 (c : Dev nD) (t : Fin cfg0.N) (p : Fin 80) (q : Fin 2048) (i : Fin 2320) (j : Fin 4096) (hi : i.val = (t.val / 2) * 80 + p.val) (hj : j.val = (t.val % 2) * 2048 + q.val) :
    (iblk m c 3 t : Vec Ideal S1x80x2048 .f32) (ix3 0 p q) = m ((c : Thread nD τ).loc main_arg3) (ix3 0 i j) := by
  unfold iblk
  rw [View.read_apply]
  show m ((c : Thread nD τ).loc main_arg3) _ = m ((c : Thread nD τ).loc main_arg3) _
  congr 1
  funext a
  apply Fin.ext
  obtain ⟨h0, h1, h2⟩ := index_3 t
  match a with
  | ⟨0, _⟩ => show win0_3.index t 0 * 1 + 1 * (0 : Fin 1).val = (0 : Fin 1).val; rw [h0]; rfl
  | ⟨1, _⟩ => show win0_3.index t 1 * 80 + 1 * p.val = i.val; rw [h1]; omega
  | ⟨2, _⟩ => show win0_3.index t 2 * 2048 + 1 * q.val = j.val; rw [h2]; omega

theorem index_4 : ∀ t : Fin grid0.N, win0_4.index t 0 = 0 ∧ win0_4.index t 1 = (t.val / 2) ∧ win0_4.index t 2 = (t.val % 2) := by
  decide +kernel

theorem block_4 (c : Dev nD) (t : Fin cfg0.N) (p : Fin 80) (q : Fin 2048) (i : Fin 2320) (j : Fin 4096) (hi : i.val = (t.val / 2) * 80 + p.val) (hj : j.val = (t.val % 2) * 2048 + q.val) :
    (iblk m c 4 t : Vec Ideal S1x80x2048 .f32) (ix3 0 p q) = m ((c : Thread nD τ).loc main_arg4) (ix3 0 i j) := by
  unfold iblk
  rw [View.read_apply]
  show m ((c : Thread nD τ).loc main_arg4) _ = m ((c : Thread nD τ).loc main_arg4) _
  congr 1
  funext a
  apply Fin.ext
  obtain ⟨h0, h1, h2⟩ := index_4 t
  match a with
  | ⟨0, _⟩ => show win0_4.index t 0 * 1 + 1 * (0 : Fin 1).val = (0 : Fin 1).val; rw [h0]; rfl
  | ⟨1, _⟩ => show win0_4.index t 1 * 80 + 1 * p.val = i.val; rw [h1]; omega
  | ⟨2, _⟩ => show win0_4.index t 2 * 2048 + 1 * q.val = j.val; rw [h2]; omega

theorem index_5 : ∀ t : Fin grid0.N, win0_5.index t 0 = 0 ∧ win0_5.index t 1 = (t.val / 2) ∧ win0_5.index t 2 = (t.val % 2) := by
  decide +kernel

theorem block_5 (c : Dev nD) (t : Fin cfg0.N) (p : Fin 80) (q : Fin 2048) (i : Fin 2320) (j : Fin 4096) (hi : i.val = (t.val / 2) * 80 + p.val) (hj : j.val = (t.val % 2) * 2048 + q.val) :
    (iblk m c 5 t : Vec Ideal S1x80x2048 .f32) (ix3 0 p q) = m ((c : Thread nD τ).loc main_arg5) (ix3 0 i j) := by
  unfold iblk
  rw [View.read_apply]
  show m ((c : Thread nD τ).loc main_arg5) _ = m ((c : Thread nD τ).loc main_arg5) _
  congr 1
  funext a
  apply Fin.ext
  obtain ⟨h0, h1, h2⟩ := index_5 t
  match a with
  | ⟨0, _⟩ => show win0_5.index t 0 * 1 + 1 * (0 : Fin 1).val = (0 : Fin 1).val; rw [h0]; rfl
  | ⟨1, _⟩ => show win0_5.index t 1 * 80 + 1 * p.val = i.val; rw [h1]; omega
  | ⟨2, _⟩ => show win0_5.index t 2 * 2048 + 1 * q.val = j.val; rw [h2]; omega

/-- The gradient that point `t` sums is its block of the whole sum. -/
theorem grad_block (c : Dev nD) (t : Fin cfg0.N) (p : Fin 80) (q : Fin 2048) (i : Fin 2320) (j : Fin 4096) (hi : i.val = (t.val / 2) * 80 + p.val) (hj : j.val = (t.val % 2) * 2048 + q.val) :
    k0_pay8 (iblk m c 0 t) (iblk m c 1 t) (iblk m c 2 t) (iblk m c 3 t) (iblk m c 4 t) (iblk m c 5 t) (ix2 p q)
      = total (m ((c : Thread nD τ).loc main_arg0)) (m ((c : Thread nD τ).loc main_arg1)) (m ((c : Thread nD τ).loc main_arg2)) (ix3 0 i j) := by
  rw [grad_apply]
  refine congrArg₂ (fun a b : EReal => a + b) (congrArg₂ (fun a b : EReal => a + b) (Finset.sum_congr rfl fun s _ => ?_) ?_) ?_
  · exact block_0 m c t s p q i j hi hj
  · exact block_1 m c t 0 p q i j hi hj
  · exact block_2 m c t 0 p q i j hi hj

/-- The four result arrays after the run. -/
abbrev resG (c : Dev nD) : Buf (Elt Ideal) ((c : Thread nD τ).loc main_v0_0) :=
  total (m ((c : Thread nD τ).loc main_arg0)) (m ((c : Thread nD τ).loc main_arg1)) (m ((c : Thread nD τ).loc main_arg2))

abbrev resD (c : Dev nD) : Buf (Elt Ideal) ((c : Thread nD τ).loc main_v0_1) :=
  fun i => change (total (m ((c : Thread nD τ).loc main_arg0)) (m ((c : Thread nD τ).loc main_arg1)) (m ((c : Thread nD τ).loc main_arg2)) i) (m ((c : Thread nD τ).loc main_arg3) i)
    (m ((c : Thread nD τ).loc main_arg4) i) (m ((c : Thread nD τ).loc main_arg5) i)

abbrev resM (c : Dev nD) : Buf (Elt Ideal) ((c : Thread nD τ).loc main_v0_2) :=
  fun i => moment (total (m ((c : Thread nD τ).loc main_arg0)) (m ((c : Thread nD τ).loc main_arg1)) (m ((c : Thread nD τ).loc main_arg2)) i) (m ((c : Thread nD τ).loc main_arg4) i)

abbrev resV (c : Dev nD) : Buf (Elt Ideal) ((c : Thread nD τ).loc main_v0_3) :=
  fun i => square (total (m ((c : Thread nD τ).loc main_arg0)) (m ((c : Thread nD τ).loc main_arg1)) (m ((c : Thread nD τ).loc main_arg2)) i) (m ((c : Thread nD τ).loc main_arg5) i)

theorem index_6 : ∀ t : Fin grid0.N, win0_6.index t 0 = 0 ∧ win0_6.index t 1 = (t.val / 2) ∧ win0_6.index t 2 = (t.val % 2) := by
  decide +kernel

/-- Point `t` writes its block of the result. -/
theorem flushed_G (c : Dev nD) (t : Fin cfg0.N) :
    (dats m 0 c).flushed 6 t = ((cfg0.win 6).blk t).view.read (Elt Ideal) (resG m c) := by
  rw [Value.flushed6]
  have ht : t.val < 58 := lt_of_lt_of_eq t.isLt N_0
  obtain ⟨h0, h1, h2⟩ := index_6 t
  funext y
  rw [View.read_apply]
  obtain ⟨p, q, rfl⟩ : ∃ (p : Fin 80) (q : Fin 2048), y = ix3 0 p q := ⟨y 1, y 2, by funext a; fin_cases a; exacts [Fin.ext (by have h : (y 0 : Nat) < 1 := (y 0).isLt; show (y 0 : Nat) = 0; omega), rfl, rfl]⟩
  have e : ((cfg0.win 6).blk t).view.emb (ix3 0 p q) = (ix3 0 ⟨(t.val / 2) * 80 + p.val, by omega⟩ ⟨(t.val % 2) * 2048 + q.val, by omega⟩ : S1x2320x4096.Idx) := by
    funext a
    apply Fin.ext
    match a with
    | ⟨0, _⟩ => show win0_6.index t 0 * 1 + 1 * (0 : Fin 1).val = (0 : Fin 1).val; rw [h0]; rfl
    | ⟨1, _⟩ => show win0_6.index t 1 * 80 + 1 * p.val = (t.val / 2) * 80 + p.val; rw [h1]; omega
    | ⟨2, _⟩ => show win0_6.index t 2 * 2048 + 1 * q.val = (t.val % 2) * 2048 + q.val; rw [h2]; omega
  have hi : ((⟨(t.val / 2) * 80 + p.val, by omega⟩ : Fin 2320) : Nat) = (t.val / 2) * 80 + p.val := rfl
  have hj : ((⟨(t.val % 2) * 2048 + q.val, by omega⟩ : Fin 4096) : Nat) = (t.val % 2) * 2048 + q.val := rfl
  show out0_6 (iblk m c 0 t) (iblk m c 1 t) (iblk m c 2 t) (iblk m c 3 t) (iblk m c 4 t) (iblk m c 5 t) (ix3 0 p q) = resG m c (((cfg0.win 6).blk t).view.emb (ix3 0 p q))
  refine Eq.trans ?_ (congrArg (resG m c) e).symm
  rw [out_grad, grad_block m c t p q _ _ hi hj]

theorem final_G (c : Dev nD) : (dats m 0 c).arrAt 6 cfg0.N = resG m c :=
  (dats m 0 c).arrAt_eq_of_cover 6 (resG m c) (fun t _ => flushed_G m c t) fun i => by
    have b0 : (i 0 : Nat) < 1 := (i 0).isLt
    have b1 : (i 1 : Nat) < 2320 := (i 1).isLt
    have b2 : (i 2 : Nat) < 4096 := (i 2).isLt
    obtain ⟨t, ht⟩ : ∃ t : Fin cfg0.N, t.val = (i 1 : Nat) / 80 * 2 + (i 2 : Nat) / 2048 :=
      ⟨⟨(i 1 : Nat) / 80 * 2 + (i 2 : Nat) / 2048, lt_of_lt_of_eq (by omega) N_0.symm⟩, rfl⟩
    obtain ⟨h0, h1, h2⟩ := index_6 t
    refine ⟨t, flush0_6 t, ?_⟩
    show i ∈ ((View.whole main_v0_0).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [h0]; omega
    | ⟨1, _⟩ => show win0_6.index t 1 * 80 ≤ (i 1 : Nat) ∧ (i 1 : Nat) < win0_6.index t 1 * 80 + 80
                rw [h1]; omega
    | ⟨2, _⟩ => show win0_6.index t 2 * 2048 ≤ (i 2 : Nat) ∧ (i 2 : Nat) < win0_6.index t 2 * 2048 + 2048
                rw [h2]; omega

theorem index_7 : ∀ t : Fin grid0.N, win0_7.index t 0 = 0 ∧ win0_7.index t 1 = (t.val / 2) ∧ win0_7.index t 2 = (t.val % 2) := by
  decide +kernel

/-- Point `t` writes its block of the result. -/
theorem flushed_D (c : Dev nD) (t : Fin cfg0.N) :
    (dats m 0 c).flushed 7 t = ((cfg0.win 7).blk t).view.read (Elt Ideal) (resD m c) := by
  rw [Value.flushed7]
  have ht : t.val < 58 := lt_of_lt_of_eq t.isLt N_0
  obtain ⟨h0, h1, h2⟩ := index_7 t
  funext y
  rw [View.read_apply]
  obtain ⟨p, q, rfl⟩ : ∃ (p : Fin 80) (q : Fin 2048), y = ix3 0 p q := ⟨y 1, y 2, by funext a; fin_cases a; exacts [Fin.ext (by have h : (y 0 : Nat) < 1 := (y 0).isLt; show (y 0 : Nat) = 0; omega), rfl, rfl]⟩
  have e : ((cfg0.win 7).blk t).view.emb (ix3 0 p q) = (ix3 0 ⟨(t.val / 2) * 80 + p.val, by omega⟩ ⟨(t.val % 2) * 2048 + q.val, by omega⟩ : S1x2320x4096.Idx) := by
    funext a
    apply Fin.ext
    match a with
    | ⟨0, _⟩ => show win0_7.index t 0 * 1 + 1 * (0 : Fin 1).val = (0 : Fin 1).val; rw [h0]; rfl
    | ⟨1, _⟩ => show win0_7.index t 1 * 80 + 1 * p.val = (t.val / 2) * 80 + p.val; rw [h1]; omega
    | ⟨2, _⟩ => show win0_7.index t 2 * 2048 + 1 * q.val = (t.val % 2) * 2048 + q.val; rw [h2]; omega
  have hi : ((⟨(t.val / 2) * 80 + p.val, by omega⟩ : Fin 2320) : Nat) = (t.val / 2) * 80 + p.val := rfl
  have hj : ((⟨(t.val % 2) * 2048 + q.val, by omega⟩ : Fin 4096) : Nat) = (t.val % 2) * 2048 + q.val := rfl
  show out0_7 (iblk m c 0 t) (iblk m c 1 t) (iblk m c 2 t) (iblk m c 3 t) (iblk m c 4 t) (iblk m c 5 t) (ix3 0 p q) = resD m c (((cfg0.win 7).blk t).view.emb (ix3 0 p q))
  refine Eq.trans ?_ (congrArg (resD m c) e).symm
  rw [out_change, grad_block m c t p q _ _ hi hj, block_3 m c t p q _ _ hi hj, block_4 m c t p q _ _ hi hj, block_5 m c t p q _ _ hi hj]

theorem final_D (c : Dev nD) : (dats m 0 c).arrAt 7 cfg0.N = resD m c :=
  (dats m 0 c).arrAt_eq_of_cover 7 (resD m c) (fun t _ => flushed_D m c t) fun i => by
    have b0 : (i 0 : Nat) < 1 := (i 0).isLt
    have b1 : (i 1 : Nat) < 2320 := (i 1).isLt
    have b2 : (i 2 : Nat) < 4096 := (i 2).isLt
    obtain ⟨t, ht⟩ : ∃ t : Fin cfg0.N, t.val = (i 1 : Nat) / 80 * 2 + (i 2 : Nat) / 2048 :=
      ⟨⟨(i 1 : Nat) / 80 * 2 + (i 2 : Nat) / 2048, lt_of_lt_of_eq (by omega) N_0.symm⟩, rfl⟩
    obtain ⟨h0, h1, h2⟩ := index_7 t
    refine ⟨t, flush0_7 t, ?_⟩
    show i ∈ ((View.whole main_v0_1).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [h0]; omega
    | ⟨1, _⟩ => show win0_7.index t 1 * 80 ≤ (i 1 : Nat) ∧ (i 1 : Nat) < win0_7.index t 1 * 80 + 80
                rw [h1]; omega
    | ⟨2, _⟩ => show win0_7.index t 2 * 2048 ≤ (i 2 : Nat) ∧ (i 2 : Nat) < win0_7.index t 2 * 2048 + 2048
                rw [h2]; omega

theorem index_8 : ∀ t : Fin grid0.N, win0_8.index t 0 = 0 ∧ win0_8.index t 1 = (t.val / 2) ∧ win0_8.index t 2 = (t.val % 2) := by
  decide +kernel

/-- Point `t` writes its block of the result. -/
theorem flushed_M (c : Dev nD) (t : Fin cfg0.N) :
    (dats m 0 c).flushed 8 t = ((cfg0.win 8).blk t).view.read (Elt Ideal) (resM m c) := by
  rw [Value.flushed8]
  have ht : t.val < 58 := lt_of_lt_of_eq t.isLt N_0
  obtain ⟨h0, h1, h2⟩ := index_8 t
  funext y
  rw [View.read_apply]
  obtain ⟨p, q, rfl⟩ : ∃ (p : Fin 80) (q : Fin 2048), y = ix3 0 p q := ⟨y 1, y 2, by funext a; fin_cases a; exacts [Fin.ext (by have h : (y 0 : Nat) < 1 := (y 0).isLt; show (y 0 : Nat) = 0; omega), rfl, rfl]⟩
  have e : ((cfg0.win 8).blk t).view.emb (ix3 0 p q) = (ix3 0 ⟨(t.val / 2) * 80 + p.val, by omega⟩ ⟨(t.val % 2) * 2048 + q.val, by omega⟩ : S1x2320x4096.Idx) := by
    funext a
    apply Fin.ext
    match a with
    | ⟨0, _⟩ => show win0_8.index t 0 * 1 + 1 * (0 : Fin 1).val = (0 : Fin 1).val; rw [h0]; rfl
    | ⟨1, _⟩ => show win0_8.index t 1 * 80 + 1 * p.val = (t.val / 2) * 80 + p.val; rw [h1]; omega
    | ⟨2, _⟩ => show win0_8.index t 2 * 2048 + 1 * q.val = (t.val % 2) * 2048 + q.val; rw [h2]; omega
  have hi : ((⟨(t.val / 2) * 80 + p.val, by omega⟩ : Fin 2320) : Nat) = (t.val / 2) * 80 + p.val := rfl
  have hj : ((⟨(t.val % 2) * 2048 + q.val, by omega⟩ : Fin 4096) : Nat) = (t.val % 2) * 2048 + q.val := rfl
  show out0_8 (iblk m c 0 t) (iblk m c 1 t) (iblk m c 2 t) (iblk m c 3 t) (iblk m c 4 t) (iblk m c 5 t) (ix3 0 p q) = resM m c (((cfg0.win 8).blk t).view.emb (ix3 0 p q))
  refine Eq.trans ?_ (congrArg (resM m c) e).symm
  rw [out_moment, grad_block m c t p q _ _ hi hj, block_4 m c t p q _ _ hi hj]

theorem final_M (c : Dev nD) : (dats m 0 c).arrAt 8 cfg0.N = resM m c :=
  (dats m 0 c).arrAt_eq_of_cover 8 (resM m c) (fun t _ => flushed_M m c t) fun i => by
    have b0 : (i 0 : Nat) < 1 := (i 0).isLt
    have b1 : (i 1 : Nat) < 2320 := (i 1).isLt
    have b2 : (i 2 : Nat) < 4096 := (i 2).isLt
    obtain ⟨t, ht⟩ : ∃ t : Fin cfg0.N, t.val = (i 1 : Nat) / 80 * 2 + (i 2 : Nat) / 2048 :=
      ⟨⟨(i 1 : Nat) / 80 * 2 + (i 2 : Nat) / 2048, lt_of_lt_of_eq (by omega) N_0.symm⟩, rfl⟩
    obtain ⟨h0, h1, h2⟩ := index_8 t
    refine ⟨t, flush0_8 t, ?_⟩
    show i ∈ ((View.whole main_v0_2).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [h0]; omega
    | ⟨1, _⟩ => show win0_8.index t 1 * 80 ≤ (i 1 : Nat) ∧ (i 1 : Nat) < win0_8.index t 1 * 80 + 80
                rw [h1]; omega
    | ⟨2, _⟩ => show win0_8.index t 2 * 2048 ≤ (i 2 : Nat) ∧ (i 2 : Nat) < win0_8.index t 2 * 2048 + 2048
                rw [h2]; omega

theorem index_9 : ∀ t : Fin grid0.N, win0_9.index t 0 = 0 ∧ win0_9.index t 1 = (t.val / 2) ∧ win0_9.index t 2 = (t.val % 2) := by
  decide +kernel

/-- Point `t` writes its block of the result. -/
theorem flushed_V (c : Dev nD) (t : Fin cfg0.N) :
    (dats m 0 c).flushed 9 t = ((cfg0.win 9).blk t).view.read (Elt Ideal) (resV m c) := by
  rw [Value.flushed9]
  have ht : t.val < 58 := lt_of_lt_of_eq t.isLt N_0
  obtain ⟨h0, h1, h2⟩ := index_9 t
  funext y
  rw [View.read_apply]
  obtain ⟨p, q, rfl⟩ : ∃ (p : Fin 80) (q : Fin 2048), y = ix3 0 p q := ⟨y 1, y 2, by funext a; fin_cases a; exacts [Fin.ext (by have h : (y 0 : Nat) < 1 := (y 0).isLt; show (y 0 : Nat) = 0; omega), rfl, rfl]⟩
  have e : ((cfg0.win 9).blk t).view.emb (ix3 0 p q) = (ix3 0 ⟨(t.val / 2) * 80 + p.val, by omega⟩ ⟨(t.val % 2) * 2048 + q.val, by omega⟩ : S1x2320x4096.Idx) := by
    funext a
    apply Fin.ext
    match a with
    | ⟨0, _⟩ => show win0_9.index t 0 * 1 + 1 * (0 : Fin 1).val = (0 : Fin 1).val; rw [h0]; rfl
    | ⟨1, _⟩ => show win0_9.index t 1 * 80 + 1 * p.val = (t.val / 2) * 80 + p.val; rw [h1]; omega
    | ⟨2, _⟩ => show win0_9.index t 2 * 2048 + 1 * q.val = (t.val % 2) * 2048 + q.val; rw [h2]; omega
  have hi : ((⟨(t.val / 2) * 80 + p.val, by omega⟩ : Fin 2320) : Nat) = (t.val / 2) * 80 + p.val := rfl
  have hj : ((⟨(t.val % 2) * 2048 + q.val, by omega⟩ : Fin 4096) : Nat) = (t.val % 2) * 2048 + q.val := rfl
  show out0_9 (iblk m c 0 t) (iblk m c 1 t) (iblk m c 2 t) (iblk m c 3 t) (iblk m c 4 t) (iblk m c 5 t) (ix3 0 p q) = resV m c (((cfg0.win 9).blk t).view.emb (ix3 0 p q))
  refine Eq.trans ?_ (congrArg (resV m c) e).symm
  rw [out_square, grad_block m c t p q _ _ hi hj, block_5 m c t p q _ _ hi hj]

theorem final_V (c : Dev nD) : (dats m 0 c).arrAt 9 cfg0.N = resV m c :=
  (dats m 0 c).arrAt_eq_of_cover 9 (resV m c) (fun t _ => flushed_V m c t) fun i => by
    have b0 : (i 0 : Nat) < 1 := (i 0).isLt
    have b1 : (i 1 : Nat) < 2320 := (i 1).isLt
    have b2 : (i 2 : Nat) < 4096 := (i 2).isLt
    obtain ⟨t, ht⟩ : ∃ t : Fin cfg0.N, t.val = (i 1 : Nat) / 80 * 2 + (i 2 : Nat) / 2048 :=
      ⟨⟨(i 1 : Nat) / 80 * 2 + (i 2 : Nat) / 2048, lt_of_lt_of_eq (by omega) N_0.symm⟩, rfl⟩
    obtain ⟨h0, h1, h2⟩ := index_9 t
    refine ⟨t, flush0_9 t, ?_⟩
    show i ∈ ((View.whole main_v0_3).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [h0]; omega
    | ⟨1, _⟩ => show win0_9.index t 1 * 80 ≤ (i 1 : Nat) ∧ (i 1 : Nat) < win0_9.index t 1 * 80 + 80
                rw [h1]; omega
    | ⟨2, _⟩ => show win0_9.index t 2 * 2048 ≤ (i 2 : Nat) ∧ (i 2 : Nat) < win0_9.index t 2 * 2048 + 2048
                rw [h2]; omega

/-- The kernel's run: its results are these arrays, its arguments unchanged. -/
theorem run : θ_run defs (onTc (τ := τ) (main (F := Ideal))) ⟨m, fun _ => 0, ρ⟩ fun r => ∀ c : Dev nD,
      r.2.mem ((c : Thread nD τ).loc main_v0_0) = resG m c
      ∧ r.2.mem ((c : Thread nD τ).loc main_v0_1) = resD m c
      ∧ r.2.mem ((c : Thread nD τ).loc main_v0_2) = resM m c
      ∧ r.2.mem ((c : Thread nD τ).loc main_v0_3) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_G m c), (h c).2.1.trans (final_D m c),
    (h c).2.2.1.trans (final_M m c), (h c).2.2.2.1.trans (final_V m c), (h c).2.2.2.2⟩) (Value.run_blocks m ρ)

end Cert.AdamInSsmIdeal.Update

namespace Cert.AdamInSsmReferenceIdeal.Update

open Cert.AdamInSsmReferenceIdeal Cert.AdamInSsmReferenceIdeal.Gen Idealize.ShloMosaic Idealize.ShloMosaic.TcCoe Idealize.SL.Sem
open Cert.AdamInSsmIdeal.Update (total change moment square)

/-- The reference's gradient is the same sum of the parts. -/
theorem total_eq (x0 : Vec Ideal S6x2320x4096 .bf16) (x1 : Vec Ideal S1x2320x4096 .bf16) (x2 : Vec Ideal S1x2320x4096 .bf16) :
    (broadcastInDim S1x2320x4096 ![1, 2] bcast_S2320x4096_S1x2320x4096_1_2 (addf (addf (Host.reduceAdd (extf .f32 x0 bitsLt_bf16_f32) (constant (F := Ideal) S_ .f32 0x00000000#32) reducesTo_S6x2320x4096_S2320x4096_d0 h_S_) (Host.reduceAdd (extf .f32 x1 bitsLt_bf16_f32) (constant (F := Ideal) S_ .f32 0x00000000#32) reducesTo_S1x2320x4096_S2320x4096_d0 h_S_)) (Host.reduceAdd (extf .f32 x2 bitsLt_bf16_f32) (constant (F := Ideal) S_ .f32 0x00000000#32) reducesTo_S1x2320x4096_S2320x4096_d0 h_S_)) : Vec Ideal S1x2320x4096 .f32) = total x0 x1 x2 := by
  funext y
  obtain ⟨z, p, q, rfl⟩ : ∃ (z : Fin 1) (p : Fin 2320) (q : Fin 4096), y = ix3 z p q := ⟨y 0, y 1, y 2, by funext a; fin_cases a <;> rfl⟩
  unfold total
  pointwise
  exact congrArg₂ (fun a b : EReal => a + b) (congrArg₂ (fun a b : EReal => a + b) rfl (Fin.sum_univ_one _)) (Fin.sum_univ_one _)

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = total (m ((c.tc : Thread nD τ).loc main_arg0)) (m ((c.tc : Thread nD τ).loc main_arg1)) (m ((c.tc : Thread nD τ).loc main_arg2))
      ∧ r.2.mem ((c.tc : Thread nD τ).loc main_v32) = (fun i => change (total (m ((c.tc : Thread nD τ).loc main_arg0)) (m ((c.tc : Thread nD τ).loc main_arg1)) (m ((c.tc : Thread nD τ).loc main_arg2)) i)
        (m ((c.tc : Thread nD τ).loc main_arg3) i) (m ((c.tc : Thread nD τ).loc main_arg4) i) (m ((c.tc : Thread nD τ).loc main_arg5) i))
      ∧ r.2.mem ((c.tc : Thread nD τ).loc main_v13) = (fun i => moment (total (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v19) = (fun i => square (total (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (total_eq ..), (h c).2.1.trans (by
    rw [total_eq]
    funext i
    rfl), (h c).2.2.1.trans (by
    rw [total_eq]
    funext i
    rfl), (h c).2.2.2.1.trans (by
    rw [total_eq]
    funext i
    rfl), (h c).2.2.2.2⟩) (Value.run (F := Ideal) m ρ)

/-- It terminates, faults nowhere, and leaves the arguments and every semaphore as they were. -/
theorem frame : quiescent_AdamInSsmReferenceIdeal := fun m ρ _ =>
  (θ_run defs _ _).mono (fun r h => ⟨fun c => (h c).2.2.2.2, sem_eq_zero_of_no_sems (by decide) r.2⟩) (Value.run (F := Ideal) m ρ)

end Cert.AdamInSsmReferenceIdeal.Update

namespace Cert.Proof

open Idealize.ShloMosaic Idealize.SL.Sem

/-- The kernel's results and the reference's are the same arrays. -/
theorem algebraic_AdamInSsm : algebraic_AdamInSsmIdeal_AdamInSsmReferenceIdeal := by
  intro m g m' g' _ hagree
  refine ⟨fun c => Cert.AdamInSsmIdeal.Update.resG m c, fun c => Cert.AdamInSsmIdeal.Update.resD m c,
    fun c => Cert.AdamInSsmIdeal.Update.resM m c, fun c => Cert.AdamInSsmIdeal.Update.resV m c, Cert.AdamInSsmIdeal.Update.run m g, ?_⟩
  refine (θ_run Cert.AdamInSsmReferenceIdeal.defs _ _).mono
    (fun r h c => ⟨(h c).1.trans ?_, (h c).2.1.trans ?_, (h c).2.2.1.trans ?_, (h c).2.2.2.1.trans ?_, (h c).2.2.2.2⟩)
    (Cert.AdamInSsmReferenceIdeal.Update.run m' g')
  · rw [(hagree c).1, (hagree c).2.1, (hagree c).2.2.1]
  · rw [(hagree c).1, (hagree c).2.1, (hagree c).2.2.1, (hagree c).2.2.2.1, (hagree c).2.2.2.2.1, (hagree c).2.2.2.2.2]
    rfl
  · rw [(hagree c).1, (hagree c).2.1, (hagree c).2.2.1, (hagree c).2.2.2.2.1]
    rfl
  · rw [(hagree c).1, (hagree c).2.1, (hagree c).2.2.1, (hagree c).2.2.2.2.2]
    rfl

end Cert.Proof

end
-- ==== Proof.SumSmall.lean ====
/- The value of `SumSmall`, the sum of the eight devices' packed gradients of the small weights: entry by entry the array
   the reference sums along its first axis. -/
module

public import proofs.«01_k».proof.Defs
public import proofs.«01_k».proof.Proof.Gen.SumSmallIdeal.Value
public import proofs.«01_k».proof.Proof.Gen.SumSmallReferenceIdeal.Run
public import Idealize.ShloMosaic.Lib.Pointwise
public import Idealize.ShloMosaic.Lib.Claim

@[expose] public section

noncomputable section

namespace Cert.SumSmallIdeal.Product

open Cert.SumSmallIdeal Cert.SumSmallIdeal.Gen Idealize.ShloMosaic

/-- The sum of the eight slots. -/
def total (x : Vec Ideal S8x608x128 .f32) : Vec Ideal S608x128 .f32 :=
  fun i => ∑ s : Fin 8, (x (ix3 s (i 0) (i 1)) : EReal)

/-- The kernel's body adds the slots one after another. -/
theorem G1_eq (x : Vec Ideal S8x608x128 .f32) : Value.G1 x = total x := by
  funext y
  obtain ⟨p, q, rfl⟩ : ∃ (p : Fin 608) (q : Fin 128), y = ix2 p q := ⟨y 0, y 1, by funext a; fin_cases a <;> rfl⟩
  unfold Value.G1 k0_pay1 total
  pointwise
  rw [Fin.sum_univ_eight]

end Cert.SumSmallIdeal.Product

namespace Cert.SumSmallReferenceIdeal.Product

open Cert.SumSmallReferenceIdeal Cert.SumSmallReferenceIdeal.Gen Idealize.ShloMosaic Idealize.ShloMosaic.TcCoe Idealize.SL.Sem
open Cert.SumSmallIdeal.Product (total)

/-- The reference's sum along the first axis is the same sum. -/
theorem sum_eq (x : Vec Ideal S8x608x128 .f32) :
    (Host.reduceAdd x (constant (F := Ideal) S_ .f32 0x00000000#32) reducesTo_S8x608x128_S608x128_d0 h_S_ : Vec Ideal S608x128 .f32) = total x := by
  funext y
  obtain ⟨p, q, rfl⟩ : ∃ (p : Fin 608) (q : Fin 128), y = ix2 p q := ⟨y 0, y 1, by funext a; fin_cases a <;> rfl⟩
  unfold total
  pointwise

/-- The reference's run: its result is that sum of its argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = total (m ((c.tc : Thread nD τ).loc main_arg0))
      ∧ r.2.mem ((c.tc : Thread nD τ).loc main_arg0) = m ((c.tc : Thread nD τ).loc main_arg0) :=
  (θ_run defs _ _).mono (fun _ h c => ⟨(h c).1.trans (sum_eq _), (h c).2⟩) (Value.run (F := Ideal) m ρ)

/-- It terminates, faults nowhere, and leaves the argument and every semaphore as they were. -/
theorem frame : quiescent_SumSmallReferenceIdeal := fun m ρ _ =>
  (θ_run defs _ _).mono (fun r h => ⟨fun c => (h c).2, sem_eq_zero_of_no_sems (by decide) r.2⟩) (Value.run (F := Ideal) m ρ)

end Cert.SumSmallReferenceIdeal.Product

namespace Cert.Proof

open Idealize.ShloMosaic Idealize.SL.Sem

/-- The kernel's result and the reference's are the same array. -/
theorem algebraic_SumSmall : algebraic_SumSmallIdeal_SumSmallReferenceIdeal := by
  intro m g m' g' _ hagree
  refine ⟨_, Cert.SumSmallIdeal.Value.run (F := Ideal) m g, ?_⟩
  refine (θ_run Cert.SumSmallReferenceIdeal.defs _ _).mono
    (fun r h c => ⟨(h c).1.trans ?_, (h c).2⟩)
    (Cert.SumSmallReferenceIdeal.Product.run m' g')
  rw [hagree c]
  exact (Cert.SumSmallIdeal.Product.G1_eq _).symm

end Cert.Proof

end
-- ==== Proof.Loss.lean ====
/- The value of `Loss`, one device's loss: half the sum over the tokens of the mean squared difference between the layer norm of
   the last residual sum and the target, accumulated over 32 tiles of 128 tokens, and so is the reference's. -/
module

public import proofs.«01_k».proof.Defs
public import proofs.«01_k».proof.Proof.Gen.LossIdeal.Value
public import proofs.«01_k».proof.Proof.Gen.LossReferenceIdeal.Run
public import Idealize.ShloMosaic.Lib.Pointwise
public import Idealize.ShloMosaic.Lib.Claim

@[expose] public section

noncomputable section

namespace Cert.LossIdeal.Product

open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The mean of a token's 4096 features. -/
def mean (f : Fin 4096 → EReal) : EReal := Ideal.div (∑ k, f k) (Ideal.ofBits .f32 0x45800000#32)

/-- A token's residual sum. -/
def resid (x h : Fin 4096 → EReal) (k : Fin 4096) : EReal := Ideal.ofBits .f32 0x3FB504F3#32 * x k + h k

/-- It less its mean. -/
def dev (x h : Fin 4096 → EReal) (k : Fin 4096) : EReal := resid x h k - mean (fun l => resid x h l)

/-- The layer norm less the target. -/
def diff (x h g b y : Fin 4096 → EReal) (k : Fin 4096) : EReal :=
  dev x h k * Ideal.rsqrt (mean (fun l => dev x h l * dev x h l) + Ideal.ofBits .f32 0x3727C5AC#32) * g k + b k - y k

/-- A token's mean squared difference. -/
def token (x h g b y : Fin 4096 → EReal) : EReal := mean (fun k => diff x h g b y k * diff x h g b y k)

/-- One half, as a word. -/
abbrev half : EReal := Ideal.ofBits .f32 0x3F000000#32

theorem half_eq : half = ((1 / 2 : ℝ) : EReal) := by
  simp [half, Ideal.ofBits, Ideal.ieee, -EReal.coe_mul]
  norm_num

/-- A tile's share of the loss. -/
theorem share_apply (x0 x1 : Vec Ideal S128x4096 .f32) (x2 x3 : Vec Ideal S1x4096 .f32) (x4 : Vec Ideal S128x4096 .f32) :
    k0_pay7 x0 x1 x2 x3 x4 (ix2 0 0) = half * ∑ p : Fin 128, token (fun k => x0 (ix2 p k)) (fun k => x1 (ix2 p k))
      (fun k => x2 (ix2 0 k)) (fun k => x3 (ix2 0 k)) (fun k => x4 (ix2 p k)) := by
  unfold k0_pay7 k0_pay6 k0_pay5 k0_pay4 k0_pay3 token diff dev resid mean
  pointwise

/-- The first point leaves its tile's share in every entry of the accumulator. -/
theorem out_A (c : Dev nD) (i : grid0.Coords) (a1 : Memref sig .tc .vmem S128x4096 .f32) (h1 : a1.IsWhole) (a2 : Memref sig .tc .vmem S128x4096 .f32) (h2 : a2.IsWhole) (a3 : Memref sig .tc .vmem S1x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .f32) (h6 : a6.IsWhole) (a7 : Memref sig .tc .vmem S128x4096 .bf16) (h7 : a7.IsWhole) (a8 : Memref sig .tc .vmem S1x4096 .f32) (h8 : a8.IsWhole) (a9 : Memref sig .tc .vmem S1x4096 .f32) (h9 : a9.IsWhole) (a10 : Memref sig .tc .vmem S8x128 .f32) (h10 : a10.IsWhole) (hc0 : cond0_0 i)
    (x0 x1 : Vec Ideal S128x4096 .f32) (x2 x3 : Vec Ideal S1x4096 .f32) (x4 : Vec Ideal S128x4096 .f32) (p : Fin 8) (q : Fin 128) :
    out0_A_9 c i a1 h1 a2 h2 a3 h3 a4 h4 a5 h5 a6 h6 a7 h7 a8 h8 a9 h9 a10 h10 hc0 x0 x1 x2 x3 x4 (ix2 p q) = k0_pay7 x0 x1 x2 x3 x4 (ix2 0 0) := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4)]
  unfold kernelRun0_A
  dsimp only
  sl_unfold_words
  rw [View.canon_cons_unit_zero hz, View.readCov_unit_zero (S := S8x128) _ hz]
  simp only [View.readAt_eq_ld, h1.read_unread, h2.read_unread, h3.read_unread, h4.read_unread, h5.read_unread, h10.read_unread,
    View.ld_unit_zero (S := S128x4096) hz, View.ld_unit_zero (S := S1x4096) hz, View.ld_unit_zero (S := S8x128) hz]
  unfold k0_pay14 k0_pay11
  pointwise

/-- A later point adds its tile's share. -/
theorem out_B (c : Dev nD) (i : grid0.Coords) (a1 : Memref sig .tc .vmem S128x4096 .f32) (h1 : a1.IsWhole) (a2 : Memref sig .tc .vmem S128x4096 .f32) (h2 : a2.IsWhole) (a3 : Memref sig .tc .vmem S1x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .f32) (h6 : a6.IsWhole) (a7 : Memref sig .tc .vmem S128x4096 .bf16) (h7 : a7.IsWhole) (a8 : Memref sig .tc .vmem S1x4096 .f32) (h8 : a8.IsWhole) (a9 : Memref sig .tc .vmem S1x4096 .f32) (h9 : a9.IsWhole) (a10 : Memref sig .tc .vmem S8x128 .f32) (h10 : a10.IsWhole) (hc0 : ¬cond0_0 i)
    (x0 x1 : Vec Ideal S128x4096 .f32) (x2 x3 : Vec Ideal S1x4096 .f32) (x4 : Vec Ideal S128x4096 .f32) (y7 y8 : Vec Ideal S1x4096 .f32) (y9 : Vec Ideal S8x128 .f32) (p : Fin 8) (q : Fin 128) :
    out0_B_9 c i a1 h1 a2 h2 a3 h3 a4 h4 a5 h5 a6 h6 a7 h7 a8 h8 a9 h9 a10 h10 hc0 x0 x1 x2 x3 x4 y7 y8 y9 (ix2 p q) = (y9 (ix2 p q) + k0_pay7 x0 x1 x2 x3 x4 (ix2 0 0) : EReal) := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 y7 y8 y9)]
  unfold kernelRun0_B
  dsimp only
  sl_unfold_words
  rw [View.canon_unit_zero hz]
  simp only [View.readAt_eq_ld, h1.read_unread, h2.read_unread, h3.read_unread, h4.read_unread, h5.read_unread, h10.read_unread,
    View.ld_unit_zero (S := S128x4096) hz, View.ld_unit_zero (S := S1x4096) hz, View.ld_unit_zero (S := S8x128) hz]
  unfold k0_pay14
  pointwise

/-- A token's mean squared difference, read from the arrays. -/
def atToken (x0 x1 : Vec Ideal S4096x4096 .f32) (x2 x3 : Vec Ideal S1x4096 .f32) (x4 : Vec Ideal S4096x4096 .f32) (i : Fin 4096) : EReal :=
  token (fun k => x0 (ix2 i k)) (fun k => x1 (ix2 i k)) (fun k => x2 (ix2 0 k)) (fun k => x3 (ix2 0 k)) (fun k => x4 (ix2 i k))

/-- The loss both programs compute, in every entry of the result. -/
def loss (x0 x1 : Vec Ideal S4096x4096 .f32) (x2 x3 : Vec Ideal S1x4096 .f32) (x4 : Vec Ideal S4096x4096 .f32) : Vec Ideal S8x128 .f32 :=
  fun _ => half * ∑ i : Fin 4096, atToken x0 x1 x2 x3 x4 i

/-- Point `n`'s share of the loss. -/
def share (c : Dev nD) (n : ℕ) : EReal :=
  if h : n < cfg0.N then k0_pay7 (iblk m c 0 ⟨n, h⟩) (iblk m c 1 ⟨n, h⟩) (iblk m c 2 ⟨n, h⟩) (iblk m c 3 ⟨n, h⟩) (iblk m c 4 ⟨n, h⟩) (ix2 0 0) else 0

theorem share_eq (c : Dev nD) (t : Fin cfg0.N) :
    share m c t.val = k0_pay7 (iblk m c 0 t) (iblk m c 1 t) (iblk m c 2 t) (iblk m c 3 t) (iblk m c 4 t) (ix2 0 0) := by
  unfold share; rw [dif_pos t.isLt]

/-- What the accumulator holds after point `n`: the shares so far. -/
theorem acc_eq (c : Dev nD) (p : Fin 8) (q : Fin 128) : ∀ (n : ℕ) (h : n < cfg0.N),
    (outsAt0 m c n h).2.2.2.2 (ix2 p q) = ∑ l ∈ Finset.range (n + 1), share m c l
  | 0, h => by
    rw [outsAt0_A m c ⟨0, h⟩ (by dsimp only)]
    dsimp only
    rw [out_A]
    refine (share_eq m c ⟨0, h⟩).symm.trans ?_
    simp
  | n + 1, h => by
    have hn : n + 1 < 32 := lt_of_lt_of_eq h N_0
    rw [outsAt0_B m c ⟨n + 1, h⟩ (by dsimp only; omega)]
    dsimp only
    rw [out_B]
    have ih := acc_eq c p q n (Nat.lt_of_succ_lt h)
    rw [Finset.sum_range_succ, ← ih, share_eq m c ⟨n + 1, h⟩]
    rfl

/-- Halving a sum halves its terms. -/
theorem half_sum {ι : Type} (s : Finset ι) (f : ι → EReal) : half * ∑ i ∈ s, f i = ∑ i ∈ s, half * f i := by
  classical
  have h0 : (0 : EReal) ≤ half := by rw [half_eq]; exact_mod_cast (by norm_num : (0 : ℝ) ≤ 1 / 2)
  have h1 : half ≠ ⊤ := by rw [half_eq]; exact EReal.coe_ne_top _
  induction s using Finset.induction_on with
  | empty => simp
  | insert a s ha ih => rw [Finset.sum_insert ha, Finset.sum_insert ha, ← ih, EReal.left_distrib_of_nonneg_of_ne_top h0 h1]

/-- Half a sum over 4096 = 32 · 128 tokens, 128 at a time. -/
theorem sum_split (f : Fin 4096 → EReal) :
    ∑ l ∈ Finset.range 32, (if h : l < 32 then half * ∑ p : Fin 128, f ⟨l * 128 + p.val, by omega⟩ else 0) = half * ∑ i, f i := by
  rw [Finset.sum_range, ← (finProdFinEquiv (m := 32) (n := 128)).sum_comp (g := f), Fintype.sum_prod_type, half_sum]
  refine Finset.sum_congr rfl fun l _ => ?_
  rw [dif_pos l.isLt]
  refine congrArg (fun z : EReal => half * z) (Finset.sum_congr rfl fun k _ => congrArg f (Fin.ext ?_))
  show l.val * 128 + k.val = k.val + 128 * l.val
  omega

/-- Which blocks grid point `t` reads and writes. -/
theorem index_facts : ∀ t : Fin grid0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0)
    ∧ (win0_9.index t 0 = 0 ∧ win0_9.index t 1 = 0) := by
  decide +kernel

/-- An entry of the block of argument 0 at `t`. -/
theorem block_0 (c : Dev nD) (t : Fin cfg0.N) (p : Fin 128) (k : Fin 4096) (i : Fin 4096) (hi : i.val = t.val * 128 + p.val) :
    (iblk m c 0 t : Vec Ideal S128x4096 .f32) (ix2 p k) = m ((c : Thread nD τ).loc main_arg0) (ix2 i k) := by
  unfold iblk
  rw [View.read_apply]
  show m ((c : Thread nD τ).loc main_arg0) _ = m ((c : Thread nD τ).loc main_arg0) _
  congr 1
  funext a
  apply Fin.ext
  obtain ⟨h0, h1⟩ := (index_facts t).1
  match a with
  | ⟨0, _⟩ => show win0_0.index t 0 * 128 + 1 * p.val = i.val; rw [h0]; omega
  | ⟨1, _⟩ => show win0_0.index t 1 * 4096 + 1 * k.val = k.val; rw [h1]; omega

/-- An entry of the block of argument 1 at `t`. -/
theorem block_1 (c : Dev nD) (t : Fin cfg0.N) (p : Fin 128) (k : Fin 4096) (i : Fin 4096) (hi : i.val = t.val * 128 + p.val) :
    (iblk m c 1 t : Vec Ideal S128x4096 .f32) (ix2 p k) = m ((c : Thread nD τ).loc main_arg1) (ix2 i k) := by
  unfold iblk
  rw [View.read_apply]
  show m ((c : Thread nD τ).loc main_arg1) _ = m ((c : Thread nD τ).loc main_arg1) _
  congr 1
  funext a
  apply Fin.ext
  obtain ⟨h0, h1⟩ := (index_facts t).2.1
  match a with
  | ⟨0, _⟩ => show win0_1.index t 0 * 128 + 1 * p.val = i.val; rw [h0]; omega
  | ⟨1, _⟩ => show win0_1.index t 1 * 4096 + 1 * k.val = k.val; rw [h1]; omega

/-- An entry of the block of argument 4 at `t`. -/
theorem block_4 (c : Dev nD) (t : Fin cfg0.N) (p : Fin 128) (k : Fin 4096) (i : Fin 4096) (hi : i.val = t.val * 128 + p.val) :
    (iblk m c 4 t : Vec Ideal S128x4096 .f32) (ix2 p k) = m ((c : Thread nD τ).loc main_arg4) (ix2 i k) := by
  unfold iblk
  rw [View.read_apply]
  show m ((c : Thread nD τ).loc main_arg4) _ = m ((c : Thread nD τ).loc main_arg4) _
  congr 1
  funext a
  apply Fin.ext
  obtain ⟨h0, h1⟩ := (index_facts t).2.2.2.2.1
  match a with
  | ⟨0, _⟩ => show win0_4.index t 0 * 128 + 1 * p.val = i.val; rw [h0]; omega
  | ⟨1, _⟩ => show win0_4.index t 1 * 4096 + 1 * k.val = k.val; rw [h1]; omega

/-- An entry of the block of argument 2 at `t`. -/
theorem block_2 (c : Dev nD) (t : Fin cfg0.N) (k : Fin 4096) :
    (iblk m c 2 t : Vec Ideal S1x4096 .f32) (ix2 0 k) = m ((c : Thread nD τ).loc main_arg2) (ix2 0 k) := by
  unfold iblk
  rw [View.read_apply]
  show m ((c : Thread nD τ).loc main_arg2) _ = m ((c : Thread nD τ).loc main_arg2) _
  congr 1
  funext a
  apply Fin.ext
  obtain ⟨h0, h1⟩ := (index_facts t).2.2.1
  match a with
  | ⟨0, _⟩ => show win0_2.index t 0 * 1 + 1 * (0 : Fin 1).val = (0 : Fin 1).val; rw [h0]; rfl
  | ⟨1, _⟩ => show win0_2.index t 1 * 4096 + 1 * k.val = k.val; rw [h1]; omega

/-- An entry of the block of argument 3 at `t`. -/
theorem block_3 (c : Dev nD) (t : Fin cfg0.N) (k : Fin 4096) :
    (iblk m c 3 t : Vec Ideal S1x4096 .f32) (ix2 0 k) = m ((c : Thread nD τ).loc main_arg3) (ix2 0 k) := by
  unfold iblk
  rw [View.read_apply]
  show m ((c : Thread nD τ).loc main_arg3) _ = m ((c : Thread nD τ).loc main_arg3) _
  congr 1
  funext a
  apply Fin.ext
  obtain ⟨h0, h1⟩ := (index_facts t).2.2.2.1
  match a with
  | ⟨0, _⟩ => show win0_3.index t 0 * 1 + 1 * (0 : Fin 1).val = (0 : Fin 1).val; rw [h0]; rfl
  | ⟨1, _⟩ => show win0_3.index t 1 * 4096 + 1 * k.val = k.val; rw [h1]; omega

/-- The result array after the run. -/
abbrev result (c : Dev nD) : Buf (Elt Ideal) ((c : Thread nD τ).loc main_v0_4) :=
  loss (m ((c : Thread nD τ).loc main_arg0)) (m ((c : Thread nD τ).loc main_arg1)) (m ((c : Thread nD τ).loc main_arg2)) (m ((c : Thread nD τ).loc main_arg3)) (m ((c : Thread nD τ).loc main_arg4))

/-- The last point writes the loss. -/
theorem flushed_eq (c : Dev nD) (t : Fin cfg0.N) (hf : (cfg0.win 9).flush t = true) :
    (dats m 0 c).flushed 9 t = ((cfg0.win 9).blk t).view.read (Elt Ideal) (result m c) := by
  have hl : t.val % 32 = 31 := (flush0_9 t).mp hf
  have ht : t.val < 32 := lt_of_lt_of_eq t.isLt N_0
  rw [Value.flushed9]
  funext y
  rw [View.read_apply]
  obtain ⟨p, q, rfl⟩ : ∃ (p : Fin 8) (q : Fin 128), y = ix2 p q := ⟨y 0, y 1, by funext a; fin_cases a <;> rfl⟩
  show (outsAt0 m c t.val t.isLt).2.2.2.2 (ix2 p q) = result m c (((cfg0.win 9).blk t).view.emb (ix2 p q))
  refine (acc_eq m c p q t.val t.isLt).trans ?_
  unfold result loss
  rw [← sum_split, show t.val + 1 = 32 by omega]
  refine Finset.sum_congr rfl fun l hlr => ?_
  have hl32 : l < 32 := Finset.mem_range.mp hlr
  rw [dif_pos hl32]
  have hn : l < cfg0.N := lt_of_lt_of_eq hl32 N_0.symm
  refine (share_eq m c ⟨l, hn⟩).trans ((share_apply _ _ _ _ _).trans ?_)
  refine congrArg (fun z : EReal => half * z) (Finset.sum_congr rfl fun k _ => ?_)
  unfold atToken
  rw [show (fun j => (iblk m c 0 ⟨l, hn⟩ : Vec Ideal S128x4096 .f32) (ix2 k j)) = _ from funext fun j => block_0 m c ⟨l, hn⟩ k j ⟨l * 128 + k.val, by omega⟩ rfl,
    show (fun j => (iblk m c 1 ⟨l, hn⟩ : Vec Ideal S128x4096 .f32) (ix2 k j)) = _ from funext fun j => block_1 m c ⟨l, hn⟩ k j ⟨l * 128 + k.val, by omega⟩ rfl,
    show (fun j => (iblk m c 2 ⟨l, hn⟩ : Vec Ideal S1x4096 .f32) (ix2 0 j)) = _ from funext fun j => block_2 m c ⟨l, hn⟩ j,
    show (fun j => (iblk m c 3 ⟨l, hn⟩ : Vec Ideal S1x4096 .f32) (ix2 0 j)) = _ from funext fun j => block_3 m c ⟨l, hn⟩ j,
    show (fun j => (iblk m c 4 ⟨l, hn⟩ : Vec Ideal S128x4096 .f32) (ix2 k j)) = _ from funext fun j => block_4 m c ⟨l, hn⟩ k j ⟨l * 128 + k.val, by omega⟩ rfl]

/-- The result array is the loss: its one block is the array. -/
theorem final_eq (c : Dev nD) : (dats m 0 c).arrAt 9 cfg0.N = result m c :=
  (dats m 0 c).arrAt_eq_of_cover 9 (result m c) (flushed_eq m c) fun i => by
    have b0 : (i 0 : Nat) < 8 := (i 0).isLt
    have b1 : (i 1 : Nat) < 128 := (i 1).isLt
    obtain ⟨t, ht⟩ : ∃ t : Fin cfg0.N, t.val = 31 := ⟨⟨31, lt_of_lt_of_eq (by omega) N_0.symm⟩, rfl⟩
    obtain ⟨h0, h1⟩ := (index_facts t).2.2.2.2.2
    refine ⟨t, (flush0_9 t).mpr (by omega), ?_⟩
    show i ∈ ((View.whole main_v0_4).slice (win0_9.rect t)).set
    rw [View.set_slice_whole, Rect.mem_set_unit]
    intro a
    match a with
    | ⟨0, _⟩ => show win0_9.index t 0 * 8 ≤ (i 0 : Nat) ∧ (i 0 : Nat) < win0_9.index t 0 * 8 + 8
                rw [h0]; omega
    | ⟨1, _⟩ => show win0_9.index t 1 * 128 ≤ (i 1 : Nat) ∧ (i 1 : Nat) < win0_9.index t 1 * 128 + 128
                rw [h1]; omega

/-- The run: the result array at the loss, the arguments unchanged. -/
theorem run : θ_run defs (onTc (τ := τ) (main (F := Ideal))) ⟨m, fun _ => 0, ρ⟩ fun r => ∀ c : Dev nD,
      r.2.mem ((c : Thread nD τ).loc main_v0_4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).2.2.2.2.1.trans (final_eq m c), (h c).2.2.2.2.2⟩) (Value.run_blocks m ρ)

end Cert.LossIdeal.Product

namespace Cert.LossReferenceIdeal.Product

open Cert.LossReferenceIdeal Cert.LossReferenceIdeal.Gen Idealize.ShloMosaic Idealize.ShloMosaic.TcCoe Idealize.SL.Sem
open Cert.LossIdeal.Product (half loss atToken token diff dev resid mean)

/-- The residual sums. -/
def sums (x0 x1 : FVec Ideal S4096x4096 .f32) : FVec Ideal S4096x4096 .f32 :=
  addf (mulf (broadcastInDim S4096x4096 ![] bcast_S_S4096x4096 (constant S_ .f32 0x3FB504F3#32)) x0) x1

/-- The rows' means, as a column. -/
def means (u : FVec Ideal S4096x4096 .f32) : FVec Ideal S4096x1 .f32 :=
  Host.divf (broadcastInDim S4096x1 ![0] bcast_S4096_S4096x1_0 (Host.reduceAdd u (constant S_ .f32 0x00000000#32) reducesTo_S4096x4096_S4096_d1 h_S_)) (broadcastInDim S4096x1 ![] bcast_S_S4096x1 (constant S_ .f32 0x45800000#32))

/-- The rows less their means. -/
def centred (u : FVec Ideal S4096x4096 .f32) : FVec Ideal S4096x4096 .f32 :=
  subf u (broadcastInDim S4096x4096 ![0, 1] bcast_S4096x1_S4096x4096_0_1 (means u))

/-- Centred rows over the root of their mean square. -/
def normed (v : FVec Ideal S4096x4096 .f32) : FVec Ideal S4096x4096 .f32 :=
  mulf v (broadcastInDim S4096x4096 ![0, 1] bcast_S4096x1_S4096x4096_0_1 (Host.rsqrt (addf (means (mulf (F := Ideal) v v)) (broadcastInDim S4096x1 ![] bcast_S_S4096x1 (constant S_ .f32 0x3727C5AC#32)))))

/-- A weight row, repeated over the tokens. -/
def rows (w : FVec Ideal S1x4096 .f32) : FVec Ideal S4096x4096 .f32 :=
  broadcastInDim S4096x4096 ![0, 1] bcast_S1x4096_S4096x4096_0_1 (broadcastInDim S1x4096 ![1] bcast_S4096_S1x4096_1 (shapeCast _ w shapeCasts_S1x4096_S4096))

/-- The layer norm less the target. -/
def diffs (x0 x1 : FVec Ideal S4096x4096 .f32) (x2 x3 : FVec Ideal S1x4096 .f32) (x4 : FVec Ideal S4096x4096 .f32) : FVec Ideal S4096x4096 .f32 :=
  subf (addf (mulf (normed (centred (sums x0 x1))) (rows x2)) (rows x3)) x4

/-- Half the sum of the rows' mean squares, in every entry. -/
def total (d : FVec Ideal S4096x4096 .f32) : FVec Ideal S8x128 .f32 :=
  broadcastInDim S8x128 ![] bcast_S_S8x128 (mulf (constant S_ .f32 0x3F000000#32) (Host.reduceAdd (Host.divf (Host.reduceAdd (mulf (F := Ideal) d d) (constant S_ .f32 0x00000000#32) reducesTo_S4096x4096_S4096_d1 h_S_) (broadcastInDim S4096 ![] bcast_S_S4096 (constant S_ .f32 0x45800000#32))) (constant S_ .f32 0x00000000#32) reducesTo_S4096_S_d0 h_S_))

theorem sums_apply (x0 x1 : FVec Ideal S4096x4096 .f32) (i k : Fin 4096) :
    sums x0 x1 (ix2 i k) = resid (fun l => x0 (ix2 i l)) (fun l => x1 (ix2 i l)) k := by
  unfold sums resid
  pointwise

theorem means_apply (u : FVec Ideal S4096x4096 .f32) (i : Fin 4096) : means u (ix2 i 0) = mean fun k => u (ix2 i k) := by
  unfold means mean
  pointwise

theorem centred_apply (u : FVec Ideal S4096x4096 .f32) (i k : Fin 4096) :
    centred u (ix2 i k) = (u (ix2 i k) - mean (fun l => u (ix2 i l)) : EReal) := by
  unfold centred
  rw [← means_apply]
  pointwise

theorem normed_apply (v : FVec Ideal S4096x4096 .f32) (i k : Fin 4096) :
    normed v (ix2 i k) = (v (ix2 i k) * Ideal.rsqrt (mean (fun l => v (ix2 i l) * v (ix2 i l)) + Ideal.ofBits .f32 0x3727C5AC#32) : EReal) := by
  have h : mean (fun l => v (ix2 i l) * v (ix2 i l)) = means (mulf (F := Ideal) v v) (ix2 i 0) := (means_apply (mulf (F := Ideal) v v) i).symm
  unfold normed
  rw [h]
  pointwise

theorem rows_apply (w : FVec Ideal S1x4096 .f32) (i k : Fin 4096) : rows w (ix2 i k) = w (ix2 0 k) := by
  unfold rows
  pointwise

theorem diffs_apply (x0 x1 : FVec Ideal S4096x4096 .f32) (x2 x3 : FVec Ideal S1x4096 .f32) (x4 : FVec Ideal S4096x4096 .f32) (i k : Fin 4096) :
    diffs x0 x1 x2 x3 x4 (ix2 i k)
      = diff (fun l => x0 (ix2 i l)) (fun l => x1 (ix2 i l)) (fun l => x2 (ix2 0 l)) (fun l => x3 (ix2 0 l)) (fun l => x4 (ix2 i l)) k := by
  have hd : ∀ l, centred (sums x0 x1) (ix2 i l) = dev (fun l => x0 (ix2 i l)) (fun l => x1 (ix2 i l)) l := fun l => by
    rw [centred_apply, sums_apply, show (fun l => sums x0 x1 (ix2 i l)) = _ from funext fun l => sums_apply x0 x1 i l]
    rfl
  have hs : diffs x0 x1 x2 x3 x4 (ix2 i k)
      = (normed (centred (sums x0 x1)) (ix2 i k) * rows x2 (ix2 i k) + rows x3 (ix2 i k) - x4 (ix2 i k) : EReal) := rfl
  rw [hs, normed_apply, rows_apply, rows_apply]
  simp only [hd]
  rfl

theorem total_apply (d : FVec Ideal S4096x4096 .f32) (p : Fin 8) (q : Fin 128) :
    total d (ix2 p q) = half * ∑ i : Fin 4096, mean fun k => d (ix2 i k) * d (ix2 i k) := by
  unfold total mean
  pointwise

theorem total_eq (x0 x1 : Vec Ideal S4096x4096 .f32) (x2 x3 : Vec Ideal S1x4096 .f32) (x4 : Vec Ideal S4096x4096 .f32) :
    total (diffs x0 x1 x2 x3 x4) = loss x0 x1 x2 x3 x4 := by
  funext y
  obtain ⟨p, q, rfl⟩ : ∃ (p : Fin 8) (q : Fin 128), y = ix2 p q := ⟨y 0, y 1, by funext a; fin_cases a <;> rfl⟩
  rw [total_apply]
  simp only [diffs_apply]
  rfl

/-- The reference's run: its result is the same loss of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
    exact total_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))), (h c).2⟩) (Value.run (F := Ideal) m ρ)

/-- It terminates, faults nowhere, and leaves the arguments and every semaphore as they were. -/
theorem frame : quiescent_LossReferenceIdeal := fun m ρ _ =>
  (θ_run defs _ _).mono (fun r h => ⟨fun c => (h c).2, sem_eq_zero_of_no_sems (by decide) r.2⟩) (Value.run (F := Ideal) m ρ)

end Cert.LossReferenceIdeal.Product

namespace Cert.Proof

open Idealize.ShloMosaic Idealize.SL.Sem

/-- The kernel's result and the reference's are the same array. -/
theorem algebraic_Loss : algebraic_LossIdeal_LossReferenceIdeal := by
  intro m g m' g' _ hagree
  refine ⟨fun c => Cert.LossIdeal.Product.result m c, Cert.LossIdeal.Product.run m g, ?_⟩
  refine (θ_run Cert.LossReferenceIdeal.defs _ _).mono (fun r h c => ⟨(h c).1.trans ?_, (h c).2⟩)
    (Cert.LossReferenceIdeal.Product.run m' g')
  rw [(hagree c).1, (hagree c).2.1, (hagree c).2.2.1, (hagree c).2.2.2.1, (hagree c).2.2.2.2]

end Cert.Proof

end
-- ==== Proof.LnFwd.lean ====
/- The value of `LnFwd`, the first layer norm: of each token DEEPNORM_ALPHA times the input plus the attention's output, less
   its mean, over the root of its mean square, times the weight, plus the bias; the same in bf16, which over the reals is the
   same number. The reference computes the same. -/
module

public import proofs.«01_k».proof.Defs
public import proofs.«01_k».proof.Proof.Gen.LnFwdIdeal.Value
public import proofs.«01_k».proof.Proof.Gen.LnFwdReferenceIdeal.Run
public import proofs.«01_k».proof.Proof.Loss
public import Idealize.ShloMosaic.Lib.Pointwise
public import Idealize.ShloMosaic.Lib.Claim

@[expose] public section

noncomputable section

namespace Cert.LnFwdIdeal.Product

open Cert.LnFwdIdeal Cert.LnFwdIdeal.Gen Idealize.ShloMosaic Idealize.ShloMosaic.TcCoe Idealize.SL.Sem
open Idealize.ShloMosaic.Pipeline (Dat)
open Cert.LossIdeal.Product (dev resid mean)

variable (m : (ℓ : Loc nD τ sig) → Buf (Elt Ideal) ℓ) (ρ : Dev nD → PrngReg)

theorem hz : (![0, 0] : Fin 2 → Nat) = fun _ => 0 := funext fun a => by fin_cases a <;> rfl

/-- A token's layer norm. -/
def tokenNorm (x h g b : Fin 4096 → EReal) (k : Fin 4096) : EReal :=
  dev x h k * Ideal.rsqrt (mean (fun l => dev x h l * dev x h l) + Ideal.ofBits .f32 0x3727C5AC#32) * g k + b k

/-- The layer norm both programs compute. -/
def norm (x0 x1 : Vec Ideal S4096x4096 .f32) (x2 x3 : Vec Ideal S1x4096 .f32) : Vec Ideal S4096x4096 .f32 :=
  fun i => tokenNorm (fun k => x0 (ix2 (i 0) k)) (fun k => x1 (ix2 (i 0) k)) (fun k => x2 (ix2 0 k)) (fun k => x3 (ix2 0 k)) (i 1)

/-- A block's entry. -/
theorem pay_apply (x0 x1 : Vec Ideal S256x4096 .f32) (x2 x3 : Vec Ideal S1x4096 .f32) (p : Fin 256) (q : Fin 4096) :
    k0_pay1 x0 x1 x2 x3 (ix2 p q) = tokenNorm (fun k => x0 (ix2 p k)) (fun k => x1 (ix2 p k)) (fun k => x2 (ix2 0 k)) (fun k => x3 (ix2 0 k)) q := by
  unfold k0_pay1 tokenNorm dev resid mean
  pointwise

/-- What the body leaves in the first output block. -/
theorem out4_apply (x0 x1 : Vec Ideal S256x4096 .f32) (x2 x3 : Vec Ideal S1x4096 .f32) (p : Fin 256) (q : Fin 4096) :
    out0_4 x0 x1 x2 x3 (ix2 p q) = tokenNorm (fun k => x0 (ix2 p k)) (fun k => x1 (ix2 p k)) (fun k => x2 (ix2 0 k)) (fun k => x3 (ix2 0 k)) q := by
  unfold out0_4
  rw [View.canon_unit_zero hz]
  simp only [View.ld_unit_zero (S := S256x4096) hz, View.ld_unit_zero (S := S1x4096) hz]
  exact pay_apply x0 x1 x2 x3 p q

/-- What the body leaves in the second output block. -/
theorem out5_apply (x0 x1 : Vec Ideal S256x4096 .f32) (x2 x3 : Vec Ideal S1x4096 .f32) (p : Fin 256) (q : Fin 4096) :
    out0_5 x0 x1 x2 x3 (ix2 p q) = tokenNorm (fun k => x0 (ix2 p k)) (fun k => x1 (ix2 p k)) (fun k => x2 (ix2 0 k)) (fun k => x3 (ix2 0 k)) q := by
  unfold out0_5
  rw [View.canon_unit_zero hz]
  simp only [View.ld_unit_zero (S := S256x4096) hz, View.ld_unit_zero (S := S1x4096) hz]
  exact pay_apply x0 x1 x2 x3 p q

/-- Which blocks grid point `t` reads and writes. -/
theorem index_facts : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) := by
  decide +kernel

/-- An entry of the block of argument 0 at `t`. -/
theorem block_0 (c : Dev nD) (t : Fin cfg0.N) (p : Fin 256) (k : Fin 4096) (i : Fin 4096) (j : Fin 4096)
    (hi : i.val = t.val * 256 + p.val) (hj : j.val = 0 * 4096 + k.val) :
    (iblk m c 0 t : Vec Ideal S256x4096 .f32) (ix2 p k) = m ((c : Thread nD τ).loc main_arg0) (ix2 i j) := by
  unfold iblk
  rw [View.read_apply]
  show m ((c : Thread nD τ).loc main_arg0) _ = m ((c : Thread nD τ).loc main_arg0) _
  congr 1
  funext a
  apply Fin.ext
  obtain ⟨h0, h1⟩ := (index_facts t).1
  match a with
  | ⟨0, _⟩ => show win0_0.index t 0 * 256 + 1 * p.val = i.val; rw [h0]; omega
  | ⟨1, _⟩ => show win0_0.index t 1 * 4096 + 1 * k.val = j.val; rw [h1]; omega

/-- An entry of the block of argument 1 at `t`. -/
theorem block_1 (c : Dev nD) (t : Fin cfg0.N) (p : Fin 256) (k : Fin 4096) (i : Fin 4096) (j : Fin 4096)
    (hi : i.val = t.val * 256 + p.val) (hj : j.val = 0 * 4096 + k.val) :
    (iblk m c 1 t : Vec Ideal S256x4096 .f32) (ix2 p k) = m ((c : Thread nD τ).loc main_arg1) (ix2 i j) := by
  unfold iblk
  rw [View.read_apply]
  show m ((c : Thread nD τ).loc main_arg1) _ = m ((c : Thread nD τ).loc main_arg1) _
  congr 1
  funext a
  apply Fin.ext
  obtain ⟨h0, h1⟩ := (index_facts t).2.1
  match a with
  | ⟨0, _⟩ => show win0_1.index t 0 * 256 + 1 * p.val = i.val; rw [h0]; omega
  | ⟨1, _⟩ => show win0_1.index t 1 * 4096 + 1 * k.val = j.val; rw [h1]; omega

/-- An entry of the block of argument 2 at `t`. -/
theorem block_2 (c : Dev nD) (t : Fin cfg0.N) (p : Fin 1) (k : Fin 4096) (i : Fin 1) (j : Fin 4096)
    (hi : i.val = 0 * 1 + p.val) (hj : j.val = 0 * 4096 + k.val) :
    (iblk m c 2 t : Vec Ideal S1x4096 .f32) (ix2 p k) = m ((c : Thread nD τ).loc main_arg2) (ix2 i j) := by
  unfold iblk
  rw [View.read_apply]
  show m ((c : Thread nD τ).loc main_arg2) _ = m ((c : Thread nD τ).loc main_arg2) _
  congr 1
  funext a
  apply Fin.ext
  obtain ⟨h0, h1⟩ := (index_facts t).2.2.1
  match a with
  | ⟨0, _⟩ => show win0_2.index t 0 * 1 + 1 * p.val = i.val; rw [h0]; omega
  | ⟨1, _⟩ => show win0_2.index t 1 * 4096 + 1 * k.val = j.val; rw [h1]; omega

/-- An entry of the block of argument 3 at `t`. -/
theorem block_3 (c : Dev nD) (t : Fin cfg0.N) (p : Fin 1) (k : Fin 4096) (i : Fin 1) (j : Fin 4096)
    (hi : i.val = 0 * 1 + p.val) (hj : j.val = 0 * 4096 + k.val) :
    (iblk m c 3 t : Vec Ideal S1x4096 .f32) (ix2 p k) = m ((c : Thread nD τ).loc main_arg3) (ix2 i j) := by
  unfold iblk
  rw [View.read_apply]
  show m ((c : Thread nD τ).loc main_arg3) _ = m ((c : Thread nD τ).loc main_arg3) _
  congr 1
  funext a
  apply Fin.ext
  obtain ⟨h0, h1⟩ := (index_facts t).2.2.2.1
  match a with
  | ⟨0, _⟩ => show win0_3.index t 0 * 1 + 1 * p.val = i.val; rw [h0]; omega
  | ⟨1, _⟩ => show win0_3.index t 1 * 4096 + 1 * k.val = j.val; rw [h1]; omega

/-- The first result array after the run. -/
abbrev result (c : Dev nD) : Buf (Elt Ideal) ((c : Thread nD τ).loc main_v0_0) :=
  norm (m ((c : Thread nD τ).loc main_arg0)) (m ((c : Thread nD τ).loc main_arg1)) (m ((c : Thread nD τ).loc main_arg2)) (m ((c : Thread nD τ).loc main_arg3))

/-- The second result array after the run. -/
abbrev result' (c : Dev nD) : Buf (Elt Ideal) ((c : Thread nD τ).loc main_v0_1) :=
  norm (m ((c : Thread nD τ).loc main_arg0)) (m ((c : Thread nD τ).loc main_arg1)) (m ((c : Thread nD τ).loc main_arg2)) (m ((c : Thread nD τ).loc main_arg3))

/-- Point `t`'s tokens, from its blocks. -/
theorem block_norm (c : Dev nD) (t : Fin cfg0.N) (p : Fin 256) (q : Fin 4096) (i j : Fin 4096) (hi : i.val = t.val * 256 + p.val) (hj : j.val = q.val) :
    tokenNorm (fun k => (iblk m c 0 t : Vec Ideal S256x4096 .f32) (ix2 p k)) (fun k => (iblk m c 1 t : Vec Ideal S256x4096 .f32) (ix2 p k))
      (fun k => (iblk m c 2 t : Vec Ideal S1x4096 .f32) (ix2 0 k)) (fun k => (iblk m c 3 t : Vec Ideal S1x4096 .f32) (ix2 0 k)) q
      = norm (m ((c : Thread nD τ).loc main_arg0)) (m ((c : Thread nD τ).loc main_arg1)) (m ((c : Thread nD τ).loc main_arg2)) (m ((c : Thread nD τ).loc main_arg3)) (ix2 i j) := by
  obtain rfl : j = q := Fin.ext hj
  rw [show (fun k => (iblk m c 0 t : Vec Ideal S256x4096 .f32) (ix2 p k)) = _ from funext fun k => block_0 m c t p k i k hi (by omega),
    show (fun k => (iblk m c 1 t : Vec Ideal S256x4096 .f32) (ix2 p k)) = _ from funext fun k => block_1 m c t p k i k hi (by omega),
    show (fun k => (iblk m c 2 t : Vec Ideal S1x4096 .f32) (ix2 0 k)) = _ from funext fun k => block_2 m c t 0 k 0 k (by omega) (by omega),
    show (fun k => (iblk m c 3 t : Vec Ideal S1x4096 .f32) (ix2 0 k)) = _ from funext fun k => block_3 m c t 0 k 0 k (by omega) (by omega)]
  rfl

/-- Point `t` writes its tokens. -/
theorem flushed4_eq (c : Dev nD) (t : Fin cfg0.N) :
    (dats m 0 c).flushed 4 t = ((cfg0.win 4).blk t).view.read (Elt Ideal) (result m c) := by
  rw [Value.flushed4]
  obtain ⟨h0, h1⟩ := (index_facts t).2.2.2.2.1
  funext y
  rw [View.read_apply]
  obtain ⟨p, q, rfl⟩ : ∃ (p : Fin 256) (q : Fin 4096), y = ix2 p q := ⟨y 0, y 1, by funext a; fin_cases a <;> rfl⟩
  show out0_4 (iblk m c 0 t) (iblk m c 1 t) (iblk m c 2 t) (iblk m c 3 t) (ix2 p q) = result m c (((cfg0.win 4).blk t).view.emb (ix2 p q))
  refine (out4_apply _ _ _ _ p q).trans ((block_norm m c t p q ((((cfg0.win 4).blk t).view.emb (ix2 p q)) 0) ((((cfg0.win 4).blk t).view.emb (ix2 p q)) 1) ?_ ?_).trans rfl)
  · show win0_4.index t 0 * 256 + 1 * p.val = _; rw [h0]; omega
  · show win0_4.index t 1 * 4096 + 1 * q.val = _; rw [h1]; omega

/-- The first result array is what the blocks say: they tile it. -/
theorem final4_eq (c : Dev nD) : (dats m 0 c).arrAt 4 cfg0.N = result m c :=
  (dats m 0 c).arrAt_eq_of_cover 4 (result m c) (fun t _ => flushed4_eq m c t) fun i => by
    have b0 : (i 0 : Nat) < 4096 := (i 0).isLt
    have b1 : (i 1 : Nat) < 4096 := (i 1).isLt
    obtain ⟨t, ht⟩ : ∃ t : Fin cfg0.N, t.val = (i 0 : Nat) / 256 := ⟨⟨(i 0 : Nat) / 256, lt_of_lt_of_eq (by omega) N_0.symm⟩, rfl⟩
    obtain ⟨h0, h1⟩ := (index_facts t).2.2.2.2.1
    refine ⟨t, flush0_4 t, ?_⟩
    show i ∈ ((View.whole main_v0_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [h0]; omega
    | ⟨1, _⟩ => show win0_4.index t 1 * 4096 ≤ (i 1 : Nat) ∧ (i 1 : Nat) < win0_4.index t 1 * 4096 + 4096
                rw [h1]; omega

/-- Point `t` writes its tokens. -/
theorem flushed5_eq (c : Dev nD) (t : Fin cfg0.N) :
    (dats m 0 c).flushed 5 t = ((cfg0.win 5).blk t).view.read (Elt Ideal) (result' m c) := by
  rw [Value.flushed5]
  obtain ⟨h0, h1⟩ := (index_facts t).2.2.2.2.2
  funext y
  rw [View.read_apply]
  obtain ⟨p, q, rfl⟩ : ∃ (p : Fin 256) (q : Fin 4096), y = ix2 p q := ⟨y 0, y 1, by funext a; fin_cases a <;> rfl⟩
  show out0_5 (iblk m c 0 t) (iblk m c 1 t) (iblk m c 2 t) (iblk m c 3 t) (ix2 p q) = result' m c (((cfg0.win 5).blk t).view.emb (ix2 p q))
  refine (out5_apply _ _ _ _ p q).trans ((block_norm m c t p q ((((cfg0.win 5).blk t).view.emb (ix2 p q)) 0) ((((cfg0.win 5).blk t).view.emb (ix2 p q)) 1) ?_ ?_).trans rfl)
  · show win0_5.index t 0 * 256 + 1 * p.val = _; rw [h0]; omega
  · show win0_5.index t 1 * 4096 + 1 * q.val = _; rw [h1]; omega

/-- The second result array is what the blocks say: they tile it. -/
theorem final5_eq (c : Dev nD) : (dats m 0 c).arrAt 5 cfg0.N = result' m c :=
  (dats m 0 c).arrAt_eq_of_cover 5 (result' m c) (fun t _ => flushed5_eq m c t) fun i => by
    have b0 : (i 0 : Nat) < 4096 := (i 0).isLt
    have b1 : (i 1 : Nat) < 4096 := (i 1).isLt
    obtain ⟨t, ht⟩ : ∃ t : Fin cfg0.N, t.val = (i 0 : Nat) / 256 := ⟨⟨(i 0 : Nat) / 256, lt_of_lt_of_eq (by omega) N_0.symm⟩, rfl⟩
    obtain ⟨h0, h1⟩ := (index_facts t).2.2.2.2.2
    refine ⟨t, flush0_5 t, ?_⟩
    show i ∈ ((View.whole main_v0_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [h0]; omega
    | ⟨1, _⟩ => show win0_5.index t 1 * 4096 ≤ (i 1 : Nat) ∧ (i 1 : Nat) < win0_5.index t 1 * 4096 + 4096
                rw [h1]; omega

/-- The run: the result arrays as stated, the arguments unchanged. -/
theorem run : θ_run defs (onTc (τ := τ) (main (F := Ideal))) ⟨m, fun _ => 0, ρ⟩ fun r => ∀ c : Dev nD,
      r.2.mem ((c : Thread nD τ).loc main_v0_0) = result m c
      ∧ r.2.mem ((c : Thread nD τ).loc main_v0_1) = result' m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4_eq m c), (h c).2.1.trans (final5_eq m c), (h c).2.2⟩) (Value.run_blocks m ρ)

end Cert.LnFwdIdeal.Product

namespace Cert.LnFwdReferenceIdeal.Product

open Cert.LnFwdReferenceIdeal Cert.LnFwdReferenceIdeal.Gen Idealize.ShloMosaic Idealize.ShloMosaic.TcCoe Idealize.SL.Sem
open Cert.LossReferenceIdeal.Product (sums centred normed rows means_apply centred_apply sums_apply normed_apply rows_apply)

/-- The reference's term, entry by entry. -/
theorem norm_eq (x0 x1 : FVec Ideal S4096x4096 .f32) (x2 x3 : FVec Ideal S1x4096 .f32) :
    addf (mulf (normed (centred (sums x0 x1))) (rows x2)) (rows x3) = Cert.LnFwdIdeal.Product.norm x0 x1 x2 x3 := by
  funext y
  obtain ⟨p, q, rfl⟩ : ∃ (p : Fin 4096) (q : Fin 4096), y = ix2 p q := ⟨y 0, y 1, by funext a; fin_cases a <;> rfl⟩
  have hd : ∀ l, centred (sums x0 x1) (ix2 p l) = Cert.LossIdeal.Product.dev (fun l => x0 (ix2 p l)) (fun l => x1 (ix2 p l)) l := fun l => by
    rw [centred_apply, sums_apply, show (fun l => sums x0 x1 (ix2 p l)) = _ from funext fun l => sums_apply x0 x1 p l]
    rfl
  have hs : addf (mulf (normed (centred (sums x0 x1))) (rows x2)) (rows x3) (ix2 p q)
      = (normed (centred (sums x0 x1)) (ix2 p q) * rows x2 (ix2 p q) + rows x3 (ix2 p q) : EReal) := rfl
  rw [hs, normed_apply, rows_apply, rows_apply]
  simp only [hd]
  rfl

/-- The reference's run: its results are the same layer norm of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Cert.LnFwdIdeal.Product.norm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = Cert.LnFwdIdeal.Product.norm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (norm_eq (m ((c.tc : Thread nD τ).loc main_arg0)) (m ((c.tc : Thread nD τ).loc main_arg1)) (m ((c.tc : Thread nD τ).loc main_arg2)) (m ((c.tc : Thread nD τ).loc main_arg3))),
    (h c).2.1.trans (norm_eq (m ((c.tc : Thread nD τ).loc main_arg0)) (m ((c.tc : Thread nD τ).loc main_arg1)) (m ((c.tc : Thread nD τ).loc main_arg2)) (m ((c.tc : Thread nD τ).loc main_arg3))), (h c).2.2⟩) (Value.run (F := Ideal) m ρ)

/-- It terminates, faults nowhere, and leaves the arguments and every semaphore as they were. -/
theorem frame : quiescent_LnFwdReferenceIdeal := fun m ρ _ =>
  (θ_run defs _ _).mono (fun r h => ⟨fun c => (h c).2.2, sem_eq_zero_of_no_sems (by decide) r.2⟩) (Value.run (F := Ideal) m ρ)

end Cert.LnFwdReferenceIdeal.Product

namespace Cert.Proof

open Idealize.ShloMosaic Idealize.SL.Sem

/-- The kernel's results and the reference's are the same arrays. -/
theorem algebraic_LnFwd : algebraic_LnFwdIdeal_LnFwdReferenceIdeal := by
  intro m g m' g' _ hagree
  refine ⟨fun c => Cert.LnFwdIdeal.Product.result m c, fun c => Cert.LnFwdIdeal.Product.result' m c, Cert.LnFwdIdeal.Product.run m g, ?_⟩
  refine (θ_run Cert.LnFwdReferenceIdeal.defs _ _).mono (fun r h c => ⟨(h c).1.trans ?_, (h c).2.1.trans ?_, (h c).2.2⟩)
    (Cert.LnFwdReferenceIdeal.Product.run m' g')
  · rw [(hagree c).1, (hagree c).2.1, (hagree c).2.2.1, (hagree c).2.2.2]
  · rw [(hagree c).1, (hagree c).2.1, (hagree c).2.2.1, (hagree c).2.2.2]

end Cert.Proof

end
-- ==== Proof.Dt.lean ====
/- The value of `Dt`, the time steps of the SSM layer: softplus of the projection's last 128 columns plus the bias, which
   kernel and reference both compute as max(v, 0) + log(1 + exp(−|v|)). -/
module

public import proofs.«01_k».proof.Defs
public import proofs.«01_k».proof.Proof.Gen.DtIdeal.Value
public import proofs.«01_k».proof.Proof.Gen.DtReferenceIdeal.Run
public import Idealize.ShloMosaic.Lib.Pointwise
public import Idealize.ShloMosaic.Lib.Claim

@[expose] public section

noncomputable section

namespace Cert.DtIdeal.Product

open Cert.DtIdeal Cert.DtIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Softplus. -/
def softplus (v : EReal) : EReal := max v 0 + Ideal.log1p (Ideal.exp (-(max v (-v))))

/-- The time steps both programs compute. -/
def steps (x0 : Vec Ideal S4096x18560 .f32) (x1 : Vec Ideal S1x128 .f32) : Vec Ideal S4096x128 .f32 :=
  fun i => softplus (x0 (ix2 (i 0) ⟨18432 + (i 1).val, by have := (i 1).isLt; change (i 1).val < 128 at this; omega⟩) + x1 (ix2 0 (i 1)))

/-- What the body leaves in the output block. -/
theorem out_apply (x0 : Vec Ideal S1024x128 .f32) (x1 : Vec Ideal S1x128 .f32) (p : Fin 1024) (q : Fin 128) :
    out0_2 x0 x1 (ix2 p q) = softplus (x0 (ix2 p q) + x1 (ix2 0 q)) := by
  unfold out0_2
  rw [View.canon_unit_zero hz, View.ld_unit_zero (S := S1024x128) hz, View.ld_unit_zero (S := S1x128) hz]
  unfold k0_pay1 softplus
  pointwise
  rw [zero_sub]
  rfl

/-- Which blocks grid point `t` reads and writes. -/
theorem index_facts : ∀ t : Fin grid0.N, (win0_0.index t 0 = t.val ∧ win0_0.index t 1 = 144)
    ∧ (win0_1.index t 0 = 0 ∧ win0_1.index t 1 = 0)
    ∧ (win0_2.index t 0 = t.val ∧ win0_2.index t 1 = 0) := by
  decide +kernel

/-- An entry of the block of argument 0 at `t`. -/
theorem block_0 (c : Dev nD) (t : Fin cfg0.N) (p : Fin 1024) (k : Fin 128) (i : Fin 4096) (j : Fin 18560)
    (hi : i.val = t.val * 1024 + p.val) (hj : j.val = 144 * 128 + k.val) :
    (iblk m c 0 t : Vec Ideal S1024x128 .f32) (ix2 p k) = m ((c : Thread nD τ).loc main_arg0) (ix2 i j) := by
  unfold iblk
  rw [View.read_apply]
  show m ((c : Thread nD τ).loc main_arg0) _ = m ((c : Thread nD τ).loc main_arg0) _
  congr 1
  funext a
  apply Fin.ext
  obtain ⟨h0, h1⟩ := (index_facts t).1
  match a with
  | ⟨0, _⟩ => show win0_0.index t 0 * 1024 + 1 * p.val = i.val; rw [h0]; omega
  | ⟨1, _⟩ => show win0_0.index t 1 * 128 + 1 * k.val = j.val; rw [h1]; omega

/-- An entry of the block of argument 1 at `t`. -/
theorem block_1 (c : Dev nD) (t : Fin cfg0.N) (p : Fin 1) (k : Fin 128) (i : Fin 1) (j : Fin 128)
    (hi : i.val = 0 * 1 + p.val) (hj : j.val = 0 * 128 + k.val) :
    (iblk m c 1 t : Vec Ideal S1x128 .f32) (ix2 p k) = m ((c : Thread nD τ).loc main_arg1) (ix2 i j) := by
  unfold iblk
  rw [View.read_apply]
  show m ((c : Thread nD τ).loc main_arg1) _ = m ((c : Thread nD τ).loc main_arg1) _
  congr 1
  funext a
  apply Fin.ext
  obtain ⟨h0, h1⟩ := (index_facts t).2.1
  match a with
  | ⟨0, _⟩ => show win0_1.index t 0 * 1 + 1 * p.val = i.val; rw [h0]; omega
  | ⟨1, _⟩ => show win0_1.index t 1 * 128 + 1 * k.val = j.val; rw [h1]; omega

/-- The result array after the run. -/
abbrev result (c : Dev nD) : Buf (Elt Ideal) ((c : Thread nD τ).loc main_v0) :=
  steps (m ((c : Thread nD τ).loc main_arg0)) (m ((c : Thread nD τ).loc main_arg1))

/-- Point `t` writes its block of the time steps. -/
theorem flushed2_eq (c : Dev nD) (t : Fin cfg0.N) :
    (dats m 0 c).flushed 2 t = ((cfg0.win 2).blk t).view.read (Elt Ideal) (result m c) := by
  rw [Value.flushed2]
  obtain ⟨h0, h1⟩ := (index_facts t).2.2
  funext y
  rw [View.read_apply]
  obtain ⟨p, q, rfl⟩ : ∃ (p : Fin 1024) (q : Fin 128), y = ix2 p q := ⟨y 0, y 1, by funext a; fin_cases a <;> rfl⟩
  show out0_2 (iblk m c 0 t) (iblk m c 1 t) (ix2 p q) = result m c _
  refine (out_apply _ _ p q).trans ?_
  unfold result steps
  refine congrArg softplus (congrArg₂ (fun a b : EReal => a + b) (block_0 m c t p q _ _ ?_ ?_) (block_1 m c t 0 q _ _ ?_ ?_))
  · show win0_2.index t 0 * 1024 + 1 * p.val = _; rw [h0]; omega
  · show 18432 + (win0_2.index t 1 * 128 + 1 * q.val) = _; rw [h1]; omega
  · rfl
  · show win0_2.index t 1 * 128 + 1 * q.val = _; rw [h1]; omega

/-- The result array is what the blocks say: they tile it. -/
theorem final2_eq (c : Dev nD) : (dats m 0 c).arrAt 2 cfg0.N = result m c :=
  (dats m 0 c).arrAt_eq_of_cover 2 (result m c) (fun t _ => flushed2_eq m c t) fun i => by
    have b0 : (i 0 : Nat) < 4096 := (i 0).isLt
    have b1 : (i 1 : Nat) < 128 := (i 1).isLt
    obtain ⟨t, ht⟩ : ∃ t : Fin cfg0.N, t.val = (i 0 : Nat) / 1024 := ⟨⟨(i 0 : Nat) / 1024, lt_of_lt_of_eq (by omega) N_0.symm⟩, rfl⟩
    obtain ⟨h0, h1⟩ := (index_facts t).2.2
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; omega
    | ⟨1, _⟩ => show win0_2.index t 1 * 128 ≤ (i 1 : Nat) ∧ (i 1 : Nat) < win0_2.index t 1 * 128 + 128
                rw [h1]; omega

/-- The run: the result array as stated, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2_eq m c), (h c).2⟩) (Value.run_blocks m ρ)

end Cert.DtIdeal.Product

namespace Cert.DtReferenceIdeal.Product

open Cert.DtReferenceIdeal Cert.DtReferenceIdeal.Gen Idealize.ShloMosaic Idealize.ShloMosaic.TcCoe Idealize.SL.Sem

/-- The reference's run: its result is the same time steps of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.DtIdeal.Product.steps (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext y
    obtain ⟨p, q, rfl⟩ : ∃ (p : Fin 4096) (q : Fin 128), y = ix2 p q := ⟨y 0, y 1, by funext a; fin_cases a <;> rfl⟩
    unfold Cert.DtIdeal.Product.steps Cert.DtIdeal.Product.softplus
    pointwise
    rw [if_neg (not_not.mpr rfl)]
    rfl), (h c).2⟩) (Value.run (F := Ideal) m ρ)

/-- It terminates, faults nowhere, and leaves the arguments and every semaphore as they were. -/
theorem frame : quiescent_DtReferenceIdeal := fun m ρ _ =>
  (θ_run defs _ _).mono (fun r h => ⟨fun c => (h c).2, sem_eq_zero_of_no_sems (by decide) r.2⟩) (Value.run (F := Ideal) m ρ)

end Cert.DtReferenceIdeal.Product

namespace Cert.Proof

open Idealize.ShloMosaic Idealize.SL.Sem

/-- The kernel's result and the reference's are the same array. -/
theorem algebraic_Dt : algebraic_DtIdeal_DtReferenceIdeal := by
  intro m g m' g' _ hagree
  refine ⟨fun c => Cert.DtIdeal.Product.result m c, Cert.DtIdeal.Product.run m g, ?_⟩
  refine (θ_run Cert.DtReferenceIdeal.defs _ _).mono (fun r h c => ⟨(h c).1.trans ?_, (h c).2⟩)
    (Cert.DtReferenceIdeal.Product.run m' g')
  rw [(hagree c).1, (hagree c).2]

end Cert.Proof

end
-- ==== Proof.CastX.lean ====
/- The value of `CastX`: the step's input and its transpose in bf16, over the reals the same numbers. -/
module

public import proofs.«01_k».proof.Defs
public import proofs.«01_k».proof.Proof.Gen.CastXIdeal.Value
public import proofs.«01_k».proof.Proof.Gen.CastXReferenceIdeal.Run
public import Idealize.ShloMosaic.Lib.Pointwise
public import Idealize.ShloMosaic.Lib.Claim

@[expose] public section

noncomputable section

namespace Cert.CastXIdeal.Product

open Cert.CastXIdeal Cert.CastXIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The input, in bf16. -/
def copy (x0 : Vec Ideal S4096x4096 .f32) : Vec Ideal S4096x4096 .bf16 := fun i => x0 i

/-- The transpose, in bf16. -/
def flip (x0 : Vec Ideal S4096x4096 .f32) : Vec Ideal S4096x4096 .bf16 := fun i => x0 (ix2 (i 1) (i 0))

/-- What the body leaves in the first output block. -/
theorem out1_apply (x0 : Vec Ideal S512x4096 .f32) (p : Fin 512) (q : Fin 4096) : out0_1 x0 (ix2 p q) = x0 (ix2 p q) := by
  unfold out0_1
  rw [View.canon_unit_zero hz, View.ld_unit_zero (S := S512x4096) hz]
  rfl

/-- What the body leaves in the second output block. -/
theorem out2_apply (x0 : Vec Ideal S512x4096 .f32) (p : Fin 4096) (q : Fin 512) : out0_2 x0 (ix2 p q) = x0 (ix2 q p) := by
  unfold out0_2
  rw [View.canon_unit_zero hz, View.ld_unit_zero (S := S512x4096) hz]
  unfold k0_pay2
  pointwise

/-- Which blocks grid point `t` reads and writes. -/
theorem index_facts : ∀ t : Fin grid0.N, (win0_0.index t 0 = t.val ∧ win0_0.index t 1 = 0)
    ∧ (win0_1.index t 0 = t.val ∧ win0_1.index t 1 = 0)
    ∧ (win0_2.index t 0 = 0 ∧ win0_2.index t 1 = t.val) := by
  decide +kernel

/-- An entry of the block of argument 0 at `t`. -/
theorem block_0 (c : Dev nD) (t : Fin cfg0.N) (p : Fin 512) (k : Fin 4096) (i : Fin 4096) (j : Fin 4096)
    (hi : i.val = t.val * 512 + p.val) (hj : j.val = 0 * 4096 + k.val) :
    (iblk m c 0 t : Vec Ideal S512x4096 .f32) (ix2 p k) = m ((c : Thread nD τ).loc main_arg0) (ix2 i j) := by
  unfold iblk
  rw [View.read_apply]
  show m ((c : Thread nD τ).loc main_arg0) _ = m ((c : Thread nD τ).loc main_arg0) _
  congr 1
  funext a
  apply Fin.ext
  obtain ⟨h0, h1⟩ := (index_facts t).1
  match a with
  | ⟨0, _⟩ => show win0_0.index t 0 * 512 + 1 * p.val = i.val; rw [h0]; omega
  | ⟨1, _⟩ => show win0_0.index t 1 * 4096 + 1 * k.val = j.val; rw [h1]; omega

/-- The first result array after the run. -/
abbrev result (c : Dev nD) : Buf (Elt Ideal) ((c : Thread nD τ).loc main_v0_0) := copy (m ((c : Thread nD τ).loc main_arg0))

/-- The second result array after the run. -/
abbrev result' (c : Dev nD) : Buf (Elt Ideal) ((c : Thread nD τ).loc main_v0_1) := flip (m ((c : Thread nD τ).loc main_arg0))

/-- Point `t` writes its rows of the input. -/
theorem flushed1_eq (c : Dev nD) (t : Fin cfg0.N) :
    (dats m 0 c).flushed 1 t = ((cfg0.win 1).blk t).view.read (Elt Ideal) (result m c) := by
  rw [Value.flushed1]
  obtain ⟨h0, h1⟩ := (index_facts t).2.1
  funext y
  rw [View.read_apply]
  obtain ⟨p, q, rfl⟩ : ∃ (p : Fin 512) (q : Fin 4096), y = ix2 p q := ⟨y 0, y 1, by funext a; fin_cases a <;> rfl⟩
  show out0_1 (iblk m c 0 t) (ix2 p q) = copy _ (((cfg0.win 1).blk t).view.emb (ix2 p q))
  refine (out1_apply _ p q).trans ((block_0 m c t p q ((((cfg0.win 1).blk t).view.emb (ix2 p q)) 0) ((((cfg0.win 1).blk t).view.emb (ix2 p q)) 1) ?_ ?_).trans ?_)
  · show win0_1.index t 0 * 512 + 1 * p.val = _; rw [h0]; omega
  · show win0_1.index t 1 * 4096 + 1 * q.val = _; rw [h1]; omega
  · unfold copy
    refine congrArg (m ((c : Thread nD τ).loc main_arg0)) (funext fun a => ?_)
    fin_cases a <;> rfl

/-- Point `t` writes its columns of the transpose. -/
theorem flushed2_eq (c : Dev nD) (t : Fin cfg0.N) :
    (dats m 0 c).flushed 2 t = ((cfg0.win 2).blk t).view.read (Elt Ideal) (result' m c) := by
  rw [Value.flushed2]
  obtain ⟨h0, h1⟩ := (index_facts t).2.2
  funext y
  rw [View.read_apply]
  obtain ⟨p, q, rfl⟩ : ∃ (p : Fin 4096) (q : Fin 512), y = ix2 p q := ⟨y 0, y 1, by funext a; fin_cases a <;> rfl⟩
  show out0_2 (iblk m c 0 t) (ix2 p q) = flip _ (((cfg0.win 2).blk t).view.emb (ix2 p q))
  refine (out2_apply _ p q).trans (block_0 m c t q p _ _ ?_ ?_)
  · show win0_2.index t 1 * 512 + 1 * q.val = _; rw [h1]; omega
  · show win0_2.index t 0 * 4096 + 1 * p.val = _; rw [h0]; omega

/-- The first result array is what the blocks say: they tile it. -/
theorem final1_eq (c : Dev nD) : (dats m 0 c).arrAt 1 cfg0.N = result m c :=
  (dats m 0 c).arrAt_eq_of_cover 1 (result m c) (fun t _ => flushed1_eq m c t) fun i => by
    have b0 : (i 0 : Nat) < 4096 := (i 0).isLt
    have b1 : (i 1 : Nat) < 4096 := (i 1).isLt
    obtain ⟨t, ht⟩ : ∃ t : Fin cfg0.N, t.val = (i 0 : Nat) / 512 := ⟨⟨(i 0 : Nat) / 512, lt_of_lt_of_eq (by omega) N_0.symm⟩, rfl⟩
    obtain ⟨h0, h1⟩ := (index_facts t).2.1
    refine ⟨t, flush0_1 t, ?_⟩
    show i ∈ ((View.whole main_v0_0).slice (win0_1.rect t)).set
    rw [View.set_slice_whole, Rect.mem_set_unit]
    intro a
    match a with
    | ⟨0, _⟩ => show win0_1.index t 0 * 512 ≤ (i 0 : Nat) ∧ (i 0 : Nat) < win0_1.index t 0 * 512 + 512
                rw [h0]; omega
    | ⟨1, _⟩ => show win0_1.index t 1 * 4096 ≤ (i 1 : Nat) ∧ (i 1 : Nat) < win0_1.index t 1 * 4096 + 4096
                rw [h1]; omega

/-- The second result array is what the blocks say: they tile it. -/
theorem final2_eq (c : Dev nD) : (dats m 0 c).arrAt 2 cfg0.N = result' m c :=
  (dats m 0 c).arrAt_eq_of_cover 2 (result' m c) (fun t _ => flushed2_eq m c t) fun i => by
    have b0 : (i 0 : Nat) < 4096 := (i 0).isLt
    have b1 : (i 1 : Nat) < 4096 := (i 1).isLt
    obtain ⟨t, ht⟩ : ∃ t : Fin cfg0.N, t.val = (i 1 : Nat) / 512 := ⟨⟨(i 1 : Nat) / 512, lt_of_lt_of_eq (by omega) N_0.symm⟩, rfl⟩
    obtain ⟨h0, h1⟩ := (index_facts t).2.2
    refine ⟨t, flush0_2 t, ?_⟩
    show i ∈ ((View.whole main_v0_1).slice (win0_2.rect t)).set
    rw [View.set_slice_whole, Rect.mem_set_unit]
    intro a
    match a with
    | ⟨0, _⟩ => show win0_2.index t 0 * 4096 ≤ (i 0 : Nat) ∧ (i 0 : Nat) < win0_2.index t 0 * 4096 + 4096
                rw [h0]; omega
    | ⟨1, _⟩ => show win0_2.index t 1 * 512 ≤ (i 1 : Nat) ∧ (i 1 : Nat) < win0_2.index t 1 * 512 + 512
                rw [h1]; omega

/-- The run: the result arrays as stated, the arguments unchanged. -/
theorem run : θ_run defs (onTc (τ := τ) (main (F := Ideal))) ⟨m, fun _ => 0, ρ⟩ fun r => ∀ c : Dev nD,
      r.2.mem ((c : Thread nD τ).loc main_v0_0) = result m c
      ∧ r.2.mem ((c : Thread nD τ).loc main_v0_1) = result' m c
      ∧ r.2.mem ((c : Thread nD τ).loc main_arg0) = m ((c : Thread nD τ).loc main_arg0) :=
  (θ_run defs _ _).mono (fun _ h c => ⟨(h c).1.trans (final1_eq m c), (h c).2.1.trans (final2_eq m c), (h c).2.2⟩) (Value.run_blocks m ρ)

end Cert.CastXIdeal.Product

namespace Cert.CastXReferenceIdeal.Product

open Cert.CastXReferenceIdeal Cert.CastXReferenceIdeal.Gen Idealize.ShloMosaic Idealize.ShloMosaic.TcCoe Idealize.SL.Sem

/-- The reference's run: its results are the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Cert.CastXIdeal.Product.copy (m ((c.tc : Thread nD τ).loc main_arg0))
      ∧ r.2.mem ((c.tc : Thread nD τ).loc main_v2) = Cert.CastXIdeal.Product.flip (m ((c.tc : Thread nD τ).loc main_arg0))
      ∧ r.2.mem ((c.tc : Thread nD τ).loc main_arg0) = m ((c.tc : Thread nD τ).loc main_arg0) :=
  (θ_run defs _ _).mono (fun _ h c => ⟨(h c).1.trans (by funext y; rfl), (h c).2.1.trans (by
    funext y
    obtain ⟨p, q, rfl⟩ : ∃ (p : Fin 4096) (q : Fin 4096), y = ix2 p q := ⟨y 0, y 1, by funext a; fin_cases a <;> rfl⟩
    unfold Cert.CastXIdeal.Product.flip
    pointwise), (h c).2.2⟩) (Value.run (F := Ideal) m ρ)

/-- It terminates, faults nowhere, and leaves the arguments and every semaphore as they were. -/
theorem frame : quiescent_CastXReferenceIdeal := fun m ρ _ =>
  (θ_run defs _ _).mono (fun r h => ⟨fun c => (h c).2.2, sem_eq_zero_of_no_sems (by decide) r.2⟩) (Value.run (F := Ideal) m ρ)

end Cert.CastXReferenceIdeal.Product

namespace Cert.Proof

open Idealize.ShloMosaic Idealize.SL.Sem

/-- The kernel's results and the reference's are the same arrays. -/
theorem algebraic_CastX : algebraic_CastXIdeal_CastXReferenceIdeal := by
  intro m g m' g' _ hagree
  refine ⟨fun c => Cert.CastXIdeal.Product.result m c, fun c => Cert.CastXIdeal.Product.result' m c, Cert.CastXIdeal.Product.run m g, ?_⟩
  refine (θ_run Cert.CastXReferenceIdeal.defs _ _).mono (fun r h c => ⟨(h c).1.trans ?_, (h c).2.1.trans ?_, (h c).2.2⟩)
    (Cert.CastXReferenceIdeal.Product.run m' g')
  · rw [hagree c]
  · rw [hagree c]

end Cert.Proof

end
-- ==== Proof.Conv.lean ====
/- The value of `Conv`, the SSM layer's causal convolution: each entry is the bias and four products of a weight with the
   column's entry up to three rows back, put through silu. The kernel works on blocks of rows and takes the rows before a
   block from the eight above it; the reference pads the array with three rows of zeros and slices it. -/
module

public import proofs.«01_k».proof.Defs
public import proofs.«01_k».proof.Proof.Gen.ConvIdeal.Value
public import proofs.«01_k».proof.Proof.Gen.ConvReferenceIdeal.Run
public import Idealize.ShloMosaic.Lib.Pointwise
public import Idealize.ShloMosaic.Lib.Claim

@[expose] public section

noncomputable section

namespace Cert.ConvIdeal.Product

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- `v` times its sigmoid. -/
def silu (v : EReal) : EReal := v * Ideal.div 1 (1 + Ideal.exp (-v))

/-- The bias and the four taps, the last one first. -/
def taps (b w0 w1 w2 w3 x0 x1 x2 x3 : EReal) : EReal := b + w3 * x0 + w0 * x3 + w1 * x2 + w2 * x1

/-- The entry `s` rows above (i, j) of the convolution's columns, zero above the array. -/
def above (x : Vec Ideal S4096x18560 .f32) (s : Nat) (i : Fin 4096) (j : Fin 10240) : EReal :=
  if i.val < s then 0 else x (ix2 ⟨i.val - s, by have := i.isLt; omega⟩ ⟨8192 + j.val, by have := j.isLt; omega⟩)

/-- The convolution both programs compute. -/
def conv (x : Vec Ideal S4096x18560 .f32) (w : Vec Ideal S4x10240 .f32) (b : Vec Ideal S1x10240 .f32) : Vec Ideal S4096x10240 .f32 :=
  fun i => silu (taps (b (ix2 0 (i 1))) (w (ix2 0 (i 1))) (w (ix2 1 (i 1))) (w (ix2 2 (i 1))) (w (ix2 3 (i 1)))
    (above x 0 (i 0) (i 1)) (above x 1 (i 0) (i 1)) (above x 2 (i 0) (i 1)) (above x 3 (i 0) (i 1)))

/-- A block moved down by some rows, the free ones filled from the end of the eight rows before it. -/
def shifted (sb : BitVec 32) (h : FVec Ideal S8x512 .f32) (x : FVec Ideal S1024x512 .f32) : FVec Ideal S1024x512 .f32 :=
  concatenate S1024x512 0
    [⟨S8x512, select (cmpi .slt (iota .tc S8x512 32 [0] iota_S8x512_d0_w32) (broadcast S8x512 sb))
      (dynamicRotate 0 sb none h rotates_S8x512_d0)
      (extractStridedSlice S8x512 ![0, 0] (dynamicRotate 0 sb none x rotates_S1024x512_d0) slices_S1024x512_o0_0_S8x512)⟩,
     ⟨S1016x512, extractStridedSlice S1016x512 ![8, 0] (dynamicRotate 0 sb none x rotates_S1024x512_d0) slices_S1024x512_o8_0_S1016x512⟩]
    concatenates_S8x512_S1016x512_S1024x512_d0

/-- Row `p − s` of the block, or of the eight rows before it. -/
def back (s : Nat) (h : Vec Ideal S8x512 .f32) (x : Vec Ideal S1024x512 .f32) (p : Fin 1024) (q : Fin 512) : EReal :=
  if p.val < s then h (ix2 ⟨(p.val + 8 - s) % 8, Nat.mod_lt _ (by decide)⟩ q)
  else x (ix2 ⟨p.val - s, by have := p.isLt; omega⟩ q)

/-- Comparing a row number below eight with the shift. -/
theorem slt_row : ∀ (p : Fin 8) (s : Fin 4), IntOp.cmpi .slt (BitVec.ofNat 32 p.val) (BitVec.ofNat 32 s.val) = if p.val < s.val then 1#1 else 0#1 := by
  decide +kernel

/-- A shift by at most three rows, at an entry. -/
theorem shifted_apply (s : Fin 4) (h : Vec Ideal S8x512 .f32) (x : Vec Ideal S1024x512 .f32) (p : Fin 1024) (q : Fin 512) :
    shifted (BitVec.ofNat 32 s.val) h x (ix2 p q) = back s.val h x p q := by
  have hs := s.isLt
  have hp := p.isLt
  have e : (BitVec.ofNat 32 s.val).toNat = s.val := by rw [BitVec.toNat_ofNat]; omega
  unfold shifted back
  pointwise
  by_cases h8 : p.val < 8
  · rw [dif_pos h8]
    have := slt_row ⟨p.val, h8⟩ s
    by_cases hlt : p.val < s.val
    · rw [if_pos hlt] at this ⊢
      refine (congrArg (fun b : BitVec 1 => Scalar.select b _ _) this).trans ?_
      rw [ValueIdx.select_one]
      refine congrArg (fun k => h (ix2 k q)) (Fin.ext ?_)
      show (p.val + 8 - (BitVec.ofNat 32 s.val).toNat % 8) % 8 = (p.val + 8 - s.val) % 8
      omega
    · rw [if_neg hlt] at this ⊢
      refine (congrArg (fun b : BitVec 1 => Scalar.select b _ _) this).trans ?_
      rw [ValueIdx.select_zero]
      refine congrArg (fun k => x (ix2 k q)) (Fin.ext ?_)
      show (p.val + 1024 - (BitVec.ofNat 32 s.val).toNat % 1024) % 1024 = p.val - s.val
      omega
  · rw [dif_neg h8, if_neg (show ¬ p.val < s.val by omega)]
    refine congrArg (fun k => x (ix2 k q)) (Fin.ext ?_)
    show (8 + (p.val - 8) + 1024 - (BitVec.ofNat 32 s.val).toNat % 1024) % 1024 = p.val - s.val
    omega

/-- The body's sum before its last tap, over the shifted blocks. -/
theorem pay3_apply (i : grid0.Coords) (h : FVec Ideal S8x512 .f32) (x : FVec Ideal S1024x512 .f32) (w : FVec Ideal S4x512 .f32)
    (b : FVec Ideal S1x512 .f32) (p : Fin 1024) (q : Fin 512) :
    k0_pay3 i h x w b (ix2 p q) = b (ix2 0 q) + w (ix2 3 q) * x (ix2 p q) + w (ix2 0 q) * back 3 (k0_pay2 (F := Ideal) i h) x p q
      + w (ix2 1 q) * back 2 (k0_pay2 (F := Ideal) i h) x p q := by
  have e3 : shifted 3#32 (k0_pay2 (F := Ideal) i h) x (ix2 p q) = back 3 (k0_pay2 (F := Ideal) i h) x p q := shifted_apply 3 _ x p q
  have e2 : shifted 2#32 (k0_pay2 (F := Ideal) i h) x (ix2 p q) = back 2 (k0_pay2 (F := Ideal) i h) x p q := shifted_apply 2 _ x p q
  rw [← e3, ← e2]
  show addf (F := Ideal) (addf (F := Ideal) (addf (F := Ideal) (broadcastTo S1024x512 b broadcasts_S1x512_S1024x512)
      (mulf (F := Ideal) (broadcastTo S1024x512 (extractStridedSlice S1x512 ![3, 0] w slices_S4x512_o3_0_S1x512) broadcasts_S1x512_S1024x512) x))
      (mulf (F := Ideal) (broadcastTo S1024x512 (extractStridedSlice S1x512 ![0, 0] w slices_S4x512_o0_0_S1x512) broadcasts_S1x512_S1024x512) (shifted 3#32 (k0_pay2 (F := Ideal) i h) x)))
      (mulf (F := Ideal) (broadcastTo S1024x512 (extractStridedSlice S1x512 ![1, 0] w slices_S4x512_o1_0_S1x512) broadcasts_S1x512_S1024x512) (shifted 2#32 (k0_pay2 (F := Ideal) i h) x)) (ix2 p q) = _
  pointwise

/-- The body's last tap and the silu. -/
theorem pay1_apply (h : FVec Ideal S8x512 .f32) (a : FVec Ideal S1024x512 .f32) (w : FVec Ideal S4x512 .f32) (x : FVec Ideal S1024x512 .f32)
    (p : Fin 1024) (q : Fin 512) :
    k0_pay1 h a (k0_pay4 w) (k0_pay5 x) 1#32 (ix2 p q) = silu (a (ix2 p q) + w (ix2 2 q) * back 1 h x p q) := by
  have e1 : shifted 1#32 h x (ix2 p q) = back 1 h x p q := shifted_apply 1 h x p q
  rw [← e1]
  have e : addf a (mulf (F := Ideal) (broadcastTo S1024x512 (k0_pay4 w) broadcasts_S1x512_S1024x512) (shifted 1#32 h x)) (ix2 p q)
      = a (ix2 p q) + w (ix2 2 q) * shifted 1#32 h x (ix2 p q) := by
    unfold k0_pay4
    pointwise
  refine Eq.trans ?_ (congrArg silu e)
  show mulf (addf a (mulf (F := Ideal) (broadcastTo S1024x512 (k0_pay4 w) broadcasts_S1x512_S1024x512) (shifted 1#32 h x)))
    (divf (broadcast S1024x512 (Scalar.ofBits .f32 0x3F800000#32)) (addf (broadcast S1024x512 (Scalar.ofBits .f32 0x3F800000#32))
      (exp (subf (broadcast S1024x512 (Scalar.ofBits .f32 0x00000000#32))
        (addf a (mulf (F := Ideal) (broadcastTo S1024x512 (k0_pay4 w) broadcasts_S1x512_S1024x512) (shifted 1#32 h x))))))) (ix2 p q) = _
  generalize addf a (mulf (F := Ideal) (broadcastTo S1024x512 (k0_pay4 w) broadcasts_S1x512_S1024x512) (shifted 1#32 h x)) = v
  unfold silu
  pointwise
  rw [zero_sub]

/-- The eight rows before the block: zeros for the first row of blocks. -/
theorem pay2_apply (i : grid0.Coords) (h : Vec Ideal S8x512 .f32) (k : Fin 8) (q : Fin 512) :
    k0_pay2 i h (ix2 k q) = if (i 0).val = 0 then 0 else h (ix2 k q) := by
  unfold k0_pay2
  have d : ∀ n : Fin 4, Scalar.cmpi .sgt (BitVec.ofNat 32 n.val) 0#32 = if n.val = 0 then 0#1 else 1#1 := by decide +kernel
  dsimp only
  rw [d (i 0)]
  by_cases h0 : (i 0).val = 0
  · rw [if_pos h0, if_pos h0, ValueIdx.select_zero]; pointwise
  · rw [if_neg h0, if_neg h0, ValueIdx.select_one]

/-- What the body leaves in the output block. -/
theorem out_apply (c : Dev nD) (i : grid0.Coords) (a2 : Memref sig .tc .vmem S1024x512 .f32) (h2 : a2.IsWhole) (a3 : Memref sig .tc .vmem S8x512 .f32) (h3 : a3.IsWhole)
    (a4 : Memref sig .tc .vmem S4x512 .f32) (h4 : a4.IsWhole) (a5 : Memref sig .tc .vmem S1x512 .f32) (h5 : a5.IsWhole) (a6 : Memref sig .tc .vmem S1024x512 .f32) (h6 : a6.IsWhole)
    (x : Vec Ideal S1024x512 .f32) (h : Vec Ideal S8x512 .f32) (w : Vec Ideal S4x512 .f32) (b : Vec Ideal S1x512 .f32) (p : Fin 1024) (q : Fin 512) :
    out0_A_4 c i a2 h2 a3 h3 a4 h4 a5 h5 a6 h6 x h w b (ix2 p q)
      = silu (taps (b (ix2 0 q)) (w (ix2 0 q)) (w (ix2 1 q)) (w (ix2 2 q)) (w (ix2 3 q)) (x (ix2 p q))
          (back 1 (k0_pay2 (F := Ideal) i h) x p q) (back 2 (k0_pay2 (F := Ideal) i h) x p q) (back 3 (k0_pay2 (F := Ideal) i h) x p q)) := by
  have e : out0_A_4 c i a2 h2 a3 h3 a4 h4 a5 h5 a6 h6 x h w b = k0_pay1 (k0_pay2 (F := Ideal) i h) (k0_pay3 i h x w b) (k0_pay4 w) (k0_pay5 x) 1#32 := by
    unfold out0_A_4
    rw [View.read_writes_eq_canon _ _ _ (cover0_A_4 c i a2 h2 a3 h3 a4 h4 a5 h5 a6 h6 x h w b)]
    unfold kernelRun0_A
    dsimp only
    sl_unfold_words
    rw [View.canon_unit_zero hz]
    simp only [View.readAt_eq_ld, h2.read_unread, h3.read_unread, h4.read_unread, h5.read_unread, View.ld_unit_zero (S := S1024x512) hz,
      View.ld_unit_zero (S := S8x512) hz, View.ld_unit_zero (S := S4x512) hz, View.ld_unit_zero (S := S1x512) hz]
  rw [e, pay1_apply, pay3_apply]
  rfl

/-- Which blocks grid point `t` reads and writes. -/
theorem index_facts : ∀ t : Fin grid0.N, (win0_0.index t 0 = t.val / 20 ∧ win0_0.index t 1 = 16 + t.val % 20)
    ∧ (win0_1.index t 0 = 128 * (t.val / 20) - 1 ∧ win0_1.index t 1 = 16 + t.val % 20)
    ∧ (win0_2.index t 0 = 0 ∧ win0_2.index t 1 = t.val % 20)
    ∧ (win0_3.index t 0 = 0 ∧ win0_3.index t 1 = t.val % 20)
    ∧ (win0_4.index t 0 = t.val / 20 ∧ win0_4.index t 1 = t.val % 20)
    ∧ (grid0.coords t 0).val = t.val / 20 := by
  decide +kernel

/-- An entry of window 0's block at `t`. -/
theorem block_0 (c : Dev nD) (t : Fin cfg0.N) (p : Fin 1024) (k : Fin 512) (i : Fin 4096) (j : Fin 18560)
    (hi : i.val = t.val / 20 * 1024 + p.val) (hj : j.val = (16 + t.val % 20) * 512 + k.val) :
    (X0_0 m c t : Vec Ideal S1024x512 .f32) (ix2 p k) = m ((c : Thread nD τ).loc main_arg0) (ix2 i j) := by
  unfold X0_0 Pipeline.Window.fill
  rw [dif_pos (moved0_0 t _)]
  unfold iblk
  rw [View.read_apply]
  show m ((c : Thread nD τ).loc main_arg0) _ = m ((c : Thread nD τ).loc main_arg0) _
  congr 1
  funext a
  apply Fin.ext
  obtain ⟨h0, h1⟩ := (index_facts t).1
  match a with
  | ⟨0, _⟩ => show win0_0.index t 0 * 1024 + 1 * p.val = i.val; rw [h0]; omega
  | ⟨1, _⟩ => show win0_0.index t 1 * 512 + 1 * k.val = j.val; rw [h1]; omega

/-- An entry of window 1's block at `t`. -/
theorem block_1 (c : Dev nD) (t : Fin cfg0.N) (p : Fin 8) (k : Fin 512) (i : Fin 4096) (j : Fin 18560)
    (hi : i.val = (128 * (t.val / 20) - 1) * 8 + p.val) (hj : j.val = (16 + t.val % 20) * 512 + k.val) :
    (X0_1 m c t : Vec Ideal S8x512 .f32) (ix2 p k) = m ((c : Thread nD τ).loc main_arg0) (ix2 i j) := by
  unfold X0_1 Pipeline.Window.fill
  rw [dif_pos (moved0_1 t _)]
  unfold iblk
  rw [View.read_apply]
  show m ((c : Thread nD τ).loc main_arg0) _ = m ((c : Thread nD τ).loc main_arg0) _
  congr 1
  funext a
  apply Fin.ext
  obtain ⟨h0, h1⟩ := (index_facts t).2.1
  match a with
  | ⟨0, _⟩ => show win0_1.index t 0 * 8 + 1 * p.val = i.val; rw [h0]; omega
  | ⟨1, _⟩ => show win0_1.index t 1 * 512 + 1 * k.val = j.val; rw [h1]; omega

/-- An entry of window 2's block at `t`. -/
theorem block_2 (c : Dev nD) (t : Fin cfg0.N) (p : Fin 4) (k : Fin 512) (i : Fin 4) (j : Fin 10240)
    (hi : i.val = 0 + p.val) (hj : j.val = t.val % 20 * 512 + k.val) :
    (iblk m c 2 t : Vec Ideal S4x512 .f32) (ix2 p k) = m ((c : Thread nD τ).loc main_arg1) (ix2 i j) := by
  unfold iblk
  rw [View.read_apply]
  show m ((c : Thread nD τ).loc main_arg1) _ = m ((c : Thread nD τ).loc main_arg1) _
  congr 1
  funext a
  apply Fin.ext
  obtain ⟨h0, h1⟩ := (index_facts t).2.2.1
  match a with
  | ⟨0, _⟩ => show win0_2.index t 0 * 4 + 1 * p.val = i.val; rw [h0]; omega
  | ⟨1, _⟩ => show win0_2.index t 1 * 512 + 1 * k.val = j.val; rw [h1]; omega

/-- An entry of window 3's block at `t`. -/
theorem block_3 (c : Dev nD) (t : Fin cfg0.N) (p : Fin 1) (k : Fin 512) (i : Fin 1) (j : Fin 10240)
    (hi : i.val = 0 + p.val) (hj : j.val = t.val % 20 * 512 + k.val) :
    (iblk m c 3 t : Vec Ideal S1x512 .f32) (ix2 p k) = m ((c : Thread nD τ).loc main_arg2) (ix2 i j) := by
  unfold iblk
  rw [View.read_apply]
  show m ((c : Thread nD τ).loc main_arg2) _ = m ((c : Thread nD τ).loc main_arg2) _
  congr 1
  funext a
  apply Fin.ext
  obtain ⟨h0, h1⟩ := (index_facts t).2.2.2.1
  match a with
  | ⟨0, _⟩ => show win0_3.index t 0 * 1 + 1 * p.val = i.val; rw [h0]; omega
  | ⟨1, _⟩ => show win0_3.index t 1 * 512 + 1 * k.val = j.val; rw [h1]; omega

/-- A block's entry, at most three rows up, is the array's. -/
theorem back_eq (c : Dev nD) (t : Fin cfg0.N) (s : Nat) (hs : s ≤ 3) (p : Fin 1024) (q : Fin 512) (i : Fin 4096) (j : Fin 10240)
    (hi : i.val = t.val / 20 * 1024 + p.val) (hj : j.val = t.val % 20 * 512 + q.val) :
    back s (k0_pay2 (F := Ideal) (grid0.coords t) (X0_1 m c t)) (X0_0 m c t) p q = above (m ((c : Thread nD τ).loc main_arg0)) s i j := by
  have hp := p.isLt
  unfold back above
  by_cases hps : p.val < s
  · rw [if_pos hps, pay2_apply, (index_facts t).2.2.2.2.2]
    by_cases h0 : t.val / 20 = 0
    · rw [if_pos h0, if_pos (by omega)]
    · rw [if_neg h0, if_neg (by omega)]
      exact block_1 m c t _ q _ _ (by show i.val - s = (128 * (t.val / 20) - 1) * 8 + (p.val + 8 - s) % 8; omega)
        (by show 8192 + j.val = _; omega)
  · rw [if_neg hps, if_neg (by omega)]
    exact block_0 m c t _ q _ _ (by show i.val - s = t.val / 20 * 1024 + (p.val - s); omega) (by show 8192 + j.val = _; omega)

/-- The result array after the run. -/
abbrev result (c : Dev nD) : Buf (Elt Ideal) ((c : Thread nD τ).loc main_v0) :=
  conv (m ((c : Thread nD τ).loc main_arg0)) (m ((c : Thread nD τ).loc main_arg1)) (m ((c : Thread nD τ).loc main_arg2))

/-- Point `t` writes its block of the convolution. -/
theorem flushed4_eq (c : Dev nD) (t : Fin cfg0.N) :
    (dats m 0 c).flushed 4 t = ((cfg0.win 4).blk t).view.read (Elt Ideal) (result m c) := by
  rw [Value.flushed4_A]
  obtain ⟨h0, h1⟩ := (index_facts t).2.2.2.2.1
  funext y
  rw [View.read_apply]
  obtain ⟨p, q, rfl⟩ : ∃ (p : Fin 1024) (q : Fin 512), y = ix2 p q := ⟨y 0, y 1, by funext a; fin_cases a <;> rfl⟩
  show out0_A_4 c (grid0.coords t) (ms0_0 t) (hs0_0 t) (ms0_1 t) (hs0_1 t) (ms0_2 t) (hs0_2 t) (ms0_3 t) (hs0_3 t) (ms0_4 t) (hs0_4 t)
    (X0_0 m c t) (X0_1 m c t) (iblk m c 2 t) (iblk m c 3 t) (ix2 p q) = result m c (((cfg0.win 4).blk t).view.emb (ix2 p q))
  refine (out_apply c (grid0.coords t) _ _ _ _ _ _ _ _ _ _ (X0_0 m c t) (X0_1 m c t) (iblk m c 2 t) (iblk m c 3 t) p q).trans ?_
  have e0 : ((((cfg0.win 4).blk t).view.emb (ix2 p q)) 0).val = t.val / 20 * 1024 + p.val := by
    show win0_4.index t 0 * 1024 + 1 * p.val = _; rw [h0]; omega
  have e1 : ((((cfg0.win 4).blk t).view.emb (ix2 p q)) 1).val = t.val % 20 * 512 + q.val := by
    show win0_4.index t 1 * 512 + 1 * q.val = _; rw [h1]; omega
  unfold result conv
  rw [back_eq m c t 1 (by decide) p q _ _ e0 e1, back_eq m c t 2 (by decide) p q _ _ e0 e1, back_eq m c t 3 (by decide) p q _ _ e0 e1]
  have b0 : (X0_0 m c t : Vec Ideal S1024x512 .f32) (ix2 p q) = above (m ((c : Thread nD τ).loc main_arg0)) 0 _ _ :=
    (if_neg (Nat.not_lt_zero _)).symm.trans (back_eq m c t 0 (by decide) p q _ _ e0 e1)
  rw [b0]
  rw [block_3 m c t 0 q 0 _ rfl e1, block_2 m c t 0 q 0 _ rfl e1, block_2 m c t 1 q 1 _ rfl e1, block_2 m c t 2 q 2 _ rfl e1, block_2 m c t 3 q 3 _ rfl e1]

/-- The result array is what the blocks say: they tile it. -/
theorem final4_eq (c : Dev nD) : (dats m 0 c).arrAt 4 cfg0.N = result m c :=
  (dats m 0 c).arrAt_eq_of_cover 4 (result m c) (fun t _ => flushed4_eq m c t) fun i => by
    have b0 : (i 0 : Nat) < 4096 := (i 0).isLt
    have b1 : (i 1 : Nat) < 10240 := (i 1).isLt
    obtain ⟨t, ht⟩ : ∃ t : Fin cfg0.N, t.val = (i 0 : Nat) / 1024 * 20 + (i 1 : Nat) / 512 :=
      ⟨⟨(i 0 : Nat) / 1024 * 20 + (i 1 : Nat) / 512, lt_of_lt_of_eq (by omega) N_0.symm⟩, rfl⟩
    obtain ⟨h0, h1⟩ := (index_facts t).2.2.2.2.1
    refine ⟨t, flush0_4 t, ?_⟩
    show i ∈ ((View.whole main_v0).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024
                rw [h0]; omega
    | ⟨1, _⟩ => show win0_4.index t 1 * 512 ≤ (i 1 : Nat) ∧ (i 1 : Nat) < win0_4.index t 1 * 512 + 512
                rw [h1]; omega

/-- The run: the result array as stated, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4_eq m c), (h c).2⟩) (Value.run_blocks m ρ)

end Cert.ConvIdeal.Product

namespace Cert.ConvReferenceIdeal.Product

open Cert.ConvReferenceIdeal Cert.ConvReferenceIdeal.Gen Idealize.ShloMosaic Idealize.ShloMosaic.TcCoe Idealize.SL.Sem
open Cert.ConvIdeal.Product (silu taps above conv)

/-- The convolution's columns under three rows of zeros. -/
def padded (x : FVec Ideal S4096x18560 .f32) : FVec Ideal S4099x10240 .f32 :=
  concatenate S4099x10240 0 [⟨S3x10240, broadcastInDim S3x10240 ![] bcast_S_S3x10240 (constant S_ .f32 0x00000000#32)⟩,
    ⟨S4096x10240, extractStridedSlice S4096x10240 ![0, 8192] x slices_S4096x18560_S4096x10240_0_8192⟩] concatenates_S3x10240_S4096x10240_S4099x10240_d0

/-- One tap: the rows from `k` on, times row `k` of the weights. -/
def tap (k : Nat) (h : S4099x10240.Slices ![k, 0] S4096x10240) (h' : S4x10240.Slices ![k, 0] S1x10240)
    (x : FVec Ideal S4099x10240 .f32) (w : FVec Ideal S4x10240 .f32) : FVec Ideal S4096x10240 .f32 :=
  mulf (F := Ideal) (extractStridedSlice S4096x10240 ![k, 0] x h)
    (broadcastInDim S4096x10240 ![0, 1] bcast_S1x10240_S4096x10240_0_1 (broadcastInDim S1x10240 ![1] bcast_S10240_S1x10240_1
      (shapeCast _ (extractStridedSlice S1x10240 ![k, 0] w h') shapeCasts_S1x10240_S10240)))

/-- The taps added up, and the bias. -/
def summed (x : FVec Ideal S4096x18560 .f32) (w : FVec Ideal S4x10240 .f32) (b : FVec Ideal S1x10240 .f32) : FVec Ideal S4096x10240 .f32 :=
  addf (addf (addf (addf (addf (broadcastInDim S4096x10240 ![] bcast_S_S4096x10240 (constant S_ .f32 0x00000000#32))
    (tap 0 slices_S4099x10240_S4096x10240_0_0 slices_S4x10240_S1x10240_0_0 (padded x) w))
    (tap 1 slices_S4099x10240_S4096x10240_1_0 slices_S4x10240_S1x10240_1_0 (padded x) w))
    (tap 2 slices_S4099x10240_S4096x10240_2_0 slices_S4x10240_S1x10240_2_0 (padded x) w))
    (tap 3 slices_S4099x10240_S4096x10240_3_0 slices_S4x10240_S1x10240_3_0 (padded x) w))
    (broadcastInDim S4096x10240 ![0, 1] bcast_S1x10240_S4096x10240_0_1 b)

/-- An array times its sigmoid. -/
def gated (v : FVec Ideal S4096x10240 .f32) : FVec Ideal S4096x10240 .f32 :=
  mulf (F := Ideal) v (Host.divf (broadcastInDim S4096x10240 ![] bcast_S_S4096x10240 (constant S_ .f32 0x3F800000#32))
    (addf (broadcastInDim S4096x10240 ![] bcast_S_S4096x10240 (constant S_ .f32 0x3F800000#32)) (Host.exp (Host.negf v))))

theorem padded_apply (x : FVec Ideal S4096x18560 .f32) (k : Fin 4099) (j : Fin 10240) :
    padded x (ix2 k j) = if h : k.val < 3 then 0 else x (ix2 ⟨k.val - 3, by have := k.isLt; omega⟩ ⟨8192 + j.val, by have := j.isLt; omega⟩) := by
  unfold padded
  pointwise

theorem tap_apply (k : Nat) (hk : k ≤ 3) (h : S4099x10240.Slices ![k, 0] S4096x10240) (h' : S4x10240.Slices ![k, 0] S1x10240)
    (x : FVec Ideal S4099x10240 .f32) (w : FVec Ideal S4x10240 .f32) (i : Fin 4096) (j : Fin 10240) :
    tap k h h' x w (ix2 i j) = x (ix2 ⟨k + i.val, by have := i.isLt; omega⟩ j) * w (ix2 ⟨k, by omega⟩ j) := by
  unfold tap
  pointwise

theorem summed_apply (x : FVec Ideal S4096x18560 .f32) (w : FVec Ideal S4x10240 .f32) (b : FVec Ideal S1x10240 .f32) (i : Fin 4096) (j : Fin 10240) :
    summed x w b (ix2 i j) = taps (b (ix2 0 j)) (w (ix2 0 j)) (w (ix2 1 j)) (w (ix2 2 j)) (w (ix2 3 j))
      (above x 0 i j) (above x 1 i j) (above x 2 i j) (above x 3 i j) := by
  have e : ∀ (s k : Nat) (hk : k + s = 3), padded x (ix2 ⟨k + i.val, by have := i.isLt; omega⟩ j) = above x s i j := by
    intro s k hk
    rw [padded_apply]
    unfold above
    by_cases h : i.val < s
    · rw [dif_pos (show k + i.val < 3 by omega), if_pos h]
    · rw [dif_neg (show ¬ k + i.val < 3 by omega), if_neg h]
      exact congrArg (fun r => x (ix2 r _)) (Fin.ext (show k + i.val - 3 = i.val - s by omega))
  unfold summed
  pointwise
  rw [tap_apply 0 (by decide), tap_apply 1 (by decide), tap_apply 2 (by decide), tap_apply 3 (by decide),
    e 3 0 rfl, e 2 1 rfl, e 1 2 rfl, e 0 3 rfl]
  unfold taps
  rw [mul_comm (above x 3 i j), mul_comm (above x 2 i j), mul_comm (above x 1 i j), mul_comm (above x 0 i j)]
  ac_rfl

theorem gated_apply (v : FVec Ideal S4096x10240 .f32) (i : Fin 4096) (j : Fin 10240) : gated v (ix2 i j) = silu (v (ix2 i j)) := by
  unfold gated silu
  pointwise

/-- The reference's array is the same convolution. -/
theorem gated_eq (x : FVec Ideal S4096x18560 .f32) (w : FVec Ideal S4x10240 .f32) (b : FVec Ideal S1x10240 .f32) :
    gated (summed x w b) = conv x w b := by
  funext y
  obtain ⟨i, j, rfl⟩ : ∃ (i : Fin 4096) (j : Fin 10240), y = ix2 i j := ⟨y 0, y 1, by funext a; fin_cases a <;> rfl⟩
  rw [gated_apply, summed_apply]
  rfl

/-- The reference's run: its result is the same convolution of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = conv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (gated_eq (m ((c.tc : Thread nD τ).loc main_arg0)) (m ((c.tc : Thread nD τ).loc main_arg1)) (m ((c.tc : Thread nD τ).loc main_arg2))), (h c).2⟩)
    (Value.run (F := Ideal) m ρ)

/-- It terminates, faults nowhere, and leaves the arguments and every semaphore as they were. -/
theorem frame : quiescent_ConvReferenceIdeal := fun m ρ _ =>
  (θ_run defs _ _).mono (fun r h => ⟨fun c => (h c).2, sem_eq_zero_of_no_sems (by decide) r.2⟩) (Value.run (F := Ideal) m ρ)

end Cert.ConvReferenceIdeal.Product

namespace Cert.Proof

open Idealize.ShloMosaic Idealize.SL.Sem

/-- The kernel's result and the reference's are the same array. -/
theorem algebraic_Conv : algebraic_ConvIdeal_ConvReferenceIdeal := by
  intro m g m' g' _ hagree
  refine ⟨fun c => Cert.ConvIdeal.Product.result m c, Cert.ConvIdeal.Product.run m g, ?_⟩
  refine (θ_run Cert.ConvReferenceIdeal.defs _ _).mono (fun r h c => ⟨(h c).1.trans ?_, (h c).2⟩)
    (Cert.ConvReferenceIdeal.Product.run m' g')
  rw [(hagree c).1, (hagree c).2.1, (hagree c).2.2]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.Kernel.Frame
public import proofs.«01_k».proof.Proof.Gen.KernelIdeal.Frame
public import proofs.«01_k».proof.Proof.Gen.DwInSsm
public import proofs.«01_k».proof.Proof.Gen.DwInSsmIdeal
public import proofs.«01_k».proof.Proof.Gen.DwInSsmIdeal.Value
public import proofs.«01_k».proof.Proof.Gen.DwInSsmReferenceIdeal
public import proofs.«01_k».proof.Proof.Gen.DwInSsmReferenceIdeal.Run
public import proofs.«01_k».proof.Proof.Gen.DwInSsm.Frame
public import proofs.«01_k».proof.Proof.Gen.DwOutSsm
public import proofs.«01_k».proof.Proof.Gen.DwOutSsmIdeal
public import proofs.«01_k».proof.Proof.Gen.DwOutSsmIdeal.Value
public import proofs.«01_k».proof.Proof.Gen.DwOutSsmReferenceIdeal
public import proofs.«01_k».proof.Proof.Gen.DwOutSsmReferenceIdeal.Run
public import proofs.«01_k».proof.Proof.Gen.DwOutSsm.Frame
public import proofs.«01_k».proof.Proof.Gen.Dyn
public import proofs.«01_k».proof.Proof.Gen.DynIdeal
public import proofs.«01_k».proof.Proof.Gen.DynIdeal.Value
public import proofs.«01_k».proof.Proof.Gen.DynReferenceIdeal
public import proofs.«01_k».proof.Proof.Gen.DynReferenceIdeal.Run
public import proofs.«01_k».proof.Proof.Gen.Dyn.Frame
public import proofs.«01_k».proof.Proof.Gen.DwOutAttn
public import proofs.«01_k».proof.Proof.Gen.DwOutAttnIdeal
public import proofs.«01_k».proof.Proof.Gen.DwOutAttnIdeal.Value
public import proofs.«01_k».proof.Proof.Gen.DwOutAttnReferenceIdeal
public import proofs.«01_k».proof.Proof.Gen.DwOutAttnReferenceIdeal.Run
public import proofs.«01_k».proof.Proof.Gen.DwOutAttn.Frame
public import proofs.«01_k».proof.Proof.Gen.OutAttn
public import proofs.«01_k».proof.Proof.Gen.OutAttnIdeal
public import proofs.«01_k».proof.Proof.Gen.OutAttnIdeal.Value
public import proofs.«01_k».proof.Proof.Gen.OutAttnReferenceIdeal
public import proofs.«01_k».proof.Proof.Gen.OutAttnReferenceIdeal.Run
public import proofs.«01_k».proof.Proof.Gen.OutAttn.Frame
public import proofs.«01_k».proof.Proof.Gen.Gate
public import proofs.«01_k».proof.Proof.Gen.GateIdeal
public import proofs.«01_k».proof.Proof.Gen.GateIdeal.Value
public import proofs.«01_k».proof.Proof.Gen.GateReferenceIdeal
public import proofs.«01_k».proof.Proof.Gen.GateReferenceIdeal.Run
public import proofs.«01_k».proof.Proof.Gen.Gate.Frame
public import proofs.«01_k».proof.Proof.Gen.OutSsm
public import proofs.«01_k».proof.Proof.Gen.OutSsmIdeal
public import proofs.«01_k».proof.Proof.Gen.OutSsmIdeal.Value
public import proofs.«01_k».proof.Proof.Gen.OutSsmReferenceIdeal
public import proofs.«01_k».proof.Proof.Gen.OutSsmReferenceIdeal.Run
public import proofs.«01_k».proof.Proof.Gen.OutSsm.Frame
public import proofs.«01_k».proof.Proof.Gen.Dy
public import proofs.«01_k».proof.Proof.Gen.DyIdeal
public import proofs.«01_k».proof.Proof.Gen.DyIdeal.Value
public import proofs.«01_k».proof.Proof.Gen.DyReferenceIdeal
public import proofs.«01_k».proof.Proof.Gen.DyReferenceIdeal.Run
public import proofs.«01_k».proof.Proof.Gen.Dy.Frame
public import proofs.«01_k».proof.Proof.Gen.InSsm
public import proofs.«01_k».proof.Proof.Gen.InSsmIdeal
public import proofs.«01_k».proof.Proof.Gen.InSsmIdeal.Value
public import proofs.«01_k».proof.Proof.Gen.InSsmReferenceIdeal
public import proofs.«01_k».proof.Proof.Gen.InSsmReferenceIdeal.Run
public import proofs.«01_k».proof.Proof.Gen.InSsm.Frame
public import proofs.«01_k».proof.Proof.Gen.Dx1
public import proofs.«01_k».proof.Proof.Gen.Dx1Ideal
public import proofs.«01_k».proof.Proof.Gen.Dx1Ideal.Value
public import proofs.«01_k».proof.Proof.Gen.Dx1ReferenceIdeal
public import proofs.«01_k».proof.Proof.Gen.Dx1ReferenceIdeal.Run
public import proofs.«01_k».proof.Proof.Gen.Dx1.Frame
public import proofs.«01_k».proof.Proof.Gen.DwInAttn
public import proofs.«01_k».proof.Proof.Gen.DwInAttnIdeal
public import proofs.«01_k».proof.Proof.Gen.DwInAttnIdeal.Value
public import proofs.«01_k».proof.Proof.Gen.DwInAttnReferenceIdeal
public import proofs.«01_k».proof.Proof.Gen.DwInAttnReferenceIdeal.Run
public import proofs.«01_k».proof.Proof.Gen.DwInAttn.Frame
public import proofs.«01_k».proof.Proof.Gen.Dx
public import proofs.«01_k».proof.Proof.Gen.DxIdeal
public import proofs.«01_k».proof.Proof.Gen.DxIdeal.Value
public import proofs.«01_k».proof.Proof.Gen.DxReferenceIdeal
public import proofs.«01_k».proof.Proof.Gen.DxReferenceIdeal.Run
public import proofs.«01_k».proof.Proof.Gen.Dx.Frame
public import proofs.«01_k».proof.Proof.Gen.QkvA
public import proofs.«01_k».proof.Proof.Gen.QkvAIdeal
public import proofs.«01_k».proof.Proof.Gen.QkvAIdeal.Value
public import proofs.«01_k».proof.Proof.Gen.QkvAReferenceIdeal
public import proofs.«01_k».proof.Proof.Gen.QkvAReferenceIdeal.Run
public import proofs.«01_k».proof.Proof.Gen.QkvA.Frame
public import proofs.«01_k».proof.Proof.Gen.QkvB
public import proofs.«01_k».proof.Proof.Gen.QkvBIdeal
public import proofs.«01_k».proof.Proof.Gen.QkvBIdeal.Value
public import proofs.«01_k».proof.Proof.Gen.QkvBReferenceIdeal
public import proofs.«01_k».proof.Proof.Gen.QkvBReferenceIdeal.Run
public import proofs.«01_k».proof.Proof.Gen.QkvB.Frame
public import proofs.«01_k».proof.Proof.Gen.QkvC
public import proofs.«01_k».proof.Proof.Gen.QkvCIdeal
public import proofs.«01_k».proof.Proof.Gen.QkvCIdeal.Value
public import proofs.«01_k».proof.Proof.Gen.QkvCReferenceIdeal
public import proofs.«01_k».proof.Proof.Gen.QkvCReferenceIdeal.Run
public import proofs.«01_k».proof.Proof.Gen.QkvC.Frame
public import proofs.«01_k».proof.Proof.Gen.AdamSmall
public import proofs.«01_k».proof.Proof.Gen.AdamSmallIdeal
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmall.Frame
public import proofs.«01_k».proof.Proof.Gen.AdamOutAttn
public import proofs.«01_k».proof.Proof.Gen.AdamOutAttnIdeal
public import proofs.«01_k».proof.Proof.Gen.AdamOutAttnIdeal.Value
public import proofs.«01_k».proof.Proof.Gen.AdamOutAttnReferenceIdeal
public import proofs.«01_k».proof.Proof.Gen.AdamOutAttnReferenceIdeal.Run
public import proofs.«01_k».proof.Proof.Gen.AdamOutAttn.Frame
public import proofs.«01_k».proof.Proof.Gen.AdamInAttn
public import proofs.«01_k».proof.Proof.Gen.AdamInAttnIdeal
public import proofs.«01_k».proof.Proof.Gen.AdamInAttnIdeal.Value
public import proofs.«01_k».proof.Proof.Gen.AdamInAttnReferenceIdeal
public import proofs.«01_k».proof.Proof.Gen.AdamInAttnReferenceIdeal.Run
public import proofs.«01_k».proof.Proof.Gen.AdamInAttn.Frame
public import proofs.«01_k».proof.Proof.Gen.AdamOutSsm
public import proofs.«01_k».proof.Proof.Gen.AdamOutSsmIdeal
public import proofs.«01_k».proof.Proof.Gen.AdamOutSsmIdeal.Value
public import proofs.«01_k».proof.Proof.Gen.AdamOutSsmReferenceIdeal
public import proofs.«01_k».proof.Proof.Gen.AdamOutSsmReferenceIdeal.Run
public import proofs.«01_k».proof.Proof.Gen.AdamOutSsm.Frame
public import proofs.«01_k».proof.Proof.Gen.AdamInSsm
public import proofs.«01_k».proof.Proof.Gen.AdamInSsmIdeal
public import proofs.«01_k».proof.Proof.Gen.AdamInSsmIdeal.Value
public import proofs.«01_k».proof.Proof.Gen.AdamInSsmReferenceIdeal
public import proofs.«01_k».proof.Proof.Gen.AdamInSsmReferenceIdeal.Run
public import proofs.«01_k».proof.Proof.Gen.AdamInSsm.Frame
public import proofs.«01_k».proof.Proof.Gen.SumSmall
public import proofs.«01_k».proof.Proof.Gen.SumSmallIdeal
public import proofs.«01_k».proof.Proof.Gen.SumSmallIdeal.Value
public import proofs.«01_k».proof.Proof.Gen.SumSmallReferenceIdeal
public import proofs.«01_k».proof.Proof.Gen.SumSmallReferenceIdeal.Run
public import proofs.«01_k».proof.Proof.Gen.SumSmall.Frame
public import proofs.«01_k».proof.Proof.Gen.Loss
public import proofs.«01_k».proof.Proof.Gen.LossIdeal
public import proofs.«01_k».proof.Proof.Gen.LossIdeal.Value
public import proofs.«01_k».proof.Proof.Gen.LossReferenceIdeal
public import proofs.«01_k».proof.Proof.Gen.LossReferenceIdeal.Run
public import proofs.«01_k».proof.Proof.Gen.Loss.Frame
public import proofs.«01_k».proof.Proof.Gen.LnFwd
public import proofs.«01_k».proof.Proof.Gen.LnFwdIdeal
public import proofs.«01_k».proof.Proof.Gen.LnFwdIdeal.Value
public import proofs.«01_k».proof.Proof.Gen.LnFwdReferenceIdeal
public import proofs.«01_k».proof.Proof.Gen.LnFwdReferenceIdeal.Run
public import proofs.«01_k».proof.Proof.Gen.LnFwd.Frame
public import proofs.«01_k».proof.Proof.Gen.Dt
public import proofs.«01_k».proof.Proof.Gen.DtIdeal
public import proofs.«01_k».proof.Proof.Gen.DtIdeal.Value
public import proofs.«01_k».proof.Proof.Gen.DtReferenceIdeal
public import proofs.«01_k».proof.Proof.Gen.DtReferenceIdeal.Run
public import proofs.«01_k».proof.Proof.Gen.Dt.Frame
public import proofs.«01_k».proof.Proof.Gen.CastX
public import proofs.«01_k».proof.Proof.Gen.CastXIdeal
public import proofs.«01_k».proof.Proof.Gen.CastXIdeal.Value
public import proofs.«01_k».proof.Proof.Gen.CastXReferenceIdeal
public import proofs.«01_k».proof.Proof.Gen.CastXReferenceIdeal.Run
public import proofs.«01_k».proof.Proof.Gen.CastX.Frame
public import proofs.«01_k».proof.Proof.Gen.Conv
public import proofs.«01_k».proof.Proof.Gen.ConvIdeal
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.Conv.Frame
public import proofs.«01_k».proof.Proof.DwInSsm
public import proofs.«01_k».proof.Proof.DwOutSsm
public import proofs.«01_k».proof.Proof.Dyn
public import proofs.«01_k».proof.Proof.DwOutAttn
public import proofs.«01_k».proof.Proof.OutAttn
public import proofs.«01_k».proof.Proof.Gate
public import proofs.«01_k».proof.Proof.OutSsm
public import proofs.«01_k».proof.Proof.Dy
public import proofs.«01_k».proof.Proof.InSsm
public import proofs.«01_k».proof.Proof.Dx1
public import proofs.«01_k».proof.Proof.DwInAttn
public import proofs.«01_k».proof.Proof.Dx
public import proofs.«01_k».proof.Proof.QkvA
public import proofs.«01_k».proof.Proof.QkvB
public import proofs.«01_k».proof.Proof.QkvC
public import proofs.«01_k».proof.Proof.AdamSmall
public import proofs.«01_k».proof.Proof.AdamOutAttn
public import proofs.«01_k».proof.Proof.AdamInAttn
public import proofs.«01_k».proof.Proof.AdamOutSsm
public import proofs.«01_k».proof.Proof.AdamInSsm
public import proofs.«01_k».proof.Proof.SumSmall
public import proofs.«01_k».proof.Proof.Loss
public import proofs.«01_k».proof.Proof.LnFwd
public import proofs.«01_k».proof.Proof.Dt
public import proofs.«01_k».proof.Proof.CastX
public import proofs.«01_k».proof.Proof.Conv
public import Idealize.ShloMosaic.Adequacy
public import Idealize.ShloMosaic.Init

@[expose] public section

noncomputable section

namespace Cert.Proof

/-- Every claim of the statement: the frames of the attention gradient and its idealization, and for each other call the
    frames of kernel, idealization and reference, and that kernel and reference compute the same arrays. -/
theorem claim : Cert.Claim :=
  ⟨Cert.Kernel.Gen.facts, Cert.KernelIdeal.Gen.facts,
    Cert.DwInSsm.Gen.facts, Cert.DwInSsmIdeal.Gen.facts, Cert.DwInSsmReferenceIdeal.Gen.facts,
    Cert.DwOutSsm.Gen.facts, Cert.DwOutSsmIdeal.Gen.facts, Cert.DwOutSsmReferenceIdeal.Gen.facts,
    Cert.Dyn.Gen.facts, Cert.DynIdeal.Gen.facts, Cert.DynReferenceIdeal.Gen.facts,
    Cert.DwOutAttn.Gen.facts, Cert.DwOutAttnIdeal.Gen.facts, Cert.DwOutAttnReferenceIdeal.Gen.facts,
    Cert.OutAttn.Gen.facts, Cert.OutAttnIdeal.Gen.facts, Cert.OutAttnReferenceIdeal.Gen.facts,
    Cert.Gate.Gen.facts, Cert.GateIdeal.Gen.facts, Cert.GateReferenceIdeal.Gen.facts,
    Cert.OutSsm.Gen.facts, Cert.OutSsmIdeal.Gen.facts, Cert.OutSsmReferenceIdeal.Gen.facts,
    Cert.Dy.Gen.facts, Cert.DyIdeal.Gen.facts, Cert.DyReferenceIdeal.Gen.facts,
    Cert.InSsm.Gen.facts, Cert.InSsmIdeal.Gen.facts, Cert.InSsmReferenceIdeal.Gen.facts,
    Cert.Dx1.Gen.facts, Cert.Dx1Ideal.Gen.facts, Cert.Dx1ReferenceIdeal.Gen.facts,
    Cert.DwInAttn.Gen.facts, Cert.DwInAttnIdeal.Gen.facts, Cert.DwInAttnReferenceIdeal.Gen.facts,
    Cert.Dx.Gen.facts, Cert.DxIdeal.Gen.facts, Cert.DxReferenceIdeal.Gen.facts,
    Cert.QkvA.Gen.facts, Cert.QkvAIdeal.Gen.facts, Cert.QkvAReferenceIdeal.Gen.facts,
    Cert.QkvB.Gen.facts, Cert.QkvBIdeal.Gen.facts, Cert.QkvBReferenceIdeal.Gen.facts,
    Cert.QkvC.Gen.facts, Cert.QkvCIdeal.Gen.facts, Cert.QkvCReferenceIdeal.Gen.facts,
    Cert.AdamSmall.Gen.facts, Cert.AdamSmallIdeal.Gen.facts, Cert.AdamSmallReferenceIdeal.Gen.facts,
    Cert.AdamOutAttn.Gen.facts, Cert.AdamOutAttnIdeal.Gen.facts, Cert.AdamOutAttnReferenceIdeal.Gen.facts,
    Cert.AdamInAttn.Gen.facts, Cert.AdamInAttnIdeal.Gen.facts, Cert.AdamInAttnReferenceIdeal.Gen.facts,
    Cert.AdamOutSsm.Gen.facts, Cert.AdamOutSsmIdeal.Gen.facts, Cert.AdamOutSsmReferenceIdeal.Gen.facts,
    Cert.AdamInSsm.Gen.facts, Cert.AdamInSsmIdeal.Gen.facts, Cert.AdamInSsmReferenceIdeal.Gen.facts,
    Cert.SumSmall.Gen.facts, Cert.SumSmallIdeal.Gen.facts, Cert.SumSmallReferenceIdeal.Gen.facts,
    Cert.Loss.Gen.facts, Cert.LossIdeal.Gen.facts, Cert.LossReferenceIdeal.Gen.facts,
    Cert.LnFwd.Gen.facts, Cert.LnFwdIdeal.Gen.facts, Cert.LnFwdReferenceIdeal.Gen.facts,
    Cert.Dt.Gen.facts, Cert.DtIdeal.Gen.facts, Cert.DtReferenceIdeal.Gen.facts,
    Cert.CastX.Gen.facts, Cert.CastXIdeal.Gen.facts, Cert.CastXReferenceIdeal.Gen.facts,
    Cert.Conv.Gen.facts, Cert.ConvIdeal.Gen.facts, Cert.ConvReferenceIdeal.Gen.facts,
    fun m ρ _ => Cert.Kernel.Gen.frame m ρ, fun m ρ _ => Cert.KernelIdeal.Gen.frame m ρ,
    fun m ρ _ => Cert.DwInSsm.Gen.frame m ρ, fun m ρ _ => Cert.DwInSsmIdeal.Gen.frame m ρ, Cert.DwInSsmReferenceIdeal.Product.frame,
    fun m ρ _ => Cert.DwOutSsm.Gen.frame m ρ, fun m ρ _ => Cert.DwOutSsmIdeal.Gen.frame m ρ, Cert.DwOutSsmReferenceIdeal.Product.frame,
    fun m ρ _ => Cert.Dyn.Gen.frame m ρ, fun m ρ _ => Cert.DynIdeal.Gen.frame m ρ, Cert.DynReferenceIdeal.Product.frame,
    fun m ρ _ => Cert.DwOutAttn.Gen.frame m ρ, fun m ρ _ => Cert.DwOutAttnIdeal.Gen.frame m ρ, Cert.DwOutAttnReferenceIdeal.Product.frame,
    fun m ρ _ => Cert.OutAttn.Gen.frame m ρ, fun m ρ _ => Cert.OutAttnIdeal.Gen.frame m ρ, Cert.OutAttnReferenceIdeal.Product.frame,
    fun m ρ _ => Cert.Gate.Gen.frame m ρ, fun m ρ _ => Cert.GateIdeal.Gen.frame m ρ, Cert.GateReferenceIdeal.Product.frame,
    fun m ρ _ => Cert.OutSsm.Gen.frame m ρ, fun m ρ _ => Cert.OutSsmIdeal.Gen.frame m ρ, Cert.OutSsmReferenceIdeal.Product.frame,
    fun m ρ _ => Cert.Dy.Gen.frame m ρ, fun m ρ _ => Cert.DyIdeal.Gen.frame m ρ, Cert.DyReferenceIdeal.Product.frame,
    fun m ρ _ => Cert.InSsm.Gen.frame m ρ, fun m ρ _ => Cert.InSsmIdeal.Gen.frame m ρ, Cert.InSsmReferenceIdeal.Product.frame,
    fun m ρ _ => Cert.Dx1.Gen.frame m ρ, fun m ρ _ => Cert.Dx1Ideal.Gen.frame m ρ, Cert.Dx1ReferenceIdeal.Product.frame,
    fun m ρ _ => Cert.DwInAttn.Gen.frame m ρ, fun m ρ _ => Cert.DwInAttnIdeal.Gen.frame m ρ, Cert.DwInAttnReferenceIdeal.Product.frame,
    fun m ρ _ => Cert.Dx.Gen.frame m ρ, fun m ρ _ => Cert.DxIdeal.Gen.frame m ρ, Cert.DxReferenceIdeal.Product.frame,
    fun m ρ _ => Cert.QkvA.Gen.frame m ρ, fun m ρ _ => Cert.QkvAIdeal.Gen.frame m ρ, Cert.QkvAReferenceIdeal.Product.frame,
    fun m ρ _ => Cert.QkvB.Gen.frame m ρ, fun m ρ _ => Cert.QkvBIdeal.Gen.frame m ρ, Cert.QkvBReferenceIdeal.Product.frame,
    fun m ρ _ => Cert.QkvC.Gen.frame m ρ, fun m ρ _ => Cert.QkvCIdeal.Gen.frame m ρ, Cert.QkvCReferenceIdeal.Product.frame,
    fun m ρ _ => Cert.AdamSmall.Gen.frame m ρ, fun m ρ _ => Cert.AdamSmallIdeal.Gen.frame m ρ, Cert.AdamSmallReferenceIdeal.Update.frame,
    fun m ρ _ => Cert.AdamOutAttn.Gen.frame m ρ, fun m ρ _ => Cert.AdamOutAttnIdeal.Gen.frame m ρ, Cert.AdamOutAttnReferenceIdeal.Update.frame,
    fun m ρ _ => Cert.AdamInAttn.Gen.frame m ρ, fun m ρ _ => Cert.AdamInAttnIdeal.Gen.frame m ρ, Cert.AdamInAttnReferenceIdeal.Update.frame,
    fun m ρ _ => Cert.AdamOutSsm.Gen.frame m ρ, fun m ρ _ => Cert.AdamOutSsmIdeal.Gen.frame m ρ, Cert.AdamOutSsmReferenceIdeal.Update.frame,
    fun m ρ _ => Cert.AdamInSsm.Gen.frame m ρ, fun m ρ _ => Cert.AdamInSsmIdeal.Gen.frame m ρ, Cert.AdamInSsmReferenceIdeal.Update.frame,
    fun m ρ _ => Cert.SumSmall.Gen.frame m ρ, fun m ρ _ => Cert.SumSmallIdeal.Gen.frame m ρ, Cert.SumSmallReferenceIdeal.Product.frame,
    fun m ρ _ => Cert.Loss.Gen.frame m ρ, fun m ρ _ => Cert.LossIdeal.Gen.frame m ρ, Cert.LossReferenceIdeal.Product.frame,
    fun m ρ _ => Cert.LnFwd.Gen.frame m ρ, fun m ρ _ => Cert.LnFwdIdeal.Gen.frame m ρ, Cert.LnFwdReferenceIdeal.Product.frame,
    fun m ρ _ => Cert.Dt.Gen.frame m ρ, fun m ρ _ => Cert.DtIdeal.Gen.frame m ρ, Cert.DtReferenceIdeal.Product.frame,
    fun m ρ _ => Cert.CastX.Gen.frame m ρ, fun m ρ _ => Cert.CastXIdeal.Gen.frame m ρ, Cert.CastXReferenceIdeal.Product.frame,
    fun m ρ _ => Cert.Conv.Gen.frame m ρ, fun m ρ _ => Cert.ConvIdeal.Gen.frame m ρ, Cert.ConvReferenceIdeal.Product.frame,
    trivial,
    trivial, algebraic_DwInSsm,
    trivial, algebraic_DwOutSsm,
    trivial, algebraic_Dyn,
    trivial, algebraic_DwOutAttn,
    trivial, algebraic_OutAttn,
    trivial, algebraic_Gate,
    trivial, algebraic_OutSsm,
    trivial, algebraic_Dy,
    trivial, algebraic_InSsm,
    trivial, algebraic_Dx1,
    trivial, algebraic_DwInAttn,
    trivial, algebraic_Dx,
    trivial, algebraic_QkvA,
    trivial, algebraic_QkvB,
    trivial, algebraic_QkvC,
    trivial, algebraic_AdamSmall,
    trivial, algebraic_AdamOutAttn,
    trivial, algebraic_AdamInAttn,
    trivial, algebraic_AdamOutSsm,
    trivial, algebraic_AdamInSsm,
    trivial, algebraic_SumSmall,
    trivial, algebraic_Loss,
    trivial, algebraic_LnFwd,
    trivial, algebraic_Dt,
    trivial, algebraic_CastX,
    trivial, algebraic_Conv⟩

end Cert.Proof
